-- ==== Defs.lean ====
def Pre_Kernel [hPre_in_rows : Cert.Pre_in_rows.Facts] (m : (ℓ : Loc Cert.Kernel.nD Cert.Kernel.τ Cert.Kernel.sig) → Buf (Elt Bits) ℓ) : Prop :=
  ∀ c : Dev Cert.Kernel.nD,
    (Cert.Pre_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_rows : Cert.Pre_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_rows [hPre_in_rows : Cert.Pre_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_rows : Cert.Pre_in_rows.Facts] (m : (ℓ : Loc Cert.Reference.nD Cert.Reference.τ Cert.Reference.sig) → Buf (Elt Bits) ℓ) : Prop :=
  ∀ c : Dev Cert.Reference.nD,
    (Cert.Pre_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 [hPre_in_experts : Cert.Pre_in_experts.Facts] (m : (ℓ : Loc Cert.Kernel2.nD Cert.Kernel2.τ Cert.Kernel2.sig) → Buf (Elt Bits) ℓ) : Prop :=
  ∀ c : Dev Cert.Kernel2.nD,
    (Cert.Pre_in_experts.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_in_experts : Cert.Pre_in_experts.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_experts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_in_experts [hPre_in_experts : Cert.Pre_in_experts.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_in_experts.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] [hPre_in_rows : Cert.Pre_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_rows [hReferenceIdeal : Cert.ReferenceIdeal.Facts] [hPre_in_rows : Cert.Pre_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_rows : Cert.Pre_in_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] [hPre_in_experts : Cert.Pre_in_experts.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_in_experts : Cert.Pre_in_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_in_experts [hReference2Ideal : Cert.Reference2Ideal.Facts] [hPre_in_experts : Cert.Pre_in_experts.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_in_experts m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_rows : Cert.Pre_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v12)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v12) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] [hPre_in_experts : Cert.Pre_in_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v107_2)) (v1 : (c : Dev Cert.Kernel5Ideal.nD) → Buf (Elt Ideal) ((c.tc : Thread Cert.Kernel5Ideal.nD Cert.Kernel5Ideal.τ).loc Cert.Kernel5Ideal.main_v107_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v107_2) = v0 c
          ∧ r.2.mem ((c.tc : Thread Cert.Kernel5Ideal.nD Cert.Kernel5Ideal.τ).loc Cert.Kernel5Ideal.main_v107_5) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v42) = v0 c
          ∧ r.2.mem ((c.tc : Thread Cert.Reference5Ideal.nD Cert.Reference5Ideal.τ).loc Cert.Reference5Ideal.main_v44) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_v28) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_in_rows : Cert.Pre_in_rows.Facts) (hPre_in_experts : Cert.Pre_in_experts.Facts),
    quiescent_Kernel (hKernel := hKernel) (hPre_in_rows := hPre_in_rows)
    ∧ quiescent_KernelIdeal (hKernelIdeal := hKernelIdeal) (hPre_in_rows := hPre_in_rows)
    ∧ quiescent_ReferenceIdeal (hReferenceIdeal := hReferenceIdeal)
    ∧ quiescent_ReferenceIdeal_pre_in_rows (hReferenceIdeal := hReferenceIdeal) (hPre_in_rows := hPre_in_rows)
    ∧ quiescent_Reference (hReference := hReference) (hPre_in_rows := hPre_in_rows)
    ∧ quiescent_Kernel2 (hKernel2 := hKernel2) (hPre_in_experts := hPre_in_experts)
    ∧ quiescent_Kernel2Ideal (hKernel2Ideal := hKernel2Ideal) (hPre_in_experts := hPre_in_experts)
    ∧ quiescent_Reference2Ideal (hReference2Ideal := hReference2Ideal)
    ∧ quiescent_Reference2Ideal_pre_in_experts (hReference2Ideal := hReference2Ideal) (hPre_in_experts := hPre_in_experts)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal) (hPre_in_rows := hPre_in_rows)
    ∧ bitexact_Kernel_Reference (hKernel := hKernel) (hReference := hReference) (hPre_in_rows := hPre_in_rows)
    ∧ preserves_Kernel2_Kernel2Ideal
    ∧ algebraic_Kernel2Ideal_Reference2Ideal (hKernel2Ideal := hKernel2Ideal) (hReference2Ideal := hReference2Ideal) (hPre_in_experts := hPre_in_experts)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_in_experts.lean ====
abbrev S544 : Shape := ⟨1, ![544]⟩
abbrev S1 : Shape := ⟨1, ![1]⟩
abbrev S139264x1024 : Shape := ⟨2, ![139264, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S544 : S_.BroadcastsInDim S544 (![] : Fin 0 → Fin S544.rank)

variable [Facts]

def fn {F : FTy → Type} [FloatOps F] (main_arg0 : IVec S544 32) (main_arg1 : IVec S1 32) (main_arg2 : FVec F S139264x1024 .bf16) (main_arg3 : FVec F S32x1024x2048 .f32) (main_arg4 : FVec F S32x2048 .f32) (main_arg5 : FVec F S32x1024x1024 .f32) (main_arg6 : FVec F S32x1024 .f32) : IVec S544 1 :=
  let main_c : IVec S_ 32 := constantI S_ 32 0#32
  let main_v0 : IVec S544 32 := broadcastInDim S544 ![] bcast_S_S544 main_c
  let main_v1 : IVec S544 1 := cmpi .sge main_arg0 main_v0
  let main_c_0 : IVec S_ 32 := constantI S_ 32 32#32
  let main_v2 : IVec S544 32 := broadcastInDim S544 ![] bcast_S_S544 main_c_0
  let main_v3 : IVec S544 1 := cmpi .slt main_arg0 main_v2
  let main_v4 : IVec S544 1 := andi main_v1 main_v3
  main_v4
-- ==== Pre_in_rows.lean ====
abbrev S2x32768x256 : Shape := ⟨3, ![2, 32768, 256]⟩
abbrev S32768 : Shape := ⟨1, ![32768]⟩
abbrev S_ : Shape := ⟨0, ![]⟩

class Facts : Prop where
  bcast_S_S32768 : S_.BroadcastsInDim S32768 (![] : Fin 0 → Fin S32768.rank)

variable [Facts]

def fn {F : FTy → Type} [FloatOps F] (main_arg0 : IVec S2x32768x256 32) (main_arg1 : IVec S32768 32) : IVec S32768 1 :=
  let main_c : IVec S_ 32 := constantI S_ 32 0#32
  let main_v0 : IVec S32768 32 := broadcastInDim S32768 ![] bcast_S_S32768 main_c
  let main_v1 : IVec S32768 1 := cmpi .sge main_arg1 main_v0
  let main_c_0 : IVec S_ 32 := constantI S_ 32 32768#32
  let main_v2 : IVec S32768 32 := broadcastInDim S32768 ![] bcast_S_S32768 main_c_0
  let main_v3 : IVec S32768 1 := cmpi .slt main_arg1 main_v2
  let main_v4 : IVec S32768 1 := andi main_v1 main_v3
  main_v4
-- ==== Kernel.lean ====
abbrev S2x32768x256 : Shape := ⟨3, ![2, 32768, 256]⟩
abbrev S32768 : Shape := ⟨1, ![32768]⟩
abbrev S2 : Shape := ⟨1, ![2]⟩
abbrev S2x1 : Shape := ⟨2, ![2, 1]⟩
abbrev S_ : Shape := ⟨0, ![]⟩
abbrev S65536x256 : Shape := ⟨2, ![65536, 256]⟩
abbrev S1x32768 : Shape := ⟨2, ![1, 32768]⟩
abbrev S2x32768 : Shape := ⟨2, ![2, 32768]⟩
abbrev S65536 : Shape := ⟨1, ![65536]⟩
abbrev S1x65536 : Shape := ⟨2, ![1, 65536]⟩
abbrev S2x1x128 : Shape := ⟨3, ![2, 1, 128]⟩
abbrev S2x128x256 : Shape := ⟨3, ![2, 128, 256]⟩
abbrev S1x1x128 : Shape := ⟨3, ![1, 1, 128]⟩
abbrev S1x128 : Shape := ⟨2, ![1, 128]⟩
abbrev S1 : Shape := ⟨1, ![1]⟩
abbrev S1x128x256 : Shape := ⟨3, ![1, 128, 256]⟩
abbrev S128x256 : Shape := ⟨2, ![128, 256]⟩
abbrev S128x128 : Shape := ⟨2, ![128, 128]⟩
abbrev S128 : Shape := ⟨1, ![128]⟩
abbrev S65536x128 : Shape := ⟨2, ![65536, 128]⟩

abbrev nBuf : Table → Nat
  | .hbm => 16
  | .local .scVector .vmem => 2
  | _ => 0

abbrev bufTy : (tb : Table) → Fin (nBuf tb) → BufTy
  | .hbm, ⟨0, _⟩ => ⟨S2x32768x256, .i32⟩
  | .hbm, ⟨1, _⟩ => ⟨S32768, .i32⟩
  | .hbm, ⟨2, _⟩ => ⟨S2, .i32⟩
  | .hbm, ⟨3, _⟩ => ⟨S2x1, .i32⟩
  | .hbm, ⟨4, _⟩ => ⟨S_, .i32⟩
  | .hbm, ⟨5, _⟩ => ⟨S2x1, .i32⟩
  | .hbm, ⟨6, _⟩ => ⟨S2x1, .i32⟩
  | .hbm, ⟨7, _⟩ => ⟨S65536x256, .i32⟩
  | .hbm, ⟨8, _⟩ => ⟨S1x32768, .i32⟩
  | .hbm, ⟨9, _⟩ => ⟨S2x32768, .i32⟩
  | .hbm, ⟨10, _⟩ => ⟨S2x32768, .i32⟩
  | .hbm, ⟨11, _⟩ => ⟨S2x32768, .i32⟩
  | .hbm, ⟨12, _⟩ => ⟨S65536, .i32⟩
  | .hbm, ⟨13, _⟩ => ⟨S1x65536, .i32⟩
  | .hbm, ⟨14, _⟩ => ⟨S65536x256, .i32⟩
  | .hbm, ⟨15, _⟩ => ⟨S2x32768x256, .i32⟩
  | .local .scVector .vmem, ⟨0, _⟩ => ⟨S2x1x128, .i32⟩
  | .local .scVector .vmem, ⟨1, _⟩ => ⟨S2x128x256, .i32⟩
  | _, _ => ⟨S2x32768x256, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v4_scv : Ref sig .scVector := ⟨.hbm, 7, rfl⟩
abbrev main_v10_scv : Ref sig .scVector := ⟨.hbm, 13, rfl⟩
abbrev main_v11_scv : Ref sig .scVector := ⟨.hbm, 14, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_14_r0 : BitVec 32 := 0#32
  let c2_i32_r0 : BitVec 32 := 2#32
  let v21_r0 : BitVec 32 := Scalar.remui c0_i32_14_r0 c2_i32_r0
  let c0_i32_15_r0 : BitVec 32 := 0#32
  let c0_i32_16_r0 : BitVec 32 := 0#32
  ![v21_r0.toNat, 0, 0]
def k0_off2 (i : grid0.Coords) : Fin 2 → Nat :=
  let c0_i32_17_r0 : BitVec 32 := 0#32
  let c128_i32_r0 : BitVec 32 := 128#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v7_r0 : BitVec 32 := Scalar.addi c0_i32_2_r0 v4
  let v22_r0 : BitVec 32 := Scalar.muli c128_i32_r0 v7_r0
  ![0, v22_r0.toNat]
def k0_off3 : Fin 1 → Nat :=
  let c0_i32_14_r0 : BitVec 32 := 0#32
  let c2_i32_r0 : BitVec 32 := 2#32
  let v21_r0 : BitVec 32 := Scalar.remui c0_i32_14_r0 c2_i32_r0
  ![v21_r0.toNat]
@[reducible] def k0_t1_loop : Scf.Loop 32 :=
  let c0_i32_27_r0 : BitVec 32 := 0#32
  let c16_i32_28_r0 : BitVec 32 := 16#32
  let v32_r0 : BitVec 32 := Scalar.addi c0_i32_27_r0 c16_i32_28_r0
  let c1_i32_29_r0 : BitVec 32 := 1#32
  ⟨c0_i32_27_r0, v32_r0, c1_i32_29_r0⟩
def k0_off4 (arg6_r0 : BitVec 32) : Fin 3 → Nat :=
  let c2_i32_101_r0 : BitVec 32 := 2#32
  let v144_r0 : BitVec 32 := Scalar.remui arg6_r0 c2_i32_101_r0
  let c0_i32_103_r0 : BitVec 32 := 0#32
  let c0_i32_104_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let v76_r0 : BitVec 32 := Scalar.addi v75_r0 v4
  let v82_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k0_t1
  let c15_i32_69_r0 : BitVec 32 := 15#32
  let v83_r0 : BitVec 1 := Scalar.cmpi .sge arg5_r0 c15_i32_69_r0
  let true_70_r0 : BitVec 1 := 1#1
  let v84_r0 : BitVec 1 := Scalar.xori v83_r0 true_70_r0
  let v85_r0 : BitVec 1 := Scalar.andi v82_r0 v84_r0
  let true_71_r0 : BitVec 1 := 1#1
  let v86_r0 : BitVec 1 := Scalar.andi v85_r0 true_71_r0
  let v87_r0 : BitVec 32 := Scalar.extui v86_r0
  let c0_i32_72_r0 : BitVec 32 := 0#32
  let v88_r0 : BitVec 1 := Scalar.cmpi .ne v87_r0 c0_i32_72_r0
  v88_r0

def k0_off5 (i : grid0.Coords) (arg10_r0 : BitVec 32) : Fin 2 → Nat :=
  let c0_i32_105_r0 : BitVec 32 := 0#32
  let c128_i32_102_r0 : BitVec 32 := 128#32
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v76_r0 : BitVec 32 := Scalar.addi v75_r0 v4
  let v145_r0 : BitVec 32 := Scalar.muli c128_i32_102_r0 v76_r0
  ![0, v145_r0.toNat]
def k0_off6 (arg6_r0 : BitVec 32) : Fin 1 → Nat :=
  let c2_i32_101_r0 : BitVec 32 := 2#32
  let v144_r0 : BitVec 32 := Scalar.remui arg6_r0 c2_i32_101_r0
  ![v144_r0.toNat]
def k0_off7 (arg7_r0 : BitVec 32) : Fin 3 → Nat :=
  let c2_i32_102_r0 : BitVec 32 := 2#32
  let v145_r0 : BitVec 32 := Scalar.remui arg7_r0 c2_i32_102_r0
  let c0_i32_103_r0 : BitVec 32 := 0#32
  let c0_i32_104_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let v71_r0 : BitVec 32 := Scalar.addi v70_r0 v4
  let v96_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k0_t1
  let c0_i32_55_r0 : BitVec 32 := 0#32
  let v64_r0 : BitVec 1 := Scalar.cmpi .eq arg5_r0 c0_i32_55_r0
  let v97_r0 : BitVec 1 := Scalar.ori v96_r0 v64_r0
  let c0_i32_77_r0 : BitVec 32 := 0#32
  let v98_r0 : BitVec 1 := Scalar.cmpi .sge arg5_r0 c0_i32_77_r0
  let v99_r0 : BitVec 1 := Scalar.andi v97_r0 v98_r0
  let v100_r0 : BitVec 32 := Scalar.extui v99_r0
  let c0_i32_78_r0 : BitVec 32 := 0#32
  let v101_r0 : BitVec 1 := Scalar.cmpi .ne v100_r0 c0_i32_78_r0
  v101_r0

def k0_off8 (i : grid0.Coords) (arg10_r0 : BitVec 32) : Fin 2 → Nat :=
  let c0_i32_105_r0 : BitVec 32 := 0#32
  let c128_i32_101_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let v144_r0 : BitVec 32 := Scalar.muli c128_i32_101_r0 v66_r0
  ![0, v144_r0.toNat]
def k0_off9 (arg7_r0 : BitVec 32) : Fin 1 → Nat :=
  let c2_i32_102_r0 : BitVec 32 := 2#32
  let v145_r0 : BitVec 32 := Scalar.remui arg7_r0 c2_i32_102_r0
  ![v145_r0.toNat]
def k0_off10 (arg8_r0 : BitVec 32) : Fin 3 → Nat :=
  let c2_i32_82_r0 : BitVec 32 := 2#32
  let v109_r0 : BitVec 32 := Scalar.remui arg8_r0 c2_i32_82_r0
  let c0_i32_101_r1 : BitVec 32 := 0#32
  let c0_i32_102_r1 : BitVec 32 := 0#32
  ![v109_r0.toNat, 0, 0]

def k0_chk2 (arg8_r0 : BitVec 32) : Prop :=
  (∀ a, (k0_off10 arg8_r0) a + S1x128x256.size a ≤ S2x128x256.size a)
theorem k0_off10_inb : ∀ (arg8_r0 : BitVec 32) (k0_hw2 : k0_chk2 arg8_r0), ∀ a, (k0_off10 arg8_r0) a + S1x128x256.size a ≤ S2x128x256.size a := fun arg8_r0 k0_hw2 => k0_hw2

def k0_off11 (arg7_r0 : BitVec 32) : Fin 3 → Nat :=
  let c2_i32_81_r0 : BitVec 32 := 2#32
  let v108_r0 : BitVec 32 := Scalar.remui arg7_r0 c2_i32_81_r0
  let c0_i32_105_r1 : BitVec 32 := 0#32
  let c0_i32_106_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_101_r0 : BitVec 32 := 2#32
  let v144_r0 : BitVec 32 := Scalar.remui arg8_r0 c2_i32_101_r0
  let c0_i32_103_r0 : BitVec 32 := 0#32
  let c0_i32_104_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let v76_r0 : BitVec 32 := Scalar.addi v75_r0 v4
  let v115_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k0_t1
  let c15_i32_56_r0 : BitVec 32 := 15#32
  let v65_r0 : BitVec 1 := Scalar.cmpi .eq arg5_r0 c15_i32_56_r0
  let v116_r0 : BitVec 1 := Scalar.ori v115_r0 v65_r0
  let v117_r0 : BitVec 32 := Scalar.extui v116_r0
  let c0_i32_86_r0 : BitVec 32 := 0#32
  let v118_r0 : BitVec 1 := Scalar.cmpi .ne v117_r0 c0_i32_86_r0
  v118_r0

def k0_off13 (i : grid0.Coords) (arg10_r0 : BitVec 32) : Fin 2 → Nat :=
  let c128_i32_102_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let v145_r0 : BitVec 32 := Scalar.muli c128_i32_102_r0 v66_r0
  let c0_i32_105_r0 : BitVec 32 := 0#32
  ![v145_r0.toNat, 0]
def k0_off14 (arg8_r0 : BitVec 32) : Fin 1 → Nat :=
  let c2_i32_101_r0 : BitVec 32 := 2#32
  let v144_r0 : BitVec 32 := Scalar.remui arg8_r0 c2_i32_101_r0
  ![v144_r0.toNat]
def k0_off15 (arg9_r0 : BitVec 32) : Fin 3 → Nat :=
  let c2_i32_101_r0 : BitVec 32 := 2#32
  let v144_r0 : BitVec 32 := Scalar.remui arg9_r0 c2_i32_101_r0
  let c0_i32_103_r0 : BitVec 32 := 0#32
  let c0_i32_104_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let v71_r0 : BitVec 32 := Scalar.addi v70_r0 v4
  let v128_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k0_t1
  let c0_i32_55_r0 : BitVec 32 := 0#32
  let v64_r0 : BitVec 1 := Scalar.cmpi .eq arg5_r0 c0_i32_55_r0
  let true_92_r0 : BitVec 1 := 1#1
  let v129_r0 : BitVec 1 := Scalar.xori v64_r0 true_92_r0
  let v130_r0 : BitVec 1 := Scalar.andi v128_r0 v129_r0
  let v131_r0 : BitVec 32 := Scalar.extui v130_r0
  let c0_i32_93_r0 : BitVec 32 := 0#32
  let v132_r0 : BitVec 1 := Scalar.cmpi .ne v131_r0 c0_i32_93_r0
  v132_r0

def k0_off16 (i : grid0.Coords) (arg10_r0 : BitVec 32) : Fin 2 → Nat :=
  let c128_i32_102_r0 : BitVec 32 := 128#32
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v71_r0 : BitVec 32 := Scalar.addi v70_r0 v4
  let v145_r0 : BitVec 32 := Scalar.muli c128_i32_102_r0 v71_r0
  let c0_i32_105_r0 : BitVec 32 := 0#32
  ![v145_r0.toNat, 0]
def k0_off17 (arg9_r0 : BitVec 32) : Fin 1 → Nat :=
  let c2_i32_101_r0 : BitVec 32 := 2#32
  let v144_r0 : BitVec 32 := Scalar.remui arg9_r0 c2_i32_101_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x65536.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x65536.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x256.size a ≤ S2x128x256.size a) ∧
  (∀ (k0_h5 : k0_cond5 i k0_t1 arg10_r0 = 1#1), ∀ a, (k0_off13 i arg10_r0) a + S128x256.size a ≤ S65536x256.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x256.size a ≤ S2x128x256.size a) ∧
  (∀ (k0_h7 : k0_cond7 i k0_t1 arg10_r0 = 1#1), ∀ a, (k0_off16 i arg10_r0) a + S128x256.size a ≤ S65536x256.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x65536.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x65536.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x256.size a ≤ S2x128x256.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x256.size a ≤ S65536x256.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x256.size a ≤ S2x128x256.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x256.size a ≤ S65536x256.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_47_r0 : BitVec 32 := 2#32
  let v54_r0 : BitVec 32 := Scalar.remui v33_3_r0 c2_i32_47_r0
  let c0_i32_49_r0 : BitVec 32 := 0#32
  let c0_i32_50_r0 : BitVec 32 := 0#32
  ![v54_r0.toNat, 0, 0]

def k0_off19 (i : grid0.Coords) (v33_4_r0 : BitVec 32) : Fin 2 → Nat :=
  let c128_i32_48_r0 : BitVec 32 := 128#32
  let true_32_r0 : BitVec 1 := 1#1
  let c1_i32_31_r0 : BitVec 32 := 1#32
  let v34_r0 : BitVec 32 := Scalar.subi v33_4_r0 c1_i32_31_r0
  let v35_r0 : BitVec 32 := Scalar.select true_32_r0 v34_r0 v33_4_r0
  let c_m1_i32_33_r0 : BitVec 32 := 4294967295#32
  let v36_r0 : BitVec 1 := Scalar.cmpi .eq v35_r0 c_m1_i32_33_r0
  let c15_i32_34_r0 : BitVec 32 := 15#32
  let v37_r0 : BitVec 32 := Scalar.select v36_r0 c15_i32_34_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v38_r0 : BitVec 32 := Scalar.addi v37_r0 v4
  let v55_r0 : BitVec 32 := Scalar.muli c128_i32_48_r0 v38_r0
  let c0_i32_51_r0 : BitVec 32 := 0#32
  ![v55_r0.toNat, 0]

def k0_chk5 (i : grid0.Coords) (v33_4_r0 : BitVec 32) : Prop :=
  (∀ a, (k0_off19 i v33_4_r0) a + S128x256.size a ≤ S65536x256.size a)
theorem k0_off19_inb : ∀ (i : grid0.Coords) (v33_4_r0 : BitVec 32) (k0_hw5 : k0_chk5 i v33_4_r0), ∀ a, (k0_off19 i v33_4_r0) a + S128x256.size a ≤ S65536x256.size a := fun i v33_4_r0 k0_hw5 => k0_hw5

def k0_off20 (v33_3_r0 : BitVec 32) : Fin 1 → Nat :=
  let c2_i32_47_r0 : BitVec 32 := 2#32
  let v54_r0 : BitVec 32 := Scalar.remui v33_3_r0 c2_i32_47_r0
  ![v54_r0.toNat]
def k0_off21 (v33_3_r0 : BitVec 32) : Fin 3 → Nat :=
  let c2_i32_47_r0 : BitVec 32 := 2#32
  let v54_r0 : BitVec 32 := Scalar.remui v33_3_r0 c2_i32_47_r0
  let c0_i32_53_r0 : BitVec 32 := 0#32
  let c0_i32_54_r0 : BitVec 32 := 0#32
  ![v54_r0.toNat, 0, 0]

def k0_chk4 (v33_3_r0 : BitVec 32) : Prop :=
  (∀ a, (k0_off18 v33_3_r0) a + S1x128x256.size a ≤ S2x128x256.size a) ∧
  (∀ a, (k0_off20 v33_3_r0) a + S1.size a ≤ S2.size a) ∧
  (∀ a, (k0_off21 v33_3_r0) a + S1x128x256.size a ≤ S2x128x256.size a)
theorem k0_off18_inb : ∀ (v33_3_r0 : BitVec 32) (k0_hw4 : k0_chk4 v33_3_r0), ∀ a, (k0_off18 v33_3_r0) a + S1x128x256.size a ≤ S2x128x256.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x256.size a ≤ S2x128x256.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S2x32768x256 : Shape := ⟨3, ![2, 32768, 256]⟩
abbrev S32768 : Shape := ⟨1, ![32768]⟩
abbrev S_ : Shape := ⟨0, ![]⟩
abbrev S32768x1 : Shape := ⟨2, ![32768, 1]⟩

abbrev nBuf : Space → Nat
  | .hbm => 11
  | .vmem => 0
  | .smem => 0
  | _ => 0

abbrev bufTy : (tb : Table) → Fin (tcTables nBuf tb) → BufTy
  | .hbm, ⟨0, _⟩ => ⟨S2x32768x256, .i32⟩
  | .hbm, ⟨1, _⟩ => ⟨S32768, .i32⟩
  | .hbm, ⟨2, _⟩ => ⟨S_, .i32⟩
  | .hbm, ⟨3, _⟩ => ⟨S32768, .i32⟩
  | .hbm, ⟨4, _⟩ => ⟨S32768, .i1⟩
  | .hbm, ⟨5, _⟩ => ⟨S_, .i32⟩
  | .hbm, ⟨6, _⟩ => ⟨S32768, .i32⟩
  | .hbm, ⟨7, _⟩ => ⟨S32768, .i32⟩
  | .hbm, ⟨8, _⟩ => ⟨S32768, .i32⟩
  | .hbm, ⟨9, _⟩ => ⟨S32768x1, .i32⟩
  | .hbm, ⟨10, _⟩ => ⟨S2x32768x256, .i32⟩
  | _, _ => ⟨S2x32768x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel2.lean ====
abbrev S544 : Shape := ⟨1, ![544]⟩
abbrev S1 : Shape := ⟨1, ![1]⟩
abbrev S139264x1024 : Shape := ⟨2, ![139264, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x8x128x2 : Shape := ⟨4, ![32, 8, 128, 2]⟩
abbrev S32x8x2x128 : Shape := ⟨4, ![32, 8, 2, 128]⟩
abbrev S32x1x2048 : Shape := ⟨3, ![32, 1, 2048]⟩
abbrev S32x1x1024 : Shape := ⟨3, ![32, 1, 1024]⟩
abbrev S256x1024 : Shape := ⟨2, ![256, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S256x256 : Shape := ⟨2, ![256, 256]⟩
abbrev S1x1024x256 : Shape := ⟨3, ![1, 1024, 256]⟩
abbrev S1024x256 : Shape := ⟨2, ![1024, 256]⟩
abbrev S256x2048 : Shape := ⟨2, ![256, 2048]⟩
abbrev S1x2048 : Shape := ⟨2, ![1, 2048]⟩
abbrev S256x128 : Shape := ⟨2, ![256, 128]⟩
abbrev S1x1024 : Shape := ⟨2, ![1, 1024]⟩

abbrev nBuf : Space → Nat
  | .hbm => 10
  | .vmem => 14
  | .smem => 2
  | _ => 0

abbrev bufTy : (tb : Table) → Fin (tcTables nBuf tb) → BufTy
  | .hbm, ⟨0, _⟩ => ⟨S139264x1024, .bf16⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x8x128x2, .f32⟩
  | .hbm, ⟨6, _⟩ => ⟨S32x8x2x128, .f32⟩
  | .hbm, ⟨7, _⟩ => ⟨S32x1x2048, .f32⟩
  | .hbm, ⟨8, _⟩ => ⟨S32x1x1024, .f32⟩
  | .hbm, ⟨9, _⟩ => ⟨S139264x1024, .f32⟩
  | .local _ .vmem, ⟨0, _⟩ => ⟨S256x1024, .bf16⟩
  | .local _ .vmem, ⟨1, _⟩ => ⟨S256x1024, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .vmem, ⟨12, _⟩ => ⟨S1024x2048, .bf16⟩
  | .local _ .vmem, ⟨13, _⟩ => ⟨S1024x1024, .bf16⟩
  | .local _ .smem, ⟨0, _⟩ => ⟨S544, .i32⟩
  | .local _ .smem, ⟨1, _⟩ => ⟨S1, .i32⟩
  | _, _ => ⟨S139264x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![544], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S544 : Shape := ⟨1, ![544]⟩
abbrev S1 : Shape := ⟨1, ![1]⟩
abbrev S139264x1024 : Shape := ⟨2, ![139264, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S544x256x1024 : Shape := ⟨3, ![544, 256, 1024]⟩
abbrev S_ : Shape := ⟨0, ![]⟩
abbrev S544x1 : Shape := ⟨2, ![544, 1]⟩
abbrev S544x1024x2048 : Shape := ⟨3, ![544, 1024, 2048]⟩
abbrev S544x256x2048 : Shape := ⟨3, ![544, 256, 2048]⟩
abbrev S544x2048 : Shape := ⟨2, ![544, 2048]⟩
abbrev S544x1x2048 : Shape := ⟨3, ![544, 1, 2048]⟩
abbrev S544x1024x1024 : Shape := ⟨3, ![544, 1024, 1024]⟩
abbrev S544x1024 : Shape := ⟨2, ![544, 1024]⟩
abbrev S544x1x1024 : Shape := ⟨3, ![544, 1, 1024]⟩
abbrev S544x1x1 : Shape := ⟨3, ![544, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S544, .i32⟩
  | .hbm, ⟨1, _⟩ => ⟨S1, .i32⟩
  | .hbm, ⟨2, _⟩ => ⟨S139264x1024, .bf16⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S544x256x1024, .bf16⟩
  | .hbm, ⟨8, _⟩ => ⟨S_, .i32⟩
  | .hbm, ⟨9, _⟩ => ⟨S544, .i32⟩
  | .hbm, ⟨10, _⟩ => ⟨S544, .i1⟩
  | .hbm, ⟨11, _⟩ => ⟨S_, .i32⟩
  | .hbm, ⟨12, _⟩ => ⟨S544, .i32⟩
  | .hbm, ⟨13, _⟩ => ⟨S544, .i32⟩
  | .hbm, ⟨14, _⟩ => ⟨S544, .i32⟩
  | .hbm, ⟨15, _⟩ => ⟨S544x1, .i32⟩
  | .hbm, ⟨16, _⟩ => ⟨S544x1024x2048, .f32⟩
  | .hbm, ⟨17, _⟩ => ⟨S544x256x2048, .f32⟩
  | .hbm, ⟨18, _⟩ => ⟨S_, .i32⟩
  | .hbm, ⟨19, _⟩ => ⟨S544, .i32⟩
  | .hbm, ⟨20, _⟩ => ⟨S544, .i1⟩
  | .hbm, ⟨21, _⟩ => ⟨S_, .i32⟩
  | .hbm, ⟨22, _⟩ => ⟨S544, .i32⟩
  | .hbm, ⟨23, _⟩ => ⟨S544, .i32⟩
  | .hbm, ⟨24, _⟩ => ⟨S544, .i32⟩
  | .hbm, ⟨25, _⟩ => ⟨S544x1, .i32⟩
  | .hbm, ⟨26, _⟩ => ⟨S544x2048, .f32⟩
  | .hbm, ⟨27, _⟩ => ⟨S544x1x2048, .f32⟩
  | .hbm, ⟨28, _⟩ => ⟨S544x256x2048, .f32⟩
  | .hbm, ⟨29, _⟩ => ⟨S544x256x2048, .f32⟩
  | .hbm, ⟨30, _⟩ => ⟨S544x256x1024, .f32⟩
  | .hbm, ⟨31, _⟩ => ⟨S544x256x1024, .f32⟩
  | .hbm, ⟨32, _⟩ => ⟨S_, .f32⟩
  | .hbm, ⟨33, _⟩ => ⟨S544x256x1024, .f32⟩
  | .hbm, ⟨34, _⟩ => ⟨S544x256x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S544x256x1024, .f32⟩
  | .hbm, ⟨39, _⟩ => ⟨S544x256x1024, .f32⟩
  | .hbm, ⟨40, _⟩ => ⟨S_, .f32⟩
  | .hbm, ⟨41, _⟩ => ⟨S544x256x1024, .f32⟩
  | .hbm, ⟨42, _⟩ => ⟨S544x256x1024, .f32⟩
  | .hbm, ⟨43, _⟩ => ⟨S_, .f32⟩
  | .hbm, ⟨44, _⟩ => ⟨S544x256x1024, .f32⟩
  | .hbm, ⟨45, _⟩ => ⟨S544x256x1024, .f32⟩
  | .hbm, ⟨46, _⟩ => ⟨S544x256x1024, .f32⟩
  | .hbm, ⟨47, _⟩ => ⟨S544x256x1024, .f32⟩
  | .hbm, ⟨48, _⟩ => ⟨S_, .f32⟩
  | .hbm, ⟨49, _⟩ => ⟨S544x256x1024, .f32⟩
  | .hbm, ⟨50, _⟩ => ⟨S544x256x1024, .f32⟩
  | .hbm, ⟨51, _⟩ => ⟨S_, .f32⟩
  | .hbm, ⟨52, _⟩ => ⟨S544x256x1024, .f32⟩
  | .hbm, ⟨53, _⟩ => ⟨S544x256x1024, .f32⟩
  | .hbm, ⟨54, _⟩ => ⟨S544x256x1024, .f32⟩
  | .hbm, ⟨55, _⟩ => ⟨S_, .f32⟩
  | .hbm, ⟨56, _⟩ => ⟨S544x256x1024, .f32⟩
  | .hbm, ⟨57, _⟩ => ⟨S544x256x1024, .f32⟩
  | .hbm, ⟨58, _⟩ => ⟨S544x256x1024, .f32⟩
  | .hbm, ⟨59, _⟩ => ⟨S_, .i32⟩
  | .hbm, ⟨60, _⟩ => ⟨S544, .i32⟩
  | .hbm, ⟨61, _⟩ => ⟨S544, .i1⟩
  | .hbm, ⟨62, _⟩ => ⟨S_, .i32⟩
  | .hbm, ⟨63, _⟩ => ⟨S544, .i32⟩
  | .hbm, ⟨64, _⟩ => ⟨S544, .i32⟩
  | .hbm, ⟨65, _⟩ => ⟨S544, .i32⟩
  | .hbm, ⟨66, _⟩ => ⟨S544x1, .i32⟩
  | .hbm, ⟨67, _⟩ => ⟨S544x1024x1024, .f32⟩
  | .hbm, ⟨68, _⟩ => ⟨S544x256x1024, .f32⟩
  | .hbm, ⟨69, _⟩ => ⟨S_, .i32⟩
  | .hbm, ⟨70, _⟩ => ⟨S544, .i32⟩
  | .hbm, ⟨71, _⟩ => ⟨S544, .i1⟩
  | .hbm, ⟨72, _⟩ => ⟨S_, .i32⟩
  | .hbm, ⟨73, _⟩ => ⟨S544, .i32⟩
  | .hbm, ⟨74, _⟩ => ⟨S544, .i32⟩
  | .hbm, ⟨75, _⟩ => ⟨S544, .i32⟩
  | .hbm, ⟨76, _⟩ => ⟨S544x1, .i32⟩
  | .hbm, ⟨77, _⟩ => ⟨S544x1024, .f32⟩
  | .hbm, ⟨78, _⟩ => ⟨S544x1x1024, .f32⟩
  | .hbm, ⟨79, _⟩ => ⟨S544x256x1024, .f32⟩
  | .hbm, ⟨80, _⟩ => ⟨S544x256x1024, .f32⟩
  | .hbm, ⟨81, _⟩ => ⟨S544, .i32⟩
  | .hbm, ⟨82, _⟩ => ⟨S_, .i32⟩
  | .hbm, ⟨83, _⟩ => ⟨S544, .i32⟩
  | .hbm, ⟨84, _⟩ => ⟨S544, .i1⟩
  | .hbm, ⟨85, _⟩ => ⟨S544x1x1, .i1⟩
  | .hbm, ⟨86, _⟩ => ⟨S_, .f32⟩
  | .hbm, ⟨87, _⟩ => ⟨S_, .f32⟩
  | .hbm, ⟨88, _⟩ => ⟨S544x256x1024, .i1⟩
  | .hbm, ⟨89, _⟩ => ⟨S544x256x1024, .f32⟩
  | .hbm, ⟨90, _⟩ => ⟨S544x256x1024, .f32⟩
  | .hbm, ⟨91, _⟩ => ⟨S139264x1024, .f32⟩
  | _, _ => ⟨S544, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Kernel3.lean ====
abbrev S2x4x16x2048x256 : Shape := ⟨5, ![2, 4, 16, 2048, 256]⟩
abbrev S16x2048x4 : Shape := ⟨3, ![16, 2048, 4]⟩
abbrev S16x2048x1024 : Shape := ⟨3, ![16, 2048, 1024]⟩
abbrev S16x6x1024 : Shape := ⟨3, ![16, 6, 1024]⟩
abbrev S1024 : Shape := ⟨1, ![1024]⟩
abbrev S2x4x4x2048x256 : Shape := ⟨5, ![2, 4, 4, 2048, 256]⟩
abbrev S1x1024 : Shape := ⟨2, ![1, 1024]⟩
abbrev S2x4x1x512x256 : Shape := ⟨5, ![2, 4, 1, 512, 256]⟩
abbrev S1x512x4 : Shape := ⟨3, ![1, 512, 4]⟩
abbrev S1x512x1024 : Shape := ⟨3, ![1, 512, 1024]⟩
abbrev S1x6x1024 : Shape := ⟨3, ![1, 6, 1024]⟩
abbrev S512x4 : Shape := ⟨2, ![512, 4]⟩
abbrev S1x1x1x512x256 : Shape := ⟨5, ![1, 1, 1, 512, 256]⟩
abbrev S512x256 : Shape := ⟨2, ![512, 256]⟩
abbrev S512x1 : Shape := ⟨2, ![512, 1]⟩
abbrev S512x1024 : Shape := ⟨2, ![512, 1024]⟩
abbrev S6x1024 : Shape := ⟨2, ![6, 1024]⟩
abbrev S512 : Shape := ⟨1, ![512]⟩

abbrev nBuf : Space → Nat
  | .hbm => 17
  | .vmem => 44
  | .smem => 0
  | _ => 0

abbrev bufTy : (tb : Table) → Fin (tcTables nBuf tb) → BufTy
  | .hbm, ⟨0, _⟩ => ⟨S2x4x16x2048x256, .i32⟩
  | .hbm, ⟨1, _⟩ => ⟨S16x2048x4, .f32⟩
  | .hbm, ⟨2, _⟩ => ⟨S16x2048x1024, .f32⟩
  | .hbm, ⟨3, _⟩ => ⟨S16x6x1024, .f32⟩
  | .hbm, ⟨4, _⟩ => ⟨S1024, .f32⟩
  | .hbm, ⟨5, _⟩ => ⟨S2x4x4x2048x256, .i32⟩
  | .hbm, ⟨6, _⟩ => ⟨S1x1024, .f32⟩
  | .hbm, ⟨7, _⟩ => ⟨S16x2048x1024, .f32⟩
  | .hbm, ⟨8, _⟩ => ⟨S2x4x4x2048x256, .i32⟩
  | .hbm, ⟨9, _⟩ => ⟨S1x1024, .f32⟩
  | .hbm, ⟨10, _⟩ => ⟨S16x2048x1024, .f32⟩
  | .hbm, ⟨11, _⟩ => ⟨S2x4x4x2048x256, .i32⟩
  | .hbm, ⟨12, _⟩ => ⟨S1x1024, .f32⟩
  | .hbm, ⟨13, _⟩ => ⟨S16x2048x1024, .f32⟩
  | .hbm, ⟨14, _⟩ => ⟨S2x4x4x2048x256, .i32⟩
  | .hbm, ⟨15, _⟩ => ⟨S1x1024, .f32⟩
  | .hbm, ⟨16, _⟩ => ⟨S16x2048x1024, .f32⟩
  | .local _ .vmem, ⟨0, _⟩ => ⟨S2x4x1x512x256, .i32⟩
  | .local _ .vmem, ⟨1, _⟩ => ⟨S2x4x1x512x256, .i32⟩
  | .local _ .vmem, ⟨2, _⟩ => ⟨S1x512x4, .f32⟩
  | .local _ .vmem, ⟨3, _⟩ => ⟨S1x512x4, .f32⟩
  | .local _ .vmem, ⟨4, _⟩ => ⟨S1x512x1024, .f32⟩
  | .local _ .vmem, ⟨5, _⟩ => ⟨S1x512x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | .local _ .vmem, ⟨11, _⟩ => ⟨S2x4x1x512x256, .i32⟩
  | .local _ .vmem, ⟨12, _⟩ => ⟨S2x4x1x512x256, .i32⟩
  | .local _ .vmem, ⟨13, _⟩ => ⟨S1x512x4, .f32⟩
  | .local _ .vmem, ⟨14, _⟩ => ⟨S1x512x4, .f32⟩
  | .local _ .vmem, ⟨15, _⟩ => ⟨S1x512x1024, .f32⟩
  | .local _ .vmem, ⟨16, _⟩ => ⟨S1x512x1024, .f32⟩
  | .local _ .vmem, ⟨17, _⟩ => ⟨S1x6x1024, .f32⟩
  | .local _ .vmem, ⟨18, _⟩ => ⟨S1x6x1024, .f32⟩
  | .local _ .vmem, ⟨19, _⟩ => ⟨S1x1024, .f32⟩
  | .local _ .vmem, ⟨20, _⟩ => ⟨S1x512x1024, .f32⟩
  | .local _ .vmem, ⟨21, _⟩ => ⟨S1x512x1024, .f32⟩
  | .local _ .vmem, ⟨22, _⟩ => ⟨S2x4x1x512x256, .i32⟩
  | .local _ .vmem, ⟨23, _⟩ => ⟨S2x4x1x512x256, .i32⟩
  | .local _ .vmem, ⟨24, _⟩ => ⟨S1x512x4, .f32⟩
  | .local _ .vmem, ⟨25, _⟩ => ⟨S1x512x4, .f32⟩
  | .local _ .vmem, ⟨26, _⟩ => ⟨S1x512x1024, .f32⟩
  | .local _ .vmem, ⟨27, _⟩ => ⟨S1x512x1024, .f32⟩
  | .local _ .vmem, ⟨28, _⟩ => ⟨S1x6x1024, .f32⟩
  | .local _ .vmem, ⟨29, _⟩ => ⟨S1x6x1024, .f32⟩
  | .local _ .vmem, ⟨30, _⟩ => ⟨S1x1024, .f32⟩
  | .local _ .vmem, ⟨31, _⟩ => ⟨S1x512x1024, .f32⟩
  | .local _ .vmem, ⟨32, _⟩ => ⟨S1x512x1024, .f32⟩
  | .local _ .vmem, ⟨33, _⟩ => ⟨S2x4x1x512x256, .i32⟩
  | .local _ .vmem, ⟨34, _⟩ => ⟨S2x4x1x512x256, .i32⟩
  | .local _ .vmem, ⟨35, _⟩ => ⟨S1x512x4, .f32⟩
  | .local _ .vmem, ⟨36, _⟩ => ⟨S1x512x4, .f32⟩
  | .local _ .vmem, ⟨37, _⟩ => ⟨S1x512x1024, .f32⟩
  | .local _ .vmem, ⟨38, _⟩ => ⟨S1x512x1024, .f32⟩
  | .local _ .vmem, ⟨39, _⟩ => ⟨S1x6x1024, .f32⟩
  | .local _ .vmem, ⟨40, _⟩ => ⟨S1x6x1024, .f32⟩
  | .local _ .vmem, ⟨41, _⟩ => ⟨S1x1024, .f32⟩
  | .local _ .vmem, ⟨42, _⟩ => ⟨S1x512x1024, .f32⟩
  | .local _ .vmem, ⟨43, _⟩ => ⟨S1x512x1024, .f32⟩
  | _, _ => ⟨S2x4x16x2048x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg5_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg3_1 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem5_0 : DmaSem sig := 31
abbrev cc2_sem5_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem3_1 : DmaSem sig := 40
abbrev cc3_sem4_0 : DmaSem sig := 41
abbrev cc3_sem5_0 : DmaSem sig := 42
abbrev cc3_sem5_1 : DmaSem sig := 43

abbrev nD : Nat := 1
abbrev τ : Topo := Topo.v7x

variable {F : FTy → Type} [FloatOps F]

abbrev grid0 : Pipeline.Grid := ⟨2, ![4, 4], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, arg1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S2x4x1x512x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 4], ![false, false]⟩

def cc1_transform_0 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, arg1.toNat, c0_i32_1.toNat]

def cc1_transform_1 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![v0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, arg1.toNat, c0_i32.toNat]

abbrev stage1_0 : Fin 2 → Memref sig .tc .vmem S2x4x1x512x256 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x6x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![4, 4], ![false, false]⟩

def cc2_transform_0 (i : grid2.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, arg1.toNat, c0_i32_1.toNat]

def cc2_transform_1 (i : grid2.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![v0.toNat, c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, arg1.toNat, c0_i32.toNat]

abbrev stage2_0 : Fin 2 → Memref sig .tc .vmem S2x4x1x512x256 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x512x4 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x6x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨2, ![4, 4], ![false, false]⟩

def cc3_transform_0 (i : grid3.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, arg1.toNat, c0_i32_1.toNat]

def cc3_transform_1 (i : grid3.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![v0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![v0.toNat, arg1.toNat, c0_i32.toNat]

def cc3_transform_3 (i : grid3.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  let c0_i32_1 : BitVec 32 := 0#32
  ![v0.toNat, c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![v0.toNat, arg1.toNat, c0_i32.toNat]

abbrev stage3_0 : Fin 2 → Memref sig .tc .vmem S2x4x1x512x256 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x512x4 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x6x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1x512x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]
-- ==== Reference3Ideal.lean ====
abbrev S2x4x16x2048x256 : Shape := ⟨5, ![2, 4, 16, 2048, 256]⟩
abbrev S16x2048x4 : Shape := ⟨3, ![16, 2048, 4]⟩
abbrev S16x2048x1024 : Shape := ⟨3, ![16, 2048, 1024]⟩
abbrev S16x6x1024 : Shape := ⟨3, ![16, 6, 1024]⟩
abbrev S1024 : Shape := ⟨1, ![1024]⟩
abbrev S2x4x16x2048x256x2 : Shape := ⟨6, ![2, 4, 16, 2048, 256, 2]⟩
abbrev S4x16x2048x2x2x256 : Shape := ⟨6, ![4, 16, 2048, 2, 2, 256]⟩
abbrev S4x16x2048x1024 : Shape := ⟨4, ![4, 16, 2048, 1024]⟩
abbrev S4x16x2048 : Shape := ⟨3, ![4, 16, 2048]⟩
abbrev S4x16x2048x1 : Shape := ⟨4, ![4, 16, 2048, 1]⟩
abbrev S_ : Shape := ⟨0, ![]⟩
abbrev S16x1x1024 : Shape := ⟨3, ![16, 1, 1024]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S2x4x16x2048x256, .i32⟩
  | .hbm, ⟨1, _⟩ => ⟨S16x2048x4, .f32⟩
  | .hbm, ⟨2, _⟩ => ⟨S16x2048x1024, .f32⟩
  | .hbm, ⟨3, _⟩ => ⟨S16x6x1024, .f32⟩
  | .hbm, ⟨4, _⟩ => ⟨S1024, .f32⟩
  | .hbm, ⟨5, _⟩ => ⟨S2x4x16x2048x256x2, .bf16⟩
  | .hbm, ⟨6, _⟩ => ⟨S4x16x2048x2x2x256, .bf16⟩
  | .hbm, ⟨7, _⟩ => ⟨S4x16x2048x1024, .bf16⟩
  | .hbm, ⟨8, _⟩ => ⟨S4x16x2048x1024, .f32⟩
  | .hbm, ⟨9, _⟩ => ⟨S4x16x2048, .f32⟩
  | .hbm, ⟨10, _⟩ => ⟨S4x16x2048x1, .f32⟩
  | .hbm, ⟨11, _⟩ => ⟨S4x16x2048x1024, .f32⟩
  | .hbm, ⟨12, _⟩ => ⟨S4x16x2048x1024, .f32⟩
  | .hbm, ⟨13, _⟩ => ⟨S_, .f32⟩
  | .hbm, ⟨14, _⟩ => ⟨S16x2048x1024, .f32⟩
  | .hbm, ⟨15, _⟩ => ⟨S16x1x1024, .f32⟩
  | .hbm, ⟨16, _⟩ => ⟨S16x2048x1024, .f32⟩
  | .hbm, ⟨17, _⟩ => ⟨S16x2048x1024, .f32⟩
  | .hbm, ⟨18, _⟩ => ⟨S16x2048x1024, .f32⟩
  | .hbm, ⟨19, _⟩ => ⟨S16x2048x1024, .f32⟩
  | .hbm, ⟨20, _⟩ => ⟨S_, .f32⟩
  | .hbm, ⟨21, _⟩ => ⟨S16x2048, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S_, .f32⟩
  | .hbm, ⟨27, _⟩ => ⟨S16x2048x1, .f32⟩
  | .hbm, ⟨28, _⟩ => ⟨S16x2048x1, .f32⟩
  | .hbm, ⟨29, _⟩ => ⟨S16x2048x1, .f32⟩
  | .hbm, ⟨30, _⟩ => ⟨S16x2048x1024, .f32⟩
  | .hbm, ⟨31, _⟩ => ⟨S16x2048x1024, .f32⟩
  | .hbm, ⟨32, _⟩ => ⟨S1x1x1024, .f32⟩
  | .hbm, ⟨33, _⟩ => ⟨S16x2048x1024, .f32⟩
  | .hbm, ⟨34, _⟩ => ⟨S16x2048x1024, .f32⟩
  | _, _ => ⟨S2x4x16x2048x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel4.lean ====
abbrev S16x1024 : Shape := ⟨2, ![16, 1024]⟩
abbrev S1024x6144 : Shape := ⟨2, ![1024, 6144]⟩
abbrev S6144 : Shape := ⟨1, ![6144]⟩
abbrev S1x6144 : Shape := ⟨2, ![1, 6144]⟩
abbrev S16x6144 : Shape := ⟨2, ![16, 6144]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S16x6144, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S16x1024 : Shape := ⟨2, ![16, 1024]⟩
abbrev S1024x6144 : Shape := ⟨2, ![1024, 6144]⟩
abbrev S6144 : Shape := ⟨1, ![6144]⟩
abbrev S_ : Shape := ⟨0, ![]⟩
abbrev S16x6144 : Shape := ⟨2, ![16, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x6144, .f32⟩
  | .hbm, ⟨13, _⟩ => ⟨S1x6144, .f32⟩
  | .hbm, ⟨14, _⟩ => ⟨S16x6144, .f32⟩
  | .hbm, ⟨15, _⟩ => ⟨S16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel5.lean ====
abbrev S16x2048x1024 : Shape := ⟨3, ![16, 2048, 1024]⟩
abbrev S16x2048 : Shape := ⟨2, ![16, 2048]⟩
abbrev S16x6x1024 : Shape := ⟨3, ![16, 6, 1024]⟩
abbrev S1024 : Shape := ⟨1, ![1024]⟩
abbrev S1024x2208 : Shape := ⟨2, ![1024, 2208]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S_ : Shape := ⟨0, ![]⟩
abbrev S1024x96 : Shape := ⟨2, ![1024, 96]⟩
abbrev S1024x32 : Shape := ⟨2, ![1024, 32]⟩
abbrev S1024x128 : Shape := ⟨2, ![1024, 128]⟩
abbrev S1024x640 : Shape := ⟨2, ![1024, 640]⟩
abbrev S1024x1024 : Shape := ⟨2, ![1024, 1024]⟩
abbrev S1024x1792 : Shape := ⟨2, ![1024, 1792]⟩
abbrev S1024x512 : Shape := ⟨2, ![1024, 512]⟩
abbrev S512x1024 : Shape := ⟨2, ![512, 1024]⟩
abbrev S384x8x96 : Shape := ⟨3, ![384, 8, 96]⟩
abbrev S384x8x64 : Shape := ⟨3, ![384, 8, 64]⟩
abbrev S384x8x32 : Shape := ⟨3, ![384, 8, 32]⟩
abbrev S384x8x128 : Shape := ⟨3, ![384, 8, 128]⟩
abbrev S384x1024 : Shape := ⟨2, ![384, 1024]⟩
abbrev S256x8x128 : Shape := ⟨3, ![256, 8, 128]⟩
abbrev S256x8x64 : Shape := ⟨3, ![256, 8, 64]⟩
abbrev S256x512 : Shape := ⟨2, ![256, 512]⟩
abbrev S512x256 : Shape := ⟨2, ![512, 256]⟩
abbrev S128 : Shape := ⟨1, ![128]⟩
abbrev S16 : Shape := ⟨1, ![16]⟩
abbrev S8 : Shape := ⟨1, ![8]⟩
abbrev S128x1 : Shape := ⟨2, ![128, 1]⟩
abbrev S1x128 : Shape := ⟨2, ![1, 128]⟩
abbrev S8x128 : Shape := ⟨2, ![8, 128]⟩
abbrev S1x1024 : Shape := ⟨2, ![1, 1024]⟩
abbrev S1x384 : Shape := ⟨2, ![1, 384]⟩
abbrev S1x256 : Shape := ⟨2, ![1, 256]⟩
abbrev S16x2048x1 : Shape := ⟨3, ![16, 2048, 1]⟩
abbrev S16x512x2048 : Shape := ⟨3, ![16, 512, 2048]⟩
abbrev S16x2048x512 : Shape := ⟨3, ![16, 2048, 512]⟩
abbrev S1x512x1024 : Shape := ⟨3, ![1, 512, 1024]⟩
abbrev S1x512x1 : Shape := ⟨3, ![1, 512, 1]⟩
abbrev S1x6x1024 : Shape := ⟨3, ![1, 6, 1024]⟩
abbrev S1x512x512 : Shape := ⟨3, ![1, 512, 512]⟩
abbrev S6x1024 : Shape := ⟨2, ![6, 1024]⟩
abbrev S512 : Shape := ⟨1, ![512]⟩
abbrev S512x1 : Shape := ⟨2, ![512, 1]⟩
abbrev S512x1792 : Shape := ⟨2, ![512, 1792]⟩
abbrev S512x512 : Shape := ⟨2, ![512, 512]⟩
abbrev S512x128 : Shape := ⟨2, ![512, 128]⟩
abbrev S512x384 : Shape := ⟨2, ![512, 384]⟩
abbrev S1x512x128 : Shape := ⟨3, ![1, 512, 128]⟩

abbrev nBuf : Space → Nat
  | .hbm => 250
  | .vmem => 28
  | .smem => 0
  | _ => 0

abbrev hbmTy0_0 (i : Nat) : BufTy := match i % 128 with
  | 0 => ⟨S16x2048x1024, .f32⟩
  | 1 => ⟨S16x2048, .i32⟩
  | 2 => ⟨S16x6x1024, .f32⟩
  | 3 => ⟨S1024, .f32⟩
  | 4 => ⟨S1024x2208, .f32⟩
  | 5 => ⟨S384, .f32⟩
  | 6 => ⟨S384x768, .f32⟩
  | 7 => ⟨S256, .f32⟩
  | 8 => ⟨S256x1024, .f32⟩
  | 9 => ⟨S_, .f32⟩
  | 10 => ⟨S1024x96, .f32⟩
  | 11 => ⟨S1024x32, .f32⟩
  | 12 => ⟨S1024x128, .f32⟩
  | 13 => ⟨S1024x640, .f32⟩
  | 14 => ⟨S1024x1024, .f32⟩
  | 15 => ⟨S1024x1792, .f32⟩
  | 16 => ⟨S1024x512, .f32⟩
  | 17 => ⟨S512x1024, .f32⟩
  | 18 => ⟨S384x8x96, .f32⟩
  | 19 => ⟨S384x8x64, .f32⟩
  | 20 => ⟨S_, .f32⟩
  | 21 => ⟨S384x8x32, .f32⟩
  | 22 => ⟨S384x8x32, .f32⟩
  | 23 => ⟨S384x8x128, .f32⟩
  | 24 => ⟨S384x1024, .f32⟩
  | 25 => ⟨S256x8x128, .f32⟩
  | 26 => ⟨S256x8x64, .f32⟩
  | 27 => ⟨S_, .f32⟩
  | 28 => ⟨S256x8x64, .f32⟩
  | 29 => ⟨S256x8x128, .f32⟩
  | 30 => ⟨S256x1024, .f32⟩
  | 31 => ⟨S256x8x64, .f32⟩
  | 32 => ⟨S256x512, .f32⟩
  | 33 => ⟨S512x256, .f32⟩
  | 34 => ⟨S1024x1792, .bf16⟩
  | 35 => ⟨S512x1024, .bf16⟩
  | 36 => ⟨S384x1024, .bf16⟩
  | 37 => ⟨S256x1024, .bf16⟩
  | 38 => ⟨S512x256, .bf16⟩
  | 39 => ⟨S128, .i32⟩
  | 40 => ⟨S16, .f32⟩
  | 41 => ⟨S16, .f32⟩
  | 42 => ⟨S_, .f32⟩
  | 43 => ⟨S16, .f32⟩
  | 44 => ⟨S16, .f32⟩
  | 45 => ⟨S_, .f32⟩
  | 46 => ⟨S16, .f32⟩
  | 47 => ⟨S16, .f32⟩
  | 48 => ⟨S8, .f32⟩
  | 49 => ⟨S8, .f32⟩
  | 50 => ⟨S_, .f32⟩
  | 51 => ⟨S8, .f32⟩
  | 52 => ⟨S8, .f32⟩
  | 53 => ⟨S_, .f32⟩
  | 54 => ⟨S8, .f32⟩
  | 55 => ⟨S8, .f32⟩
  | 56 => ⟨S_, .i32⟩
  | 57 => ⟨S128, .i32⟩
  | 58 => ⟨S128, .i1⟩
  | 59 => ⟨S_, .i32⟩
  | 60 => ⟨S128, .i32⟩
  | 61 => ⟨S128, .i1⟩
  | 62 => ⟨S128, .i1⟩
  | 63 => ⟨S_, .i32⟩
  | 64 => ⟨S128, .i32⟩
  | 65 => ⟨S128, .i1⟩
  | 66 => ⟨S_, .i32⟩
  | 67 => ⟨S128, .i32⟩
  | 68 => ⟨S128, .i1⟩
  | 69 => ⟨S128, .i1⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S128, .i32⟩
  | 77 => ⟨S128, .i32⟩
  | 78 => ⟨S_, .i32⟩
  | 79 => ⟨S128, .i32⟩
  | 80 => ⟨S128, .i1⟩
  | 81 => ⟨S_, .i32⟩
  | 82 => ⟨S128, .i32⟩
  | 83 => ⟨S128, .i1⟩
  | 84 => ⟨S_, .i32⟩
  | 85 => ⟨S_, .i1⟩
  | 86 => ⟨S128, .i1⟩
  | 87 => ⟨S128, .i1⟩
  | 88 => ⟨S128, .i1⟩
  | 89 => ⟨S128, .i32⟩
  | 90 => ⟨S128, .i32⟩
  | 91 => ⟨S128, .i32⟩
  | 92 => ⟨S_, .i32⟩
  | 93 => ⟨S128, .i32⟩
  | 94 => ⟨S128, .i1⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S128, .i32⟩
  | 102 => ⟨S128, .i32⟩
  | 103 => ⟨S_, .i32⟩
  | 104 => ⟨S128, .i32⟩
  | 105 => ⟨S128, .i1⟩
  | 106 => ⟨S_, .i32⟩
  | 107 => ⟨S128, .i32⟩
  | 108 => ⟨S128, .i1⟩
  | 109 => ⟨S_, .i32⟩
  | 110 => ⟨S_, .i1⟩
  | 111 => ⟨S128, .i1⟩
  | 112 => ⟨S128, .i1⟩
  | 113 => ⟨S128, .i1⟩
  | 114 => ⟨S128, .i32⟩
  | 115 => ⟨S128, .i32⟩
  | 116 => ⟨S128, .i32⟩
  | 117 => ⟨S_, .i32⟩
  | 118 => ⟨S128, .i32⟩
  | 119 => ⟨S128, .i1⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S128, .i32⟩
  | 127 => ⟨S128, .i32⟩
  | _ => ⟨S16x2048x1024, .f32⟩

abbrev hbmTy0_1 (i : Nat) : BufTy := match i % 128 with
  | 0 => ⟨S_, .i32⟩
  | 1 => ⟨S128, .i32⟩
  | 2 => ⟨S128, .i1⟩
  | 3 => ⟨S_, .i32⟩
  | 4 => ⟨S128, .i32⟩
  | 5 => ⟨S128, .i1⟩
  | 6 => ⟨S_, .i32⟩
  | 7 => ⟨S_, .i1⟩
  | 8 => ⟨S128, .i1⟩
  | 9 => ⟨S128, .i1⟩
  | 10 => ⟨S128, .i1⟩
  | 11 => ⟨S128, .i32⟩
  | 12 => ⟨S128, .i32⟩
  | 13 => ⟨S128, .i32⟩
  | 14 => ⟨S_, .i32⟩
  | 15 => ⟨S128, .i32⟩
  | 16 => ⟨S128, .i1⟩
  | 17 => ⟨S128, .i1⟩
  | 18 => ⟨S128, .i1⟩
  | 19 => ⟨S_, .i32⟩
  | 20 => ⟨S128, .i32⟩
  | 21 => ⟨S128, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S128, .i32⟩
  | 29 => ⟨S128, .i32⟩
  | 30 => ⟨S_, .i32⟩
  | 31 => ⟨S128, .i32⟩
  | 32 => ⟨S128, .i1⟩
  | 33 => ⟨S_, .i32⟩
  | 34 => ⟨S128, .i32⟩
  | 35 => ⟨S128, .i1⟩
  | 36 => ⟨S_, .i32⟩
  | 37 => ⟨S_, .i1⟩
  | 38 => ⟨S128, .i1⟩
  | 39 => ⟨S128, .i1⟩
  | 40 => ⟨S128, .i1⟩
  | 41 => ⟨S128, .i32⟩
  | 42 => ⟨S128, .i32⟩
  | 43 => ⟨S128, .i32⟩
  | 44 => ⟨S_, .i32⟩
  | 45 => ⟨S128, .i32⟩
  | 46 => ⟨S128, .i1⟩
  | 47 => ⟨S_, .i32⟩
  | 48 => ⟨S128, .i32⟩
  | 49 => ⟨S128, .i32⟩
  | 50 => ⟨S128, .i32⟩
  | 51 => ⟨S128x1, .i32⟩
  | 52 => ⟨S128, .f32⟩
  | 53 => ⟨S_, .f32⟩
  | 54 => ⟨S_, .f32⟩
  | 55 => ⟨S128, .f32⟩
  | 56 => ⟨S128, .f32⟩
  | 57 => ⟨S128, .i1⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S128, .i32⟩
  | 65 => ⟨S128, .i32⟩
  | 66 => ⟨S_, .i32⟩
  | 67 => ⟨S128, .i32⟩
  | 68 => ⟨S128, .i1⟩
  | 69 => ⟨S_, .i32⟩
  | 70 => ⟨S128, .i32⟩
  | 71 => ⟨S128, .i1⟩
  | 72 => ⟨S_, .i32⟩
  | 73 => ⟨S_, .i1⟩
  | 74 => ⟨S128, .i1⟩
  | 75 => ⟨S128, .i1⟩
  | 76 => ⟨S128, .i1⟩
  | 77 => ⟨S128, .i32⟩
  | 78 => ⟨S128, .i32⟩
  | 79 => ⟨S128, .i32⟩
  | 80 => ⟨S_, .i32⟩
  | 81 => ⟨S128, .i32⟩
  | 82 => ⟨S128, .i1⟩
  | 83 => ⟨S_, .i32⟩
  | 84 => ⟨S128, .i32⟩
  | 85 => ⟨S128, .i32⟩
  | 86 => ⟨S128, .i32⟩
  | 87 => ⟨S128x1, .i32⟩
  | 88 => ⟨S128, .f32⟩
  | 89 => ⟨S128, .f32⟩
  | 90 => ⟨S_, .f32⟩
  | 91 => ⟨S128, .f32⟩
  | 92 => ⟨S128, .i1⟩
  | 93 => ⟨S128, .f32⟩
  | 94 => ⟨S128, .f32⟩
  | 95 => ⟨S128, .f32⟩
  | 96 => ⟨S128, .f32⟩
  | 97 => ⟨S128, .i1⟩
  | 98 => ⟨S128, .f32⟩
  | 99 => ⟨S128, .f32⟩
  | 100 => ⟨S128, .f32⟩
  | 101 => ⟨S128, .f32⟩
  | 102 => ⟨S1x128, .f32⟩
  | 103 => ⟨S1x128, .f32⟩
  | 104 => ⟨S1x128, .f32⟩
  | 105 => ⟨S1x128, .f32⟩
  | 106 => ⟨S1x128, .f32⟩
  | 107 => ⟨S1x128, .f32⟩
  | 108 => ⟨S1x128, .f32⟩
  | 109 => ⟨S1x128, .f32⟩
  | 110 => ⟨S8x128, .f32⟩
  | 111 => ⟨S1x128, .f32⟩
  | 112 => ⟨S1x1024, .f32⟩
  | 113 => ⟨S1x384, .f32⟩
  | 114 => ⟨S1x256, .f32⟩
  | 115 => ⟨S16x2048x1, .i32⟩
  | 116 => ⟨S16x2048x1024, .bf16⟩
  | 117 => ⟨S16x2048x1024, .bf16⟩
  | 118 => ⟨S16x512x2048, .bf16⟩
  | 119 => ⟨S16x2048x512, .bf16⟩
  | 120 => ⟨S16x2048x512, .bf16⟩
  | 121 => ⟨S16x512x2048, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x512x1, .i32⟩
  | .local _ .vmem, ⟨3, _⟩ => ⟨S1x512x1, .i32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S1024x1792, .bf16⟩
  | .local _ .vmem, ⟨8, _⟩ => ⟨S512x1024, .bf16⟩
  | .local _ .vmem, ⟨9, _⟩ => ⟨S1x384, .f32⟩
  | .local _ .vmem, ⟨10, _⟩ => ⟨S384x1024, .bf16⟩
  | .local _ .vmem, ⟨11, _⟩ => ⟨S1x256, .f32⟩
  | .local _ .vmem, ⟨12, _⟩ => ⟨S256x1024, .bf16⟩
  | .local _ .vmem, ⟨13, _⟩ => ⟨S512x256, .bf16⟩
  | .local _ .vmem, ⟨14, _⟩ => ⟨S1x128, .f32⟩
  | .local _ .vmem, ⟨15, _⟩ => ⟨S8x128, .f32⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_c : Ref sig .tc := ⟨.hbm, 56, rfl⟩
abbrev main_v40 : Ref sig .tc := ⟨.hbm, 57, rfl⟩
abbrev main_v41 : Ref sig .tc := ⟨.hbm, 58, rfl⟩
abbrev main_c_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_7 : Ref sig .tc := ⟨.hbm, 63, rfl⟩
abbrev main_v45 : Ref sig .tc := ⟨.hbm, 64, rfl⟩
abbrev main_v46 : Ref sig .tc := ⟨.hbm, 65, rfl⟩
abbrev main_c_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_call0_v0 : Ref sig .tc := ⟨.hbm, 71, rfl⟩
abbrev main_call0_c : Ref sig .tc := ⟨.hbm, 72, rfl⟩
abbrev main_call0_v1 : Ref sig .tc := ⟨.hbm, 73, rfl⟩
abbrev main_call0_c_0 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_call0_c_1 : Ref sig .tc := ⟨.hbm, 78, rfl⟩
abbrev main_call0_v5 : Ref sig .tc := ⟨.hbm, 79, rfl⟩
abbrev main_call0_v6 : Ref sig .tc := ⟨.hbm, 80, rfl⟩
abbrev main_call0_c_2 : Ref sig .tc := ⟨.hbm, 81, rfl⟩
abbrev main_call0_v7 : Ref sig .tc := ⟨.hbm, 82, rfl⟩
abbrev main_call0_v8 : Ref sig .tc := ⟨.hbm, 83, rfl⟩
abbrev main_call0_c_3 : Ref sig .tc := ⟨.hbm, 84, rfl⟩
abbrev main_call0_v9 : Ref sig .tc := ⟨.hbm, 85, rfl⟩
abbrev main_call0_v10 : Ref sig .tc := ⟨.hbm, 86, rfl⟩
abbrev main_call0_v11 : Ref sig .tc := ⟨.hbm, 87, rfl⟩
abbrev main_call0_v12 : Ref sig .tc := ⟨.hbm, 88, rfl⟩
abbrev main_call0_v13 : Ref sig .tc := ⟨.hbm, 89, rfl⟩
abbrev main_call0_v14 : Ref sig .tc := ⟨.hbm, 90, rfl⟩
abbrev main_v50 : Ref sig .tc := ⟨.hbm, 91, rfl⟩
abbrev main_c_10 : Ref sig .tc := ⟨.hbm, 92, rfl⟩
abbrev main_v51 : Ref sig .tc := ⟨.hbm, 93, rfl⟩
abbrev main_v52 : Ref sig .tc := ⟨.hbm, 94, rfl⟩
abbrev main_c_11 : Ref sig .tc := ⟨.hbm, 95, rfl⟩
abbrev main_call1_v0 : Ref sig .tc := ⟨.hbm, 96, rfl⟩
abbrev main_call1_c : Ref sig .tc := ⟨.hbm, 97, rfl⟩
abbrev main_call1_v1 : Ref sig .tc := ⟨.hbm, 98, rfl⟩
abbrev main_call1_c_0 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_call1_c_1 : Ref sig .tc := ⟨.hbm, 103, rfl⟩
abbrev main_call1_v5 : Ref sig .tc := ⟨.hbm, 104, rfl⟩
abbrev main_call1_v6 : Ref sig .tc := ⟨.hbm, 105, rfl⟩
abbrev main_call1_c_2 : Ref sig .tc := ⟨.hbm, 106, rfl⟩
abbrev main_call1_v7 : Ref sig .tc := ⟨.hbm, 107, rfl⟩
abbrev main_call1_v8 : Ref sig .tc := ⟨.hbm, 108, rfl⟩
abbrev main_call1_c_3 : Ref sig .tc := ⟨.hbm, 109, rfl⟩
abbrev main_call1_v9 : Ref sig .tc := ⟨.hbm, 110, rfl⟩
abbrev main_call1_v10 : Ref sig .tc := ⟨.hbm, 111, rfl⟩
abbrev main_call1_v11 : Ref sig .tc := ⟨.hbm, 112, rfl⟩
abbrev main_call1_v12 : Ref sig .tc := ⟨.hbm, 113, rfl⟩
abbrev main_call1_v13 : Ref sig .tc := ⟨.hbm, 114, rfl⟩
abbrev main_call1_v14 : Ref sig .tc := ⟨.hbm, 115, rfl⟩
abbrev main_v53 : Ref sig .tc := ⟨.hbm, 116, rfl⟩
abbrev main_c_12 : Ref sig .tc := ⟨.hbm, 117, rfl⟩
abbrev main_v54 : Ref sig .tc := ⟨.hbm, 118, rfl⟩
abbrev main_v55 : Ref sig .tc := ⟨.hbm, 119, rfl⟩
abbrev main_c_13 : Ref sig .tc := ⟨.hbm, 120, rfl⟩
abbrev main_call2_v0 : Ref sig .tc := ⟨.hbm, 121, rfl⟩
abbrev main_call2_c : Ref sig .tc := ⟨.hbm, 122, rfl⟩
abbrev main_call2_v1 : Ref sig .tc := ⟨.hbm, 123, rfl⟩
abbrev main_call2_c_0 : Ref sig .tc := ⟨.hbm, 124, rfl⟩
abbrev main_call2_v2 : Ref sig .tc := ⟨.hbm, 125, rfl⟩
abbrev main_call2_v3 : Ref sig .tc := ⟨.hbm, 126, rfl⟩
abbrev main_call2_v4 : Ref sig .tc := ⟨.hbm, 127, rfl⟩
abbrev main_call2_c_1 : Ref sig .tc := ⟨.hbm, 128, rfl⟩
abbrev main_call2_v5 : Ref sig .tc := ⟨.hbm, 129, rfl⟩
abbrev main_call2_v6 : Ref sig .tc := ⟨.hbm, 130, rfl⟩
abbrev main_call2_c_2 : Ref sig .tc := ⟨.hbm, 131, rfl⟩
abbrev main_call2_v7 : Ref sig .tc := ⟨.hbm, 132, rfl⟩
abbrev main_call2_v8 : Ref sig .tc := ⟨.hbm, 133, rfl⟩
abbrev main_call2_c_3 : Ref sig .tc := ⟨.hbm, 134, rfl⟩
abbrev main_call2_v9 : Ref sig .tc := ⟨.hbm, 135, rfl⟩
abbrev main_call2_v10 : Ref sig .tc := ⟨.hbm, 136, rfl⟩
abbrev main_call2_v11 : Ref sig .tc := ⟨.hbm, 137, rfl⟩
abbrev main_call2_v12 : Ref sig .tc := ⟨.hbm, 138, rfl⟩
abbrev main_call2_v13 : Ref sig .tc := ⟨.hbm, 139, rfl⟩
abbrev main_call2_v14 : Ref sig .tc := ⟨.hbm, 140, rfl⟩
abbrev main_v56 : Ref sig .tc := ⟨.hbm, 141, rfl⟩
abbrev main_c_14 : Ref sig .tc := ⟨.hbm, 142, rfl⟩
abbrev main_v57 : Ref sig .tc := ⟨.hbm, 143, rfl⟩
abbrev main_v58 : Ref sig .tc := ⟨.hbm, 144, rfl⟩
abbrev main_v59 : Ref sig .tc := ⟨.hbm, 145, rfl⟩
abbrev main_v60 : Ref sig .tc := ⟨.hbm, 146, rfl⟩
abbrev main_c_15 : Ref sig .tc := ⟨.hbm, 147, rfl⟩
abbrev main_v61 : Ref sig .tc := ⟨.hbm, 148, rfl⟩
abbrev main_v62 : Ref sig .tc := ⟨.hbm, 149, rfl⟩
abbrev main_c_16 : Ref sig .tc := ⟨.hbm, 150, rfl⟩
abbrev main_call3_v0 : Ref sig .tc := ⟨.hbm, 151, rfl⟩
abbrev main_call3_c : Ref sig .tc := ⟨.hbm, 152, rfl⟩
abbrev main_call3_v1 : Ref sig .tc := ⟨.hbm, 153, rfl⟩
abbrev main_call3_c_0 : Ref sig .tc := ⟨.hbm, 154, rfl⟩
abbrev main_call3_v2 : Ref sig .tc := ⟨.hbm, 155, rfl⟩
abbrev main_call3_v3 : Ref sig .tc := ⟨.hbm, 156, rfl⟩
abbrev main_call3_v4 : Ref sig .tc := ⟨.hbm, 157, rfl⟩
abbrev main_call3_c_1 : Ref sig .tc := ⟨.hbm, 158, rfl⟩
abbrev main_call3_v5 : Ref sig .tc := ⟨.hbm, 159, rfl⟩
abbrev main_call3_v6 : Ref sig .tc := ⟨.hbm, 160, rfl⟩
abbrev main_call3_c_2 : Ref sig .tc := ⟨.hbm, 161, rfl⟩
abbrev main_call3_v7 : Ref sig .tc := ⟨.hbm, 162, rfl⟩
abbrev main_call3_v8 : Ref sig .tc := ⟨.hbm, 163, rfl⟩
abbrev main_call3_c_3 : Ref sig .tc := ⟨.hbm, 164, rfl⟩
abbrev main_call3_v9 : Ref sig .tc := ⟨.hbm, 165, rfl⟩
abbrev main_call3_v10 : Ref sig .tc := ⟨.hbm, 166, rfl⟩
abbrev main_call3_v11 : Ref sig .tc := ⟨.hbm, 167, rfl⟩
abbrev main_call3_v12 : Ref sig .tc := ⟨.hbm, 168, rfl⟩
abbrev main_call3_v13 : Ref sig .tc := ⟨.hbm, 169, rfl⟩
abbrev main_call3_v14 : Ref sig .tc := ⟨.hbm, 170, rfl⟩
abbrev main_v63 : Ref sig .tc := ⟨.hbm, 171, rfl⟩
abbrev main_c_17 : Ref sig .tc := ⟨.hbm, 172, rfl⟩
abbrev main_v64 : Ref sig .tc := ⟨.hbm, 173, rfl⟩
abbrev main_v65 : Ref sig .tc := ⟨.hbm, 174, rfl⟩
abbrev main_c_18 : Ref sig .tc := ⟨.hbm, 175, rfl⟩
abbrev main_v66 : Ref sig .tc := ⟨.hbm, 176, rfl⟩
abbrev main_v67 : Ref sig .tc := ⟨.hbm, 177, rfl⟩
abbrev main_v68 : Ref sig .tc := ⟨.hbm, 178, rfl⟩
abbrev main_v69 : Ref sig .tc := ⟨.hbm, 179, rfl⟩
abbrev main_v70 : Ref sig .tc := ⟨.hbm, 180, rfl⟩
abbrev main_cst_19 : Ref sig .tc := ⟨.hbm, 181, rfl⟩
abbrev main_call4_v0 : Ref sig .tc := ⟨.hbm, 182, rfl⟩
abbrev main_call4_v1 : Ref sig .tc := ⟨.hbm, 183, rfl⟩
abbrev main_v71 : Ref sig .tc := ⟨.hbm, 184, rfl⟩
abbrev main_v72 : Ref sig .tc := ⟨.hbm, 185, rfl⟩
abbrev main_c_20 : Ref sig .tc := ⟨.hbm, 186, rfl⟩
abbrev main_call5_v0 : Ref sig .tc := ⟨.hbm, 187, rfl⟩
abbrev main_call5_c : Ref sig .tc := ⟨.hbm, 188, rfl⟩
abbrev main_call5_v1 : Ref sig .tc := ⟨.hbm, 189, rfl⟩
abbrev main_call5_c_0 : Ref sig .tc := ⟨.hbm, 190, rfl⟩
abbrev main_call5_v2 : Ref sig .tc := ⟨.hbm, 191, rfl⟩
abbrev main_call5_v3 : Ref sig .tc := ⟨.hbm, 192, rfl⟩
abbrev main_call5_v4 : Ref sig .tc := ⟨.hbm, 193, rfl⟩
abbrev main_call5_c_1 : Ref sig .tc := ⟨.hbm, 194, rfl⟩
abbrev main_call5_v5 : Ref sig .tc := ⟨.hbm, 195, rfl⟩
abbrev main_call5_v6 : Ref sig .tc := ⟨.hbm, 196, rfl⟩
abbrev main_call5_c_2 : Ref sig .tc := ⟨.hbm, 197, rfl⟩
abbrev main_call5_v7 : Ref sig .tc := ⟨.hbm, 198, rfl⟩
abbrev main_call5_v8 : Ref sig .tc := ⟨.hbm, 199, rfl⟩
abbrev main_call5_c_3 : Ref sig .tc := ⟨.hbm, 200, rfl⟩
abbrev main_call5_v9 : Ref sig .tc := ⟨.hbm, 201, rfl⟩
abbrev main_call5_v10 : Ref sig .tc := ⟨.hbm, 202, rfl⟩
abbrev main_call5_v11 : Ref sig .tc := ⟨.hbm, 203, rfl⟩
abbrev main_call5_v12 : Ref sig .tc := ⟨.hbm, 204, rfl⟩
abbrev main_call5_v13 : Ref sig .tc := ⟨.hbm, 205, rfl⟩
abbrev main_call5_v14 : Ref sig .tc := ⟨.hbm, 206, rfl⟩
abbrev main_v73 : Ref sig .tc := ⟨.hbm, 207, rfl⟩
abbrev main_c_21 : Ref sig .tc := ⟨.hbm, 208, rfl⟩
abbrev main_v74 : Ref sig .tc := ⟨.hbm, 209, rfl⟩
abbrev main_v75 : Ref sig .tc := ⟨.hbm, 210, rfl⟩
abbrev main_c_22 : Ref sig .tc := ⟨.hbm, 211, rfl⟩
abbrev main_v76 : Ref sig .tc := ⟨.hbm, 212, rfl⟩
abbrev main_v77 : Ref sig .tc := ⟨.hbm, 213, rfl⟩
abbrev main_v78 : Ref sig .tc := ⟨.hbm, 214, rfl⟩
abbrev main_v79 : Ref sig .tc := ⟨.hbm, 215, rfl⟩
abbrev main_v80 : Ref sig .tc := ⟨.hbm, 216, rfl⟩
abbrev main_v81 : Ref sig .tc := ⟨.hbm, 217, rfl⟩
abbrev main_cst_23 : Ref sig .tc := ⟨.hbm, 218, rfl⟩
abbrev main_v82 : Ref sig .tc := ⟨.hbm, 219, rfl⟩
abbrev main_v83 : Ref sig .tc := ⟨.hbm, 220, rfl⟩
abbrev main_v84 : Ref sig .tc := ⟨.hbm, 221, rfl⟩
abbrev main_v85 : Ref sig .tc := ⟨.hbm, 222, rfl⟩
abbrev main_v86 : Ref sig .tc := ⟨.hbm, 223, rfl⟩
abbrev main_v87 : Ref sig .tc := ⟨.hbm, 224, rfl⟩
abbrev main_v88 : Ref sig .tc := ⟨.hbm, 225, rfl⟩
abbrev main_v89 : Ref sig .tc := ⟨.hbm, 226, rfl⟩
abbrev main_v90 : Ref sig .tc := ⟨.hbm, 227, rfl⟩
abbrev main_v91 : Ref sig .tc := ⟨.hbm, 228, rfl⟩
abbrev main_v92 : Ref sig .tc := ⟨.hbm, 229, rfl⟩
abbrev main_v93 : Ref sig .tc := ⟨.hbm, 230, rfl⟩
abbrev main_v94 : Ref sig .tc := ⟨.hbm, 231, rfl⟩
abbrev main_v95 : Ref sig .tc := ⟨.hbm, 232, rfl⟩
abbrev main_v96 : Ref sig .tc := ⟨.hbm, 233, rfl⟩
abbrev main_v97 : Ref sig .tc := ⟨.hbm, 234, rfl⟩
abbrev main_v98 : Ref sig .tc := ⟨.hbm, 235, rfl⟩
abbrev main_v99 : Ref sig .tc := ⟨.hbm, 236, rfl⟩
abbrev main_v100 : Ref sig .tc := ⟨.hbm, 237, rfl⟩
abbrev main_v101 : Ref sig .tc := ⟨.hbm, 238, rfl⟩
abbrev main_v102 : Ref sig .tc := ⟨.hbm, 239, rfl⟩
abbrev main_v103 : Ref sig .tc := ⟨.hbm, 240, rfl⟩
abbrev main_v104 : Ref sig .tc := ⟨.hbm, 241, rfl⟩
abbrev main_v105 : Ref sig .tc := ⟨.hbm, 242, rfl⟩
abbrev main_v106 : Ref sig .tc := ⟨.hbm, 243, rfl⟩
abbrev main_v107_0 : Ref sig .tc := ⟨.hbm, 244, rfl⟩
abbrev main_v107_1 : Ref sig .tc := ⟨.hbm, 245, rfl⟩
abbrev main_v107_2 : Ref sig .tc := ⟨.hbm, 246, rfl⟩
abbrev main_v107_3 : Ref sig .tc := ⟨.hbm, 247, rfl⟩
abbrev main_v107_4 : Ref sig .tc := ⟨.hbm, 248, rfl⟩
abbrev main_v107_5 : Ref sig .tc := ⟨.hbm, 249, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference5Ideal.lean ====
abbrev S16x2048x1024 : Shape := ⟨3, ![16, 2048, 1024]⟩
abbrev S16x2048 : Shape := ⟨2, ![16, 2048]⟩
abbrev S16x6x1024 : Shape := ⟨3, ![16, 6, 1024]⟩
abbrev S1024 : Shape := ⟨1, ![1024]⟩
abbrev S1024x2208 : Shape := ⟨2, ![1024, 2208]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S16x1x1024 : Shape := ⟨3, ![16, 1, 1024]⟩
abbrev S_ : Shape := ⟨0, ![]⟩
abbrev S16x2048x1 : Shape := ⟨3, ![16, 2048, 1]⟩
abbrev S1x1x1024 : Shape := ⟨3, ![1, 1, 1024]⟩
abbrev S16x2048x2208 : Shape := ⟨3, ![16, 2048, 2208]⟩
abbrev S16x2048x256 : Shape := ⟨3, ![16, 2048, 256]⟩
abbrev S16x2048x512 : Shape := ⟨3, ![16, 2048, 512]⟩
abbrev S1x1x256 : Shape := ⟨3, ![1, 1, 256]⟩
abbrev S16x2048x8x128 : Shape := ⟨4, ![16, 2048, 8, 128]⟩
abbrev S16x2048x8x64 : Shape := ⟨4, ![16, 2048, 8, 64]⟩
abbrev S16x512x2048 : Shape := ⟨3, ![16, 512, 2048]⟩

abbrev nBuf : Space → Nat
  | .hbm => 61
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048, .i32⟩
  | .hbm, ⟨2, _⟩ => ⟨S16x6x1024, .f32⟩
  | .hbm, ⟨3, _⟩ => ⟨S1024, .f32⟩
  | .hbm, ⟨4, _⟩ => ⟨S1024x2208, .f32⟩
  | .hbm, ⟨5, _⟩ => ⟨S384, .f32⟩
  | .hbm, ⟨6, _⟩ => ⟨S384x768, .f32⟩
  | .hbm, ⟨7, _⟩ => ⟨S256, .f32⟩
  | .hbm, ⟨8, _⟩ => ⟨S256x1024, .f32⟩
  | .hbm, ⟨9, _⟩ => ⟨S16x1x1024, .f32⟩
  | .hbm, ⟨10, _⟩ => ⟨S16x1x1024, .f32⟩
  | .hbm, ⟨11, _⟩ => ⟨S16x2048x1024, .f32⟩
  | .hbm, ⟨12, _⟩ => ⟨S_, .f32⟩
  | .hbm, ⟨13, _⟩ => ⟨S16x2048, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S16x2048x1, .f32⟩
  | .hbm, ⟨22, _⟩ => ⟨S16x2048x1024, .f32⟩
  | .hbm, ⟨23, _⟩ => ⟨S16x2048x1024, .f32⟩
  | .hbm, ⟨24, _⟩ => ⟨S1x1x1024, .f32⟩
  | .hbm, ⟨25, _⟩ => ⟨S16x2048x1024, .f32⟩
  | .hbm, ⟨26, _⟩ => ⟨S16x2048x1024, .f32⟩
  | .hbm, ⟨27, _⟩ => ⟨S_, .f32⟩
  | .hbm, ⟨28, _⟩ => ⟨S16x1x1024, .f32⟩
  | .hbm, ⟨29, _⟩ => ⟨S16x1x1024, .f32⟩
  | .hbm, ⟨30, _⟩ => ⟨S16x2048x1024, .f32⟩
  | .hbm, ⟨31, _⟩ => ⟨S16x2048x1024, .f32⟩
  | .hbm, ⟨32, _⟩ => ⟨S16x2048x1024, .f32⟩
  | .hbm, ⟨33, _⟩ => ⟨S16x2048x1024, .f32⟩
  | .hbm, ⟨34, _⟩ => ⟨S16x2048x2208, .f32⟩
  | .hbm, ⟨35, _⟩ => ⟨S16x2048x256, .f32⟩
  | .hbm, ⟨36, _⟩ => ⟨S16x2048x512, .f32⟩
  | .hbm, ⟨37, _⟩ => ⟨S16x2048x256, .f32⟩
  | .hbm, ⟨38, _⟩ => ⟨S_, .f32⟩
  | .hbm, ⟨39, _⟩ => ⟨S16x2048, .f32⟩
  | .hbm, ⟨40, _⟩ => ⟨S16x2048x1, .f32⟩
  | .hbm, ⟨41, _⟩ => ⟨S_, .f32⟩
  | .hbm, ⟨42, _⟩ => ⟨S16x2048x1, .f32⟩
  | .hbm, ⟨43, _⟩ => ⟨S16x2048x1, .f32⟩
  | .hbm, ⟨44, _⟩ => ⟨S_, .f32⟩
  | .hbm, ⟨45, _⟩ => ⟨S16x2048x1, .f32⟩
  | .hbm, ⟨46, _⟩ => ⟨S16x2048x1, .f32⟩
  | .hbm, ⟨47, _⟩ => ⟨S16x2048x1, .f32⟩
  | .hbm, ⟨48, _⟩ => ⟨S16x2048x256, .f32⟩
  | .hbm, ⟨49, _⟩ => ⟨S16x2048x256, .f32⟩
  | .hbm, ⟨50, _⟩ => ⟨S1x1x256, .f32⟩
  | .hbm, ⟨51, _⟩ => ⟨S16x2048x256, .f32⟩
  | .hbm, ⟨52, _⟩ => ⟨S16x2048x256, .f32⟩
  | .hbm, ⟨53, _⟩ => ⟨S16x2048x1024, .f32⟩
  | .hbm, ⟨54, _⟩ => ⟨S16x2048x8x128, .f32⟩
  | .hbm, ⟨55, _⟩ => ⟨S16x2048x8x64, .f32⟩
  | .hbm, ⟨56, _⟩ => ⟨S16x2048x512, .f32⟩
  | .hbm, ⟨57, _⟩ => ⟨S16x512x2048, .f32⟩
  | .hbm, ⟨58, _⟩ => ⟨S16x512x2048, .bf16⟩
  | .hbm, ⟨59, _⟩ => ⟨S16x512x2048, .f32⟩
  | .hbm, ⟨60, _⟩ => ⟨S16x512x2048, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Kernel6.lean ====
abbrev S16x2048x512 : Shape := ⟨3, ![16, 2048, 512]⟩
abbrev S16x2048x1024 : Shape := ⟨3, ![16, 2048, 1024]⟩
abbrev S16x6x1024 : Shape := ⟨3, ![16, 6, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S1x1024 : Shape := ⟨2, ![1, 1024]⟩
abbrev S32x1024 : Shape := ⟨2, ![32, 1024]⟩
abbrev S32x1 : Shape := ⟨2, ![32, 1]⟩
abbrev S64x4x512 : Shape := ⟨3, ![64, 4, 512]⟩
abbrev S1x512x512 : Shape := ⟨3, ![1, 512, 512]⟩
abbrev S1x512x1024 : Shape := ⟨3, ![1, 512, 1024]⟩
abbrev S1x6x1024 : Shape := ⟨3, ![1, 6, 1024]⟩
abbrev S1x4x512 : Shape := ⟨3, ![1, 4, 512]⟩
abbrev S512x512 : Shape := ⟨2, ![512, 512]⟩
abbrev S512x1024 : Shape := ⟨2, ![512, 1024]⟩
abbrev S6x1024 : Shape := ⟨2, ![6, 1024]⟩
abbrev S512 : Shape := ⟨1, ![512]⟩
abbrev S512x1 : Shape := ⟨2, ![512, 1]⟩
abbrev S32x512 : Shape := ⟨2, ![32, 512]⟩
abbrev S1x512 : Shape := ⟨2, ![1, 512]⟩
abbrev S1x1x512 : Shape := ⟨3, ![1, 1, 512]⟩

abbrev nBuf : Space → Nat
  | .hbm => 18
  | .vmem => 24
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S16x2048x1024, .f32⟩
  | .hbm, ⟨3, _⟩ => ⟨S16x6x1024, .f32⟩
  | .hbm, ⟨4, _⟩ => ⟨S1024x1024, .f32⟩
  | .hbm, ⟨5, _⟩ => ⟨S1024, .f32⟩
  | .hbm, ⟨6, _⟩ => ⟨S1024x32, .f32⟩
  | .hbm, ⟨7, _⟩ => ⟨S32, .f32⟩
  | .hbm, ⟨8, _⟩ => ⟨S1x1024, .f32⟩
  | .hbm, ⟨9, _⟩ => ⟨S32x1024, .f32⟩
  | .hbm, ⟨10, _⟩ => ⟨S32x1, .f32⟩
  | .hbm, ⟨11, _⟩ => ⟨S1024x1024, .bf16⟩
  | .hbm, ⟨12, _⟩ => ⟨S16x2048x1024, .f32⟩
  | .hbm, ⟨13, _⟩ => ⟨S16x2048x1024, .bf16⟩
  | .hbm, ⟨14, _⟩ => ⟨S64x4x512, .i32⟩
  | .hbm, ⟨15, _⟩ => ⟨S64x4x512, .f32⟩
  | .hbm, ⟨16, _⟩ => ⟨S64x4x512, .i32⟩
  | .hbm, ⟨17, _⟩ => ⟨S32x1, .i32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .f32⟩
  | .local _ .vmem, ⟨5, _⟩ => ⟨S1x512x1024, .f32⟩
  | .local _ .vmem, ⟨6, _⟩ => ⟨S1x6x1024, .f32⟩
  | .local _ .vmem, ⟨7, _⟩ => ⟨S1x6x1024, .f32⟩
  | .local _ .vmem, ⟨8, _⟩ => ⟨S1024x1024, .bf16⟩
  | .local _ .vmem, ⟨9, _⟩ => ⟨S1x1024, .f32⟩
  | .local _ .vmem, ⟨10, _⟩ => ⟨S32x1024, .f32⟩
  | .local _ .vmem, ⟨11, _⟩ => ⟨S32x1, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .bf16⟩
  | .local _ .vmem, ⟨15, _⟩ => ⟨S1x512x1024, .bf16⟩
  | .local _ .vmem, ⟨16, _⟩ => ⟨S1x4x512, .i32⟩
  | .local _ .vmem, ⟨17, _⟩ => ⟨S1x4x512, .i32⟩
  | .local _ .vmem, ⟨18, _⟩ => ⟨S1x4x512, .f32⟩
  | .local _ .vmem, ⟨19, _⟩ => ⟨S1x4x512, .f32⟩
  | .local _ .vmem, ⟨20, _⟩ => ⟨S1x4x512, .i32⟩
  | .local _ .vmem, ⟨21, _⟩ => ⟨S1x4x512, .i32⟩
  | .local _ .vmem, ⟨22, _⟩ => ⟨S32x1, .i32⟩
  | .local _ .vmem, ⟨23, _⟩ => ⟨S32x1, .f32⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x512 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x512 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S32x1 .i32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== Reference6Ideal.lean ====
abbrev S16x2048x512 : Shape := ⟨3, ![16, 2048, 512]⟩
abbrev S16x2048x1024 : Shape := ⟨3, ![16, 2048, 1024]⟩
abbrev S16x6x1024 : Shape := ⟨3, ![16, 6, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S16x2048x1024, .f32⟩
  | .hbm, ⟨3, _⟩ => ⟨S16x6x1024, .f32⟩
  | .hbm, ⟨4, _⟩ => ⟨S1024x1024, .f32⟩
  | .hbm, ⟨5, _⟩ => ⟨S1024, .f32⟩
  | .hbm, ⟨6, _⟩ => ⟨S1024x32, .f32⟩
  | .hbm, ⟨7, _⟩ => ⟨S32, .f32⟩
  | .hbm, ⟨8, _⟩ => ⟨S16x1x1024, .f32⟩
  | .hbm, ⟨9, _⟩ => ⟨S16x1x1024, .f32⟩
  | .hbm, ⟨10, _⟩ => ⟨S16x1x1024, .f32⟩
  | .hbm, ⟨11, _⟩ => ⟨S16x2048x1024, .bf16⟩
  | .hbm, ⟨12, _⟩ => ⟨S16x2048x1024, .f32⟩
  | .hbm, ⟨13, _⟩ => ⟨S16x2048x1024, .f32⟩
  | .hbm, ⟨14, _⟩ => ⟨S16x2048x1024, .f32⟩
  | .hbm, ⟨15, _⟩ => ⟨S16x2048x1024, .f32⟩
  | .hbm, ⟨16, _⟩ => ⟨S16x2048x1024, .f32⟩
  | .hbm, ⟨17, _⟩ => ⟨S16x2048x1024, .f32⟩
  | .hbm, ⟨18, _⟩ => ⟨S_, .f32⟩
  | .hbm, ⟨19, _⟩ => ⟨S16x2048, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S_, .f32⟩
  | .hbm, ⟨25, _⟩ => ⟨S16x2048x1, .f32⟩
  | .hbm, ⟨26, _⟩ => ⟨S16x2048x1, .f32⟩
  | .hbm, ⟨27, _⟩ => ⟨S16x2048x1, .f32⟩
  | .hbm, ⟨28, _⟩ => ⟨S16x2048x1024, .f32⟩
  | .hbm, ⟨29, _⟩ => ⟨S16x2048x1024, .f32⟩
  | .hbm, ⟨30, _⟩ => ⟨S1x1x1024, .f32⟩
  | .hbm, ⟨31, _⟩ => ⟨S16x2048x1024, .f32⟩
  | .hbm, ⟨32, _⟩ => ⟨S16x2048x1024, .f32⟩
  | .hbm, ⟨33, _⟩ => ⟨S_, .f32⟩
  | .hbm, ⟨34, _⟩ => ⟨S16x1x1024, .f32⟩
  | .hbm, ⟨35, _⟩ => ⟨S16x1x1024, .f32⟩
  | .hbm, ⟨36, _⟩ => ⟨S16x2048x1024, .f32⟩
  | .hbm, ⟨37, _⟩ => ⟨S16x2048x1024, .f32⟩
  | .hbm, ⟨38, _⟩ => ⟨S16x2048x1024, .f32⟩
  | .hbm, ⟨39, _⟩ => ⟨S16x2048x1024, .f32⟩
  | .hbm, ⟨40, _⟩ => ⟨S16x2048x1024, .bf16⟩
  | _, _ => ⟨S16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Proof.Ada.Val.lean ====
module

public import proofs.«01_k».proof.Proof.Gen.Kernel4Ideal.Value
public import Idealize.ShloMosaic.Lib.Pointwise
public import Idealize.ShloMosaic.Lib.IdealHost
public import Idealize.ShloMosaic.Lib.Pipeline.ValueKit

@[expose] public section

set_option maxRecDepth 16384

noncomputable section

namespace Cert.Kernel4Ideal.Ada

open Idealize.ShloMosaic Idealize.ShloMosaic.TcCoe Idealize.ShloMosaic.Tactic
open Idealize.SL.Sem
open Cert.Kernel4Ideal.Gen

/-! ## The modulation: what a block holds, and the whole array -/

/-- `x` times its sigmoid. -/
def silu (x : EReal) : EReal := x * Ideal.div 1 (1 + Ideal.exp (-x))

theorem exp_nonneg (x : EReal) : 0 ≤ Ideal.exp x := by
  induction x with
  | bot => exact le_refl _
  | top => exact le_top
  | coe r => exact EReal.coe_nonneg.mpr (Real.exp_pos r).le

/-- The quotient that the body forms is the product with the sigmoid, at the infinities too. -/
theorem div_eq_silu (x : EReal) : Ideal.div x (1 + Ideal.exp (-x)) = silu x := by
  unfold silu
  have hp := exp_nonneg (-x)
  generalize Ideal.exp (-x) = y at hp
  have hne : (1 + y : EReal) ≠ 0 := by
    have : (0 : EReal) < 1 + y := lt_of_lt_of_le zero_lt_one (le_add_of_nonneg_right hp)
    exact this.ne'
  unfold Ideal.div
  rw [if_neg hne, if_neg hne, one_mul]

/-- The modulation as one function of the arguments. -/
def result (a0 : FVec Ideal S16x1024 .f32) (a1 : FVec Ideal S1024x6144 .f32) (a2 : FVec Ideal S6144 .f32) : FVec Ideal S16x6144 .f32 :=
  fun i => (∑ k : Fin 1024, silu (a0 (ix2 (i 0) k)) * a1 (ix2 k (i 1))) + a2 (ix1 (i 1))

theorem pay_apply (x0 : FVec Ideal S16x1024 .f32) (x1 : FVec Ideal S1024x1024 .f32) (x2 : FVec Ideal S1x1024 .f32) (b : Fin 16) (n : Fin 1024) :
    k0_pay1 (F := Ideal) x0 x1 x2 (ix2 b n) = (∑ k : Fin 1024, silu (x0 (ix2 b k)) * x1 (ix2 k n)) + x2 (ix2 0 n) := by
  pointwise [k0_pay1]
  simp only [← div_eq_silu, zero_sub]

theorem hz2 : (![0, 0] : Fin 2 → Nat) = fun _ => 0 := by funext a; fin_cases a <;> rfl

theorem out_eq (x0 : FVec Ideal S16x1024 .f32) (x1 : FVec Ideal S1024x1024 .f32) (x2 : FVec Ideal S1x1024 .f32) :
    out0_3 (F := Ideal) x0 x1 x2 = k0_pay1 (F := Ideal) x0 x1 x2 := by
  unfold out0_3
  rw [View.canon_unit_zero (S := S16x1024) hz2, View.ld_unit_zero hz2, View.ld_unit_zero hz2, View.ld_unit_zero hz2]

theorem block (j : Fin 6) : (BitVec.ofNat 32 j.val).toNat = j.val := by
  have := j.isLt
  rw [BitVec.toNat_ofNat]
  omega

variable (m : (ℓ : Loc nD τ sig) → Buf (Elt Ideal) ℓ) (ρ : Dev nD → PrngReg) (c : Dev nD)

/-- The result from the arguments as launched. -/
abbrev RES : FVec Ideal S16x6144 .f32 :=
  result (m ((c : Thread nD τ).loc main_arg0)) (m ((c : Thread nD τ).loc main_arg1)) (m ((c : Thread nD τ).loc main_arg2))

/-- The group of columns of a point. -/
abbrev pJ (t : Fin cfg0.N) : Fin 6 := grid0.coords t 0
abbrev col (t : Fin cfg0.N) (n : Fin 1024) : Fin 6144 := ⟨(pJ t).val * 1024 + n.val, by have := (pJ t).isLt; have := n.isLt; omega⟩

theorem bias_apply (n : Fin 6144) :
    (V m c main_v0 : S1x6144.Idx → EReal) (ix2 0 n) = (m ((c : Thread nD τ).loc main_arg2) : S6144.Idx → EReal) (ix1 n) := by
  have h : (V m c main_v0 : S1x6144.Idx → EReal) = shapeCast S1x6144 (m ((c : Thread nD τ).loc main_arg2) : S6144.Idx → EReal) shapeCasts_S6144_S1x6144 := by
    show StableHlo.after hostOps0 (fun b => m (c, b)) (Proc.devRef .tc main_v0) = _
    after_results
    rfl
  rw [h]
  refine shapeCast_apply _ shapeCasts_S6144_S1x6144 (ix2 0 n) (ix1 n) ?_
  rw [rowMajor_val1, rowMajor_val2 _ 6144 rfl]
  show n.val = 0 * 6144 + n.val
  omega

theorem blk0_apply (t : Fin cfg0.N) (b : Fin 16) (k : Fin 1024) :
    (iblk m c 0 t : S16x1024.Idx → EReal) (ix2 b k) = (m ((c : Thread nD τ).loc main_arg0) : S16x1024.Idx → EReal) (ix2 b k) := by
  refine have hx : (((cfg0.win 0).blk t).view.emb (ix2 b k) : S16x1024.Idx) = ix2 b k := ?_; ?_
  rotate_left
  · exact (congrArg (V m c main_arg0 : S16x1024.Idx → EReal) hx).trans (congrFun (V_main_arg0 m c) _)
  funext a
  refine Fin.ext (((cfg0.win 0).rect_emb_val t (ix2 b k) a).trans ?_)
  match a with
  | ⟨0, _⟩ =>
    show 0 * 16 + b.val = b.val
    omega
  | ⟨1, _⟩ =>
    show 0 * 1024 + k.val = k.val
    omega

theorem blk1_apply (t : Fin cfg0.N) (k n : Fin 1024) :
    (iblk m c 1 t : S1024x1024.Idx → EReal) (ix2 k n) = (m ((c : Thread nD τ).loc main_arg1) : S1024x6144.Idx → EReal) (ix2 k (col t n)) := by
  refine have hx : (((cfg0.win 1).blk t).view.emb (ix2 k n) : S1024x6144.Idx) = ix2 k (col t n) := ?_; ?_
  rotate_left
  · exact (congrArg (V m c main_arg1 : S1024x6144.Idx → EReal) hx).trans (congrFun (V_main_arg1 m c) _)
  funext a
  refine Fin.ext (((cfg0.win 1).rect_emb_val t (ix2 k n) a).trans ?_)
  match a with
  | ⟨0, _⟩ =>
    show 0 * 1024 + k.val = k.val
    omega
  | ⟨1, _⟩ =>
    show (BitVec.ofNat 32 (pJ t).val).toNat * 1024 + n.val = (pJ t).val * 1024 + n.val
    rw [block]

theorem blk2_apply (t : Fin cfg0.N) (n : Fin 1024) :
    (iblk m c 2 t : S1x1024.Idx → EReal) (ix2 0 n) = (m ((c : Thread nD τ).loc main_arg2) : S6144.Idx → EReal) (ix1 (col t n)) := by
  refine have hx : (((cfg0.win 2).blk t).view.emb (ix2 0 n) : S1x6144.Idx) = ix2 0 (col t n) := ?_; ?_
  rotate_left
  · exact (congrArg (V m c main_v0 : S1x6144.Idx → EReal) hx).trans (bias_apply m c _)
  funext a
  refine Fin.ext (((cfg0.win 2).rect_emb_val t (ix2 0 n) a).trans ?_)
  match a with
  | ⟨0, _⟩ =>
    show 0 * 1 + 0 = 0
    omega
  | ⟨1, _⟩ =>
    show (BitVec.ofNat 32 (pJ t).val).toNat * 1024 + n.val = (pJ t).val * 1024 + n.val
    rw [block]

theorem emb3 (t : Fin cfg0.N) (b : Fin 16) (n : Fin 1024) :
    (((cfg0.win 3).blk t).view.emb (ix2 b n) : S16x6144.Idx) = ix2 b (col t n) := by
  funext a
  refine Fin.ext (((cfg0.win 3).rect_emb_val t (ix2 b n) a).trans ?_)
  match a with
  | ⟨0, _⟩ =>
    show 0 * 16 + b.val = b.val
    omega
  | ⟨1, _⟩ =>
    show (BitVec.ofNat 32 (pJ t).val).toNat * 1024 + n.val = (pJ t).val * 1024 + n.val
    rw [block]

/-- What a point leaves is its block of the result. -/
theorem after_apply (t : Fin cfg0.N) (b : Fin 16) (n : Fin 1024) :
    ((dats m 0 c).after 3 t : S16x1024.Idx → EReal) (ix2 b n) = RES m c (ix2 b (col t n)) := by
  rw [after0_3]
  refine (congrFun (out_eq (iblk m c 0 t) (iblk m c 1 t) (iblk m c 2 t)) (ix2 b n)).trans ?_
  refine (pay_apply (iblk m c 0 t) (iblk m c 1 t) (iblk m c 2 t) b n).trans ?_
  refine congr (congrArg HAdd.hAdd (Finset.sum_congr rfl fun k _ => ?_)) (blk2_apply m c t n)
  exact congr (congrArg HMul.hMul (congrArg silu (blk0_apply m c t b k))) (blk1_apply m c t k n)

theorem flushed_eq (t : Fin cfg0.N) (hf : (cfg0.win 3).flush t = true) :
    (dats m 0 c).flushed 3 t = ((cfg0.win 3).blk t).view.read (Elt Ideal) (RES m c) := by
  funext y
  have hy : (y : S16x1024.Idx) = ix2 (y 0) (y 1) := by
    funext a
    match a with
    | ⟨0, _⟩ => rfl
    | ⟨1, _⟩ => rfl
  refine (congrArg ((dats m 0 c).after 3 t : S16x1024.Idx → EReal) hy).trans ?_
  refine (after_apply m c t (y 0) (y 1)).trans ?_
  refine congrArg (RES m c) ?_
  exact (emb3 t (y 0) (y 1)).symm.trans (congrArg (fun z : S16x1024.Idx => (((cfg0.win 3).blk t).view.emb z : S16x6144.Idx)) hy.symm)

/-- Every group of columns has its point. -/
theorem point (j : Fin 6) : ∃ t : Fin cfg0.N, pJ t = j := by
  obtain ⟨t, hj⟩ := (by decide +kernel : ∀ j : Fin 6, ∃ t : Fin grid0.N, (grid0.coords t 0).val = j.val) j
  exact ⟨t, Fin.ext hj⟩

theorem arr_eq : ((dats m 0 c).arrAt 3 cfg0.N : S16x6144.Idx → EReal) = RES m c := by
  funext i
  have hn : (i 1).val < 6144 := (i 1).isLt
  obtain ⟨t, hj⟩ := point ⟨(i 1).val / 1024, by omega⟩
  have e := emb3 t (i 0) ⟨(i 1).val % 1024, Nat.mod_lt _ (by decide)⟩
  have hx : (ix2 (i 0) (col t ⟨(i 1).val % 1024, Nat.mod_lt _ (by decide)⟩) : S16x6144.Idx) = i := by
    have e2 : col t ⟨(i 1).val % 1024, Nat.mod_lt _ (by decide)⟩ = i 1 := Fin.ext (show (pJ t).val * 1024 + (i 1).val % 1024 = (i 1).val by rw [hj]; show (i 1).val / 1024 * 1024 + (i 1).val % 1024 = (i 1).val; omega)
    rw [e2]
    funext a
    match a with
    | ⟨0, _⟩ => rfl
    | ⟨1, _⟩ => rfl
  exact (dats m 0 c).arrAt_apply_of_mem 3 (RES m c) (fun t hf => flushed_eq m c t hf) cfg0.N t _ t.isLt (flush0_3 t)
    (Eq.mp (congrArg (· ∈ _) (e.trans hx)) (View.emb_mem_set _ _))

/-- The run: the result, and the arguments as launched. -/
theorem run_val : θ_run defs (onTc (τ := τ) (main (F := Ideal))) ⟨m, fun _ => 0, ρ⟩ fun r => ∀ c : Dev nD,
      r.2.mem ((c : Thread nD τ).loc main_v1) = RES m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (arr_eq m c), (h c).2⟩) (Cert.Kernel4Ideal.Value.run_blocks m ρ)

end Cert.Kernel4Ideal.Ada

end
-- ==== Proof.Ada.Ref.lean ====
module

public import proofs.«01_k».proof.Proof.Ada.Val
public import proofs.«01_k».proof.Proof.Gen.Reference4Ideal.Run
public import Idealize.ShloMosaic.Lib.Pointwise
public import Idealize.ShloMosaic.Lib.IdealHost

@[expose] public section

set_option maxRecDepth 16384

noncomputable section

namespace Cert.Reference4Ideal.Ref

open Idealize.ShloMosaic Idealize.ShloMosaic.TcCoe Idealize.ShloMosaic.Tactic
open Idealize.SL.Sem
open Cert.Reference4Ideal Cert.Reference4Ideal.Gen
open Cert.Kernel4Ideal.Ada (silu result)

/-! ## The reference's result, element by element -/

variable (a0 : FVec Ideal S16x1024 .f32) (a1 : FVec Ideal S1024x6144 .f32) (a2 : FVec Ideal S6144 .f32)

/-- Every element times its sigmoid. -/
def siluv : FVec Ideal S16x1024 .f32 :=
  mulf a0 (Host.divf (broadcastInDim S16x1024 ![] bcast_S_S16x1024 (constant S_ .f32 0x3F800000#32)) (addf (broadcastInDim S16x1024 ![] bcast_S_S16x1024 (constant S_ .f32 0x3F800000#32)) (Host.exp (Host.negf a0))))

/-- The product with the weights, and the bias. -/
def modv (x : FVec Ideal S16x1024 .f32) : FVec Ideal S16x6144 .f32 :=
  addf (Host.dotGeneral dot_S16x1024_S1024x6144_S16x6144_1_0_0_1_n_n none x a1) (broadcastInDim S16x6144 ![0, 1] bcast_S1x6144_S16x6144_0_1 (broadcastInDim S1x6144 ![1] bcast_S6144_S1x6144_1 a2))

theorem siluv_apply (b : Fin 16) (k : Fin 1024) : siluv a0 (ix2 b k) = silu (a0 (ix2 b k)) := by
  pointwise [siluv]
  rfl

theorem modv_apply (x : FVec Ideal S16x1024 .f32) (b : Fin 16) (n : Fin 6144) :
    modv a1 a2 x (ix2 b n) = (∑ k : Fin 1024, x (ix2 b k) * a1 (ix2 k n)) + a2 (ix1 n) := by
  pointwise [modv]

theorem value_eq : modv a1 a2 (siluv a0) = result a0 a1 a2 := by
  funext i
  have hi : i = ix2 (i 0) (i 1) := by
    funext a
    match a with
    | ⟨0, _⟩ => rfl
    | ⟨1, _⟩ => rfl
  rw [hi]
  refine (modv_apply a1 a2 _ (i 0) (i 1)).trans ?_
  exact congrArg (· + a2 (ix1 (i 1))) (Finset.sum_congr rfl fun k _ => congrArg (· * a1 (ix2 k (i 1))) (siluv_apply a0 (i 0) k))

/-- The reference's run. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (value_eq _ _ _), (h c).2⟩) (Cert.Reference4Ideal.Value.run m ρ)

end Cert.Reference4Ideal.Ref

end
-- ==== Proof.Inp.Body.lean ====
module

public import proofs.«01_k».proof.Proof.Gen.Kernel5Ideal.Value
public import Idealize.ShloMosaic.Lib.Pointwise
public import Idealize.ShloMosaic.Lib.IdealHost
public import Idealize.ShloMosaic.Lib.Pipeline.ValueKit

@[expose] public section

set_option maxRecDepth 16384

noncomputable section

namespace Cert.Kernel5Ideal.Inp

open Idealize.ShloMosaic Idealize.ShloMosaic.TcCoe Idealize.ShloMosaic.Tactic
open Idealize.SL.Sem
open Cert.Kernel5Ideal.Gen

/-! ## What the body makes of its blocks, element by element -/

/-- A row normalised and scaled; `N` is its length as a number. -/
def norm {n : ℕ} (N : EReal) (x g : Fin n → EReal) (j : Fin n) : EReal :=
  x j * Ideal.rsqrt (Ideal.div (∑ k, x k * x k) N + Ideal.ofBits .f32 897988541#32) * g j

/-- A row normalised, scaled and modulated. -/
def hrow (x g sh sc : Fin 1024 → EReal) (j : Fin 1024) : EReal :=
  norm (Ideal.ofBits .f32 1149239296#32) x g j * (1 + sc j) + sh j

variable (v0 : FVec Ideal S1x512x1024 .f32) (v2 : FVec Ideal S1x6x1024 .f32) (v4 : FVec Ideal S1x1024 .f32)

theorem pay3_apply (r : Fin 512) (j : Fin 1024) :
    k0_pay3 (F := Ideal) v0 v2 v4 (ix2 r j) = hrow (fun j => v0 (ix3 0 r j)) (fun j => v4 (ix2 0 j)) (fun j => v2 (ix3 0 0 j)) (fun j => v2 (ix3 0 1 j)) j := by
  pointwise [k0_pay3]
  rfl

theorem pay4_apply (v27 : FVec Ideal S1024x1792 .bf16) (r : Fin 512) (j : Fin 1792) :
    k0_pay4 (F := Ideal) v0 v2 v4 v27 (ix2 r j) = ∑ k : Fin 1024, k0_pay3 (F := Ideal) v0 v2 v4 (ix2 r k) * v27 (ix2 k j) := by
  pointwise [k0_pay4]

theorem pay5_apply (v30 : FVec Ideal S512x1024 .bf16) (n r : Fin 512) :
    k0_pay5 (F := Ideal) v0 v2 v4 v30 (ix3 0 n r) = ∑ k : Fin 1024, v30 (ix2 n k) * k0_pay3 (F := Ideal) v0 v2 v4 (ix2 r k) := by
  pointwise [k0_pay5]

theorem pay20_apply (v29 : FVec Ideal S512x1792 .f32) (v95 : FVec Ideal S1x256 .f32) (r : Fin 512) (j : Fin 256) :
    k0_pay20 (F := Ideal) v29 v95 (ix2 r j) = norm (Ideal.ofBits .f32 1132462080#32) (fun j : Fin 256 => v29 (ix2 r ⟨384 + j.val, by have := j.isLt; omega⟩)) (fun j => v95 (ix2 0 j)) j := by
  pointwise [k0_pay20]
  rfl

theorem pay22_apply (v29 : FVec Ideal S512x1792 .f32) (v95 : FVec Ideal S1x256 .f32) (v113 : FVec Ideal S512x256 .bf16) (n r : Fin 512) :
    k0_pay22 (F := Ideal) v29 v95 v113 (ix3 0 n r) = ∑ k : Fin 256, v113 (ix2 n k) * k0_pay20 (F := Ideal) v29 v95 (ix2 r k) := by
  pointwise [k0_pay22]

end Cert.Kernel5Ideal.Inp

end
-- ==== Proof.Inp.Host.lean ====
module

public import proofs.«01_k».proof.Proof.Gen.Kernel5Ideal.Value
public import Idealize.ShloMosaic.Lib.Pointwise
public import Idealize.ShloMosaic.Lib.IdealHost
public import Idealize.ShloMosaic.Lib.Pipeline.ValueKit

@[expose] public section

set_option maxRecDepth 16384

noncomputable section

namespace Cert.Kernel5Ideal.Inp

open Idealize.ShloMosaic Idealize.ShloMosaic.TcCoe Idealize.ShloMosaic.Tactic
open Idealize.SL.Sem
open Cert.Kernel5Ideal.Gen

/-! ## The host's arrangements of the weights -/

variable (m : (ℓ : Loc nD τ sig) → Buf (Elt Ideal) ℓ) (c : Dev nD)

/-- The weights of the first products, side by side: the first 640 columns, a shifted group, and the next 1024 columns. -/
def joined (w : FVec Ideal S1024x2208 .f32) : FVec Ideal S1024x1792 .f32 :=
  concatenate S1024x1792 1 [⟨S1024x640, extractStridedSlice S1024x640 ![0, 0] w slices_S1024x2208_S1024x640_0_0⟩,
    ⟨S1024x128, concatenate S1024x128 1 [⟨S1024x96, broadcastInDim S1024x96 ![] bcast_S_S1024x96 (constant (F := Ideal) S_ .f32 0x00000000#32)⟩, ⟨S1024x32, extractStridedSlice S1024x32 ![0, 640] w slices_S1024x2208_S1024x32_0_640⟩] concatenates_S1024x96_S1024x32_S1024x128_d1⟩,
    ⟨S1024x1024, extractStridedSlice S1024x1024 ![0, 672] w slices_S1024x2208_S1024x1024_0_672⟩] concatenates_S1024x640_S1024x128_S1024x1024_S1024x1792_d1

theorem dv_eq : (V m c main_v23 : S512x1024.Idx → EReal)
    = truncf (F := Ideal) .bf16 (transpose S512x1024 [1, 0] (extractStridedSlice S1024x512 ![0, 1696] (m ((c : Thread nD τ).loc main_arg4) : S1024x2208.Idx → EReal) slices_S1024x2208_S1024x512_0_1696) transposes_S1024x512_S512x1024_1_0) bitsLt_bf16_f32 := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) (Proc.devRef .tc main_v23) = _
  after_results
  rfl

theorem uv_eq : (V m c main_v26 : S512x256.Idx → EReal)
    = truncf (F := Ideal) .bf16 (transpose S512x256 [1, 0] (shapeCast S256x512 (extractStridedSlice S256x8x64 ![0, 0, 64] (shapeCast S256x8x128 (m ((c : Thread nD τ).loc main_arg8) : S256x1024.Idx → EReal) shapeCasts_S256x1024_S256x8x128) slices_S256x8x128_S256x8x64_0_0_64) shapeCasts_S256x8x64_S256x512) transposes_S256x512_S512x256_1_0) bitsLt_bf16_f32 := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) (Proc.devRef .tc main_v26) = _
  after_results
  rfl

theorem win_eq : (V m c main_v22 : S1024x1792.Idx → EReal)
    = truncf (F := Ideal) .bf16 (joined (m ((c : Thread nD τ).loc main_arg4) : S1024x2208.Idx → EReal)) bitsLt_bf16_f32 := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) (Proc.devRef .tc main_v22) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

theorem g1_eq : (V m c main_v103 : S1x1024.Idx → EReal)
    = shapeCast S1x1024 (m ((c : Thread nD τ).loc main_arg3) : S1024.Idx → EReal) shapeCasts_S1024_S1x1024 := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) (Proc.devRef .tc main_v103) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

theorem gkv_eq : (V m c main_v105 : S1x256.Idx → EReal)
    = shapeCast S1x256 (m ((c : Thread nD τ).loc main_arg7) : S256.Idx → EReal) shapeCasts_S256_S1x256 := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) (Proc.devRef .tc main_v105) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

/-! ## The same, element by element -/

abbrev colDv (n : Fin 512) : Fin 2208 := ⟨1696 + n.val, by have := n.isLt; omega⟩
abbrev colKv (j : Fin 256) : Fin 2208 := ⟨384 + j.val, by have := j.isLt; omega⟩
abbrev colIn (j : Fin 256) : Fin 1792 := ⟨384 + j.val, by have := j.isLt; omega⟩
abbrev head (n : Fin 512) : Fin 8 := ⟨n.val / 64, by have := n.isLt; omega⟩
abbrev lane (n : Fin 512) : Fin 64 := ⟨n.val % 64, by omega⟩
abbrev lane2 (n : Fin 512) : Fin 128 := ⟨64 + n.val % 64, by omega⟩
abbrev colUv (n : Fin 512) : Fin 1024 := ⟨n.val / 64 * 128 + (64 + n.val % 64), by have := n.isLt; omega⟩

theorem dv_apply (n : Fin 512) (k : Fin 1024) :
    (V m c main_v23 : S512x1024.Idx → EReal) (ix2 n k) = (m ((c : Thread nD τ).loc main_arg4) : S1024x2208.Idx → EReal) (ix2 k (colDv n)) := by
  rw [dv_eq]
  pointwise []

theorem uv_apply (n : Fin 512) (k : Fin 256) :
    (V m c main_v26 : S512x256.Idx → EReal) (ix2 n k) = (m ((c : Thread nD τ).loc main_arg8) : S256x1024.Idx → EReal) (ix2 k (colUv n)) := by
  rw [uv_eq]
  generalize (m ((c : Thread nD τ).loc main_arg8) : S256x1024.Idx → EReal) = w
  refine (truncf_apply .bf16 _ bitsLt_bf16_f32 (ix2 n k)).trans ?_
  refine (congrArg (fun z => z) (transpose_apply _ _ transposes_S256x512_S512x256_1_0 (ix2 n k) (ix2 k n) ?_)).trans ?_
  · intro a
    match a with
    | ⟨0, _⟩ => rfl
    | ⟨1, _⟩ => rfl
  refine (shapeCast_apply _ shapeCasts_S256x8x64_S256x512 (ix2 k n) (ix3 k (head n) (lane n)) ?_).trans ?_
  · rw [rowMajor_val3 _ 512 64 rfl rfl, rowMajor_val2 _ 512 rfl]
    show k.val * 512 + n.val / 64 * 64 + n.val % 64 = k.val * 512 + n.val
    omega
  refine Eq.trans (b := shapeCast S256x8x128 w shapeCasts_S256x1024_S256x8x128 (ix3 k (head n) (lane2 n))) ?_ ?_
  · pointwise []
  refine shapeCast_apply _ shapeCasts_S256x1024_S256x8x128 _ (ix2 k (colUv n)) ?_
  rw [rowMajor_val3 _ 1024 128 rfl rfl, rowMajor_val2 _ 1024 rfl]
  show k.val * 1024 + (n.val / 64 * 128 + (64 + n.val % 64)) = k.val * 1024 + n.val / 64 * 128 + (64 + n.val % 64)
  omega

theorem joined_apply (w : FVec Ideal S1024x2208 .f32) (k : Fin 1024) (j : Fin 256) :
    joined w (ix2 k (colIn j)) = w (ix2 k (colKv j)) := by
  have hj := j.isLt
  pointwise [joined]
  rw [dif_pos (by omega)]

theorem win_apply (k : Fin 1024) (j : Fin 256) :
    (V m c main_v22 : S1024x1792.Idx → EReal) (ix2 k (colIn j)) = (m ((c : Thread nD τ).loc main_arg4) : S1024x2208.Idx → EReal) (ix2 k (colKv j)) := by
  rw [win_eq]
  exact joined_apply _ k j

theorem g1_apply (n : Fin 1024) :
    (V m c main_v103 : S1x1024.Idx → EReal) (ix2 0 n) = (m ((c : Thread nD τ).loc main_arg3) : S1024.Idx → EReal) (ix1 n) := by
  rw [g1_eq]
  pointwise []

theorem gkv_apply (n : Fin 256) :
    (V m c main_v105 : S1x256.Idx → EReal) (ix2 0 n) = (m ((c : Thread nD τ).loc main_arg7) : S256.Idx → EReal) (ix1 n) := by
  rw [gkv_eq]
  pointwise []

end Cert.Kernel5Ideal.Inp

end
-- ==== Proof.Inp.Val.lean ====
module

public import proofs.«01_k».proof.Proof.Inp.Body
public import proofs.«01_k».proof.Proof.Inp.Host

@[expose] public section

set_option maxRecDepth 16384

noncomputable section

namespace Cert.Kernel5Ideal.Inp

open Idealize.ShloMosaic Idealize.ShloMosaic.TcCoe Idealize.ShloMosaic.Tactic
open Idealize.SL.Sem
open Cert.Kernel5Ideal.Gen

/-! ## The input projection: the two arrays of values, over the whole batch -/

section Result

variable (a0 : FVec Ideal S16x2048x1024 .f32) (a2 : FVec Ideal S16x6x1024 .f32) (a3 : FVec Ideal S1024 .f32) (a4 : FVec Ideal S1024x2208 .f32) (a7 : FVec Ideal S256 .f32) (a8 : FVec Ideal S256x1024 .f32)

/-- A token's row, normalised, scaled and modulated. -/
def hid (b : Fin 16) (s : Fin 2048) : Fin 1024 → EReal :=
  hrow (fun j => a0 (ix3 b s j)) (fun j => a3 (ix1 j)) (fun j => a2 (ix3 b 0 j)) (fun j => a2 (ix3 b 1 j))

/-- A token's compressed keys and values. -/
def comp (b : Fin 16) (s : Fin 2048) (j : Fin 256) : EReal := ∑ k : Fin 1024, hid a0 a2 a3 b s k * a4 (ix2 k (colKv j))

/-- The same, normalised and scaled. -/
def ncomp (b : Fin 16) (s : Fin 2048) : Fin 256 → EReal := norm (Ideal.ofBits .f32 1132462080#32) (comp a0 a2 a3 a4 b s) (fun j => a7 (ix1 j))

/-- The values of the latent attention. -/
def resV : FVec Ideal S16x512x2048 .bf16 :=
  fun i => ∑ k : Fin 256, ncomp a0 a2 a3 a4 a7 (i 0) (i 2) k * a8 (ix2 k (colUv (i 1)))

/-- The values of the differential attention. -/
def resD : FVec Ideal S16x512x2048 .bf16 :=
  fun i => ∑ k : Fin 1024, hid a0 a2 a3 (i 0) (i 2) k * a4 (ix2 k (colDv (i 1)))

end Result

theorem hz2 : (![0, 0] : Fin 2 → Nat) = fun _ => 0 := by funext a; fin_cases a <;> rfl
theorem hz3 : (![0, 0, 0] : Fin 3 → Nat) = fun _ => 0 := by funext a; fin_cases a <;> rfl

section Out

variable (x0 : FVec Ideal S1x512x1024 .f32) (x1 : IVec S1x512x1 32) (x2 : FVec Ideal S1x6x1024 .f32) (x3 : FVec Ideal S1x1024 .f32) (x4 : FVec Ideal S1024x1792 .bf16) (x5 : FVec Ideal S512x1024 .bf16) (x6 : FVec Ideal S1x384 .f32) (x7 : FVec Ideal S384x1024 .bf16) (x8 : FVec Ideal S1x256 .f32) (x9 : FVec Ideal S256x1024 .bf16) (x10 : FVec Ideal S512x256 .bf16) (x11 : FVec Ideal S1x128 .f32) (x12 : FVec Ideal S8x128 .f32)

theorem out15_eq : out0_15 (F := Ideal) x0 x1 x2 x3 x4 x5 x6 x7 x8 x9 x10 x11 x12 = k0_pay22 (F := Ideal) (k0_pay4 (F := Ideal) x0 x2 x3 x4) x8 x10 := by
  unfold out0_15 k0_pay61
  rw [View.canon_unit_zero (S := S1x512x512) hz3, View.ld_unit_zero (S := S1x512x1024) hz3, View.ld_unit_zero (S := S1x6x1024) hz3, View.ld_unit_zero (S := S1x1024) hz2, View.ld_unit_zero (S := S1024x1792) hz2, View.ld_unit_zero (S := S1x256) hz2, View.ld_unit_zero (S := S512x256) hz2]

theorem out18_eq : out0_18 (F := Ideal) x0 x1 x2 x3 x4 x5 x6 x7 x8 x9 x10 x11 x12 = k0_pay5 (F := Ideal) x0 x2 x3 x5 := by
  unfold out0_18
  rw [View.canon_unit_zero (S := S1x512x512) hz3, View.ld_unit_zero (S := S1x512x1024) hz3, View.ld_unit_zero (S := S1x6x1024) hz3, View.ld_unit_zero (S := S1x1024) hz2, View.ld_unit_zero (S := S512x1024) hz2]

variable (a0 : FVec Ideal S16x2048x1024 .f32) (a2 : FVec Ideal S16x6x1024 .f32) (a3 : FVec Ideal S1024 .f32) (a4 : FVec Ideal S1024x2208 .f32) (a7 : FVec Ideal S256 .f32) (a8 : FVec Ideal S256x1024 .f32)

theorem pay3_row (b : Fin 16) (s : Fin 2048) (r : Fin 512)
    (h0 : ∀ j : Fin 1024, x0 (ix3 0 r j) = a0 (ix3 b s j)) (h2 : ∀ (q : Fin 6) (j : Fin 1024), x2 (ix3 0 q j) = a2 (ix3 b q j)) (h3 : ∀ j : Fin 1024, x3 (ix2 0 j) = a3 (ix1 j)) (k : Fin 1024) :
    k0_pay3 (F := Ideal) x0 x2 x3 (ix2 r k) = hid a0 a2 a3 b s k := by
  rw [pay3_apply]
  simp only [h0, h2, h3]
  rfl

theorem out18_row (b : Fin 16) (s : Fin 2048) (n r : Fin 512)
    (h0 : ∀ j : Fin 1024, x0 (ix3 0 r j) = a0 (ix3 b s j)) (h2 : ∀ (q : Fin 6) (j : Fin 1024), x2 (ix3 0 q j) = a2 (ix3 b q j)) (h3 : ∀ j : Fin 1024, x3 (ix2 0 j) = a3 (ix1 j))
    (h5 : ∀ k : Fin 1024, x5 (ix2 n k) = a4 (ix2 k (colDv n))) :
    out0_18 (F := Ideal) x0 x1 x2 x3 x4 x5 x6 x7 x8 x9 x10 x11 x12 (ix3 0 n r) = resD a0 a2 a3 a4 (ix3 b n s) := by
  rw [out18_eq, pay5_apply]
  refine Finset.sum_congr rfl fun k _ => ?_
  rw [pay3_row x0 x2 x3 a0 a2 a3 b s r h0 h2 h3 k, h5, mul_comm]
  rfl

theorem out15_row (b : Fin 16) (s : Fin 2048) (n r : Fin 512)
    (h0 : ∀ j : Fin 1024, x0 (ix3 0 r j) = a0 (ix3 b s j)) (h2 : ∀ (q : Fin 6) (j : Fin 1024), x2 (ix3 0 q j) = a2 (ix3 b q j)) (h3 : ∀ j : Fin 1024, x3 (ix2 0 j) = a3 (ix1 j))
    (h4 : ∀ (k : Fin 1024) (j : Fin 256), x4 (ix2 k (colIn j)) = a4 (ix2 k (colKv j)))
    (h8 : ∀ j : Fin 256, x8 (ix2 0 j) = a7 (ix1 j))
    (h10 : ∀ k : Fin 256, x10 (ix2 n k) = a8 (ix2 k (colUv n))) :
    out0_15 (F := Ideal) x0 x1 x2 x3 x4 x5 x6 x7 x8 x9 x10 x11 x12 (ix3 0 n r) = resV a0 a2 a3 a4 a7 a8 (ix3 b n s) := by
  rw [out15_eq, pay22_apply]
  refine Finset.sum_congr rfl fun k _ => ?_
  rw [h10, mul_comm, pay20_apply]
  refine congrArg (· * a8 (ix2 k (colUv n))) ?_
  show norm _ _ _ k = norm _ (comp a0 a2 a3 a4 b s) (fun j => a7 (ix1 j)) k
  have hg : (fun j : Fin 256 => x8 (ix2 0 j)) = fun j => a7 (ix1 j) := funext h8
  rw [hg]
  refine congrArg (fun f => norm (Ideal.ofBits .f32 1132462080#32) f (fun j => a7 (ix1 j)) k) (funext fun j => ?_)
  refine (pay4_apply x0 x2 x3 x4 r (colIn j)).trans ?_
  refine Finset.sum_congr rfl fun k _ => ?_
  rw [pay3_row x0 x2 x3 a0 a2 a3 b s r h0 h2 h3 k, h4]

end Out

theorem block {n : ℕ} (hn : n ≤ 16) (j : Fin n) : (BitVec.ofNat 32 j.val).toNat = j.val := by
  have := j.isLt
  rw [BitVec.toNat_ofNat]
  omega

theorem batch (j : Fin 16) : (Scalar.addi (BitVec.ofNat 32 0) (BitVec.ofNat 32 j.val)).toNat = j.val := by
  show (BitVec.ofNat 32 0 + BitVec.ofNat 32 j.val).toNat = _
  have := j.isLt
  rw [BitVec.toNat_add, BitVec.toNat_ofNat, BitVec.toNat_ofNat]
  omega

variable (m : (ℓ : Loc nD τ sig) → Buf (Elt Ideal) ℓ) (ρ : Dev nD → PrngReg) (c : Dev nD)

/-- The two results from the arguments as launched. -/
abbrev RESV : FVec Ideal S16x512x2048 .bf16 :=
  resV (m ((c : Thread nD τ).loc main_arg0)) (m ((c : Thread nD τ).loc main_arg2)) (m ((c : Thread nD τ).loc main_arg3)) (m ((c : Thread nD τ).loc main_arg4)) (m ((c : Thread nD τ).loc main_arg7)) (m ((c : Thread nD τ).loc main_arg8))
abbrev RESD : FVec Ideal S16x512x2048 .bf16 :=
  resD (m ((c : Thread nD τ).loc main_arg0)) (m ((c : Thread nD τ).loc main_arg2)) (m ((c : Thread nD τ).loc main_arg3)) (m ((c : Thread nD τ).loc main_arg4))

/-- The batch and the block of tokens of a point. -/
abbrev pI (t : Fin cfg0.N) : Fin 16 := grid0.coords t 0
abbrev pJ (t : Fin cfg0.N) : Fin 4 := grid0.coords t 1
abbrev tok (t : Fin cfg0.N) (r : Fin 512) : Fin 2048 := ⟨(pJ t).val * 512 + r.val, by have := (pJ t).isLt; have := r.isLt; omega⟩

theorem blk0_apply (t : Fin cfg0.N) (r : Fin 512) (n : Fin 1024) :
    (iblk m c 0 t : S1x512x1024.Idx → EReal) (ix3 0 r n) = (m ((c : Thread nD τ).loc main_arg0) : S16x2048x1024.Idx → EReal) (ix3 (pI t) (tok t r) n) := by
  refine have hx : (((cfg0.win 0).blk t).view.emb (ix3 0 r n) : S16x2048x1024.Idx) = ix3 (pI t) (tok t r) n := ?_; ?_
  rotate_left
  · exact (congrArg (V m c main_arg0 : S16x2048x1024.Idx → EReal) hx).trans (congrFun (V_main_arg0 m c) _)
  funext a
  refine Fin.ext (((cfg0.win 0).rect_emb_val t (ix3 0 r n) a).trans ?_)
  match a with
  | ⟨0, _⟩ =>
    show (Scalar.addi (BitVec.ofNat 32 0) (BitVec.ofNat 32 (pI t).val)).toNat * 1 + 0 = (pI t).val
    rw [batch]
    omega
  | ⟨1, _⟩ =>
    show (BitVec.ofNat 32 (pJ t).val).toNat * 512 + r.val = (pJ t).val * 512 + r.val
    rw [block (by decide)]
  | ⟨2, _⟩ =>
    show 0 * 1024 + n.val = n.val
    omega

theorem blk2_apply (t : Fin cfg0.N) (q : Fin 6) (n : Fin 1024) :
    (iblk m c 2 t : S1x6x1024.Idx → EReal) (ix3 0 q n) = (m ((c : Thread nD τ).loc main_arg2) : S16x6x1024.Idx → EReal) (ix3 (pI t) q n) := by
  refine have hx : (((cfg0.win 2).blk t).view.emb (ix3 0 q n) : S16x6x1024.Idx) = ix3 (pI t) q n := ?_; ?_
  rotate_left
  · exact (congrArg (V m c main_arg2 : S16x6x1024.Idx → EReal) hx).trans (congrFun (V_main_arg2 m c) _)
  funext a
  refine Fin.ext (((cfg0.win 2).rect_emb_val t (ix3 0 q n) a).trans ?_)
  match a with
  | ⟨0, _⟩ =>
    show (BitVec.ofNat 32 (pI t).val).toNat * 1 + 0 = (pI t).val
    rw [block (by decide)]
    omega
  | ⟨1, _⟩ =>
    show 0 * 6 + q.val = q.val
    omega
  | ⟨2, _⟩ =>
    show 0 * 1024 + n.val = n.val
    omega

theorem blk3_apply (t : Fin cfg0.N) (n : Fin 1024) :
    (iblk m c 3 t : S1x1024.Idx → EReal) (ix2 0 n) = (m ((c : Thread nD τ).loc main_arg3) : S1024.Idx → EReal) (ix1 n) := by
  refine have hx : (((cfg0.win 3).blk t).view.emb (ix2 0 n) : S1x1024.Idx) = ix2 0 n := ?_; ?_
  rotate_left
  · exact (congrArg (V m c main_v103 : S1x1024.Idx → EReal) hx).trans (g1_apply m c n)
  funext a
  refine Fin.ext (((cfg0.win 3).rect_emb_val t (ix2 0 n) a).trans ?_)
  match a with
  | ⟨0, _⟩ =>
    show 0 * 1 + (0 : Fin 1).val = (0 : Fin 1).val
    omega
  | ⟨1, _⟩ =>
    show 0 * 1024 + (n : Fin 1024).val = (n : Fin 1024).val
    omega

theorem blk4_apply (t : Fin cfg0.N) (k : Fin 1024) (j : Fin 256) :
    (iblk m c 4 t : S1024x1792.Idx → EReal) (ix2 k (colIn j)) = (m ((c : Thread nD τ).loc main_arg4) : S1024x2208.Idx → EReal) (ix2 k (colKv j)) := by
  refine have hx : (((cfg0.win 4).blk t).view.emb (ix2 k (colIn j)) : S1024x1792.Idx) = ix2 k (colIn j) := ?_; ?_
  rotate_left
  · exact (congrArg (V m c main_v22 : S1024x1792.Idx → EReal) hx).trans (win_apply m c k j)
  funext a
  refine Fin.ext (((cfg0.win 4).rect_emb_val t (ix2 k (colIn j)) a).trans ?_)
  match a with
  | ⟨0, _⟩ =>
    show 0 * 1024 + (k : Fin 1024).val = (k : Fin 1024).val
    omega
  | ⟨1, _⟩ =>
    show 0 * 1792 + ((colIn j) : Fin 1792).val = ((colIn j) : Fin 1792).val
    omega

theorem blk5_apply (t : Fin cfg0.N) (n : Fin 512) (k : Fin 1024) :
    (iblk m c 5 t : S512x1024.Idx → EReal) (ix2 n k) = (m ((c : Thread nD τ).loc main_arg4) : S1024x2208.Idx → EReal) (ix2 k (colDv n)) := by
  refine have hx : (((cfg0.win 5).blk t).view.emb (ix2 n k) : S512x1024.Idx) = ix2 n k := ?_; ?_
  rotate_left
  · exact (congrArg (V m c main_v23 : S512x1024.Idx → EReal) hx).trans (dv_apply m c n k)
  funext a
  refine Fin.ext (((cfg0.win 5).rect_emb_val t (ix2 n k) a).trans ?_)
  match a with
  | ⟨0, _⟩ =>
    show 0 * 512 + (n : Fin 512).val = (n : Fin 512).val
    omega
  | ⟨1, _⟩ =>
    show 0 * 1024 + (k : Fin 1024).val = (k : Fin 1024).val
    omega

theorem blk8_apply (t : Fin cfg0.N) (n : Fin 256) :
    (iblk m c 8 t : S1x256.Idx → EReal) (ix2 0 n) = (m ((c : Thread nD τ).loc main_arg7) : S256.Idx → EReal) (ix1 n) := by
  refine have hx : (((cfg0.win 8).blk t).view.emb (ix2 0 n) : S1x256.Idx) = ix2 0 n := ?_; ?_
  rotate_left
  · exact (congrArg (V m c main_v105 : S1x256.Idx → EReal) hx).trans (gkv_apply m c n)
  funext a
  refine Fin.ext (((cfg0.win 8).rect_emb_val t (ix2 0 n) a).trans ?_)
  match a with
  | ⟨0, _⟩ =>
    show 0 * 1 + (0 : Fin 1).val = (0 : Fin 1).val
    omega
  | ⟨1, _⟩ =>
    show 0 * 256 + (n : Fin 256).val = (n : Fin 256).val
    omega

theorem blk10_apply (t : Fin cfg0.N) (n : Fin 512) (k : Fin 256) :
    (iblk m c 10 t : S512x256.Idx → EReal) (ix2 n k) = (m ((c : Thread nD τ).loc main_arg8) : S256x1024.Idx → EReal) (ix2 k (colUv n)) := by
  refine have hx : (((cfg0.win 10).blk t).view.emb (ix2 n k) : S512x256.Idx) = ix2 n k := ?_; ?_
  rotate_left
  · exact (congrArg (V m c main_v26 : S512x256.Idx → EReal) hx).trans (uv_apply m c n k)
  funext a
  refine Fin.ext (((cfg0.win 10).rect_emb_val t (ix2 n k) a).trans ?_)
  match a with
  | ⟨0, _⟩ =>
    show 0 * 512 + (n : Fin 512).val = (n : Fin 512).val
    omega
  | ⟨1, _⟩ =>
    show 0 * 256 + (k : Fin 256).val = (k : Fin 256).val
    omega

/-- Every batch, and every block of tokens, has its point. -/
theorem point (i : Fin 16) (j : Fin 4) : ∃ t : Fin cfg0.N, pI t = i ∧ pJ t = j := by
  obtain ⟨t, hi, hj⟩ := (by decide +kernel : ∀ (i : Fin 16) (j : Fin 4), ∃ t : Fin grid0.N, (grid0.coords t 0).val = i.val ∧ (grid0.coords t 1).val = j.val) i j
  exact ⟨t, Fin.ext hi, Fin.ext hj⟩

theorem tok_eq (t : Fin cfg0.N) (s : Fin 2048) (hj : (pJ t).val = s.val / 512) : tok t ⟨s.val % 512, Nat.mod_lt _ (by decide)⟩ = s :=
  Fin.ext (show (pJ t).val * 512 + s.val % 512 = s.val by rw [hj]; omega)

theorem idx_eq (y : S1x512x512.Idx) : y = ix3 0 (y 1) (y 2) := by
  funext a
  match a with
  | ⟨0, _⟩ => exact Subsingleton.elim (α := Fin 1) _ _
  | ⟨1, _⟩ => rfl
  | ⟨2, _⟩ => rfl

/-! ### Output window 15 -/

theorem emb15 (t : Fin cfg0.N) (n r : Fin 512) :
    (((cfg0.win 15).blk t).view.emb (ix3 0 n r) : S16x512x2048.Idx) = ix3 (pI t) n (tok t r) := by
  funext a
  refine Fin.ext (((cfg0.win 15).rect_emb_val t (ix3 0 n r) a).trans ?_)
  match a with
  | ⟨0, _⟩ =>
    show (BitVec.ofNat 32 (pI t).val).toNat * 1 + 0 = (pI t).val
    rw [block (by decide)]
    omega
  | ⟨1, _⟩ =>
    show 0 * 512 + n.val = n.val
    omega
  | ⟨2, _⟩ =>
    show (BitVec.ofNat 32 (pJ t).val).toNat * 512 + r.val = (pJ t).val * 512 + r.val
    rw [block (by decide)]

/-- What a point leaves is its block of the result. -/
theorem after15_apply (t : Fin cfg0.N) (n r : Fin 512) :
    ((dats m 0 c).after 15 t : S1x512x512.Idx → EReal) (ix3 0 n r) = RESV m c (ix3 (pI t) n (tok t r)) := by
  rw [after0_15]
  exact out15_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _ _ _ _ _ (pI t) (tok t r) n r (blk0_apply m c t r) (blk2_apply m c t) (blk3_apply m c t) (blk4_apply m c t) (blk8_apply m c t) (blk10_apply m c t n)

theorem flushed15_eq (t : Fin cfg0.N) (hf : (cfg0.win 15).flush t = true) :
    (dats m 0 c).flushed 15 t = ((cfg0.win 15).blk t).view.read (Elt Ideal) (RESV m c) := by
  funext y
  have hy : (y : S1x512x512.Idx) = ix3 0 (y 1) (y 2) := idx_eq y
  refine (congrArg ((dats m 0 c).after 15 t : S1x512x512.Idx → EReal) hy).trans ?_
  refine (after15_apply m c t (y 1) (y 2)).trans ?_
  refine congrArg (RESV m c) ?_
  exact (emb15 t (y 1) (y 2)).symm.trans (congrArg (fun z : S1x512x512.Idx => (((cfg0.win 15).blk t).view.emb z : S16x512x2048.Idx)) hy.symm)

theorem arr15_eq : ((dats m 0 c).arrAt 15 cfg0.N : S16x512x2048.Idx → EReal) = RESV m c := by
  funext i
  have hs : (i 2).val < 2048 := (i 2).isLt
  obtain ⟨t, hi, hj⟩ := point (i 0) ⟨(i 2).val / 512, by omega⟩
  have e := emb15 t (i 1) ⟨(i 2).val % 512, Nat.mod_lt _ (by decide)⟩
  have hx : (ix3 (pI t) (i 1) (tok t ⟨(i 2).val % 512, Nat.mod_lt _ (by decide)⟩) : S16x512x2048.Idx) = i := by
    have e2 : tok t ⟨(i 2).val % 512, Nat.mod_lt _ (by decide)⟩ = i 2 := tok_eq t (i 2) (by rw [hj])
    rw [hi, e2]
    funext a
    match a with
    | ⟨0, _⟩ => rfl
    | ⟨1, _⟩ => rfl
    | ⟨2, _⟩ => rfl
  exact (dats m 0 c).arrAt_apply_of_mem 15 (RESV m c) (fun t hf => flushed15_eq m c t hf) cfg0.N t _ t.isLt (flush0_15 t)
    (Eq.mp (congrArg (· ∈ _) (e.trans hx)) (View.emb_mem_set _ _))

/-! ### Output window 18 -/

theorem emb18 (t : Fin cfg0.N) (n r : Fin 512) :
    (((cfg0.win 18).blk t).view.emb (ix3 0 n r) : S16x512x2048.Idx) = ix3 (pI t) n (tok t r) := by
  funext a
  refine Fin.ext (((cfg0.win 18).rect_emb_val t (ix3 0 n r) a).trans ?_)
  match a with
  | ⟨0, _⟩ =>
    show (BitVec.ofNat 32 (pI t).val).toNat * 1 + 0 = (pI t).val
    rw [block (by decide)]
    omega
  | ⟨1, _⟩ =>
    show 0 * 512 + n.val = n.val
    omega
  | ⟨2, _⟩ =>
    show (BitVec.ofNat 32 (pJ t).val).toNat * 512 + r.val = (pJ t).val * 512 + r.val
    rw [block (by decide)]

/-- What a point leaves is its block of the result. -/
theorem after18_apply (t : Fin cfg0.N) (n r : Fin 512) :
    ((dats m 0 c).after 18 t : S1x512x512.Idx → EReal) (ix3 0 n r) = RESD m c (ix3 (pI t) n (tok t r)) := by
  rw [after0_18]
  exact out18_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _ _ _ (pI t) (tok t r) n r (blk0_apply m c t r) (blk2_apply m c t) (blk3_apply m c t) (blk5_apply m c t n)

theorem flushed18_eq (t : Fin cfg0.N) (hf : (cfg0.win 18).flush t = true) :
    (dats m 0 c).flushed 18 t = ((cfg0.win 18).blk t).view.read (Elt Ideal) (RESD m c) := by
  funext y
  have hy : (y : S1x512x512.Idx) = ix3 0 (y 1) (y 2) := idx_eq y
  refine (congrArg ((dats m 0 c).after 18 t : S1x512x512.Idx → EReal) hy).trans ?_
  refine (after18_apply m c t (y 1) (y 2)).trans ?_
  refine congrArg (RESD m c) ?_
  exact (emb18 t (y 1) (y 2)).symm.trans (congrArg (fun z : S1x512x512.Idx => (((cfg0.win 18).blk t).view.emb z : S16x512x2048.Idx)) hy.symm)

theorem arr18_eq : ((dats m 0 c).arrAt 18 cfg0.N : S16x512x2048.Idx → EReal) = RESD m c := by
  funext i
  have hs : (i 2).val < 2048 := (i 2).isLt
  obtain ⟨t, hi, hj⟩ := point (i 0) ⟨(i 2).val / 512, by omega⟩
  have e := emb18 t (i 1) ⟨(i 2).val % 512, Nat.mod_lt _ (by decide)⟩
  have hx : (ix3 (pI t) (i 1) (tok t ⟨(i 2).val % 512, Nat.mod_lt _ (by decide)⟩) : S16x512x2048.Idx) = i := by
    have e2 : tok t ⟨(i 2).val % 512, Nat.mod_lt _ (by decide)⟩ = i 2 := tok_eq t (i 2) (by rw [hj])
    rw [hi, e2]
    funext a
    match a with
    | ⟨0, _⟩ => rfl
    | ⟨1, _⟩ => rfl
    | ⟨2, _⟩ => rfl
  exact (dats m 0 c).arrAt_apply_of_mem 18 (RESD m c) (fun t hf => flushed18_eq m c t hf) cfg0.N t _ t.isLt (flush0_18 t)
    (Eq.mp (congrArg (· ∈ _) (e.trans hx)) (View.emb_mem_set _ _))

/-- The run: the two results, and the arguments as launched. -/
theorem run_val : θ_run defs (onTc (τ := τ) (main (F := Ideal))) ⟨m, fun _ => 0, ρ⟩ fun r => ∀ c : Dev nD,
      r.2.mem ((c : Thread nD τ).loc main_v107_2) = RESV m c
      ∧ r.2.mem ((c : Thread nD τ).loc main_v107_5) = RESD m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).2.2.1.trans (arr15_eq m c), (h c).2.2.2.2.2.1.trans (arr18_eq m c), (h c).2.2.2.2.2.2⟩) (Cert.Kernel5Ideal.Value.run_blocks m ρ)

end Cert.Kernel5Ideal.Inp

end
-- ==== Proof.Inp.Ref.lean ====
module

public import proofs.«01_k».proof.Proof.Inp.Val
public import proofs.«01_k».proof.Proof.Gen.Reference5Ideal.Run
public import Idealize.ShloMosaic.Lib.Pointwise
public import Idealize.ShloMosaic.Lib.IdealHost

@[expose] public section

set_option maxRecDepth 16384

noncomputable section

namespace Cert.Reference5Ideal.Ref

open Idealize.ShloMosaic Idealize.ShloMosaic.TcCoe Idealize.ShloMosaic.Tactic
open Idealize.SL.Sem
open Cert.Reference5Ideal Cert.Reference5Ideal.Gen
open Cert.Kernel5Ideal.Inp (norm hrow hid comp ncomp resV resD colDv colKv colUv head lane lane2)

/-! ## The reference's two results, element by element -/

variable (a0 : FVec Ideal S16x2048x1024 .f32) (a2 : FVec Ideal S16x6x1024 .f32) (a3 : FVec Ideal S1024 .f32) (a4 : FVec Ideal S1024x2208 .f32) (a7 : FVec Ideal S256 .f32) (a8 : FVec Ideal S256x1024 .f32)

/-- Rows normalised, scaled and modulated. -/
def hv : FVec Ideal S16x2048x1024 .f32 :=
  addf (mulf (mulf (mulf a0 (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf a0 a0) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 a3))) (broadcastInDim S16x2048x1024 ![0, 1, 2] bcast_S16x1x1024_S16x2048x1024_0_1_2 (addf (broadcastInDim S16x1x1024 ![] bcast_S_S16x1x1024 (constant S_ .f32 0x3F800000#32)) (extractStridedSlice S16x1x1024 ![0, 1, 0] a2 slices_S16x6x1024_S16x1x1024_0_1_0)))) (broadcastInDim S16x2048x1024 ![0, 1, 2] bcast_S16x1x1024_S16x2048x1024_0_1_2 (extractStridedSlice S16x1x1024 ![0, 0, 0] a2 slices_S16x6x1024_S16x1x1024_0_0_0))

/-- The first product. -/
def projv (h : FVec Ideal S16x2048x1024 .f32) : FVec Ideal S16x2048x2208 .f32 :=
  Host.dotGeneral dot_S16x2048x1024_S1024x2208_S16x2048x2208_2_0_01_1_n_n none h a4

/-- The values of the differential attention. -/
def dv (p : FVec Ideal S16x2048x2208 .f32) : FVec Ideal S16x512x2048 .bf16 :=
  truncf .bf16 (transpose S16x512x2048 [0, 2, 1] (extractStridedSlice S16x2048x512 ![0, 0, 1696] p slices_S16x2048x2208_S16x2048x512_0_0_1696) transposes_S16x2048x512_S16x512x2048_0_2_1) bitsLt_bf16_f32

/-- The compressed keys and values. -/
def compv (p : FVec Ideal S16x2048x2208 .f32) : FVec Ideal S16x2048x256 .f32 :=
  extractStridedSlice S16x2048x256 ![0, 0, 384] p slices_S16x2048x2208_S16x2048x256_0_0_384

/-- Rows normalised and scaled. -/
def normv (x : FVec Ideal S16x2048x256 .f32) : FVec Ideal S16x2048x256 .f32 :=
  mulf (mulf x (broadcastInDim S16x2048x256 ![0, 1, 2] bcast_S16x2048x1_S16x2048x256_0_1_2 (Host.rsqrt (addf (Host.divf (broadcastInDim S16x2048x1 ![0, 1] bcast_S16x2048_S16x2048x1_0_1 (Host.reduceAdd (mulf x x) (constant S_ .f32 0x00000000#32) reducesTo_S16x2048x256_S16x2048_d2 h_S_)) (broadcastInDim S16x2048x1 ![] bcast_S_S16x2048x1 (constant S_ .f32 0x43800000#32))) (broadcastInDim S16x2048x1 ![] bcast_S_S16x2048x1 (constant S_ .f32 0x358637BD#32))))))
    (broadcastInDim S16x2048x256 ![0, 1, 2] bcast_S1x1x256_S16x2048x256_0_1_2 (broadcastInDim S1x1x256 ![2] bcast_S256_S1x1x256_2 a7))

/-- The second product. -/
def kvv (x : FVec Ideal S16x2048x256 .f32) : FVec Ideal S16x2048x1024 .f32 :=
  Host.dotGeneral dot_S16x2048x256_S256x1024_S16x2048x1024_2_0_01_1_n_n none x a8

/-- The values of the latent attention, out of the second product. -/
def mv (y : FVec Ideal S16x2048x1024 .f32) : FVec Ideal S16x512x2048 .bf16 :=
  truncf .bf16 (transpose S16x512x2048 [0, 2, 1] (shapeCast _ (extractStridedSlice S16x2048x8x64 ![0, 0, 0, 64] (shapeCast _ y shapeCasts_S16x2048x1024_S16x2048x8x128) slices_S16x2048x8x128_S16x2048x8x64_0_0_0_64) shapeCasts_S16x2048x8x64_S16x2048x512) transposes_S16x2048x512_S16x512x2048_0_2_1) bitsLt_bf16_f32

theorem hv_apply (b : Fin 16) (s : Fin 2048) (j : Fin 1024) : hv a0 a2 a3 (ix3 b s j) = hid a0 a2 a3 b s j := by
  pointwise [hv]
  rfl

theorem projv_apply (h : FVec Ideal S16x2048x1024 .f32) (b : Fin 16) (s : Fin 2048) (n : Fin 2208) :
    projv a4 h (ix3 b s n) = ∑ k : Fin 1024, h (ix3 b s k) * a4 (ix2 k n) := by
  pointwise [projv]

theorem dv_apply (p : FVec Ideal S16x2048x2208 .f32) (b : Fin 16) (n : Fin 512) (s : Fin 2048) : dv p (ix3 b n s) = p (ix3 b s (colDv n)) := by
  pointwise [dv]

theorem compv_apply (p : FVec Ideal S16x2048x2208 .f32) (b : Fin 16) (s : Fin 2048) (j : Fin 256) : compv p (ix3 b s j) = p (ix3 b s (colKv j)) := by
  pointwise [compv]

theorem normv_apply (x : FVec Ideal S16x2048x256 .f32) (b : Fin 16) (s : Fin 2048) (j : Fin 256) :
    normv a7 x (ix3 b s j) = norm (Ideal.ofBits .f32 1132462080#32) (fun j : Fin 256 => x (ix3 b s j)) (fun j => a7 (ix1 j)) j := by
  pointwise [normv]
  rfl

theorem kvv_apply (x : FVec Ideal S16x2048x256 .f32) (b : Fin 16) (s : Fin 2048) (n : Fin 1024) :
    kvv a8 x (ix3 b s n) = ∑ k : Fin 256, x (ix3 b s k) * a8 (ix2 k n) := by
  pointwise [kvv]

theorem mv_apply (y : FVec Ideal S16x2048x1024 .f32) (b : Fin 16) (n : Fin 512) (s : Fin 2048) : mv y (ix3 b n s) = y (ix3 b s (colUv n)) := by
  unfold mv
  refine (truncf_apply .bf16 _ bitsLt_bf16_f32 (ix3 b n s)).trans ?_
  refine (congrArg (fun z => z) (transpose_apply _ _ transposes_S16x2048x512_S16x512x2048_0_2_1 (ix3 b n s) (ix3 b s n) ?_)).trans ?_
  · intro a
    match a with
    | ⟨0, _⟩ => rfl
    | ⟨1, _⟩ => rfl
    | ⟨2, _⟩ => rfl
  refine (shapeCast_apply _ shapeCasts_S16x2048x8x64_S16x2048x512 (ix3 b s n) (ix4 b s (head n) (lane n)) ?_).trans ?_
  · rw [rowMajor_val4 _ _ _ _ rfl rfl rfl, rowMajor_val3 _ _ _ rfl rfl]
    show b.val * 1048576 + s.val * 512 + n.val / 64 * 64 + n.val % 64 = b.val * 1048576 + s.val * 512 + n.val
    omega
  refine Eq.trans (b := shapeCast S16x2048x8x128 y shapeCasts_S16x2048x1024_S16x2048x8x128 (ix4 b s (head n) (lane2 n))) ?_ ?_
  · pointwise []
  refine shapeCast_apply _ shapeCasts_S16x2048x1024_S16x2048x8x128 _ (ix3 b s (colUv n)) ?_
  rw [rowMajor_val4 _ _ _ _ rfl rfl rfl, rowMajor_val3 _ _ _ rfl rfl]
  show b.val * 2097152 + s.val * 1024 + (n.val / 64 * 128 + (64 + n.val % 64)) = b.val * 2097152 + s.val * 1024 + n.val / 64 * 128 + (64 + n.val % 64)
  omega

theorem idx_eq (i : S16x512x2048.Idx) : i = ix3 (i 0) (i 1) (i 2) := by
  funext a
  match a with
  | ⟨0, _⟩ => rfl
  | ⟨1, _⟩ => rfl
  | ⟨2, _⟩ => rfl

theorem proj_apply (b : Fin 16) (s : Fin 2048) (n : Fin 2208) :
    projv a4 (hv a0 a2 a3) (ix3 b s n) = ∑ k : Fin 1024, hid a0 a2 a3 b s k * a4 (ix2 k n) := by
  rw [projv_apply]
  exact Finset.sum_congr rfl fun k _ => congrArg (· * a4 (ix2 k n)) (hv_apply a0 a2 a3 b s k)

theorem dv_eq : dv (projv a4 (hv a0 a2 a3)) = resD a0 a2 a3 a4 := by
  funext i
  rw [idx_eq i]
  refine (dv_apply _ (i 0) (i 1) (i 2)).trans ?_
  exact proj_apply a0 a2 a3 a4 (i 0) (i 2) (colDv (i 1))

theorem mv_eq : mv (kvv a8 (normv a7 (compv (projv a4 (hv a0 a2 a3))))) = resV a0 a2 a3 a4 a7 a8 := by
  funext i
  rw [idx_eq i]
  refine (mv_apply _ (i 0) (i 1) (i 2)).trans ?_
  refine (kvv_apply a8 _ (i 0) (i 2) (colUv (i 1))).trans ?_
  refine Finset.sum_congr rfl fun k _ => congrArg (· * a8 (ix2 k (colUv (i 1)))) ?_
  refine (normv_apply a7 _ (i 0) (i 2) k).trans ?_
  refine congrArg (fun f => norm (Ideal.ofBits .f32 1132462080#32) f (fun j => a7 (ix1 j)) k) (funext fun j => ?_)
  exact (compv_apply _ (i 0) (i 2) j).trans (proj_apply a0 a2 a3 a4 (i 0) (i 2) (colKv j))

/-- The reference's run. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = resV (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8))
      ∧ r.2.mem ((c.tc : Thread nD τ).loc main_v44) = resD (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans (mv_eq _ _ _ _ _ _), (h c).2.1.trans (dv_eq _ _ _ _), (h c).2.2⟩) (Cert.Reference5Ideal.Value.run m ρ)

end Cert.Reference5Ideal.Ref

end
-- ==== Proof.Outp.Body.lean ====
module

public import proofs.«01_k».proof.Proof.Gen.Kernel6Ideal.Value
public import Idealize.ShloMosaic.Lib.Pointwise
public import Idealize.ShloMosaic.Lib.IdealHost
public import Idealize.ShloMosaic.Lib.Pipeline.ValueKit

@[expose] public section

set_option maxRecDepth 16384

noncomputable section

namespace Cert.Kernel6Ideal.Outp

open Idealize.ShloMosaic Idealize.ShloMosaic.TcCoe Idealize.ShloMosaic.Tactic
open Idealize.SL.Sem
open Cert.Kernel6Ideal.Gen

/-! ## What the body makes of its blocks, element by element -/

/-- A token's row after the attention: the gated product added to it. The weights stand in two halves. -/
def mixrow (p q : Fin 512 → EReal) (u w : Fin 512 → Fin 1024 → EReal) (x g : Fin 1024 → EReal) (n : Fin 1024) : EReal :=
  x n + g n * (∑ k, p k * u k n + ∑ k, q k * w k n)

/-- A row normalised, scaled and modulated. -/
def hrow (x g sh sc : Fin 1024 → EReal) (j : Fin 1024) : EReal :=
  x j * Ideal.rsqrt (Ideal.div (∑ k, x k * x k) (Ideal.ofBits .f32 1149239296#32) + Ideal.ofBits .f32 897988541#32) * g j * (1 + sc j) + sh j

variable (v5 v10 : FVec Ideal S1x512x512 .bf16) (v7 v12 : FVec Ideal S512x1024 .bf16) (v16 : FVec Ideal S1x6x1024 .f32) (v18 : FVec Ideal S1x512x1024 .f32) (v24 : FVec Ideal S1x1024 .f32)

theorem pay8_apply (r : Fin 512) (n : Fin 1024) :
    k0_pay8 (F := Ideal) v5 v7 v10 v12 v16 v18 (ix2 r n) = mixrow (fun k => v5 (ix3 0 r k)) (fun k => v10 (ix3 0 r k)) (fun k n => v7 (ix2 k n)) (fun k n => v12 (ix2 k n)) (fun n => v18 (ix3 0 r n)) (fun n => v16 (ix3 0 2 n)) n := by
  pointwise [k0_pay8, k0_pay7]
  rfl

theorem pay12_apply (v23 : FVec Ideal S512x1024 .f32) (r : Fin 512) (n : Fin 1024) :
    k0_pay12 (F := Ideal) v23 (ix3 0 r n) = v23 (ix2 r n) := by
  pointwise [k0_pay12]

theorem pay10_apply (r : Fin 512) :
    k0_pay10 (F := Ideal) v5 v7 v10 v12 v16 v18 (ix2 r 0) = Ideal.div (∑ k, k0_pay8 (F := Ideal) v5 v7 v10 v12 v16 v18 (ix2 r k) * k0_pay8 (F := Ideal) v5 v7 v10 v12 v16 v18 (ix2 r k)) (Ideal.ofBits .f32 1149239296#32) := by
  pointwise [k0_pay10]

theorem pay13_apply (v23 : FVec Ideal S512x1024 .f32) (v30 : FVec Ideal S512x1 .f32) (e : EReal) (r : Fin 512) (n : Fin 1024) :
    k0_pay13 (F := Ideal) (k0_pay7 (F := Ideal) v16) v23 (k0_pay9 (F := Ideal) v24) v30 e (ix3 0 r n)
      = v23 (ix2 r n) * Ideal.rsqrt (v30 (ix2 r 0) + e) * v24 (ix2 0 n) * (1 + v16 (ix3 0 4 n)) + v16 (ix3 0 3 n) := by
  pointwise [k0_pay13, k0_pay11, k0_pay7, k0_pay9]

variable (m : (ℓ : Loc nD τ sig) → Buf (Elt Ideal) ℓ) (c : Dev nD)

/-- The two halves of the weights as a point reads them. -/
abbrev wlo (t : Fin cfg0.N) : FVec Ideal S512x1024 .bf16 := View.ld (iblk m c 4 t) (Rect.unit ![0, 0] ![512, 1024] inb_S1024x1024_S512x1024_0_0)
abbrev whi (t : Fin cfg0.N) : FVec Ideal S512x1024 .bf16 := View.ld (iblk m c 4 t) (Rect.unit ![512, 0] ![512, 1024] inb_S1024x1024_S512x1024_512_0)

/-- The rows of a point. -/
abbrev rows (t : Fin cfg0.N) : FVec Ideal S512x1024 .f32 := k0_pay8 (F := Ideal) (iblk m c 0 t) (wlo m c t) (iblk m c 1 t) (whi m c t) (iblk m c 3 t) (iblk m c 2 t)

theorem after8_eq (t : Fin cfg0.N) : (dats m 0 c).after 8 t = k0_pay12 (F := Ideal) (rows m c t) := by
  rw [after0_8]
  by_cases h : t.val % 64 = 0
  · rw [outsAt0_A m c t h]
    frame_out
    rfl
  · rw [outsAt0_B m c t h]
    frame_out
    rfl

theorem after9_eq (t : Fin cfg0.N) :
    (dats m 0 c).after 9 t = k0_pay13 (F := Ideal) (k0_pay7 (F := Ideal) (iblk m c 3 t)) (rows m c t) (k0_pay9 (F := Ideal) (iblk m c 5 t)) (k0_pay10 (F := Ideal) (iblk m c 0 t) (wlo m c t) (iblk m c 1 t) (whi m c t) (iblk m c 3 t) (iblk m c 2 t)) (Ideal.ofBits .f32 897988541#32) := by
  rw [after0_9]
  by_cases h : t.val % 64 = 0
  · rw [outsAt0_A m c t h]
    frame_out
    rfl
  · rw [outsAt0_B m c t h]
    frame_out
    rfl

theorem wlo_apply (t : Fin cfg0.N) (k : Fin 512) (n : Fin 1024) :
    wlo m c t (ix2 k n) = (iblk m c 4 t : S1024x1024.Idx → EReal) (ix2 ⟨k.val, by have := k.isLt; omega⟩ n) := by
  refine View.ld_unit_apply_of _ _ _ _ _ _ fun a => ?_
  match a with
  | ⟨0, _⟩ => show k.val = 0 + k.val; omega
  | ⟨1, _⟩ => show n.val = 0 + n.val; omega

theorem whi_apply (t : Fin cfg0.N) (k : Fin 512) (n : Fin 1024) :
    whi m c t (ix2 k n) = (iblk m c 4 t : S1024x1024.Idx → EReal) (ix2 ⟨512 + k.val, by have := k.isLt; omega⟩ n) := by
  refine View.ld_unit_apply_of _ _ _ _ _ _ fun a => ?_
  match a with
  | ⟨0, _⟩ => show 512 + k.val = 512 + k.val; rfl
  | ⟨1, _⟩ => show n.val = 0 + n.val; omega

end Cert.Kernel6Ideal.Outp

end
-- ==== Proof.Outp.Val.lean ====
module

public import proofs.«01_k».proof.Proof.Outp.Body

@[expose] public section

set_option maxRecDepth 16384

noncomputable section

namespace Cert.Kernel6Ideal.Outp

open Idealize.ShloMosaic Idealize.ShloMosaic.TcCoe Idealize.ShloMosaic.Tactic
open Idealize.SL.Sem
open Cert.Kernel6Ideal.Gen

/-! ## The output projection: the residual stream after attention and its normalised rows, over the whole batch -/

section Result

variable (a0 a1 : FVec Ideal S16x2048x512 .bf16) (a2 : FVec Ideal S16x2048x1024 .f32) (a3 : FVec Ideal S16x6x1024 .f32) (a4 : FVec Ideal S1024x1024 .f32) (a5 : FVec Ideal S1024 .f32)

/-- A token's row after the attention. -/
def xrow (b : Fin 16) (s : Fin 2048) : Fin 1024 → EReal :=
  mixrow (fun k => a0 (ix3 b s k)) (fun k => a1 (ix3 b s k)) (fun k n => a4 (ix2 ⟨k.val, by have := k.isLt; omega⟩ n)) (fun k n => a4 (ix2 ⟨512 + k.val, by have := k.isLt; omega⟩ n)) (fun n => a2 (ix3 b s n)) (fun n => a3 (ix3 b 2 n))

/-- The residual stream after the attention. -/
def resX : FVec Ideal S16x2048x1024 .f32 := fun i => xrow a0 a1 a2 a3 a4 (i 0) (i 1) (i 2)

/-- Its rows normalised, scaled and modulated. -/
def resH : FVec Ideal S16x2048x1024 .bf16 :=
  fun i => hrow (xrow a0 a1 a2 a3 a4 (i 0) (i 1)) (fun j => a5 (ix1 j)) (fun j => a3 (ix3 (i 0) 3 j)) (fun j => a3 (ix3 (i 0) 4 j)) (i 2)

end Result

theorem block {n : ℕ} (hn : n ≤ 16) (j : Fin n) : (BitVec.ofNat 32 j.val).toNat = j.val := by
  have := j.isLt
  rw [BitVec.toNat_ofNat]
  omega

variable (m : (ℓ : Loc nD τ sig) → Buf (Elt Ideal) ℓ) (ρ : Dev nD → PrngReg) (c : Dev nD)

/-- The two results from the arguments as launched. -/
abbrev RESX : FVec Ideal S16x2048x1024 .f32 :=
  resX (m ((c : Thread nD τ).loc main_arg0)) (m ((c : Thread nD τ).loc main_arg1)) (m ((c : Thread nD τ).loc main_arg2)) (m ((c : Thread nD τ).loc main_arg3)) (m ((c : Thread nD τ).loc main_arg4))
abbrev RESH : FVec Ideal S16x2048x1024 .bf16 :=
  resH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem g2_eq : V m c main_v0 = shapeCast S1x1024 (m ((c : Thread nD τ).loc main_arg5)) shapeCasts_S1024_S1x1024 := by
  show StableHlo.after (List.flatten [hostOps0]) (fun b => m (c, b)) (Proc.devRef .tc main_v0) = _
  simp only [hostOps0, List.flatten_cons, List.flatten_nil, List.append_nil, List.cons_append, List.nil_append]
  after_results_simp
  rfl

theorem g2_apply (n : Fin 1024) :
    (V m c main_v0 : S1x1024.Idx → EReal) (ix2 0 n) = (m ((c : Thread nD τ).loc main_arg5) : S1024.Idx → EReal) (ix1 n) := by
  rw [g2_eq]
  pointwise []

theorem w_eq : (V m c main_v3 : S1024x1024.Idx → EReal) = (m ((c : Thread nD τ).loc main_arg4) : S1024x1024.Idx → EReal) := by
  show StableHlo.after (List.flatten [hostOps0]) (fun b => m (c, b)) (Proc.devRef .tc main_v3) = _
  simp only [hostOps0, List.flatten_cons, List.flatten_nil, List.append_nil, List.cons_append, List.nil_append]
  after_results_simp
  rfl

/-- The batch and the block of tokens of a point. -/
abbrev pI (t : Fin cfg0.N) : Fin 16 := grid0.coords t 0
abbrev pJ (t : Fin cfg0.N) : Fin 4 := grid0.coords t 1
abbrev tok (t : Fin cfg0.N) (r : Fin 512) : Fin 2048 := ⟨(pJ t).val * 512 + r.val, by have := (pJ t).isLt; have := r.isLt; omega⟩

theorem blk0_apply (t : Fin cfg0.N) (r : Fin 512) (n : Fin 512) :
    (iblk m c 0 t : S1x512x512.Idx → EReal) (ix3 0 r n) = (m ((c : Thread nD τ).loc main_arg0) : S16x2048x512.Idx → EReal) (ix3 (pI t) (tok t r) n) := by
  refine have hx : (((cfg0.win 0).blk t).view.emb (ix3 0 r n) : S16x2048x512.Idx) = ix3 (pI t) (tok t r) n := ?_; ?_
  rotate_left
  · exact (congrArg (V m c main_arg0 : S16x2048x512.Idx → EReal) hx).trans (congrFun (V_main_arg0 m c) _)
  funext a
  refine Fin.ext (((cfg0.win 0).rect_emb_val t (ix3 0 r n) a).trans ?_)
  match a with
  | ⟨0, _⟩ =>
    show (BitVec.ofNat 32 (pI t).val).toNat * 1 + 0 = (pI t).val
    rw [block (by decide)]
    omega
  | ⟨1, _⟩ =>
    show (BitVec.ofNat 32 (pJ t).val).toNat * 512 + r.val = (pJ t).val * 512 + r.val
    rw [block (by decide)]
  | ⟨2, _⟩ =>
    show 0 * 512 + (n : Fin 512).val = (n : Fin 512).val
    omega

theorem blk1_apply (t : Fin cfg0.N) (r : Fin 512) (n : Fin 512) :
    (iblk m c 1 t : S1x512x512.Idx → EReal) (ix3 0 r n) = (m ((c : Thread nD τ).loc main_arg1) : S16x2048x512.Idx → EReal) (ix3 (pI t) (tok t r) n) := by
  refine have hx : (((cfg0.win 1).blk t).view.emb (ix3 0 r n) : S16x2048x512.Idx) = ix3 (pI t) (tok t r) n := ?_; ?_
  rotate_left
  · exact (congrArg (V m c main_arg1 : S16x2048x512.Idx → EReal) hx).trans (congrFun (V_main_arg1 m c) _)
  funext a
  refine Fin.ext (((cfg0.win 1).rect_emb_val t (ix3 0 r n) a).trans ?_)
  match a with
  | ⟨0, _⟩ =>
    show (BitVec.ofNat 32 (pI t).val).toNat * 1 + 0 = (pI t).val
    rw [block (by decide)]
    omega
  | ⟨1, _⟩ =>
    show (BitVec.ofNat 32 (pJ t).val).toNat * 512 + r.val = (pJ t).val * 512 + r.val
    rw [block (by decide)]
  | ⟨2, _⟩ =>
    show 0 * 512 + (n : Fin 512).val = (n : Fin 512).val
    omega

theorem blk2_apply (t : Fin cfg0.N) (r : Fin 512) (n : Fin 1024) :
    (iblk m c 2 t : S1x512x1024.Idx → EReal) (ix3 0 r n) = (m ((c : Thread nD τ).loc main_arg2) : S16x2048x1024.Idx → EReal) (ix3 (pI t) (tok t r) n) := by
  refine have hx : (((cfg0.win 2).blk t).view.emb (ix3 0 r n) : S16x2048x1024.Idx) = ix3 (pI t) (tok t r) n := ?_; ?_
  rotate_left
  · exact (congrArg (V m c main_arg2 : S16x2048x1024.Idx → EReal) hx).trans (congrFun (V_main_arg2 m c) _)
  funext a
  refine Fin.ext (((cfg0.win 2).rect_emb_val t (ix3 0 r n) a).trans ?_)
  match a with
  | ⟨0, _⟩ =>
    show (BitVec.ofNat 32 (pI t).val).toNat * 1 + 0 = (pI t).val
    rw [block (by decide)]
    omega
  | ⟨1, _⟩ =>
    show (BitVec.ofNat 32 (pJ t).val).toNat * 512 + r.val = (pJ t).val * 512 + r.val
    rw [block (by decide)]
  | ⟨2, _⟩ =>
    show 0 * 1024 + (n : Fin 1024).val = (n : Fin 1024).val
    omega

theorem blk3_apply (t : Fin cfg0.N) (q : Fin 6) (n : Fin 1024) :
    (iblk m c 3 t : S1x6x1024.Idx → EReal) (ix3 0 q n) = (m ((c : Thread nD τ).loc main_arg3) : S16x6x1024.Idx → EReal) (ix3 (pI t) q n) := by
  refine have hx : (((cfg0.win 3).blk t).view.emb (ix3 0 q n) : S16x6x1024.Idx) = ix3 (pI t) q n := ?_; ?_
  rotate_left
  · exact (congrArg (V m c main_arg3 : S16x6x1024.Idx → EReal) hx).trans (congrFun (V_main_arg3 m c) _)
  funext a
  refine Fin.ext (((cfg0.win 3).rect_emb_val t (ix3 0 q n) a).trans ?_)
  match a with
  | ⟨0, _⟩ =>
    show (BitVec.ofNat 32 (pI t).val).toNat * 1 + 0 = (pI t).val
    rw [block (by decide)]
    omega
  | ⟨1, _⟩ =>
    show 0 * 6 + (q : Fin 6).val = (q : Fin 6).val
    omega
  | ⟨2, _⟩ =>
    show 0 * 1024 + (n : Fin 1024).val = (n : Fin 1024).val
    omega

theorem blk4_apply (t : Fin cfg0.N) (k n : Fin 1024) :
    (iblk m c 4 t : S1024x1024.Idx → EReal) (ix2 k n) = (m ((c : Thread nD τ).loc main_arg4) : S1024x1024.Idx → EReal) (ix2 k n) := by
  refine have hx : (((cfg0.win 4).blk t).view.emb (ix2 k n) : S1024x1024.Idx) = ix2 k n := ?_; ?_
  rotate_left
  · exact (congrArg (V m c main_v3 : S1024x1024.Idx → EReal) hx).trans (congrFun (w_eq m c) _)
  funext a
  refine Fin.ext (((cfg0.win 4).rect_emb_val t (ix2 k n) a).trans ?_)
  match a with
  | ⟨0, _⟩ =>
    show 0 * 1024 + (k : Fin 1024).val = (k : Fin 1024).val
    omega
  | ⟨1, _⟩ =>
    show 0 * 1024 + (n : Fin 1024).val = (n : Fin 1024).val
    omega

theorem blk5_apply (t : Fin cfg0.N) (n : Fin 1024) :
    (iblk m c 5 t : S1x1024.Idx → EReal) (ix2 0 n) = (m ((c : Thread nD τ).loc main_arg5) : S1024.Idx → EReal) (ix1 n) := by
  refine have hx : (((cfg0.win 5).blk t).view.emb (ix2 0 n) : S1x1024.Idx) = ix2 0 n := ?_; ?_
  rotate_left
  · exact (congrArg (V m c main_v0 : S1x1024.Idx → EReal) hx).trans (g2_apply m c n)
  funext a
  refine Fin.ext (((cfg0.win 5).rect_emb_val t (ix2 0 n) a).trans ?_)
  match a with
  | ⟨0, _⟩ =>
    show 0 * 1 + (0 : Fin 1).val = (0 : Fin 1).val
    omega
  | ⟨1, _⟩ =>
    show 0 * 1024 + (n : Fin 1024).val = (n : Fin 1024).val
    omega

/-- Every batch, and every block of tokens, has its point. -/
theorem point (i : Fin 16) (j : Fin 4) : ∃ t : Fin cfg0.N, pI t = i ∧ pJ t = j := by
  obtain ⟨t, hi, hj⟩ := (by decide +kernel : ∀ (i : Fin 16) (j : Fin 4), ∃ t : Fin grid0.N, (grid0.coords t 0).val = i.val ∧ (grid0.coords t 1).val = j.val) i j
  exact ⟨t, Fin.ext hi, Fin.ext hj⟩

theorem tok_eq (t : Fin cfg0.N) (s : Fin 2048) (hj : (pJ t).val = s.val / 512) : tok t ⟨s.val % 512, Nat.mod_lt _ (by decide)⟩ = s :=
  Fin.ext (show (pJ t).val * 512 + s.val % 512 = s.val by rw [hj]; omega)

theorem idx_eq (y : S1x512x1024.Idx) : y = ix3 0 (y 1) (y 2) := by
  funext a
  match a with
  | ⟨0, _⟩ => exact Subsingleton.elim (α := Fin 1) _ _
  | ⟨1, _⟩ => rfl
  | ⟨2, _⟩ => rfl

theorem rows_apply (t : Fin cfg0.N) (r : Fin 512) (n : Fin 1024) :
    rows m c t (ix2 r n) = xrow (m ((c : Thread nD τ).loc main_arg0)) (m ((c : Thread nD τ).loc main_arg1)) (m ((c : Thread nD τ).loc main_arg2)) (m ((c : Thread nD τ).loc main_arg3)) (m ((c : Thread nD τ).loc main_arg4)) (pI t) (tok t r) n := by
  refine (pay8_apply _ _ _ _ _ _ r n).trans ?_
  unfold xrow mixrow
  simp only [wlo_apply, whi_apply]
  have e0 := fun k => blk0_apply m c t r k
  have e1 := fun k => blk1_apply m c t r k
  refine congrArg₂ (· + ·) (blk2_apply m c t r n) (congrArg₂ (· * ·) (blk3_apply m c t 2 n) (congrArg₂ (· + ·) ?_ ?_))
  · exact Finset.sum_congr rfl fun k _ => congrArg₂ (· * ·) (blk0_apply m c t r k) (blk4_apply m c t _ n)
  · exact Finset.sum_congr rfl fun k _ => congrArg₂ (· * ·) (blk1_apply m c t r k) (blk4_apply m c t _ n)

/-- What a point leaves is its block of the results. -/
theorem after8_apply (t : Fin cfg0.N) (r : Fin 512) (n : Fin 1024) :
    ((dats m 0 c).after 8 t : S1x512x1024.Idx → EReal) (ix3 0 r n) = RESX m c (ix3 (pI t) (tok t r) n) := by
  rw [after8_eq]
  exact (pay12_apply _ r n).trans (rows_apply m c t r n)

theorem after9_apply (t : Fin cfg0.N) (r : Fin 512) (n : Fin 1024) :
    ((dats m 0 c).after 9 t : S1x512x1024.Idx → EReal) (ix3 0 r n) = RESH m c (ix3 (pI t) (tok t r) n) := by
  rw [after9_eq]
  refine (pay13_apply _ _ _ _ _ r n).trans ?_
  rw [pay10_apply]
  have e : ∀ k : Fin 1024, k0_pay8 (F := Ideal) (iblk m c 0 t) (wlo m c t) (iblk m c 1 t) (whi m c t) (iblk m c 3 t) (iblk m c 2 t) (ix2 r k) = _ := fun k => rows_apply m c t r k
  simp only [e]
  have e3 := blk3_apply m c t 3 n
  have e4 := blk3_apply m c t 4 n
  have e5 := blk5_apply m c t n
  refine congrArg₂ (· + ·) (congrArg₂ (· * ·) (congrArg₂ (· * ·) rfl e5) (congrArg (1 + ·) e4)) e3

/-! ### Output window 8 -/

theorem emb8 (t : Fin cfg0.N) (r : Fin 512) (n : Fin 1024) :
    (((cfg0.win 8).blk t).view.emb (ix3 0 r n) : S16x2048x1024.Idx) = ix3 (pI t) (tok t r) n := by
  funext a
  refine Fin.ext (((cfg0.win 8).rect_emb_val t (ix3 0 r n) a).trans ?_)
  match a with
  | ⟨0, _⟩ =>
    show (BitVec.ofNat 32 (pI t).val).toNat * 1 + 0 = (pI t).val
    rw [block (by decide)]
    omega
  | ⟨1, _⟩ =>
    show (BitVec.ofNat 32 (pJ t).val).toNat * 512 + r.val = (pJ t).val * 512 + r.val
    rw [block (by decide)]
  | ⟨2, _⟩ =>
    show 0 * 1024 + (n : Fin 1024).val = (n : Fin 1024).val
    omega

theorem flushed8_eq (t : Fin cfg0.N) (hf : (cfg0.win 8).flush t = true) :
    (dats m 0 c).flushed 8 t = ((cfg0.win 8).blk t).view.read (Elt Ideal) (RESX m c) := by
  funext y
  have hy : (y : S1x512x1024.Idx) = ix3 0 (y 1) (y 2) := idx_eq y
  refine (congrArg ((dats m 0 c).after 8 t : S1x512x1024.Idx → EReal) hy).trans ?_
  refine (after8_apply m c t (y 1) (y 2)).trans ?_
  refine congrArg (RESX m c) ?_
  exact (emb8 t (y 1) (y 2)).symm.trans (congrArg (fun z : S1x512x1024.Idx => (((cfg0.win 8).blk t).view.emb z : S16x2048x1024.Idx)) hy.symm)

theorem arr8_eq : ((dats m 0 c).arrAt 8 cfg0.N : S16x2048x1024.Idx → EReal) = RESX m c := by
  funext i
  have hs : (i 1).val < 2048 := (i 1).isLt
  obtain ⟨t, hi, hj⟩ := point (i 0) ⟨(i 1).val / 512, by omega⟩
  have e := emb8 t ⟨(i 1).val % 512, Nat.mod_lt _ (by decide)⟩ (i 2)
  have hx : (ix3 (pI t) (tok t ⟨(i 1).val % 512, Nat.mod_lt _ (by decide)⟩) (i 2) : S16x2048x1024.Idx) = i := by
    have e2 : tok t ⟨(i 1).val % 512, Nat.mod_lt _ (by decide)⟩ = i 1 := tok_eq t (i 1) (by rw [hj])
    rw [hi, e2]
    funext a
    match a with
    | ⟨0, _⟩ => rfl
    | ⟨1, _⟩ => rfl
    | ⟨2, _⟩ => rfl
  exact (dats m 0 c).arrAt_apply_of_mem 8 (RESX m c) (fun t hf => flushed8_eq m c t hf) cfg0.N t _ t.isLt (flush0_8 t)
    (Eq.mp (congrArg (· ∈ _) (e.trans hx)) (View.emb_mem_set _ _))

/-! ### Output window 9 -/

theorem emb9 (t : Fin cfg0.N) (r : Fin 512) (n : Fin 1024) :
    (((cfg0.win 9).blk t).view.emb (ix3 0 r n) : S16x2048x1024.Idx) = ix3 (pI t) (tok t r) n := by
  funext a
  refine Fin.ext (((cfg0.win 9).rect_emb_val t (ix3 0 r n) a).trans ?_)
  match a with
  | ⟨0, _⟩ =>
    show (BitVec.ofNat 32 (pI t).val).toNat * 1 + 0 = (pI t).val
    rw [block (by decide)]
    omega
  | ⟨1, _⟩ =>
    show (BitVec.ofNat 32 (pJ t).val).toNat * 512 + r.val = (pJ t).val * 512 + r.val
    rw [block (by decide)]
  | ⟨2, _⟩ =>
    show 0 * 1024 + (n : Fin 1024).val = (n : Fin 1024).val
    omega

theorem flushed9_eq (t : Fin cfg0.N) (hf : (cfg0.win 9).flush t = true) :
    (dats m 0 c).flushed 9 t = ((cfg0.win 9).blk t).view.read (Elt Ideal) (RESH m c) := by
  funext y
  have hy : (y : S1x512x1024.Idx) = ix3 0 (y 1) (y 2) := idx_eq y
  refine (congrArg ((dats m 0 c).after 9 t : S1x512x1024.Idx → EReal) hy).trans ?_
  refine (after9_apply m c t (y 1) (y 2)).trans ?_
  refine congrArg (RESH m c) ?_
  exact (emb9 t (y 1) (y 2)).symm.trans (congrArg (fun z : S1x512x1024.Idx => (((cfg0.win 9).blk t).view.emb z : S16x2048x1024.Idx)) hy.symm)

theorem arr9_eq : ((dats m 0 c).arrAt 9 cfg0.N : S16x2048x1024.Idx → EReal) = RESH m c := by
  funext i
  have hs : (i 1).val < 2048 := (i 1).isLt
  obtain ⟨t, hi, hj⟩ := point (i 0) ⟨(i 1).val / 512, by omega⟩
  have e := emb9 t ⟨(i 1).val % 512, Nat.mod_lt _ (by decide)⟩ (i 2)
  have hx : (ix3 (pI t) (tok t ⟨(i 1).val % 512, Nat.mod_lt _ (by decide)⟩) (i 2) : S16x2048x1024.Idx) = i := by
    have e2 : tok t ⟨(i 1).val % 512, Nat.mod_lt _ (by decide)⟩ = i 1 := tok_eq t (i 1) (by rw [hj])
    rw [hi, e2]
    funext a
    match a with
    | ⟨0, _⟩ => rfl
    | ⟨1, _⟩ => rfl
    | ⟨2, _⟩ => rfl
  exact (dats m 0 c).arrAt_apply_of_mem 9 (RESH m c) (fun t hf => flushed9_eq m c t hf) cfg0.N t _ t.isLt (flush0_9 t)
    (Eq.mp (congrArg (· ∈ _) (e.trans hx)) (View.emb_mem_set _ _))

/-- The run: the two results, and the arguments as launched. -/
theorem run_val : θ_run defs (onTc (τ := τ) (main (F := Ideal))) ⟨m, fun _ => 0, ρ⟩ fun r => ∀ c : Dev nD,
      r.2.mem ((c : Thread nD τ).loc main_v4_0) = RESX m c
      ∧ r.2.mem ((c : Thread nD τ).loc main_v4_1) = RESH m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (arr8_eq m c), (h c).2.1.trans (arr9_eq m c), (h c).2.2.2.2.2.2⟩) (Cert.Kernel6Ideal.Value.run_blocks m ρ)

end Cert.Kernel6Ideal.Outp

end
-- ==== Proof.Outp.Ref.lean ====
module

public import proofs.«01_k».proof.Proof.Outp.Val
public import proofs.«01_k».proof.Proof.Gen.Reference6Ideal.Run
public import Idealize.ShloMosaic.Lib.Pointwise
public import Idealize.ShloMosaic.Lib.IdealHost

@[expose] public section

set_option maxRecDepth 16384

noncomputable section

namespace Cert.Reference6Ideal.Ref

open Idealize.ShloMosaic Idealize.ShloMosaic.TcCoe Idealize.ShloMosaic.Tactic
open Idealize.SL.Sem
open Cert.Reference6Ideal Cert.Reference6Ideal.Gen
open Cert.Kernel6Ideal.Outp (mixrow hrow xrow resX resH)

/-! ## The reference's two results, element by element -/

variable (a0 a1 : FVec Ideal S16x2048x512 .bf16) (a2 : FVec Ideal S16x2048x1024 .f32) (a3 : FVec Ideal S16x6x1024 .f32) (a4 : FVec Ideal S1024x1024 .f32) (a5 : FVec Ideal S1024 .f32)

/-- The two attentions' outputs side by side. -/
def catv : FVec Ideal S16x2048x1024 .bf16 :=
  concatenate S16x2048x1024 2 [⟨S16x2048x512, a0⟩, ⟨S16x2048x512, a1⟩] concatenates_S16x2048x512_S16x2048x512_S16x2048x1024_d2

/-- The residual stream after the attention. -/
def xv (y : FVec Ideal S16x2048x1024 .bf16) : FVec Ideal S16x2048x1024 .f32 :=
  addf a2 (mulf (broadcastInDim S16x2048x1024 ![0, 1, 2] bcast_S16x1x1024_S16x2048x1024_0_1_2 (extractStridedSlice S16x1x1024 ![0, 2, 0] a3 slices_S16x6x1024_S16x1x1024_0_2_0)) (Host.dotGeneral dot_S16x2048x1024_S1024x1024_S16x2048x1024_2_0_01_1_n_n none (extf .f32 y bitsLt_bf16_f32) a4))

/-- Rows normalised, scaled and modulated. -/
def hv (x : FVec Ideal S16x2048x1024 .f32) : FVec Ideal S16x2048x1024 .bf16 :=
  truncf .bf16 (addf (mulf (mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 a5))) (broadcastInDim S16x2048x1024 ![0, 1, 2] bcast_S16x1x1024_S16x2048x1024_0_1_2 (addf (broadcastInDim S16x1x1024 ![] bcast_S_S16x1x1024 (constant S_ .f32 0x3F800000#32)) (extractStridedSlice S16x1x1024 ![0, 4, 0] a3 slices_S16x6x1024_S16x1x1024_0_4_0)))) (broadcastInDim S16x2048x1024 ![0, 1, 2] bcast_S16x1x1024_S16x2048x1024_0_1_2 (extractStridedSlice S16x1x1024 ![0, 3, 0] a3 slices_S16x6x1024_S16x1x1024_0_3_0))) bitsLt_bf16_f32

theorem catv_lo (b : Fin 16) (s : Fin 2048) (k : Fin 512) : catv a0 a1 (ix3 b s ⟨k.val, by have := k.isLt; omega⟩) = a0 (ix3 b s k) := by
  have := k.isLt
  pointwise [catv]

theorem catv_hi (b : Fin 16) (s : Fin 2048) (k : Fin 512) : catv a0 a1 (ix3 b s ⟨512 + k.val, by have := k.isLt; omega⟩) = a1 (ix3 b s k) := by
  have := k.isLt
  pointwise [catv]

theorem xv_apply (y : FVec Ideal S16x2048x1024 .bf16) (b : Fin 16) (s : Fin 2048) (n : Fin 1024) :
    xv a2 a3 a4 y (ix3 b s n) = a2 (ix3 b s n) + a3 (ix3 b 2 n) * ∑ k : Fin 1024, y (ix3 b s k) * a4 (ix2 k n) := by
  pointwise [xv]

theorem hv_apply (x : FVec Ideal S16x2048x1024 .f32) (b : Fin 16) (s : Fin 2048) (n : Fin 1024) :
    hv a3 a5 x (ix3 b s n) = hrow (fun j => x (ix3 b s j)) (fun j => a5 (ix1 j)) (fun j => a3 (ix3 b 3 j)) (fun j => a3 (ix3 b 4 j)) n := by
  pointwise [hv]
  rfl

theorem idx_eq (i : S16x2048x1024.Idx) : i = ix3 (i 0) (i 1) (i 2) := by
  funext a
  match a with
  | ⟨0, _⟩ => rfl
  | ⟨1, _⟩ => rfl
  | ⟨2, _⟩ => rfl

theorem x_apply (b : Fin 16) (s : Fin 2048) (n : Fin 1024) : xv a2 a3 a4 (catv a0 a1) (ix3 b s n) = xrow a0 a1 a2 a3 a4 b s n := by
  rw [xv_apply]
  refine congrArg (a2 (ix3 b s n) + a3 (ix3 b 2 n) * ·) ?_
  refine (Fin.sum_univ_add (a := 512) (b := 512) fun k : Fin (512 + 512) => (catv a0 a1 (ix3 b s k) : EReal) * a4 (ix2 k n)).trans ?_
  refine congrArg₂ (· + ·) ?_ ?_
  · exact Finset.sum_congr rfl fun k _ => congrArg (· * a4 (ix2 ⟨k.val, by have := k.isLt; omega⟩ n)) (catv_lo a0 a1 b s k)
  · exact Finset.sum_congr rfl fun k _ => congrArg (· * a4 (ix2 ⟨512 + k.val, by have := k.isLt; omega⟩ n)) (catv_hi a0 a1 b s k)

theorem xv_eq : xv a2 a3 a4 (catv a0 a1) = resX a0 a1 a2 a3 a4 := by
  funext i
  rw [idx_eq i]
  exact x_apply a0 a1 a2 a3 a4 (i 0) (i 1) (i 2)

theorem hv_eq : hv a3 a5 (xv a2 a3 a4 (catv a0 a1)) = resH a0 a1 a2 a3 a4 a5 := by
  funext i
  rw [idx_eq i]
  refine (hv_apply a3 a5 _ (i 0) (i 1) (i 2)).trans ?_
  exact congrArg (fun f => hrow f (fun j => a5 (ix1 j)) (fun j => a3 (ix3 (i 0) 3 j)) (fun j => a3 (ix3 (i 0) 4 j)) (i 2)) (funext fun j => x_apply a0 a1 a2 a3 a4 (i 0) (i 1) j)

/-- The reference's run. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = resX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v28) = resH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (xv_eq _ _ _ _ _), (h c).2.1.trans (hv_eq _ _ _ _ _ _), (h c).2.2⟩) (Cert.Reference6Ideal.Value.run m ρ)

end Cert.Reference6Ideal.Ref

end
-- ==== Proof.Comb.Outs.lean ====
module

public import proofs.«01_k».proof.Proof.Gen.Kernel3Ideal.Frame
public import Idealize.ShloMosaic.Lib.Pointwise
public import Idealize.ShloMosaic.Lib.IdealHost

@[expose] public section

set_option maxRecDepth 16384

noncomputable section

namespace Cert.Kernel3Ideal.Comb

open Idealize.ShloMosaic Idealize.ShloMosaic.TcCoe Idealize.ShloMosaic.Tactic
open Cert.Kernel3Ideal.Gen

/-! ## What every call's body stores, from its blocks -/

variable (x0 : Vec Ideal S2x4x1x512x256 .i32) (x1 : Vec Ideal S1x512x4 .f32) (x2 : Vec Ideal S1x512x1024 .f32) (x3 : Vec Ideal S1x6x1024 .f32) (x4 : Vec Ideal S1x1024 .f32)

theorem hz3 : (![0, 0, 0] : Fin 3 → Nat) = fun _ => 0 := by funext a; fin_cases a <;> rfl
theorem hz2 : (![0, 0] : Fin 2 → Nat) = fun _ => 0 := by funext a; fin_cases a <;> rfl

/-- The body's store over whole blocks. -/
def pay : FVec Ideal S1x512x1024 .f32 :=
  k0_pay1 (k0_pay23 x0 x1 x2 x3 x4) (k0_pay10 (k0_pay23 x0 x1 x2 x3 x4) (k0_pay5 (View.ld x1 r0_0) (View.ld x0 r0_1) (View.ld x0 r0_2)) (k0_pay24 x0 x1 x2 x3 x4) k0_pay8 (View.ld x0 r0_4)) (k0_pay11 (k0_pay23 x0 x1 x2 x3 x4) (k0_pay6 (View.ld x1 r0_0) (View.ld x0 r0_1) (View.ld x0 r0_2)) (k0_pay24 x0 x1 x2 x3 x4) (View.ld x0 r0_4)) (k0_pay17 (k0_pay23 x0 x1 x2 x3 x4) (k0_pay13 (k0_pay23 x0 x1 x2 x3 x4) (View.ld x0 r0_5)) (View.ld x0 r0_6) (View.ld x0 r0_7)) (k0_pay18 (k0_pay23 x0 x1 x2 x3 x4) (k0_pay14 (k0_pay23 x0 x1 x2 x3 x4) (View.ld x0 r0_5)) (View.ld x0 r0_6) (View.ld x0 r0_7)) (k0_pay20 (View.ld x0 r0_8)) (k0_pay21 (View.ld x0 r0_8)) (k0_pay22 (k0_pay23 x0 x1 x2 x3 x4)) (View.ld x2 r0_9) (View.ld x3 r0_10) (View.ld x4 r0_11)

theorem out0_eq : out0_5 x0 x1 x2 x3 x4 = pay x0 x1 x2 x3 x4 := View.canon_unit_zero (S := S1x512x1024) hz3 _ _

theorem out1_eq (c : Dev nD) (i : grid1.Coords) (a2 h2 a3 h3 a4 h4 a5 h5 a6 h6 a8 h8) :
    out1_A_5 c i a2 h2 a3 h3 a4 h4 a5 h5 a6 h6 a8 h8 x0 x1 x2 x3 x4 = pay x0 x1 x2 x3 x4 := by
  unfold out1_A_5
  rw [View.read_writes_eq_canon _ _ _ (cover1_A_5 c i a2 h2 a3 h3 a4 h4 a5 h5 a6 h6 a8 h8 x0 x1 x2 x3 x4)]
  unfold kernelRun1_A
  dsimp only
  sl_unfold_words
  rw [View.canon_unit_zero (S := S1x512x1024) hz3]
  simp only [View.readAt_eq_ld, h2.read_unread, h3.read_unread, h4.read_unread, h5.read_unread, h6.read_unread]
  rfl

theorem out2_eq (c : Dev nD) (i : grid2.Coords) (a2 h2 a3 h3 a4 h4 a5 h5 a6 h6 a8 h8) :
    out2_A_5 c i a2 h2 a3 h3 a4 h4 a5 h5 a6 h6 a8 h8 x0 x1 x2 x3 x4 = pay x0 x1 x2 x3 x4 := by
  unfold out2_A_5
  rw [View.read_writes_eq_canon _ _ _ (cover2_A_5 c i a2 h2 a3 h3 a4 h4 a5 h5 a6 h6 a8 h8 x0 x1 x2 x3 x4)]
  unfold kernelRun2_A
  dsimp only
  sl_unfold_words
  rw [View.canon_unit_zero (S := S1x512x1024) hz3]
  simp only [View.readAt_eq_ld, h2.read_unread, h3.read_unread, h4.read_unread, h5.read_unread, h6.read_unread]
  rfl

theorem out3_eq (c : Dev nD) (i : grid3.Coords) (a2 h2 a3 h3 a4 h4 a5 h5 a6 h6 a8 h8) :
    out3_A_5 c i a2 h2 a3 h3 a4 h4 a5 h5 a6 h6 a8 h8 x0 x1 x2 x3 x4 = pay x0 x1 x2 x3 x4 := by
  unfold out3_A_5
  rw [View.read_writes_eq_canon _ _ _ (cover3_A_5 c i a2 h2 a3 h3 a4 h4 a5 h5 a6 h6 a8 h8 x0 x1 x2 x3 x4)]
  unfold kernelRun3_A
  dsimp only
  sl_unfold_words
  rw [View.canon_unit_zero (S := S1x512x1024) hz3]
  simp only [View.readAt_eq_ld, h2.read_unread, h3.read_unread, h4.read_unread, h5.read_unread, h6.read_unread]
  rfl

end Cert.Kernel3Ideal.Comb

end
-- ==== Proof.Comb.Half.lean ====
module

public import Idealize.ShloMosaic.PureOps.Ideal

@[expose] public section

noncomputable section

namespace Cert.Kernel3Ideal.Comb

open Idealize.ShloMosaic

/-! ## The two sixteen-bit numbers of a word, widened -/

/-- Sixteen bits as a number are those bits, with sixteen zeros below, as a number of the wider format. -/
theorem widen (h : BitVec 16) : Ideal.ofBits .f32 (h ++ 0#16) = Ideal.ofBits .bf16 h := by
  have e1 : (BitVec.extractLsb' (8 + 23) 1 (h ++ 0#16)) = BitVec.extractLsb' (8 + 7) 1 h := by
    apply BitVec.eq_of_getLsbD_eq
    intro i hi
    simp only [BitVec.getLsbD_extractLsb', BitVec.getLsbD_append]
    have : ¬ (8 + 23 + i < 16) := by omega
    simp [this]
    have hi0 : i = 0 := by omega
    subst hi0
    rfl
  have e2 : (BitVec.extractLsb' 23 8 (h ++ 0#16)) = BitVec.extractLsb' 7 8 h := by
    apply BitVec.eq_of_getLsbD_eq
    intro i hi
    simp only [BitVec.getLsbD_extractLsb', BitVec.getLsbD_append]
    have : ¬ (23 + i < 16) := by omega
    simp [this]
    congr 2 <;> omega
  have e3 : (BitVec.extractLsb' 0 23 (h ++ 0#16)).toNat = (BitVec.extractLsb' 0 7 h).toNat * 2 ^ 16 := by
    simp only [BitVec.extractLsb'_toNat, BitVec.toNat_append, BitVec.toNat_ofNat, Nat.shiftRight_zero]
    have : h.toNat < 2 ^ 16 := h.isLt
    simp only [Nat.shiftLeft_eq, Nat.zero_mod, Nat.or_zero]
    omega
  show Ideal.ieee 8 23 (h ++ 0#16) = Ideal.ieee 8 7 h
  unfold Ideal.ieee
  rw [e1, e2, e3]
  generalize (BitVec.extractLsb' (8 + 7) 1 h == 1#1) = s
  generalize (BitVec.extractLsb' 7 8 h).toNat = ex
  generalize (BitVec.extractLsb' 0 7 h).toNat = fr
  have hz : (fr * 2 ^ 16 = 0) ↔ fr = 0 := by omega
  simp only [hz]
  have p7 : ∀ k : ℤ, (2 : ℝ) ^ (k - ((7 : ℕ) : ℤ)) = (2 : ℝ) ^ (16 : ℤ) * (2 : ℝ) ^ (k - ((23 : ℕ) : ℤ)) := by
    intro k
    rw [← zpow_add₀ (by norm_num)]; congr 1; push_cast; ring
  have z0 : ∀ (sg : ℝ) (k : ℤ), sg * ((fr * 2 ^ 16 : ℕ) : ℝ) * (2 : ℝ) ^ (k - ((23 : ℕ) : ℤ)) = sg * (fr : ℝ) * (2 : ℝ) ^ (k - ((7 : ℕ) : ℤ)) := by
    intro sg k
    rw [p7]; push_cast; norm_num; ring
  have z1 : ∀ (sg : ℝ) (k : ℤ), sg * ((2 ^ 23 + fr * 2 ^ 16 : ℕ) : ℝ) * (2 : ℝ) ^ (k - ((23 : ℕ) : ℤ)) = sg * ((2 ^ 7 + fr : ℕ) : ℝ) * (2 : ℝ) ^ (k - ((7 : ℕ) : ℤ)) := by
    intro sg k
    rw [p7]; push_cast; norm_num; ring
  simp only [z0, z1]

/-- The low half of a word, moved up. -/
theorem low (w : BitVec 32) : Ideal.ofBits .f32 (w <<< (16 : ℕ)) = Ideal.ofBits .bf16 (w.extractLsb' 0 16) := by
  rw [← widen]
  congr 1
  apply BitVec.eq_of_getLsbD_eq
  intro i hi
  simp only [BitVec.getLsbD_shiftLeft, BitVec.getLsbD_append, BitVec.getLsbD_extractLsb']
  by_cases h : i < 16
  · simp [h]
  · have : i - 16 < 16 := by omega
    simp [h, this, hi]

/-- The high half of a word, its low half cleared. -/
theorem high (w : BitVec 32) : Ideal.ofBits .f32 (w &&& 4294901760#32) = Ideal.ofBits .bf16 (w.extractLsb' 16 16) := by
  rw [← widen]
  congr 1
  have : (4294901760#32) = (BitVec.allOnes 16 ++ 0#16) := by decide
  rw [this]
  apply BitVec.eq_of_getLsbD_eq
  intro i hi
  simp only [BitVec.getLsbD_and, BitVec.getLsbD_append, BitVec.getLsbD_extractLsb', BitVec.getLsbD_allOnes]
  by_cases h : i < 16
  · simp [h]
  · have h1 : i - 16 < 16 := by omega
    have h2 : 16 + (i - 16) = i := by omega
    simp [h, h1, h2]

end Cert.Kernel3Ideal.Comb

end
-- ==== Proof.Comb.Val.lean ====
module

public import proofs.«01_k».proof.Proof.Comb.Outs
public import proofs.«01_k».proof.Proof.Comb.Half
public import Idealize.ShloMosaic.Lib.Pointwise
public import Idealize.ShloMosaic.Lib.IdealHost

@[expose] public section

set_option maxRecDepth 16384

noncomputable section

namespace Cert.Kernel3Ideal.Comb

open Idealize.ShloMosaic Idealize.ShloMosaic.TcCoe Idealize.ShloMosaic.Tactic
open Cert.Kernel3Ideal.Gen

/-! ## What the body computes over the extended reals, element by element -/

variable (x0 : Vec Ideal S2x4x1x512x256 .i32) (x1 : Vec Ideal S1x512x4 .f32) (x2 : Vec Ideal S1x512x1024 .f32) (x3 : Vec Ideal S1x6x1024 .f32) (x4 : Vec Ideal S1x1024 .f32)

/-- The number that word `w` holds in half `h`: the low half at 0, the high one at 1. -/
def num (h : Fin 2) (w : BitVec 32) : EReal := Ideal.ofBits .bf16 (w.extractLsb' (h.val * 16) 16)

/-- Four experts' numbers, each times its weight, added in order. -/
def four (y w : Fin 4 → EReal) : EReal := y 0 * w 0 + y 1 * w 1 + y 2 * w 2 + y 3 * w 3

/-- The end of the body, from the combined rows: the residual sum and its normalisation. -/
def fin (Y : FVec Ideal S512x1024 .f32) (v127 : Vec Ideal S1x512x1024 .f32) (v129 : Vec Ideal S1x6x1024 .f32) (v135 : Vec Ideal S1x1024 .f32) : FVec Ideal S1x512x1024 .f32 :=
  have v128 : FVec Ideal S512x1024 .f32 := shapeCast S512x1024 v127 shapeCasts_S1x512x1024_S512x1024
  have v130 : FVec Ideal S6x1024 .f32 := shapeCast S6x1024 v129 shapeCasts_S1x6x1024_S6x1024
  have v131 : FVec Ideal S1x1024 .f32 := extractStridedSlice S1x1024 ![5, 0] v130 slices_S6x1024_o5_0_S1x1024
  have v132 : FVec Ideal S512x1024 .f32 := broadcastTo S512x1024 v131 broadcasts_S1x1024_S512x1024
  have v133 : FVec Ideal S512x1024 .f32 := mulf v132 Y
  have v134 : FVec Ideal S512x1024 .f32 := addf v128 v133
  have v136 : FVec Ideal S1x1024 .f32 := shapeCast S1x1024 v135 shapeCasts_S1x1024_S1x1024
  have v137 : FVec Ideal S512x1024 .f32 := mulf v134 v134
  have v138 : FVec Ideal S512 .f32 := multiReduction .add [1] S512 v137 0x00000000#32 reduces_S512x1024_S512 (.inl rfl) rfl
  have v139 : FVec Ideal S512x1 .f32 := shapeCast S512x1 v138 shapeCasts_S512_S512x1
  have v141 : FVec Ideal S512x1 .f32 := divf v139 (broadcast S512x1 (Scalar.ofBits .f32 0x44800000#32))
  have v143 : FVec Ideal S512x1 .f32 := addf v141 (broadcast S512x1 (Scalar.ofBits .f32 0x358637BD#32))
  have v144 : FVec Ideal S512x1 .f32 := rsqrt v143
  have v145 : FVec Ideal S512x1024 .f32 := broadcastTo S512x1024 v144 broadcasts_S512x1_S512x1024
  have v146 : FVec Ideal S512x1024 .f32 := mulf v134 v145
  have v147 : FVec Ideal S512x1024 .f32 := broadcastTo S512x1024 v136 broadcasts_S1x1024_S512x1024
  have v148 : FVec Ideal S512x1024 .f32 := mulf v146 v147
  shapeCast S1x512x1024 v148 shapeCasts_S512x1024_S1x512x1024

theorem pay_eq : pay x0 x1 x2 x3 x4 = fin (concatenate S512x1024 1
    [⟨S512x256, (k0_pay10 (k0_pay23 x0 x1 x2 x3 x4) (k0_pay5 (View.ld x1 r0_0) (View.ld x0 r0_1) (View.ld x0 r0_2)) (k0_pay24 x0 x1 x2 x3 x4) k0_pay8 (View.ld x0 r0_4))⟩,
      ⟨S512x256, addf (k0_pay17 (k0_pay23 x0 x1 x2 x3 x4) (k0_pay13 (k0_pay23 x0 x1 x2 x3 x4) (View.ld x0 r0_5)) (View.ld x0 r0_6) (View.ld x0 r0_7))
        (mulf (k0_pay20 (View.ld x0 r0_8)) (broadcastTo S512x256 (k0_pay22 (k0_pay23 x0 x1 x2 x3 x4)) broadcasts_S512x1_S512x256))⟩,
      ⟨S512x256, (k0_pay11 (k0_pay23 x0 x1 x2 x3 x4) (k0_pay6 (View.ld x1 r0_0) (View.ld x0 r0_1) (View.ld x0 r0_2)) (k0_pay24 x0 x1 x2 x3 x4) (View.ld x0 r0_4))⟩,
      ⟨S512x256, addf (k0_pay18 (k0_pay23 x0 x1 x2 x3 x4) (k0_pay14 (k0_pay23 x0 x1 x2 x3 x4) (View.ld x0 r0_5)) (View.ld x0 r0_6) (View.ld x0 r0_7))
        (mulf (k0_pay21 (View.ld x0 r0_8)) (broadcastTo S512x256 (k0_pay22 (k0_pay23 x0 x1 x2 x3 x4)) broadcasts_S512x1_S512x256))⟩]
    concatenates_S512x256_S512x256_S512x256_S512x256_S512x1024_d1) (View.ld x2 r0_9) (View.ld x3 r0_10) (View.ld x4 r0_11) := rfl

theorem low' (w : BitVec 32) : Ideal.ofBits .f32 (IntOp.shli ArithUnit.vector w 16#32) = num 0 w := low w
theorem high' (w : BitVec 32) : Ideal.ofBits .f32 (IntOp.andi w 4294901760#32) = num 1 w := high w

theorem lo0 (r : Fin 512) (l : Fin 256) :
    (k0_pay10 (k0_pay23 x0 x1 x2 x3 x4) (k0_pay5 (View.ld x1 r0_0) (View.ld x0 r0_1) (View.ld x0 r0_2)) (k0_pay24 x0 x1 x2 x3 x4) k0_pay8 (View.ld x0 r0_4)) (ix2 r l)
      = four (fun k => num 0 (x0 (ix5 0 k 0 r l))) (fun k => x1 (ix3 0 r k)) := by
  pointwise [k0_pay10, k0_pay23, k0_pay5, k0_pay24, k0_pay8, k0_pay2, k0_pay3, k0_pay4, k0_pay7, k0_pay9]
  simp only [low', four]

theorem hi0 (r : Fin 512) (l : Fin 256) :
    (k0_pay11 (k0_pay23 x0 x1 x2 x3 x4) (k0_pay6 (View.ld x1 r0_0) (View.ld x0 r0_1) (View.ld x0 r0_2)) (k0_pay24 x0 x1 x2 x3 x4) (View.ld x0 r0_4)) (ix2 r l)
      = four (fun k => num 1 (x0 (ix5 0 k 0 r l))) (fun k => x1 (ix3 0 r k)) := by
  pointwise [k0_pay11, k0_pay23, k0_pay6, k0_pay24, k0_pay2, k0_pay3, k0_pay4, k0_pay7, k0_pay9]
  simp only [high', four]

theorem lo1 (r : Fin 512) (l : Fin 256) :
    (addf (k0_pay17 (k0_pay23 x0 x1 x2 x3 x4) (k0_pay13 (k0_pay23 x0 x1 x2 x3 x4) (View.ld x0 r0_5)) (View.ld x0 r0_6) (View.ld x0 r0_7))
        (mulf (k0_pay20 (View.ld x0 r0_8)) (broadcastTo S512x256 (k0_pay22 (k0_pay23 x0 x1 x2 x3 x4)) broadcasts_S512x1_S512x256))) (ix2 r l)
      = four (fun k => num 0 (x0 (ix5 1 k 0 r l))) (fun k => x1 (ix3 0 r k)) := by
  pointwise [k0_pay17, k0_pay23, k0_pay13, k0_pay20, k0_pay22, k0_pay2, k0_pay12, k0_pay15, k0_pay16, k0_pay19]
  simp only [low', four]

theorem hi1 (r : Fin 512) (l : Fin 256) :
    (addf (k0_pay18 (k0_pay23 x0 x1 x2 x3 x4) (k0_pay14 (k0_pay23 x0 x1 x2 x3 x4) (View.ld x0 r0_5)) (View.ld x0 r0_6) (View.ld x0 r0_7))
        (mulf (k0_pay21 (View.ld x0 r0_8)) (broadcastTo S512x256 (k0_pay22 (k0_pay23 x0 x1 x2 x3 x4)) broadcasts_S512x1_S512x256))) (ix2 r l)
      = four (fun k => num 1 (x0 (ix5 1 k 0 r l))) (fun k => x1 (ix3 0 r k)) := by
  pointwise [k0_pay18, k0_pay23, k0_pay14, k0_pay21, k0_pay22, k0_pay2, k0_pay12, k0_pay15, k0_pay16, k0_pay19]
  simp only [high', four]

/-- The half, the pair of strips and the place in the strip of a column. -/
def colH (n : Fin 1024) : Fin 2 := ⟨n.val / 512, by have := n.isLt; omega⟩
def colC (n : Fin 1024) : Fin 2 := ⟨n.val / 256 % 2, Nat.mod_lt _ (by decide)⟩
def colL (n : Fin 1024) : Fin 256 := ⟨n.val % 256, Nat.mod_lt _ (by decide)⟩

/-- Four pieces of 256 columns side by side. -/
theorem cat_apply (a b c d : FVec Ideal S512x256 .f32) (f : Fin 2 → Fin 2 → Fin 512 → Fin 256 → EReal)
    (ha : ∀ r l, a (ix2 r l) = f 0 0 r l) (hb : ∀ r l, b (ix2 r l) = f 0 1 r l) (hc : ∀ r l, c (ix2 r l) = f 1 0 r l) (hd : ∀ r l, d (ix2 r l) = f 1 1 r l)
    (r : Fin 512) (n : Fin 1024) :
    (concatenate S512x1024 1 [⟨S512x256, a⟩, ⟨S512x256, b⟩, ⟨S512x256, c⟩, ⟨S512x256, d⟩] concatenates_S512x256_S512x256_S512x256_S512x256_S512x1024_d1) (ix2 r n)
      = f (colH n) (colC n) r (colL n) := by
  have hn := n.isLt
  have key : ∀ (h c : Fin 2) (l : Fin 256), h.val = n.val / 512 → c.val = n.val / 256 % 2 → l.val = n.val % 256 → f h c r l = f (colH n) (colC n) r (colL n) := by
    intro h c l e1 e2 e3
    rw [show h = colH n from Fin.ext e1, show c = colC n from Fin.ext e2, show l = colL n from Fin.ext e3]
  pointwise []
  by_cases h1 : n.val < 256
  · refine (dif_pos h1).trans ((ha r ⟨n.val, h1⟩).trans (key 0 0 ⟨n.val, h1⟩ ?_ ?_ ?_))
    · show 0 = _; omega
    · show 0 = _; omega
    · show n.val = _; omega
  refine (dif_neg h1).trans ?_
  by_cases h2 : n.val - 256 < 256
  · refine (dif_pos h2).trans ((hb r ⟨n.val - 256, h2⟩).trans (key 0 1 ⟨n.val - 256, h2⟩ ?_ ?_ ?_))
    · show 0 = _; omega
    · show 1 = _; omega
    · show n.val - 256 = _; omega
  refine (dif_neg h2).trans ?_
  by_cases h3 : n.val - 256 - 256 < 256
  · refine (dif_pos h3).trans ((hc r ⟨n.val - 256 - 256, h3⟩).trans (key 1 0 ⟨n.val - 256 - 256, h3⟩ ?_ ?_ ?_))
    · show 1 = _; omega
    · show 0 = _; omega
    · show n.val - 256 - 256 = _; omega
  refine (dif_neg h3).trans ?_
  have h4 : n.val - 256 - 256 - 256 < 256 := by omega
  refine (hd r ⟨n.val - 256 - 256 - 256, h4⟩).trans (key 1 1 ⟨n.val - 256 - 256 - 256, h4⟩ ?_ ?_ ?_)
  · show 1 = _; omega
  · show 1 = _; omega
  · show n.val - 256 - 256 - 256 = _; omega

/-- A residual row's element, and the whole row normalised and scaled. -/
def res (x y g : Fin 1024 → EReal) (n : Fin 1024) : EReal := x n + g n * y n
def norm (x g : Fin 1024 → EReal) (n : Fin 1024) : EReal :=
  x n * Ideal.rsqrt (Ideal.div (∑ j, x j * x j) (Ideal.ofBits .f32 1149239296#32) + Ideal.ofBits .f32 897988541#32) * g n

theorem fin_apply (Y : FVec Ideal S512x1024 .f32) (v127 : Vec Ideal S1x512x1024 .f32) (v129 : Vec Ideal S1x6x1024 .f32) (v135 : Vec Ideal S1x1024 .f32) (r : Fin 512) (n : Fin 1024) :
    fin Y v127 v129 v135 (ix3 0 r n) = norm (res (fun j => v127 (ix3 0 r j)) (fun j => Y (ix2 r j)) (fun j => v129 (ix3 0 5 j))) (fun j => v135 (ix2 0 j)) n := by
  pointwise [fin]
  rfl

theorem pay_apply (r : Fin 512) (n : Fin 1024) :
    pay x0 x1 x2 x3 x4 (ix3 0 r n) = norm (res (fun j => x2 (ix3 0 r j))
      (fun j => four (fun k => num (colH j) (x0 (ix5 (colC j) k 0 r (colL j)))) (fun k => x1 (ix3 0 r k))) (fun j => x3 (ix3 0 5 j))) (fun j => x4 (ix2 0 j)) n := by
  rw [pay_eq, fin_apply, View.ld_unit_zero (S := S1x512x1024) hz3, View.ld_unit_zero (S := S1x6x1024) hz3, View.ld_unit_zero (S := S1x1024) hz2]
  congr 2
  funext j
  exact cat_apply _ _ _ _ (fun h c r l => four (fun k => num h (x0 (ix5 c k 0 r l))) (fun k => x1 (ix3 0 r k)))
    (lo0 x0 x1 x2 x3 x4) (lo1 x0 x1 x2 x3 x4) (hi0 x0 x1 x2 x3 x4) (hi1 x0 x1 x2 x3 x4) r j

end Cert.Kernel3Ideal.Comb

end
-- ==== Proof.Comb.Res.lean ====
module

public import proofs.«01_k».proof.Proof.Comb.Val

@[expose] public section

set_option maxRecDepth 16384

noncomputable section

namespace Cert.Kernel3Ideal.Comb

open Idealize.ShloMosaic Idealize.ShloMosaic.TcCoe Idealize.ShloMosaic.Tactic
open Idealize.SL.Sem
open Cert.Kernel3Ideal.Gen

/-! ## The result as one function of the arguments -/

variable (a0 : IVec S2x4x16x2048x256 32) (a1 : FVec Ideal S16x2048x4 .f32) (a2 : FVec Ideal S16x2048x1024 .f32) (a3 : FVec Ideal S16x6x1024 .f32) (a4 : FVec Ideal S1024 .f32)

/-- The four experts' rows of a token, weighted and added. -/
def mix (b : Fin 16) (s : Fin 2048) (n : Fin 1024) : EReal :=
  four (fun k => num (colH n) (a0 (ix5 (colC n) k b s (colL n)))) (fun k => a1 (ix3 b s k))

/-- A token's row: the residual with the gated mixture added, normalised and scaled. -/
def row (b : Fin 16) (s : Fin 2048) (n : Fin 1024) : EReal :=
  norm (res (fun j => a2 (ix3 b s j)) (mix a0 a1 b s) (fun j => a3 (ix3 b 5 j))) (fun j => a4 (ix1 j)) n

/-- The result. -/
def result : FVec Ideal S16x2048x1024 .f32 := fun i => row a0 a1 a2 a3 a4 (i 0) (i 1) (i 2)

theorem result_apply (b : Fin 16) (s : Fin 2048) (n : Fin 1024) : result a0 a1 a2 a3 a4 (ix3 b s n) = row a0 a1 a2 a3 a4 b s n := rfl

/-- The body's store, from what its windows hold. -/
theorem pay_row (x0 : Vec Ideal S2x4x1x512x256 .i32) (x1 : Vec Ideal S1x512x4 .f32) (x2 : Vec Ideal S1x512x1024 .f32) (x3 : Vec Ideal S1x6x1024 .f32) (x4 : Vec Ideal S1x1024 .f32)
    (b : Fin 16) (s : Fin 2048) (r : Fin 512)
    (h0 : ∀ (c : Fin 2) (k : Fin 4) (l : Fin 256), x0 (ix5 c k 0 r l) = a0 (ix5 c k b s l))
    (h1 : ∀ k : Fin 4, x1 (ix3 0 r k) = a1 (ix3 b s k))
    (h2 : ∀ n : Fin 1024, x2 (ix3 0 r n) = a2 (ix3 b s n))
    (h3 : ∀ n : Fin 1024, x3 (ix3 0 5 n) = a3 (ix3 b 5 n))
    (h4 : ∀ n : Fin 1024, x4 (ix2 0 n) = a4 (ix1 n)) (n : Fin 1024) :
    pay x0 x1 x2 x3 x4 (ix3 0 r n) = row a0 a1 a2 a3 a4 b s n := by
  rw [pay_apply]
  simp only [h0, h1, h2, h3, h4]
  rfl

/-- A block's number along the batches, added up in words. -/
theorem batch (k : ℕ) (hk : k < 13) (i : Fin 4) : (Scalar.addi (BitVec.ofNat 32 k) (BitVec.ofNat 32 i.val)).toNat = k + i.val := by
  show (BitVec.ofNat 32 k + BitVec.ofNat 32 i.val).toNat = _
  have := i.isLt
  rw [BitVec.toNat_add, BitVec.toNat_ofNat, BitVec.toNat_ofNat]
  omega

theorem block (j : Fin 4) : (BitVec.ofNat 32 j.val).toNat = j.val := by
  have := j.isLt
  rw [BitVec.toNat_ofNat]
  omega

variable (m : (ℓ : Loc nD τ sig) → Buf (Elt Ideal) ℓ)

/-- The result from the arguments as launched. -/
def RES (c : Dev nD) : FVec Ideal S16x2048x1024 .f32 :=
  result (m ((c : Thread nD τ).loc main_arg0)) (m ((c : Thread nD τ).loc main_arg1)) (m ((c : Thread nD τ).loc main_arg2)) (m ((c : Thread nD τ).loc main_arg3)) (m ((c : Thread nD τ).loc main_arg4))

end Cert.Kernel3Ideal.Comb

end
-- ==== Proof.Comb.Reg0.lean ====
module

public import proofs.«01_k».proof.Proof.Comb.Res
public import Idealize.ShloMosaic.Lib.Pipeline.ValueKit

@[expose] public section

set_option maxRecDepth 16384

noncomputable section

namespace Cert.Kernel3Ideal.Comb

open Idealize.ShloMosaic Idealize.ShloMosaic.TcCoe Idealize.ShloMosaic.Tactic
open Idealize.SL.Sem
open Cert.Kernel3Ideal.Gen

/-! ## Call 0: the blocks it reads and writes, and its result array at the end -/

namespace Reg0

variable (m : (ℓ : Loc nD τ sig) → Buf (Elt Ideal) ℓ) (ρ : Dev nD → PrngReg) (c : Dev nD)

/-- The batch and the block of tokens of a point. -/
abbrev pI (t : Fin cfg0.N) : Fin 4 := grid0.coords t 0
abbrev pJ (t : Fin cfg0.N) : Fin 4 := grid0.coords t 1
abbrev bat (t : Fin cfg0.N) : Fin 16 := ⟨0 + (pI t).val, by have := (pI t).isLt; omega⟩
abbrev tok (t : Fin cfg0.N) (r : Fin 512) : Fin 2048 := ⟨(pJ t).val * 512 + r.val, by have := (pJ t).isLt; have := r.isLt; omega⟩

theorem slice_apply (k0 : Fin 2) (k : Fin 4) (i : Fin 4) (s : Fin 2048) (l : Fin 256) :
    (V1 m ρ c main_v0 : S2x4x4x2048x256.Idx → BitVec 32) (ix5 k0 k i s l)
      = (m ((c : Thread nD τ).loc main_arg0) : S2x4x16x2048x256.Idx → BitVec 32) (ix5 k0 k ⟨0 + i.val, by have := i.isLt; omega⟩ s l) := by
  have h : (V1 m ρ c main_v0 : S2x4x4x2048x256.Idx → BitVec 32) = extractStridedSlice S2x4x4x2048x256 ![0, 0, 0, 0, 0] (W0 m ρ c (Proc.devRef .tc main_arg0) : S2x4x16x2048x256.Idx → BitVec 32) slices_S2x4x16x2048x256_S2x4x4x2048x256_0_0_0_0_0 := by
    show StableHlo.after hostOps0 (W0 m ρ c) (Proc.devRef .tc main_v0) = _
    after_results_simp
  rw [h, W0_args m ρ c main_arg0 (by decide)]
  pointwise []

theorem scale_apply (n : Fin 1024) :
    (V1 m ρ c main_v1 : S1x1024.Idx → EReal) (ix2 0 n) = (m ((c : Thread nD τ).loc main_arg4) : S1024.Idx → EReal) (ix1 n) := by
  have h : (V1 m ρ c main_v1 : S1x1024.Idx → EReal) = shapeCast S1x1024 (W0 m ρ c (Proc.devRef .tc main_arg4) : S1024.Idx → EReal) shapeCasts_S1024_S1x1024 := by
    show StableHlo.after hostOps0 (W0 m ρ c) (Proc.devRef .tc main_v1) = _
    after_results_simp
    rfl
  rw [h, W0_args m ρ c main_arg4 (by decide)]
  pointwise []

theorem blk0_apply (t : Fin cfg0.N) (r : Fin 512) (k0 : Fin 2) (k : Fin 4) (l : Fin 256) :
    (iblk0 (V1 m ρ) c 0 t : S2x4x1x512x256.Idx → BitVec 32) (ix5 k0 k 0 r l) = (m ((c : Thread nD τ).loc main_arg0) : S2x4x16x2048x256.Idx → BitVec 32) (ix5 k0 k (bat t) (tok t r) l) := by
  refine have hx : (((cfg0.win 0).blk t).view.emb (ix5 k0 k 0 r l) : S2x4x4x2048x256.Idx) = ix5 k0 k (pI t) (tok t r) l := ?_; ?_
  rotate_left
  · exact (congrArg (V1 m ρ c main_v0 : S2x4x4x2048x256.Idx → BitVec 32) hx).trans (slice_apply m ρ c k0 k (pI t) (tok t r) l)
  funext a
  refine Fin.ext (((cfg0.win 0).rect_emb_val t (ix5 k0 k 0 r l) a).trans ?_)
  match a with
  | ⟨0, _⟩ =>
    show 0 * 2 + k0.val = k0.val
    omega
  | ⟨1, _⟩ =>
    show 0 * 4 + k.val = k.val
    omega
  | ⟨2, _⟩ =>
    show (BitVec.ofNat 32 (pI t).val).toNat * 1 + 0 = (pI t).val
    rw [block]
    omega
  | ⟨3, _⟩ =>
    show (BitVec.ofNat 32 (pJ t).val).toNat * 512 + r.val = (pJ t).val * 512 + r.val
    rw [block]
  | ⟨4, _⟩ =>
    show 0 * 256 + l.val = l.val
    omega

theorem blk1_apply (t : Fin cfg0.N) (r : Fin 512) (k : Fin 4) :
    (iblk0 (V1 m ρ) c 1 t : S1x512x4.Idx → EReal) (ix3 0 r k) = (m ((c : Thread nD τ).loc main_arg1) : S16x2048x4.Idx → EReal) (ix3 (bat t) (tok t r) k) := by
  refine have hx : (((cfg0.win 1).blk t).view.emb (ix3 0 r k) : S16x2048x4.Idx) = ix3 (bat t) (tok t r) k := ?_; ?_
  rotate_left
  · exact (congrArg (V1 m ρ c main_arg1 : S16x2048x4.Idx → EReal) hx).trans (congrFun (W1_args m ρ c main_arg1 (by decide)) _)
  funext a
  refine Fin.ext (((cfg0.win 1).rect_emb_val t (ix3 0 r k) a).trans ?_)
  match a with
  | ⟨0, _⟩ =>
    show (Scalar.addi (BitVec.ofNat 32 0) (BitVec.ofNat 32 (pI t).val)).toNat * 1 + 0 = 0 + (pI t).val
    rw [batch _ (by decide)]
    omega
  | ⟨1, _⟩ =>
    show (BitVec.ofNat 32 (pJ t).val).toNat * 512 + r.val = (pJ t).val * 512 + r.val
    rw [block]
  | ⟨2, _⟩ =>
    show 0 * 4 + k.val = k.val
    omega

theorem blk2_apply (t : Fin cfg0.N) (r : Fin 512) (n : Fin 1024) :
    (iblk0 (V1 m ρ) c 2 t : S1x512x1024.Idx → EReal) (ix3 0 r n) = (m ((c : Thread nD τ).loc main_arg2) : S16x2048x1024.Idx → EReal) (ix3 (bat t) (tok t r) n) := by
  refine have hx : (((cfg0.win 2).blk t).view.emb (ix3 0 r n) : S16x2048x1024.Idx) = ix3 (bat t) (tok t r) n := ?_; ?_
  rotate_left
  · exact (congrArg (V1 m ρ c main_arg2 : S16x2048x1024.Idx → EReal) hx).trans (congrFun (W1_args m ρ c main_arg2 (by decide)) _)
  funext a
  refine Fin.ext (((cfg0.win 2).rect_emb_val t (ix3 0 r n) a).trans ?_)
  match a with
  | ⟨0, _⟩ =>
    show (Scalar.addi (BitVec.ofNat 32 0) (BitVec.ofNat 32 (pI t).val)).toNat * 1 + 0 = 0 + (pI t).val
    rw [batch _ (by decide)]
    omega
  | ⟨1, _⟩ =>
    show (BitVec.ofNat 32 (pJ t).val).toNat * 512 + r.val = (pJ t).val * 512 + r.val
    rw [block]
  | ⟨2, _⟩ =>
    show 0 * 1024 + n.val = n.val
    omega

theorem blk3_apply (t : Fin cfg0.N) (q : Fin 6) (n : Fin 1024) :
    (iblk0 (V1 m ρ) c 3 t : S1x6x1024.Idx → EReal) (ix3 0 q n) = (m ((c : Thread nD τ).loc main_arg3) : S16x6x1024.Idx → EReal) (ix3 (bat t) q n) := by
  refine have hx : (((cfg0.win 3).blk t).view.emb (ix3 0 q n) : S16x6x1024.Idx) = ix3 (bat t) q n := ?_; ?_
  rotate_left
  · exact (congrArg (V1 m ρ c main_arg3 : S16x6x1024.Idx → EReal) hx).trans (congrFun (W1_args m ρ c main_arg3 (by decide)) _)
  funext a
  refine Fin.ext (((cfg0.win 3).rect_emb_val t (ix3 0 q n) a).trans ?_)
  match a with
  | ⟨0, _⟩ =>
    show (Scalar.addi (BitVec.ofNat 32 0) (BitVec.ofNat 32 (pI t).val)).toNat * 1 + 0 = 0 + (pI t).val
    rw [batch _ (by decide)]
    omega
  | ⟨1, _⟩ =>
    show 0 * 6 + q.val = q.val
    omega
  | ⟨2, _⟩ =>
    show 0 * 1024 + n.val = n.val
    omega

theorem blk4_apply (t : Fin cfg0.N) (n : Fin 1024) :
    (iblk0 (V1 m ρ) c 4 t : S1x1024.Idx → EReal) (ix2 0 n) = (m ((c : Thread nD τ).loc main_arg4) : S1024.Idx → EReal) (ix1 n) := by
  refine have hx : (((cfg0.win 4).blk t).view.emb (ix2 0 n) : S1x1024.Idx) = ix2 0 n := ?_; ?_
  rotate_left
  · exact (congrArg (V1 m ρ c main_v1 : S1x1024.Idx → EReal) hx).trans (scale_apply m ρ c n)
  funext a
  refine Fin.ext (((cfg0.win 4).rect_emb_val t (ix2 0 n) a).trans ?_)
  match a with
  | ⟨0, _⟩ =>
    show 0 * 1 + 0 = 0
    omega
  | ⟨1, _⟩ =>
    show 0 * 1024 + n.val = n.val
    omega

theorem emb5 (t : Fin cfg0.N) (r : Fin 512) (n : Fin 1024) :
    (((cfg0.win 5).blk t).view.emb (ix3 0 r n) : S16x2048x1024.Idx) = ix3 (bat t) (tok t r) n := by
  funext a
  refine Fin.ext (((cfg0.win 5).rect_emb_val t (ix3 0 r n) a).trans ?_)
  match a with
  | ⟨0, _⟩ =>
    show (Scalar.addi (BitVec.ofNat 32 0) (BitVec.ofNat 32 (pI t).val)).toNat * 1 + 0 = 0 + (pI t).val
    rw [batch _ (by decide)]
    omega
  | ⟨1, _⟩ =>
    show (BitVec.ofNat 32 (pJ t).val).toNat * 512 + r.val = (pJ t).val * 512 + r.val
    rw [block]
  | ⟨2, _⟩ =>
    show 0 * 1024 + n.val = n.val
    omega

/-- What a point leaves is its block of the result. -/
theorem after_apply (t : Fin cfg0.N) (r : Fin 512) (n : Fin 1024) :
    ((dat0 (V1 m ρ) c).after 5 t : S1x512x1024.Idx → EReal) (ix3 0 r n) = RES m c (ix3 (bat t) (tok t r) n) := by
  rw [after0_5]
  rw [out0_eq]
  exact pay_row _ _ _ _ _ _ _ _ _ _ (bat t) (tok t r) r (blk0_apply m ρ c t r) (blk1_apply m ρ c t r) (blk2_apply m ρ c t r) (blk3_apply m ρ c t 5) (blk4_apply m ρ c t) n

theorem flushed_eq (t : Fin cfg0.N) (hf : (cfg0.win 5).flush t = true) :
    (dat0 (V1 m ρ) c).flushed 5 t = ((cfg0.win 5).blk t).view.read (Elt Ideal) (RES m c) := by
  funext y
  have hy : (y : S1x512x1024.Idx) = ix3 0 (y 1) (y 2) := by
    funext a
    match a with
    | ⟨0, _⟩ => exact Subsingleton.elim (α := Fin 1) _ _
    | ⟨1, _⟩ => rfl
    | ⟨2, _⟩ => rfl
  refine (congrArg ((dat0 (V1 m ρ) c).after 5 t : S1x512x1024.Idx → EReal) hy).trans ?_
  refine (after_apply m ρ c t (y 1) (y 2)).trans ?_
  refine congrArg (RES m c) ?_
  exact (emb5 t (y 1) (y 2)).symm.trans (congrArg (fun z : S1x512x1024.Idx => (((cfg0.win 5).blk t).view.emb z : S16x2048x1024.Idx)) hy.symm)

/-- Every batch of the four, and every block of tokens, has its point. -/
theorem point (i j : Fin 4) : ∃ t : Fin cfg0.N, pI t = i ∧ pJ t = j := by
  obtain ⟨t, hi, hj⟩ := (by decide +kernel : ∀ i j : Fin 4, ∃ t : Fin grid0.N, (grid0.coords t 0).val = i.val ∧ (grid0.coords t 1).val = j.val) i j
  exact ⟨t, Fin.ext hi, Fin.ext hj⟩

theorem cover (b : Fin 16) (hb : 0 ≤ b.val ∧ b.val < 0 + 4) (s : Fin 2048) (n : Fin 1024) :
    ∃ t : Fin cfg0.N, (cfg0.win 5).flush t = true ∧ (ix3 b s n : S16x2048x1024.Idx) ∈ ((cfg0.win 5).blk t).view.set := by
  have hs := s.isLt
  obtain ⟨t, hi, hj⟩ := point ⟨b.val - 0, by omega⟩ ⟨s.val / 512, by omega⟩
  refine ⟨t, flush0_5 t, ?_⟩
  have e := emb5 t ⟨s.val % 512, Nat.mod_lt _ (by decide)⟩ n
  have hx : (ix3 (bat t) (tok t ⟨s.val % 512, Nat.mod_lt _ (by decide)⟩) n : S16x2048x1024.Idx) = ix3 b s n := by
    have e1 : bat t = b := Fin.ext (show 0 + (pI t).val = b.val by rw [hi]; show 0 + (b.val - 0) = b.val; omega)
    have e2 : tok t ⟨s.val % 512, Nat.mod_lt _ (by decide)⟩ = s := Fin.ext (show (pJ t).val * 512 + s.val % 512 = s.val by rw [hj]; show s.val / 512 * 512 + s.val % 512 = s.val; omega)
    rw [e1, e2]
  exact Eq.mp (congrArg (· ∈ _) (e.trans hx)) (View.emb_mem_set _ _)

/-- The result array after the call: the result on the batches so far. -/
theorem arr (b : Fin 16) (hb : b.val < 0 + 4) (s : Fin 2048) (n : Fin 1024) :
    (W2 m ρ c (Proc.devRef .tc main_v2) : S16x2048x1024.Idx → EReal) (ix3 b s n) = RES m c (ix3 b s n) := by
  refine (congrFun (W2_arr m ρ c 5) (ix3 b s n : S16x2048x1024.Idx)).trans ?_
  by_cases h : 0 ≤ b.val
  · obtain ⟨t, hf, hi⟩ := cover b ⟨h, hb⟩ s n
    exact (dat0 (V1 m ρ) c).arrAt_apply_of_mem 5 (RES m c) (fun t hf => flushed_eq m ρ c t hf) cfg0.N t _ t.isLt hf hi
  · exact absurd (Nat.zero_le _) h

end Reg0

end Cert.Kernel3Ideal.Comb

end
-- ==== Proof.Comb.Reg1.lean ====
module

public import proofs.«01_k».proof.Proof.Comb.Res
public import Idealize.ShloMosaic.Lib.Pipeline.ValueKit
public import proofs.«01_k».proof.Proof.Comb.Reg0

@[expose] public section

set_option maxRecDepth 16384

noncomputable section

namespace Cert.Kernel3Ideal.Comb

open Idealize.ShloMosaic Idealize.ShloMosaic.TcCoe Idealize.ShloMosaic.Tactic
open Idealize.SL.Sem
open Cert.Kernel3Ideal.Gen

/-! ## Call 1: the blocks it reads and writes, and its result array at the end -/

namespace Reg1

variable (m : (ℓ : Loc nD τ sig) → Buf (Elt Ideal) ℓ) (ρ : Dev nD → PrngReg) (c : Dev nD)

/-- The batch and the block of tokens of a point. -/
abbrev pI (t : Fin cfg1.N) : Fin 4 := grid1.coords t 0
abbrev pJ (t : Fin cfg1.N) : Fin 4 := grid1.coords t 1
abbrev bat (t : Fin cfg1.N) : Fin 16 := ⟨4 + (pI t).val, by have := (pI t).isLt; omega⟩
abbrev tok (t : Fin cfg1.N) (r : Fin 512) : Fin 2048 := ⟨(pJ t).val * 512 + r.val, by have := (pJ t).isLt; have := r.isLt; omega⟩

theorem slice_apply (k0 : Fin 2) (k : Fin 4) (i : Fin 4) (s : Fin 2048) (l : Fin 256) :
    (V3 m ρ c main_v3 : S2x4x4x2048x256.Idx → BitVec 32) (ix5 k0 k i s l)
      = (m ((c : Thread nD τ).loc main_arg0) : S2x4x16x2048x256.Idx → BitVec 32) (ix5 k0 k ⟨4 + i.val, by have := i.isLt; omega⟩ s l) := by
  have h : (V3 m ρ c main_v3 : S2x4x4x2048x256.Idx → BitVec 32) = extractStridedSlice S2x4x4x2048x256 ![0, 0, 4, 0, 0] (W2 m ρ c (Proc.devRef .tc main_arg0) : S2x4x16x2048x256.Idx → BitVec 32) slices_S2x4x16x2048x256_S2x4x4x2048x256_0_0_4_0_0 := by
    show StableHlo.after hostOps1 (W2 m ρ c) (Proc.devRef .tc main_v3) = _
    after_results_simp
  rw [h, W2_args m ρ c main_arg0 (by decide)]
  pointwise []

theorem scale_apply (n : Fin 1024) :
    (V3 m ρ c main_v4 : S1x1024.Idx → EReal) (ix2 0 n) = (m ((c : Thread nD τ).loc main_arg4) : S1024.Idx → EReal) (ix1 n) := by
  have h : (V3 m ρ c main_v4 : S1x1024.Idx → EReal) = shapeCast S1x1024 (W2 m ρ c (Proc.devRef .tc main_arg4) : S1024.Idx → EReal) shapeCasts_S1024_S1x1024 := by
    show StableHlo.after hostOps1 (W2 m ρ c) (Proc.devRef .tc main_v4) = _
    after_results_simp
    rfl
  rw [h, W2_args m ρ c main_arg4 (by decide)]
  pointwise []

theorem blk0_apply (t : Fin cfg1.N) (r : Fin 512) (k0 : Fin 2) (k : Fin 4) (l : Fin 256) :
    (iblk1 (V3 m ρ) c 0 t : S2x4x1x512x256.Idx → BitVec 32) (ix5 k0 k 0 r l) = (m ((c : Thread nD τ).loc main_arg0) : S2x4x16x2048x256.Idx → BitVec 32) (ix5 k0 k (bat t) (tok t r) l) := by
  refine have hx : (((cfg1.win 0).blk t).view.emb (ix5 k0 k 0 r l) : S2x4x4x2048x256.Idx) = ix5 k0 k (pI t) (tok t r) l := ?_; ?_
  rotate_left
  · exact (congrArg (V3 m ρ c main_v3 : S2x4x4x2048x256.Idx → BitVec 32) hx).trans (slice_apply m ρ c k0 k (pI t) (tok t r) l)
  funext a
  refine Fin.ext (((cfg1.win 0).rect_emb_val t (ix5 k0 k 0 r l) a).trans ?_)
  match a with
  | ⟨0, _⟩ =>
    show 0 * 2 + k0.val = k0.val
    omega
  | ⟨1, _⟩ =>
    show 0 * 4 + k.val = k.val
    omega
  | ⟨2, _⟩ =>
    show (BitVec.ofNat 32 (pI t).val).toNat * 1 + 0 = (pI t).val
    rw [block]
    omega
  | ⟨3, _⟩ =>
    show (BitVec.ofNat 32 (pJ t).val).toNat * 512 + r.val = (pJ t).val * 512 + r.val
    rw [block]
  | ⟨4, _⟩ =>
    show 0 * 256 + l.val = l.val
    omega

theorem blk1_apply (t : Fin cfg1.N) (r : Fin 512) (k : Fin 4) :
    (iblk1 (V3 m ρ) c 1 t : S1x512x4.Idx → EReal) (ix3 0 r k) = (m ((c : Thread nD τ).loc main_arg1) : S16x2048x4.Idx → EReal) (ix3 (bat t) (tok t r) k) := by
  refine have hx : (((cfg1.win 1).blk t).view.emb (ix3 0 r k) : S16x2048x4.Idx) = ix3 (bat t) (tok t r) k := ?_; ?_
  rotate_left
  · exact (congrArg (V3 m ρ c main_arg1 : S16x2048x4.Idx → EReal) hx).trans (congrFun (W3_args m ρ c main_arg1 (by decide)) _)
  funext a
  refine Fin.ext (((cfg1.win 1).rect_emb_val t (ix3 0 r k) a).trans ?_)
  match a with
  | ⟨0, _⟩ =>
    show (Scalar.addi (BitVec.ofNat 32 4) (BitVec.ofNat 32 (pI t).val)).toNat * 1 + 0 = 4 + (pI t).val
    rw [batch _ (by decide)]
    omega
  | ⟨1, _⟩ =>
    show (BitVec.ofNat 32 (pJ t).val).toNat * 512 + r.val = (pJ t).val * 512 + r.val
    rw [block]
  | ⟨2, _⟩ =>
    show 0 * 4 + k.val = k.val
    omega

theorem blk2_apply (t : Fin cfg1.N) (r : Fin 512) (n : Fin 1024) :
    (iblk1 (V3 m ρ) c 2 t : S1x512x1024.Idx → EReal) (ix3 0 r n) = (m ((c : Thread nD τ).loc main_arg2) : S16x2048x1024.Idx → EReal) (ix3 (bat t) (tok t r) n) := by
  refine have hx : (((cfg1.win 2).blk t).view.emb (ix3 0 r n) : S16x2048x1024.Idx) = ix3 (bat t) (tok t r) n := ?_; ?_
  rotate_left
  · exact (congrArg (V3 m ρ c main_arg2 : S16x2048x1024.Idx → EReal) hx).trans (congrFun (W3_args m ρ c main_arg2 (by decide)) _)
  funext a
  refine Fin.ext (((cfg1.win 2).rect_emb_val t (ix3 0 r n) a).trans ?_)
  match a with
  | ⟨0, _⟩ =>
    show (Scalar.addi (BitVec.ofNat 32 4) (BitVec.ofNat 32 (pI t).val)).toNat * 1 + 0 = 4 + (pI t).val
    rw [batch _ (by decide)]
    omega
  | ⟨1, _⟩ =>
    show (BitVec.ofNat 32 (pJ t).val).toNat * 512 + r.val = (pJ t).val * 512 + r.val
    rw [block]
  | ⟨2, _⟩ =>
    show 0 * 1024 + n.val = n.val
    omega

theorem blk3_apply (t : Fin cfg1.N) (q : Fin 6) (n : Fin 1024) :
    (iblk1 (V3 m ρ) c 3 t : S1x6x1024.Idx → EReal) (ix3 0 q n) = (m ((c : Thread nD τ).loc main_arg3) : S16x6x1024.Idx → EReal) (ix3 (bat t) q n) := by
  refine have hx : (((cfg1.win 3).blk t).view.emb (ix3 0 q n) : S16x6x1024.Idx) = ix3 (bat t) q n := ?_; ?_
  rotate_left
  · exact (congrArg (V3 m ρ c main_arg3 : S16x6x1024.Idx → EReal) hx).trans (congrFun (W3_args m ρ c main_arg3 (by decide)) _)
  funext a
  refine Fin.ext (((cfg1.win 3).rect_emb_val t (ix3 0 q n) a).trans ?_)
  match a with
  | ⟨0, _⟩ =>
    show (Scalar.addi (BitVec.ofNat 32 4) (BitVec.ofNat 32 (pI t).val)).toNat * 1 + 0 = 4 + (pI t).val
    rw [batch _ (by decide)]
    omega
  | ⟨1, _⟩ =>
    show 0 * 6 + q.val = q.val
    omega
  | ⟨2, _⟩ =>
    show 0 * 1024 + n.val = n.val
    omega

theorem blk4_apply (t : Fin cfg1.N) (n : Fin 1024) :
    (iblk1 (V3 m ρ) c 4 t : S1x1024.Idx → EReal) (ix2 0 n) = (m ((c : Thread nD τ).loc main_arg4) : S1024.Idx → EReal) (ix1 n) := by
  refine have hx : (((cfg1.win 4).blk t).view.emb (ix2 0 n) : S1x1024.Idx) = ix2 0 n := ?_; ?_
  rotate_left
  · exact (congrArg (V3 m ρ c main_v4 : S1x1024.Idx → EReal) hx).trans (scale_apply m ρ c n)
  funext a
  refine Fin.ext (((cfg1.win 4).rect_emb_val t (ix2 0 n) a).trans ?_)
  match a with
  | ⟨0, _⟩ =>
    show 0 * 1 + 0 = 0
    omega
  | ⟨1, _⟩ =>
    show 0 * 1024 + n.val = n.val
    omega

theorem emb5 (t : Fin cfg1.N) (r : Fin 512) (n : Fin 1024) :
    (((cfg1.win 5).blk t).view.emb (ix3 0 r n) : S16x2048x1024.Idx) = ix3 (bat t) (tok t r) n := by
  funext a
  refine Fin.ext (((cfg1.win 5).rect_emb_val t (ix3 0 r n) a).trans ?_)
  match a with
  | ⟨0, _⟩ =>
    show (Scalar.addi (BitVec.ofNat 32 4) (BitVec.ofNat 32 (pI t).val)).toNat * 1 + 0 = 4 + (pI t).val
    rw [batch _ (by decide)]
    omega
  | ⟨1, _⟩ =>
    show (BitVec.ofNat 32 (pJ t).val).toNat * 512 + r.val = (pJ t).val * 512 + r.val
    rw [block]
  | ⟨2, _⟩ =>
    show 0 * 1024 + n.val = n.val
    omega

/-- What a point leaves is its block of the result. -/
theorem after_apply (t : Fin cfg1.N) (r : Fin 512) (n : Fin 1024) :
    ((dat1 (V3 m ρ) c).after 5 t : S1x512x1024.Idx → EReal) (ix3 0 r n) = RES m c (ix3 (bat t) (tok t r) n) := by
  rw [after1_5]
  unfold outsAt1
  rw [out1_eq]
  exact pay_row _ _ _ _ _ _ _ _ _ _ (bat t) (tok t r) r (blk0_apply m ρ c t r) (blk1_apply m ρ c t r) (blk2_apply m ρ c t r) (blk3_apply m ρ c t 5) (blk4_apply m ρ c t) n

theorem flushed_eq (t : Fin cfg1.N) (hf : (cfg1.win 5).flush t = true) :
    (dat1 (V3 m ρ) c).flushed 5 t = ((cfg1.win 5).blk t).view.read (Elt Ideal) (RES m c) := by
  funext y
  have hy : (y : S1x512x1024.Idx) = ix3 0 (y 1) (y 2) := by
    funext a
    match a with
    | ⟨0, _⟩ => exact Subsingleton.elim (α := Fin 1) _ _
    | ⟨1, _⟩ => rfl
    | ⟨2, _⟩ => rfl
  refine (congrArg ((dat1 (V3 m ρ) c).after 5 t : S1x512x1024.Idx → EReal) hy).trans ?_
  refine (after_apply m ρ c t (y 1) (y 2)).trans ?_
  refine congrArg (RES m c) ?_
  exact (emb5 t (y 1) (y 2)).symm.trans (congrArg (fun z : S1x512x1024.Idx => (((cfg1.win 5).blk t).view.emb z : S16x2048x1024.Idx)) hy.symm)

/-- Every batch of the four, and every block of tokens, has its point. -/
theorem point (i j : Fin 4) : ∃ t : Fin cfg1.N, pI t = i ∧ pJ t = j := by
  obtain ⟨t, hi, hj⟩ := (by decide +kernel : ∀ i j : Fin 4, ∃ t : Fin grid1.N, (grid1.coords t 0).val = i.val ∧ (grid1.coords t 1).val = j.val) i j
  exact ⟨t, Fin.ext hi, Fin.ext hj⟩

theorem cover (b : Fin 16) (hb : 4 ≤ b.val ∧ b.val < 4 + 4) (s : Fin 2048) (n : Fin 1024) :
    ∃ t : Fin cfg1.N, (cfg1.win 5).flush t = true ∧ (ix3 b s n : S16x2048x1024.Idx) ∈ ((cfg1.win 5).blk t).view.set := by
  have hs := s.isLt
  obtain ⟨t, hi, hj⟩ := point ⟨b.val - 4, by omega⟩ ⟨s.val / 512, by omega⟩
  refine ⟨t, flush1_5 t, ?_⟩
  have e := emb5 t ⟨s.val % 512, Nat.mod_lt _ (by decide)⟩ n
  have hx : (ix3 (bat t) (tok t ⟨s.val % 512, Nat.mod_lt _ (by decide)⟩) n : S16x2048x1024.Idx) = ix3 b s n := by
    have e1 : bat t = b := Fin.ext (show 4 + (pI t).val = b.val by rw [hi]; show 4 + (b.val - 4) = b.val; omega)
    have e2 : tok t ⟨s.val % 512, Nat.mod_lt _ (by decide)⟩ = s := Fin.ext (show (pJ t).val * 512 + s.val % 512 = s.val by rw [hj]; show s.val / 512 * 512 + s.val % 512 = s.val; omega)
    rw [e1, e2]
  exact Eq.mp (congrArg (· ∈ _) (e.trans hx)) (View.emb_mem_set _ _)

/-- The result array after the call: the result on the batches so far. -/
theorem arr (b : Fin 16) (hb : b.val < 4 + 4) (s : Fin 2048) (n : Fin 1024) :
    (W4 m ρ c (Proc.devRef .tc main_v5) : S16x2048x1024.Idx → EReal) (ix3 b s n) = RES m c (ix3 b s n) := by
  refine (congrFun (W4_arr m ρ c 5) (ix3 b s n : S16x2048x1024.Idx)).trans ?_
  by_cases h : 4 ≤ b.val
  · obtain ⟨t, hf, hi⟩ := cover b ⟨h, hb⟩ s n
    exact (dat1 (V3 m ρ) c).arrAt_apply_of_mem 5 (RES m c) (fun t hf => flushed_eq m ρ c t hf) cfg1.N t _ t.isLt hf hi
  · refine ((dat1 (V3 m ρ) c).arrAt_eq_piecewise 5 (RES m c) (fun t hf => flushed_eq m ρ c t hf) _).trans ?_
    split_ifs
    · rfl
    · refine (congrFun (A_eq1 (V3 m ρ) c 5) _).trans ?_
      have e : (V3 m ρ c main_v5 : S16x2048x1024.Idx → EReal) = (W2 m ρ c (Proc.devRef .tc main_v2) : S16x2048x1024.Idx → EReal) := by
        show StableHlo.after hostOps1 (W2 m ρ c) (Proc.devRef .tc main_v5) = _
        after_results_simp
        rfl
      exact (congrFun e _).trans (Reg0.arr m ρ c b (by omega) s n)

end Reg1

end Cert.Kernel3Ideal.Comb

end
-- ==== Proof.Comb.Reg2.lean ====
module

public import proofs.«01_k».proof.Proof.Comb.Res
public import Idealize.ShloMosaic.Lib.Pipeline.ValueKit
public import proofs.«01_k».proof.Proof.Comb.Reg1

@[expose] public section

set_option maxRecDepth 16384

noncomputable section

namespace Cert.Kernel3Ideal.Comb

open Idealize.ShloMosaic Idealize.ShloMosaic.TcCoe Idealize.ShloMosaic.Tactic
open Idealize.SL.Sem
open Cert.Kernel3Ideal.Gen

/-! ## Call 2: the blocks it reads and writes, and its result array at the end -/

namespace Reg2

variable (m : (ℓ : Loc nD τ sig) → Buf (Elt Ideal) ℓ) (ρ : Dev nD → PrngReg) (c : Dev nD)

/-- The batch and the block of tokens of a point. -/
abbrev pI (t : Fin cfg2.N) : Fin 4 := grid2.coords t 0
abbrev pJ (t : Fin cfg2.N) : Fin 4 := grid2.coords t 1
abbrev bat (t : Fin cfg2.N) : Fin 16 := ⟨8 + (pI t).val, by have := (pI t).isLt; omega⟩
abbrev tok (t : Fin cfg2.N) (r : Fin 512) : Fin 2048 := ⟨(pJ t).val * 512 + r.val, by have := (pJ t).isLt; have := r.isLt; omega⟩

theorem slice_apply (k0 : Fin 2) (k : Fin 4) (i : Fin 4) (s : Fin 2048) (l : Fin 256) :
    (V5 m ρ c main_v6 : S2x4x4x2048x256.Idx → BitVec 32) (ix5 k0 k i s l)
      = (m ((c : Thread nD τ).loc main_arg0) : S2x4x16x2048x256.Idx → BitVec 32) (ix5 k0 k ⟨8 + i.val, by have := i.isLt; omega⟩ s l) := by
  have h : (V5 m ρ c main_v6 : S2x4x4x2048x256.Idx → BitVec 32) = extractStridedSlice S2x4x4x2048x256 ![0, 0, 8, 0, 0] (W4 m ρ c (Proc.devRef .tc main_arg0) : S2x4x16x2048x256.Idx → BitVec 32) slices_S2x4x16x2048x256_S2x4x4x2048x256_0_0_8_0_0 := by
    show StableHlo.after hostOps2 (W4 m ρ c) (Proc.devRef .tc main_v6) = _
    after_results_simp
  rw [h, W4_args m ρ c main_arg0 (by decide)]
  pointwise []

theorem scale_apply (n : Fin 1024) :
    (V5 m ρ c main_v7 : S1x1024.Idx → EReal) (ix2 0 n) = (m ((c : Thread nD τ).loc main_arg4) : S1024.Idx → EReal) (ix1 n) := by
  have h : (V5 m ρ c main_v7 : S1x1024.Idx → EReal) = shapeCast S1x1024 (W4 m ρ c (Proc.devRef .tc main_arg4) : S1024.Idx → EReal) shapeCasts_S1024_S1x1024 := by
    show StableHlo.after hostOps2 (W4 m ρ c) (Proc.devRef .tc main_v7) = _
    after_results_simp
    rfl
  rw [h, W4_args m ρ c main_arg4 (by decide)]
  pointwise []

theorem blk0_apply (t : Fin cfg2.N) (r : Fin 512) (k0 : Fin 2) (k : Fin 4) (l : Fin 256) :
    (iblk2 (V5 m ρ) c 0 t : S2x4x1x512x256.Idx → BitVec 32) (ix5 k0 k 0 r l) = (m ((c : Thread nD τ).loc main_arg0) : S2x4x16x2048x256.Idx → BitVec 32) (ix5 k0 k (bat t) (tok t r) l) := by
  refine have hx : (((cfg2.win 0).blk t).view.emb (ix5 k0 k 0 r l) : S2x4x4x2048x256.Idx) = ix5 k0 k (pI t) (tok t r) l := ?_; ?_
  rotate_left
  · exact (congrArg (V5 m ρ c main_v6 : S2x4x4x2048x256.Idx → BitVec 32) hx).trans (slice_apply m ρ c k0 k (pI t) (tok t r) l)
  funext a
  refine Fin.ext (((cfg2.win 0).rect_emb_val t (ix5 k0 k 0 r l) a).trans ?_)
  match a with
  | ⟨0, _⟩ =>
    show 0 * 2 + k0.val = k0.val
    omega
  | ⟨1, _⟩ =>
    show 0 * 4 + k.val = k.val
    omega
  | ⟨2, _⟩ =>
    show (BitVec.ofNat 32 (pI t).val).toNat * 1 + 0 = (pI t).val
    rw [block]
    omega
  | ⟨3, _⟩ =>
    show (BitVec.ofNat 32 (pJ t).val).toNat * 512 + r.val = (pJ t).val * 512 + r.val
    rw [block]
  | ⟨4, _⟩ =>
    show 0 * 256 + l.val = l.val
    omega

theorem blk1_apply (t : Fin cfg2.N) (r : Fin 512) (k : Fin 4) :
    (iblk2 (V5 m ρ) c 1 t : S1x512x4.Idx → EReal) (ix3 0 r k) = (m ((c : Thread nD τ).loc main_arg1) : S16x2048x4.Idx → EReal) (ix3 (bat t) (tok t r) k) := by
  refine have hx : (((cfg2.win 1).blk t).view.emb (ix3 0 r k) : S16x2048x4.Idx) = ix3 (bat t) (tok t r) k := ?_; ?_
  rotate_left
  · exact (congrArg (V5 m ρ c main_arg1 : S16x2048x4.Idx → EReal) hx).trans (congrFun (W5_args m ρ c main_arg1 (by decide)) _)
  funext a
  refine Fin.ext (((cfg2.win 1).rect_emb_val t (ix3 0 r k) a).trans ?_)
  match a with
  | ⟨0, _⟩ =>
    show (Scalar.addi (BitVec.ofNat 32 8) (BitVec.ofNat 32 (pI t).val)).toNat * 1 + 0 = 8 + (pI t).val
    rw [batch _ (by decide)]
    omega
  | ⟨1, _⟩ =>
    show (BitVec.ofNat 32 (pJ t).val).toNat * 512 + r.val = (pJ t).val * 512 + r.val
    rw [block]
  | ⟨2, _⟩ =>
    show 0 * 4 + k.val = k.val
    omega

theorem blk2_apply (t : Fin cfg2.N) (r : Fin 512) (n : Fin 1024) :
    (iblk2 (V5 m ρ) c 2 t : S1x512x1024.Idx → EReal) (ix3 0 r n) = (m ((c : Thread nD τ).loc main_arg2) : S16x2048x1024.Idx → EReal) (ix3 (bat t) (tok t r) n) := by
  refine have hx : (((cfg2.win 2).blk t).view.emb (ix3 0 r n) : S16x2048x1024.Idx) = ix3 (bat t) (tok t r) n := ?_; ?_
  rotate_left
  · exact (congrArg (V5 m ρ c main_arg2 : S16x2048x1024.Idx → EReal) hx).trans (congrFun (W5_args m ρ c main_arg2 (by decide)) _)
  funext a
  refine Fin.ext (((cfg2.win 2).rect_emb_val t (ix3 0 r n) a).trans ?_)
  match a with
  | ⟨0, _⟩ =>
    show (Scalar.addi (BitVec.ofNat 32 8) (BitVec.ofNat 32 (pI t).val)).toNat * 1 + 0 = 8 + (pI t).val
    rw [batch _ (by decide)]
    omega
  | ⟨1, _⟩ =>
    show (BitVec.ofNat 32 (pJ t).val).toNat * 512 + r.val = (pJ t).val * 512 + r.val
    rw [block]
  | ⟨2, _⟩ =>
    show 0 * 1024 + n.val = n.val
    omega

theorem blk3_apply (t : Fin cfg2.N) (q : Fin 6) (n : Fin 1024) :
    (iblk2 (V5 m ρ) c 3 t : S1x6x1024.Idx → EReal) (ix3 0 q n) = (m ((c : Thread nD τ).loc main_arg3) : S16x6x1024.Idx → EReal) (ix3 (bat t) q n) := by
  refine have hx : (((cfg2.win 3).blk t).view.emb (ix3 0 q n) : S16x6x1024.Idx) = ix3 (bat t) q n := ?_; ?_
  rotate_left
  · exact (congrArg (V5 m ρ c main_arg3 : S16x6x1024.Idx → EReal) hx).trans (congrFun (W5_args m ρ c main_arg3 (by decide)) _)
  funext a
  refine Fin.ext (((cfg2.win 3).rect_emb_val t (ix3 0 q n) a).trans ?_)
  match a with
  | ⟨0, _⟩ =>
    show (Scalar.addi (BitVec.ofNat 32 8) (BitVec.ofNat 32 (pI t).val)).toNat * 1 + 0 = 8 + (pI t).val
    rw [batch _ (by decide)]
    omega
  | ⟨1, _⟩ =>
    show 0 * 6 + q.val = q.val
    omega
  | ⟨2, _⟩ =>
    show 0 * 1024 + n.val = n.val
    omega

theorem blk4_apply (t : Fin cfg2.N) (n : Fin 1024) :
    (iblk2 (V5 m ρ) c 4 t : S1x1024.Idx → EReal) (ix2 0 n) = (m ((c : Thread nD τ).loc main_arg4) : S1024.Idx → EReal) (ix1 n) := by
  refine have hx : (((cfg2.win 4).blk t).view.emb (ix2 0 n) : S1x1024.Idx) = ix2 0 n := ?_; ?_
  rotate_left
  · exact (congrArg (V5 m ρ c main_v7 : S1x1024.Idx → EReal) hx).trans (scale_apply m ρ c n)
  funext a
  refine Fin.ext (((cfg2.win 4).rect_emb_val t (ix2 0 n) a).trans ?_)
  match a with
  | ⟨0, _⟩ =>
    show 0 * 1 + 0 = 0
    omega
  | ⟨1, _⟩ =>
    show 0 * 1024 + n.val = n.val
    omega

theorem emb5 (t : Fin cfg2.N) (r : Fin 512) (n : Fin 1024) :
    (((cfg2.win 5).blk t).view.emb (ix3 0 r n) : S16x2048x1024.Idx) = ix3 (bat t) (tok t r) n := by
  funext a
  refine Fin.ext (((cfg2.win 5).rect_emb_val t (ix3 0 r n) a).trans ?_)
  match a with
  | ⟨0, _⟩ =>
    show (Scalar.addi (BitVec.ofNat 32 8) (BitVec.ofNat 32 (pI t).val)).toNat * 1 + 0 = 8 + (pI t).val
    rw [batch _ (by decide)]
    omega
  | ⟨1, _⟩ =>
    show (BitVec.ofNat 32 (pJ t).val).toNat * 512 + r.val = (pJ t).val * 512 + r.val
    rw [block]
  | ⟨2, _⟩ =>
    show 0 * 1024 + n.val = n.val
    omega

/-- What a point leaves is its block of the result. -/
theorem after_apply (t : Fin cfg2.N) (r : Fin 512) (n : Fin 1024) :
    ((dat2 (V5 m ρ) c).after 5 t : S1x512x1024.Idx → EReal) (ix3 0 r n) = RES m c (ix3 (bat t) (tok t r) n) := by
  rw [after2_5]
  unfold outsAt2
  rw [out2_eq]
  exact pay_row _ _ _ _ _ _ _ _ _ _ (bat t) (tok t r) r (blk0_apply m ρ c t r) (blk1_apply m ρ c t r) (blk2_apply m ρ c t r) (blk3_apply m ρ c t 5) (blk4_apply m ρ c t) n

theorem flushed_eq (t : Fin cfg2.N) (hf : (cfg2.win 5).flush t = true) :
    (dat2 (V5 m ρ) c).flushed 5 t = ((cfg2.win 5).blk t).view.read (Elt Ideal) (RES m c) := by
  funext y
  have hy : (y : S1x512x1024.Idx) = ix3 0 (y 1) (y 2) := by
    funext a
    match a with
    | ⟨0, _⟩ => exact Subsingleton.elim (α := Fin 1) _ _
    | ⟨1, _⟩ => rfl
    | ⟨2, _⟩ => rfl
  refine (congrArg ((dat2 (V5 m ρ) c).after 5 t : S1x512x1024.Idx → EReal) hy).trans ?_
  refine (after_apply m ρ c t (y 1) (y 2)).trans ?_
  refine congrArg (RES m c) ?_
  exact (emb5 t (y 1) (y 2)).symm.trans (congrArg (fun z : S1x512x1024.Idx => (((cfg2.win 5).blk t).view.emb z : S16x2048x1024.Idx)) hy.symm)

/-- Every batch of the four, and every block of tokens, has its point. -/
theorem point (i j : Fin 4) : ∃ t : Fin cfg2.N, pI t = i ∧ pJ t = j := by
  obtain ⟨t, hi, hj⟩ := (by decide +kernel : ∀ i j : Fin 4, ∃ t : Fin grid2.N, (grid2.coords t 0).val = i.val ∧ (grid2.coords t 1).val = j.val) i j
  exact ⟨t, Fin.ext hi, Fin.ext hj⟩

theorem cover (b : Fin 16) (hb : 8 ≤ b.val ∧ b.val < 8 + 4) (s : Fin 2048) (n : Fin 1024) :
    ∃ t : Fin cfg2.N, (cfg2.win 5).flush t = true ∧ (ix3 b s n : S16x2048x1024.Idx) ∈ ((cfg2.win 5).blk t).view.set := by
  have hs := s.isLt
  obtain ⟨t, hi, hj⟩ := point ⟨b.val - 8, by omega⟩ ⟨s.val / 512, by omega⟩
  refine ⟨t, flush2_5 t, ?_⟩
  have e := emb5 t ⟨s.val % 512, Nat.mod_lt _ (by decide)⟩ n
  have hx : (ix3 (bat t) (tok t ⟨s.val % 512, Nat.mod_lt _ (by decide)⟩) n : S16x2048x1024.Idx) = ix3 b s n := by
    have e1 : bat t = b := Fin.ext (show 8 + (pI t).val = b.val by rw [hi]; show 8 + (b.val - 8) = b.val; omega)
    have e2 : tok t ⟨s.val % 512, Nat.mod_lt _ (by decide)⟩ = s := Fin.ext (show (pJ t).val * 512 + s.val % 512 = s.val by rw [hj]; show s.val / 512 * 512 + s.val % 512 = s.val; omega)
    rw [e1, e2]
  exact Eq.mp (congrArg (· ∈ _) (e.trans hx)) (View.emb_mem_set _ _)

/-- The result array after the call: the result on the batches so far. -/
theorem arr (b : Fin 16) (hb : b.val < 8 + 4) (s : Fin 2048) (n : Fin 1024) :
    (W6 m ρ c (Proc.devRef .tc main_v8) : S16x2048x1024.Idx → EReal) (ix3 b s n) = RES m c (ix3 b s n) := by
  refine (congrFun (W6_arr m ρ c 5) (ix3 b s n : S16x2048x1024.Idx)).trans ?_
  by_cases h : 8 ≤ b.val
  · obtain ⟨t, hf, hi⟩ := cover b ⟨h, hb⟩ s n
    exact (dat2 (V5 m ρ) c).arrAt_apply_of_mem 5 (RES m c) (fun t hf => flushed_eq m ρ c t hf) cfg2.N t _ t.isLt hf hi
  · refine ((dat2 (V5 m ρ) c).arrAt_eq_piecewise 5 (RES m c) (fun t hf => flushed_eq m ρ c t hf) _).trans ?_
    split_ifs
    · rfl
    · refine (congrFun (A_eq2 (V5 m ρ) c 5) _).trans ?_
      have e : (V5 m ρ c main_v8 : S16x2048x1024.Idx → EReal) = (W4 m ρ c (Proc.devRef .tc main_v5) : S16x2048x1024.Idx → EReal) := by
        show StableHlo.after hostOps2 (W4 m ρ c) (Proc.devRef .tc main_v8) = _
        after_results_simp
        rfl
      exact (congrFun e _).trans (Reg1.arr m ρ c b (by omega) s n)

end Reg2

end Cert.Kernel3Ideal.Comb

end
-- ==== Proof.Comb.Reg3.lean ====
module

public import proofs.«01_k».proof.Proof.Comb.Res
public import Idealize.ShloMosaic.Lib.Pipeline.ValueKit
public import proofs.«01_k».proof.Proof.Comb.Reg2

@[expose] public section

set_option maxRecDepth 16384

noncomputable section

namespace Cert.Kernel3Ideal.Comb

open Idealize.ShloMosaic Idealize.ShloMosaic.TcCoe Idealize.ShloMosaic.Tactic
open Idealize.SL.Sem
open Cert.Kernel3Ideal.Gen

/-! ## Call 3: the blocks it reads and writes, and its result array at the end -/

namespace Reg3

variable (m : (ℓ : Loc nD τ sig) → Buf (Elt Ideal) ℓ) (ρ : Dev nD → PrngReg) (c : Dev nD)

/-- The batch and the block of tokens of a point. -/
abbrev pI (t : Fin cfg3.N) : Fin 4 := grid3.coords t 0
abbrev pJ (t : Fin cfg3.N) : Fin 4 := grid3.coords t 1
abbrev bat (t : Fin cfg3.N) : Fin 16 := ⟨12 + (pI t).val, by have := (pI t).isLt; omega⟩
abbrev tok (t : Fin cfg3.N) (r : Fin 512) : Fin 2048 := ⟨(pJ t).val * 512 + r.val, by have := (pJ t).isLt; have := r.isLt; omega⟩

theorem slice_apply (k0 : Fin 2) (k : Fin 4) (i : Fin 4) (s : Fin 2048) (l : Fin 256) :
    (V7 m ρ c main_v9 : S2x4x4x2048x256.Idx → BitVec 32) (ix5 k0 k i s l)
      = (m ((c : Thread nD τ).loc main_arg0) : S2x4x16x2048x256.Idx → BitVec 32) (ix5 k0 k ⟨12 + i.val, by have := i.isLt; omega⟩ s l) := by
  have h : (V7 m ρ c main_v9 : S2x4x4x2048x256.Idx → BitVec 32) = extractStridedSlice S2x4x4x2048x256 ![0, 0, 12, 0, 0] (W6 m ρ c (Proc.devRef .tc main_arg0) : S2x4x16x2048x256.Idx → BitVec 32) slices_S2x4x16x2048x256_S2x4x4x2048x256_0_0_12_0_0 := by
    show StableHlo.after hostOps3 (W6 m ρ c) (Proc.devRef .tc main_v9) = _
    after_results_simp
  rw [h, W6_args m ρ c main_arg0 (by decide)]
  pointwise []

theorem scale_apply (n : Fin 1024) :
    (V7 m ρ c main_v10 : S1x1024.Idx → EReal) (ix2 0 n) = (m ((c : Thread nD τ).loc main_arg4) : S1024.Idx → EReal) (ix1 n) := by
  have h : (V7 m ρ c main_v10 : S1x1024.Idx → EReal) = shapeCast S1x1024 (W6 m ρ c (Proc.devRef .tc main_arg4) : S1024.Idx → EReal) shapeCasts_S1024_S1x1024 := by
    show StableHlo.after hostOps3 (W6 m ρ c) (Proc.devRef .tc main_v10) = _
    after_results_simp
    rfl
  rw [h, W6_args m ρ c main_arg4 (by decide)]
  pointwise []

theorem blk0_apply (t : Fin cfg3.N) (r : Fin 512) (k0 : Fin 2) (k : Fin 4) (l : Fin 256) :
    (iblk3 (V7 m ρ) c 0 t : S2x4x1x512x256.Idx → BitVec 32) (ix5 k0 k 0 r l) = (m ((c : Thread nD τ).loc main_arg0) : S2x4x16x2048x256.Idx → BitVec 32) (ix5 k0 k (bat t) (tok t r) l) := by
  refine have hx : (((cfg3.win 0).blk t).view.emb (ix5 k0 k 0 r l) : S2x4x4x2048x256.Idx) = ix5 k0 k (pI t) (tok t r) l := ?_; ?_
  rotate_left
  · exact (congrArg (V7 m ρ c main_v9 : S2x4x4x2048x256.Idx → BitVec 32) hx).trans (slice_apply m ρ c k0 k (pI t) (tok t r) l)
  funext a
  refine Fin.ext (((cfg3.win 0).rect_emb_val t (ix5 k0 k 0 r l) a).trans ?_)
  match a with
  | ⟨0, _⟩ =>
    show 0 * 2 + k0.val = k0.val
    omega
  | ⟨1, _⟩ =>
    show 0 * 4 + k.val = k.val
    omega
  | ⟨2, _⟩ =>
    show (BitVec.ofNat 32 (pI t).val).toNat * 1 + 0 = (pI t).val
    rw [block]
    omega
  | ⟨3, _⟩ =>
    show (BitVec.ofNat 32 (pJ t).val).toNat * 512 + r.val = (pJ t).val * 512 + r.val
    rw [block]
  | ⟨4, _⟩ =>
    show 0 * 256 + l.val = l.val
    omega

theorem blk1_apply (t : Fin cfg3.N) (r : Fin 512) (k : Fin 4) :
    (iblk3 (V7 m ρ) c 1 t : S1x512x4.Idx → EReal) (ix3 0 r k) = (m ((c : Thread nD τ).loc main_arg1) : S16x2048x4.Idx → EReal) (ix3 (bat t) (tok t r) k) := by
  refine have hx : (((cfg3.win 1).blk t).view.emb (ix3 0 r k) : S16x2048x4.Idx) = ix3 (bat t) (tok t r) k := ?_; ?_
  rotate_left
  · exact (congrArg (V7 m ρ c main_arg1 : S16x2048x4.Idx → EReal) hx).trans (congrFun (W7_args m ρ c main_arg1 (by decide)) _)
  funext a
  refine Fin.ext (((cfg3.win 1).rect_emb_val t (ix3 0 r k) a).trans ?_)
  match a with
  | ⟨0, _⟩ =>
    show (Scalar.addi (BitVec.ofNat 32 12) (BitVec.ofNat 32 (pI t).val)).toNat * 1 + 0 = 12 + (pI t).val
    rw [batch _ (by decide)]
    omega
  | ⟨1, _⟩ =>
    show (BitVec.ofNat 32 (pJ t).val).toNat * 512 + r.val = (pJ t).val * 512 + r.val
    rw [block]
  | ⟨2, _⟩ =>
    show 0 * 4 + k.val = k.val
    omega

theorem blk2_apply (t : Fin cfg3.N) (r : Fin 512) (n : Fin 1024) :
    (iblk3 (V7 m ρ) c 2 t : S1x512x1024.Idx → EReal) (ix3 0 r n) = (m ((c : Thread nD τ).loc main_arg2) : S16x2048x1024.Idx → EReal) (ix3 (bat t) (tok t r) n) := by
  refine have hx : (((cfg3.win 2).blk t).view.emb (ix3 0 r n) : S16x2048x1024.Idx) = ix3 (bat t) (tok t r) n := ?_; ?_
  rotate_left
  · exact (congrArg (V7 m ρ c main_arg2 : S16x2048x1024.Idx → EReal) hx).trans (congrFun (W7_args m ρ c main_arg2 (by decide)) _)
  funext a
  refine Fin.ext (((cfg3.win 2).rect_emb_val t (ix3 0 r n) a).trans ?_)
  match a with
  | ⟨0, _⟩ =>
    show (Scalar.addi (BitVec.ofNat 32 12) (BitVec.ofNat 32 (pI t).val)).toNat * 1 + 0 = 12 + (pI t).val
    rw [batch _ (by decide)]
    omega
  | ⟨1, _⟩ =>
    show (BitVec.ofNat 32 (pJ t).val).toNat * 512 + r.val = (pJ t).val * 512 + r.val
    rw [block]
  | ⟨2, _⟩ =>
    show 0 * 1024 + n.val = n.val
    omega

theorem blk3_apply (t : Fin cfg3.N) (q : Fin 6) (n : Fin 1024) :
    (iblk3 (V7 m ρ) c 3 t : S1x6x1024.Idx → EReal) (ix3 0 q n) = (m ((c : Thread nD τ).loc main_arg3) : S16x6x1024.Idx → EReal) (ix3 (bat t) q n) := by
  refine have hx : (((cfg3.win 3).blk t).view.emb (ix3 0 q n) : S16x6x1024.Idx) = ix3 (bat t) q n := ?_; ?_
  rotate_left
  · exact (congrArg (V7 m ρ c main_arg3 : S16x6x1024.Idx → EReal) hx).trans (congrFun (W7_args m ρ c main_arg3 (by decide)) _)
  funext a
  refine Fin.ext (((cfg3.win 3).rect_emb_val t (ix3 0 q n) a).trans ?_)
  match a with
  | ⟨0, _⟩ =>
    show (Scalar.addi (BitVec.ofNat 32 12) (BitVec.ofNat 32 (pI t).val)).toNat * 1 + 0 = 12 + (pI t).val
    rw [batch _ (by decide)]
    omega
  | ⟨1, _⟩ =>
    show 0 * 6 + q.val = q.val
    omega
  | ⟨2, _⟩ =>
    show 0 * 1024 + n.val = n.val
    omega

theorem blk4_apply (t : Fin cfg3.N) (n : Fin 1024) :
    (iblk3 (V7 m ρ) c 4 t : S1x1024.Idx → EReal) (ix2 0 n) = (m ((c : Thread nD τ).loc main_arg4) : S1024.Idx → EReal) (ix1 n) := by
  refine have hx : (((cfg3.win 4).blk t).view.emb (ix2 0 n) : S1x1024.Idx) = ix2 0 n := ?_; ?_
  rotate_left
  · exact (congrArg (V7 m ρ c main_v10 : S1x1024.Idx → EReal) hx).trans (scale_apply m ρ c n)
  funext a
  refine Fin.ext (((cfg3.win 4).rect_emb_val t (ix2 0 n) a).trans ?_)
  match a with
  | ⟨0, _⟩ =>
    show 0 * 1 + 0 = 0
    omega
  | ⟨1, _⟩ =>
    show 0 * 1024 + n.val = n.val
    omega

theorem emb5 (t : Fin cfg3.N) (r : Fin 512) (n : Fin 1024) :
    (((cfg3.win 5).blk t).view.emb (ix3 0 r n) : S16x2048x1024.Idx) = ix3 (bat t) (tok t r) n := by
  funext a
  refine Fin.ext (((cfg3.win 5).rect_emb_val t (ix3 0 r n) a).trans ?_)
  match a with
  | ⟨0, _⟩ =>
    show (Scalar.addi (BitVec.ofNat 32 12) (BitVec.ofNat 32 (pI t).val)).toNat * 1 + 0 = 12 + (pI t).val
    rw [batch _ (by decide)]
    omega
  | ⟨1, _⟩ =>
    show (BitVec.ofNat 32 (pJ t).val).toNat * 512 + r.val = (pJ t).val * 512 + r.val
    rw [block]
  | ⟨2, _⟩ =>
    show 0 * 1024 + n.val = n.val
    omega

/-- What a point leaves is its block of the result. -/
theorem after_apply (t : Fin cfg3.N) (r : Fin 512) (n : Fin 1024) :
    ((dat3 (V7 m ρ) c).after 5 t : S1x512x1024.Idx → EReal) (ix3 0 r n) = RES m c (ix3 (bat t) (tok t r) n) := by
  rw [after3_5]
  unfold outsAt3
  rw [out3_eq]
  exact pay_row _ _ _ _ _ _ _ _ _ _ (bat t) (tok t r) r (blk0_apply m ρ c t r) (blk1_apply m ρ c t r) (blk2_apply m ρ c t r) (blk3_apply m ρ c t 5) (blk4_apply m ρ c t) n

theorem flushed_eq (t : Fin cfg3.N) (hf : (cfg3.win 5).flush t = true) :
    (dat3 (V7 m ρ) c).flushed 5 t = ((cfg3.win 5).blk t).view.read (Elt Ideal) (RES m c) := by
  funext y
  have hy : (y : S1x512x1024.Idx) = ix3 0 (y 1) (y 2) := by
    funext a
    match a with
    | ⟨0, _⟩ => exact Subsingleton.elim (α := Fin 1) _ _
    | ⟨1, _⟩ => rfl
    | ⟨2, _⟩ => rfl
  refine (congrArg ((dat3 (V7 m ρ) c).after 5 t : S1x512x1024.Idx → EReal) hy).trans ?_
  refine (after_apply m ρ c t (y 1) (y 2)).trans ?_
  refine congrArg (RES m c) ?_
  exact (emb5 t (y 1) (y 2)).symm.trans (congrArg (fun z : S1x512x1024.Idx => (((cfg3.win 5).blk t).view.emb z : S16x2048x1024.Idx)) hy.symm)

/-- Every batch of the four, and every block of tokens, has its point. -/
theorem point (i j : Fin 4) : ∃ t : Fin cfg3.N, pI t = i ∧ pJ t = j := by
  obtain ⟨t, hi, hj⟩ := (by decide +kernel : ∀ i j : Fin 4, ∃ t : Fin grid3.N, (grid3.coords t 0).val = i.val ∧ (grid3.coords t 1).val = j.val) i j
  exact ⟨t, Fin.ext hi, Fin.ext hj⟩

theorem cover (b : Fin 16) (hb : 12 ≤ b.val ∧ b.val < 12 + 4) (s : Fin 2048) (n : Fin 1024) :
    ∃ t : Fin cfg3.N, (cfg3.win 5).flush t = true ∧ (ix3 b s n : S16x2048x1024.Idx) ∈ ((cfg3.win 5).blk t).view.set := by
  have hs := s.isLt
  obtain ⟨t, hi, hj⟩ := point ⟨b.val - 12, by omega⟩ ⟨s.val / 512, by omega⟩
  refine ⟨t, flush3_5 t, ?_⟩
  have e := emb5 t ⟨s.val % 512, Nat.mod_lt _ (by decide)⟩ n
  have hx : (ix3 (bat t) (tok t ⟨s.val % 512, Nat.mod_lt _ (by decide)⟩) n : S16x2048x1024.Idx) = ix3 b s n := by
    have e1 : bat t = b := Fin.ext (show 12 + (pI t).val = b.val by rw [hi]; show 12 + (b.val - 12) = b.val; omega)
    have e2 : tok t ⟨s.val % 512, Nat.mod_lt _ (by decide)⟩ = s := Fin.ext (show (pJ t).val * 512 + s.val % 512 = s.val by rw [hj]; show s.val / 512 * 512 + s.val % 512 = s.val; omega)
    rw [e1, e2]
  exact Eq.mp (congrArg (· ∈ _) (e.trans hx)) (View.emb_mem_set _ _)

/-- The result array after the call: the result on the batches so far. -/
theorem arr (b : Fin 16) (hb : b.val < 12 + 4) (s : Fin 2048) (n : Fin 1024) :
    (W8 m ρ c (Proc.devRef .tc main_v11) : S16x2048x1024.Idx → EReal) (ix3 b s n) = RES m c (ix3 b s n) := by
  refine (congrFun (W8_arr m ρ c 5) (ix3 b s n : S16x2048x1024.Idx)).trans ?_
  by_cases h : 12 ≤ b.val
  · obtain ⟨t, hf, hi⟩ := cover b ⟨h, hb⟩ s n
    exact (dat3 (V7 m ρ) c).arrAt_apply_of_mem 5 (RES m c) (fun t hf => flushed_eq m ρ c t hf) cfg3.N t _ t.isLt hf hi
  · refine ((dat3 (V7 m ρ) c).arrAt_eq_piecewise 5 (RES m c) (fun t hf => flushed_eq m ρ c t hf) _).trans ?_
    split_ifs
    · rfl
    · refine (congrFun (A_eq3 (V7 m ρ) c 5) _).trans ?_
      have e : (V7 m ρ c main_v11 : S16x2048x1024.Idx → EReal) = (W6 m ρ c (Proc.devRef .tc main_v8) : S16x2048x1024.Idx → EReal) := by
        show StableHlo.after hostOps3 (W6 m ρ c) (Proc.devRef .tc main_v11) = _
        after_results_simp
        rfl
      exact (congrFun e _).trans (Reg2.arr m ρ c b (by omega) s n)

end Reg3

end Cert.Kernel3Ideal.Comb

end
-- ==== Proof.Comb.Alg.lean ====
module

public import proofs.«01_k».proof.Proof.Comb.Reg3

@[expose] public section

set_option maxRecDepth 16384

noncomputable section

namespace Cert.Kernel3Ideal.Comb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

/-! ## The run: the result, and the arguments as launched -/

variable (m : (ℓ : Loc nD τ sig) → Buf (Elt Ideal) ℓ) (ρ : Dev nD → PrngReg)

theorem W8_out (c : Dev nD) : (W8 m ρ c (Proc.devRef .tc main_v11) : S16x2048x1024.Idx → EReal) = RES m c := by
  funext i
  have hi : i = ix3 (i 0) (i 1) (i 2) := by
    funext a
    match a with
    | ⟨0, _⟩ => rfl
    | ⟨1, _⟩ => rfl
    | ⟨2, _⟩ => rfl
  rw [hi]
  exact Reg3.arr m ρ c (i 0) (by have : (i 0).val < 16 := (i 0).isLt; omega) (i 1) (i 2)

-- the launch's implicit arguments are found by unifying its conclusion with this one, which takes unfolding plain
-- definitions in a metavariable's type
set_option backward.isDefEq.respectTransparency.types false in
theorem run_val : θ_run defs (onTc (τ := τ) (main (F := Ideal))) ⟨m, fun _ => 0, ρ⟩ (fun r => ∀ c : Dev nD,
      r.2.mem ((c.tc : Thread nD τ).loc main_v11) = RES m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => fun c =>
      ⟨(h c _ (mem_uc main_v11 (by decide))).trans (W8_out m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

end Cert.Kernel3Ideal.Comb

end
-- ==== Proof.Comb.Ref.lean ====
module

public import proofs.«01_k».proof.Proof.Comb.Res
public import proofs.«01_k».proof.Proof.Gen.Reference3Ideal.Run
public import Idealize.ShloMosaic.Lib.Pointwise
public import Idealize.ShloMosaic.Lib.IdealHost

@[expose] public section

set_option maxRecDepth 16384

noncomputable section

namespace Cert.Reference3Ideal.Ref

open Idealize.ShloMosaic Idealize.ShloMosaic.TcCoe Idealize.ShloMosaic.Tactic
open Idealize.SL.Sem
open Cert.Reference3Ideal Cert.Reference3Ideal.Gen
open Cert.Kernel3Ideal.Comb (num four colH colC colL res norm mix row result)

/-! ## The reference's result, element by element -/

variable (a0 : IVec S2x4x16x2048x256 32) (a1 : FVec Ideal S16x2048x4 .f32) (a2 : FVec Ideal S16x2048x1024 .f32) (a3 : FVec Ideal S16x6x1024 .f32) (a4 : FVec Ideal S1024 .f32)

/-- The experts' rows as numbers, every expert's row of every token. -/
def wide : FVec Ideal S4x16x2048x1024 .f32 :=
  extf .f32 (shapeCast _ (transpose S4x16x2048x2x2x256 [1, 2, 3, 5, 0, 4] (bitcastToFloat (F := Ideal) .bf16 (Host.bitcastConvertNarrow S2x4x16x2048x256x2 16 a0 splits_S2x4x16x2048x256_w32_S2x4x16x2048x256x2_w16)) transposes_S2x4x16x2048x256x2_S4x16x2048x2x2x256_1_2_3_5_0_4) shapeCasts_S4x16x2048x2x2x256_S4x16x2048x1024) bitsLt_bf16_f32

/-- Rows weighted and added over the experts. -/
def mixw (w : FVec Ideal S4x16x2048x1024 .f32) : FVec Ideal S16x2048x1024 .f32 :=
  Host.reduceAdd (mulf w (broadcastInDim S4x16x2048x1024 ![0, 1, 2, 3] bcast_S4x16x2048x1_S4x16x2048x1024_0_1_2_3 (broadcastInDim S4x16x2048x1 ![0, 1, 2] bcast_S4x16x2048_S4x16x2048x1_0_1_2 (transpose S4x16x2048 [2, 0, 1] a1 transposes_S16x2048x4_S4x16x2048_2_0_1)))) (constant S_ .f32 0x00000000#32) reducesTo_S4x16x2048x1024_S16x2048x1024_d0 h_S_

/-- The weighted sum over the experts. -/
def mixv : FVec Ideal S16x2048x1024 .f32 := mixw a1 (wide a0)

/-- The residual with the gated mixture added. -/
def resv : FVec Ideal S16x2048x1024 .f32 :=
  addf a2 (mulf (broadcastInDim S16x2048x1024 ![0, 1, 2] bcast_S16x1x1024_S16x2048x1024_0_1_2 (extractStridedSlice S16x1x1024 ![0, 5, 0] a3 slices_S16x6x1024_S16x1x1024_0_5_0)) (mixv a0 a1))

/-- Rows normalised and scaled. -/
def normv (x : FVec Ideal S16x2048x1024 .f32) : FVec Ideal S16x2048x1024 .f32 :=
  mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32))))))
    (broadcastInDim S16x2048x1024 ![0, 1, 2] bcast_S1x1x1024_S16x2048x1024_0_1_2 (broadcastInDim S1x1x1024 ![2] bcast_S1024_S1x1x1024_2 a4))

theorem wide_apply (k : Fin 4) (b : Fin 16) (s : Fin 2048) (n : Fin 1024) :
    wide a0 (ix4 k b s n) = num (colH n) (a0 (ix5 (colC n) k b s (colL n))) := by
  unfold wide
  refine (extf_apply .f32 _ bitsLt_bf16_f32 (ix4 k b s n)).trans ?_
  refine (congrArg (fun z => z) (shapeCast_apply _ shapeCasts_S4x16x2048x2x2x256_S4x16x2048x1024 (ix4 k b s n) (ix6 k b s (colH n) (colC n) (colL n)) ?_)).trans ?_
  · rw [rowMajor_val6 _ _ _ _ _ _ rfl rfl rfl rfl rfl, rowMajor_val4 _ _ _ _ rfl rfl rfl]
    show k.val * 33554432 + b.val * 2097152 + s.val * 1024 + n.val / 512 * 512 + n.val / 256 % 2 * 256 + n.val % 256 = k.val * 33554432 + b.val * 2097152 + s.val * 1024 + n.val
    omega
  refine (transpose_apply _ _ transposes_S2x4x16x2048x256x2_S4x16x2048x2x2x256_1_2_3_5_0_4 _ (ix6 (colC n) k b s (colL n) (colH n)) ?_).trans ?_
  · intro a
    match a with
    | ⟨0, _⟩ => rfl
    | ⟨1, _⟩ => rfl
    | ⟨2, _⟩ => rfl
    | ⟨3, _⟩ => rfl
    | ⟨4, _⟩ => rfl
    | ⟨5, _⟩ => rfl
  show Ideal.ofBits .bf16 ((a0 (splits_S2x4x16x2048x256_w32_S2x4x16x2048x256x2_w16.drop (ix6 (colC n) k b s (colL n) (colH n)))).extractLsb' ((colH n).val * 16) 16) = _
  refine congrArg (fun z => Ideal.ofBits .bf16 ((a0 z).extractLsb' ((colH n).val * 16) 16)) ?_
  funext a
  refine Fin.ext ?_
  match a with
  | ⟨0, _⟩ => rfl
  | ⟨1, _⟩ => rfl
  | ⟨2, _⟩ => rfl
  | ⟨3, _⟩ => rfl
  | ⟨4, _⟩ => rfl

theorem mixw_apply (w : FVec Ideal S4x16x2048x1024 .f32) (b : Fin 16) (s : Fin 2048) (n : Fin 1024) :
    mixw a1 w (ix3 b s n) = four (fun k => w (ix4 k b s n)) (fun k => a1 (ix3 b s k)) := by
  pointwise [mixw]
  rw [Fin.sum_univ_four]
  rfl

theorem mixv_apply (b : Fin 16) (s : Fin 2048) (n : Fin 1024) :
    mixv a0 a1 (ix3 b s n) = mix a0 a1 b s n := by
  unfold mixv mix
  rw [mixw_apply]
  simp only [wide_apply]

theorem resv_apply (b : Fin 16) (s : Fin 2048) (n : Fin 1024) :
    resv a0 a1 a2 a3 (ix3 b s n) = a2 (ix3 b s n) + a3 (ix3 b 5 n) * mixv a0 a1 (ix3 b s n) := by
  pointwise [resv]

theorem normv_apply (x : FVec Ideal S16x2048x1024 .f32) (b : Fin 16) (s : Fin 2048) (n : Fin 1024) :
    normv a4 x (ix3 b s n) = norm (fun j => x (ix3 b s j)) (fun j => a4 (ix1 j)) n := by
  pointwise [normv]
  rfl

theorem value_eq : normv a4 (resv a0 a1 a2 a3) = result a0 a1 a2 a3 a4 := by
  funext i
  have hi : i = ix3 (i 0) (i 1) (i 2) := by
    funext a
    match a with
    | ⟨0, _⟩ => rfl
    | ⟨1, _⟩ => rfl
    | ⟨2, _⟩ => rfl
  rw [hi]
  refine (normv_apply a4 _ (i 0) (i 1) (i 2)).trans ?_
  show norm (fun j : Fin 1024 => resv a0 a1 a2 a3 (ix3 (i 0) (i 1) j)) _ _ = row a0 a1 a2 a3 a4 (i 0) (i 1) (i 2)
  unfold row
  refine congrArg (fun f => norm f (fun j => a4 (ix1 j)) (i 2)) (funext fun j => ?_)
  refine (resv_apply a0 a1 a2 a3 (i 0) (i 1) j).trans ?_
  exact congrArg (fun z => a2 (ix3 (i 0) (i 1) j) + a3 (ix3 (i 0) 5 j) * z) (mixv_apply a0 a1 (i 0) (i 1) j)

/-- The reference's run. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (value_eq _ _ _ _ _), (h c).2⟩) (Cert.Reference3Ideal.Value.run m ρ)

end Cert.Reference3Ideal.Ref

end
-- ==== Proof.Ffn.Kit.lean ====
module

public import proofs.«01_k».proof.Proof.Gen.Kernel2Ideal.Launch
public import proofs.«01_k».proof.Proof.Gen.Kernel2Ideal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The schedule of window 0, at any contents of the tables. -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- The schedule of window 5, at any contents of the tables. -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_expert_ffn (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S544 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel2Ideal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).2 main_arg4 (by decide : main_arg4 ∈ Pipeline.restRefs sig spec0)).trans (V_main_arg4 m c),
      ((h c).1 3).trans (((dats 0 c).arrAt_in 3 rfl _).trans ((hA c 3).trans (V_main_arg5 m c))),
      ((h c).2 main_arg6 (by decide : main_arg6 ∈ Pipeline.restRefs sig spec0)).trans (V_main_arg6 m c)⟩) h

/-! ## The kernel body on any staging memrefs: a subtype the run finds -/

/-- One staging buffer of output window 5, through which its contents are stated (`View.read_writes_of_cover`: the
    choice does not matter). -/
abbrev VO0_5 : View sig .tc .vmem S256x1024 .f32 := (Memref.whole cc0_stg5_0 : Memref sig .tc .vmem S256x1024 .f32).view
/-- Each window's current staging memref at point `t`, spelled as the pipeline passes it (`bodyAt0`), and its wholeness. -/
abbrev ms0_0 (hO : Ok m) (t : Fin (cfgM m hO).N) : Memref sig .tc .vmem S256x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S256x1024 .f32 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S1024x2048 .bf16 := Memref.whole cc0_scratch0
abbrev scM0_1 : Memref sig .tc .vmem S1024x1024 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The words the body branches on -/

/-- The count of blocks that carry rows, the expert of this block, the expert of the block before it. -/
abbrev wN {c : Dev nD} (xt1 : TbBuf0 (F := F) c tbM0_1) : BitVec 32 :=
  tbM0_1.view.readAt (Elt F) (Rect.unit (s := S1) ![0] S1.size inb_S1_S1_0).toLoadRect xt1 (Shape.Idx.first (numel1_S1.symm ▸ Nat.one_pos))
abbrev wE {c : Dev nD} (i : grid0.Coords) (xt0 : TbBuf0 (F := F) c tbM0_0) : BitVec 32 :=
  tbM0_0.view.readAt (Elt F) (Rect.unit (s := S544) (k0_off1 i) S1.size (k0_off1_inb i)).toLoadRect xt0 (Shape.Idx.first (numel1_S1.symm ▸ Nat.one_pos))
abbrev wP {c : Dev nD} (i : grid0.Coords) (xt0 : TbBuf0 (F := F) c tbM0_0) : BitVec 32 :=
  tbM0_0.view.readAt (Elt F) (Rect.unit (s := S544) (k0_off2 i) S1.size (k0_off2_inb i)).toLoadRect xt0 (Shape.Idx.first (numel1_S1.symm ▸ Nat.one_pos))

/-- The condition under which the body refills its weight scratch. -/
abbrev condF (i : grid0.Coords) (n e p : BitVec 32) : Prop :=
  (Scalar.cmpi .ne (Scalar.extui (Scalar.andi (Scalar.cmpi .slt (BitVec.ofNat 32 (i 0).val) n)
    (Scalar.ori (Scalar.cmpi .eq (BitVec.ofNat 32 (i 0).val) 0#32) (Scalar.cmpi .ne e p)))) 0#32) = 1#1

end Cert.Kernel2Ideal.Ffn

end
-- ==== Proof.Ffn.RunA.lean ====
module

public import proofs.«01_k».proof.Proof.Ffn.Kit

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run at a block that carries rows and whose expert is not the previous block's: the scratch is refilled, then used.
    What it leaves in the buffers it stores into, as pieces (last first), with the triple. -/
noncomputable def runA (c : Dev nD) (i : grid0.Coords) (arg3 : Memref sig .tc .vmem S256x1024 .bf16) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S256x1024 .bf16) (x1 : Vec F S1x1024x2048 .f32) (x2 : Vec F S1x1x2048 .f32) (x3 : Vec F S1x1024x1024 .f32) (x4 : Vec F S1x1x1024 .f32) (xt0 : TbBuf0 (F := F) c tbM0_0) (xt1 : TbBuf0 (F := F) c tbM0_1) (hF : condF i (wN xt1) (wE i xt0) (wP i xt0)) (h2 : k0_cond2 i (wN xt1) = 1#1) (h3 : ¬ k0_cond3 i (wN xt1) = 1#1) :
    Σ' (L5 : List (View.Piece (Elt F) S256x1024 .f32)), Σ' (LT0 : List (View.Piece (Elt F) S1024x2048 .bf16)), { LT1 : List (View.Piece (Elt F) S1024x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LT1) ∗ tbPt0 c tbM0_0 xt0 ∗ tbPt0 c tbM0_1 xt1) -∗ K ⟨⟩))
          ⊢ wp frame (wpE (defs₀ (F := F)) Variants.none c none) E (cc0_expert_ffn i tbM0_0 htbM0_0 tbM0_1 htbM0_1 arg3 harg3 arg4 harg4 arg5 harg5 arg6 harg6 arg7 harg7 arg8 harg8 arg9 harg9 arg10 harg10) K } := by
  refine ⟨?_, ?_, ?_, fun E K => ?run⟩
  case run =>
    simp only [cc0_expert_ffn_eq_skeleton]; unfold cc0_expert_ffn_skel
    simp only [k0_part4_eq_skeleton, k0_part5_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hF | sl_exact h2 | sl_exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    isplitl [HT0]; · iexact HT0
    iexact HT1

end Cert.Kernel2Ideal.Ffn

end
-- ==== Proof.Ffn.RunB.lean ====
module

public import proofs.«01_k».proof.Proof.Ffn.RunA

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run at a block that carries rows of the same expert as the block before: the scratch is used as it stands.
    What it leaves in the buffers it stores into, as pieces (last first), with the triple. -/
noncomputable def runB (c : Dev nD) (i : grid0.Coords) (arg3 : Memref sig .tc .vmem S256x1024 .bf16) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S256x1024 .bf16) (x1 : Vec F S1x1024x2048 .f32) (x2 : Vec F S1x1x2048 .f32) (x3 : Vec F S1x1024x1024 .f32) (x4 : Vec F S1x1x1024 .f32) (xt0 : TbBuf0 (F := F) c tbM0_0) (xt1 : TbBuf0 (F := F) c tbM0_1) (d0 : Vec F S1024x2048 .bf16) (d1 : Vec F S1024x1024 .bf16) (hF : ¬ condF i (wN xt1) (wE i xt0) (wP i xt0)) (h2 : k0_cond2 i (wN xt1) = 1#1) (h3 : ¬ k0_cond3 i (wN xt1) = 1#1) :
    { L5 : List (View.Piece (Elt F) S256x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare d0 ∗ owns (c : Thread nD τ) arg10 fullShare d1 ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ owns (c : Thread nD τ) arg9 fullShare d0 ∗ owns (c : Thread nD τ) arg10 fullShare d1 ∗ tbPt0 c tbM0_0 xt0 ∗ tbPt0 c tbM0_1 xt1) -∗ K ⟨⟩))
          ⊢ wp frame (wpE (defs₀ (F := F)) Variants.none c none) E (cc0_expert_ffn i tbM0_0 htbM0_0 tbM0_1 htbM0_1 arg3 harg3 arg4 harg4 arg5 harg5 arg6 harg6 arg7 harg7 arg8 harg8 arg9 harg9 arg10 harg10) K } := by
  refine ⟨?_, fun E K => ?run⟩
  case run =>
    simp only [cc0_expert_ffn_eq_skeleton]; unfold cc0_expert_ffn_skel
    simp only [k0_part4_eq_skeleton, k0_part5_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1
    sl_exec (disch := first | sl_exact hF | sl_exact h2 | sl_exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]
    · iexists _; isplitr; · ipureintro; exact harg9.read_unread _
      iexact HS0
    isplitl [HS1]
    · iexists _; isplitr; · ipureintro; exact harg10.read_unread _
      iexact HS1
    isplitl [HT0]; · iexact HT0
    iexact HT1

end Cert.Kernel2Ideal.Ffn

end
-- ==== Proof.Ffn.RunC.lean ====
module

public import proofs.«01_k».proof.Proof.Ffn.RunB

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run at a block past the last one that carries rows: the output is zeroed.
    What it leaves in the buffers it stores into, as pieces (last first), with the triple. -/
noncomputable def runC (c : Dev nD) (i : grid0.Coords) (arg3 : Memref sig .tc .vmem S256x1024 .bf16) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S256x1024 .bf16) (x1 : Vec F S1x1024x2048 .f32) (x2 : Vec F S1x1x2048 .f32) (x3 : Vec F S1x1024x1024 .f32) (x4 : Vec F S1x1x1024 .f32) (xt0 : TbBuf0 (F := F) c tbM0_0) (xt1 : TbBuf0 (F := F) c tbM0_1) (hF : ¬ condF i (wN xt1) (wE i xt0) (wP i xt0)) (h2 : ¬ k0_cond2 i (wN xt1) = 1#1) (h3 : k0_cond3 i (wN xt1) = 1#1) :
    { L5 : List (View.Piece (Elt F) S256x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ f, arg9.view.loc (c : Thread nD τ) ↦[arg9.view.set]{fullShare} f) ∗ (∃ f, arg10.view.loc (c : Thread nD τ) ↦[arg10.view.set]{fullShare} f) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} f) ∗ (∃ f, arg10.view.loc (c : Thread nD τ) ↦[arg10.view.set]{fullShare} f) ∗ tbPt0 c tbM0_0 xt0 ∗ tbPt0 c tbM0_1 xt1) -∗ K ⟨⟩))
          ⊢ wp frame (wpE (defs₀ (F := F)) Variants.none c none) E (cc0_expert_ffn i tbM0_0 htbM0_0 tbM0_1 htbM0_1 arg3 harg3 arg4 harg4 arg5 harg5 arg6 harg6 arg7 harg7 arg8 harg8 arg9 harg9 arg10 harg10) K } := by
  refine ⟨?_, fun E K => ?run⟩
  case run =>
    simp only [cc0_expert_ffn_eq_skeleton]; unfold cc0_expert_ffn_skel
    simp only [k0_part4_eq_skeleton, k0_part5_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, HS0⟩, ⟨%fs1, HS1⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hF | sl_exact h2 | sl_exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    isplitl [HT0]; · iexact HT0
    iexact HT1

end Cert.Kernel2Ideal.Ffn

end
-- ==== Proof.Ffn.Vals.lean ====
module

public import proofs.«01_k».proof.Proof.Ffn.RunC
public import Idealize.ShloMosaic.Lib.VecWindow

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The eight column groups of an expert's gate/up matrix as the body writes them to its scratch (last first). -/
def pcG (x1 : Vec F S1x1024x2048 .f32) : List (View.Piece (Elt F) S1024x2048 .bf16) :=
  [⟨Rect.unit (s := S1024x2048) ![0, 1792] S1024x256.size inb_S1024x2048_S1024x256_0_1792, k0_pay2 (k0_pay6 (F := F)) (View.ld x1 (Rect.unit (s := S1x1024x2048) ![0, 0, 1792] S1x1024x256.size inb_S1x1024x2048_S1x1024x256_0_0_1792))⟩,
   ⟨Rect.unit (s := S1024x2048) ![0, 1536] S1024x256.size inb_S1024x2048_S1024x256_0_1536, k0_pay1 (k0_pay14 (k0_pay6 (F := F)) (View.ld x1 (Rect.unit (s := S1x1024x2048) ![0, 0, 1536] S1x1024x256.size inb_S1x1024x2048_S1x1024x256_0_0_1536)))⟩,
   ⟨Rect.unit (s := S1024x2048) ![0, 1280] S1024x256.size inb_S1024x2048_S1024x256_0_1280, k0_pay13 (k0_pay6 (F := F)) (View.ld x1 (Rect.unit (s := S1x1024x2048) ![0, 0, 1280] S1x1024x256.size inb_S1x1024x2048_S1x1024x256_0_0_1280))⟩,
   ⟨Rect.unit (s := S1024x2048) ![0, 1024] S1024x256.size inb_S1024x2048_S1024x256_0_1024, k0_pay12 (k0_pay6 (F := F)) (View.ld x1 (Rect.unit (s := S1x1024x2048) ![0, 0, 1024] S1x1024x256.size inb_S1x1024x2048_S1x1024x256_0_0_1024))⟩,
   ⟨Rect.unit (s := S1024x2048) ![0, 768] S1024x256.size inb_S1024x2048_S1024x256_0_768, k0_pay11 (k0_pay6 (F := F)) (View.ld x1 (Rect.unit (s := S1x1024x2048) ![0, 0, 768] S1x1024x256.size inb_S1x1024x2048_S1x1024x256_0_0_768))⟩,
   ⟨Rect.unit (s := S1024x2048) ![0, 512] S1024x256.size inb_S1024x2048_S1024x256_0_512, k0_pay10 (k0_pay9 (View.ld x1 (Rect.unit (s := S1x1024x2048) ![0, 0, 512] S1x1024x256.size inb_S1x1024x2048_S1x1024x256_0_0_512)))⟩,
   ⟨Rect.unit (s := S1024x2048) ![0, 256] S1024x256.size inb_S1024x2048_S1024x256_0_256, k0_pay8 (View.ld x1 (Rect.unit (s := S1x1024x2048) ![0, 0, 256] S1x1024x256.size inb_S1x1024x2048_S1x1024x256_0_0_256))⟩,
   ⟨Rect.unit (s := S1024x2048) ![0, 0] S1024x256.size inb_S1024x2048_S1024x256_0_0, k0_pay7 (View.ld x1 (Rect.unit (s := S1x1024x2048) ![0, 0, 0] S1x1024x256.size inb_S1x1024x2048_S1x1024x256_0_0_0))⟩]

/-- What the refill leaves in the gate/up scratch, and in the down scratch. -/
def fillG (x1 : Vec F S1x1024x2048 .f32) : Vec F S1024x2048 .bf16 := View.canon (pcG x1)
def fillD (x3 : Vec F S1x1024x1024 .f32) : Vec F S1024x1024 .bf16 := k0_pay3 x3

/-- The block's result from its rows, the two scratches and the two biases. -/
def comp (x0 : Vec F S256x1024 .bf16) (g : Vec F S1024x2048 .bf16) (x2 : Vec F S1x1x2048 .f32) (d : Vec F S1024x1024 .bf16) (x4 : Vec F S1x1x1024 .f32) : Vec F S256x1024 .f32 :=
  let v25 := k0_pay15 x0 g x2
  k0_pay4 v25 (k0_pay16 x0 g x2) (k0_pay20 (k0_pay17 x0 g x2) (k0_pay18 x0 g x2) (k0_pay19 (F := F))) (k0_pay21 v25) (k0_pay22 v25)
    (k0_pay25 (k0_pay23 v25) (Scalar.ofBits .f32 0x40E00000#32) (k0_pay24 v25)) (k0_pay26 v25) (k0_pay27 v25) (k0_pay28 v25) (k0_pay29 (F := F)) d x4

theorem coverG (x1 : Vec F S1x1024x2048 .f32) (y : S1024x2048.Idx) : ∃ pc ∈ pcG x1, y ∈ pc.1.set :=
  View.cover_of_tiledL (pcG x1) S1024x256.size (by sl_kernel_rfl) y

set_option maxHeartbeats 4000000 in
theorem runA_eq (c : Dev nD) (i : grid0.Coords) (arg3 : Memref sig .tc .vmem S256x1024 .bf16) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S256x1024 .bf16) (x1 : Vec F S1x1024x2048 .f32) (x2 : Vec F S1x1x2048 .f32) (x3 : Vec F S1x1024x1024 .f32) (x4 : Vec F S1x1x1024 .f32) (xt0 : TbBuf0 (F := F) c tbM0_0) (xt1 : TbBuf0 (F := F) c tbM0_1)  (hF : condF i (wN xt1) (wE i xt0) (wP i xt0)) (h2 : k0_cond2 i (wN xt1) = 1#1) (h3 : ¬ k0_cond3 i (wN xt1) = 1#1) :
    (runA c i arg3 harg3 arg4 harg4 arg5 harg5 arg6 harg6 arg7 harg7 arg8 harg8 arg9 harg9 arg10 harg10 x0 x1 x2 x3 x4 xt0 xt1 hF h2 h3).1 = [⟨Rect.unit (s := S256x1024) ![0, 0] S256x1024.size inb_S256x1024_S256x1024_0_0, comp x0 (fillG x1) x2 (fillD x3) x4⟩]
    ∧ (runA c i arg3 harg3 arg4 harg4 arg5 harg5 arg6 harg6 arg7 harg7 arg8 harg8 arg9 harg9 arg10 harg10 x0 x1 x2 x3 x4 xt0 xt1 hF h2 h3).2.1 = pcG x1
    ∧ (runA c i arg3 harg3 arg4 harg4 arg5 harg5 arg6 harg6 arg7 harg7 arg8 harg8 arg9 harg9 arg10 harg10 x0 x1 x2 x3 x4 xt0 xt1 hF h2 h3).2.2.1 = [⟨Rect.unit (s := S1024x1024) ![0, 0] S1024x1024.size inb_S1024x1024_S1024x1024_0_0, fillD x3⟩] := by
  have e0 : View.readAt (Elt F) arg3.view (Rect.unit (s := S256x1024) ![0, 0] S256x1024.size inb_S256x1024_S256x1024_0_0).toLoadRect (harg3.unread x0) = x0 :=
    (View.readAt_full _ _ _).trans (harg3.read_unread _)
  have e2 : View.readAt (Elt F) arg5.view (Rect.unit (s := S1x1x2048) ![0, 0, 0] S1x1x2048.size inb_S1x1x2048_S1x1x2048_0_0_0).toLoadRect (harg5.unread x2) = x2 :=
    (View.readAt_full _ _ _).trans (harg5.read_unread _)
  have e3 : View.readAt (Elt F) arg6.view (Rect.unit (s := S1x1024x1024) ![0, 0, 0] S1x1024x1024.size inb_S1x1024x1024_S1x1024x1024_0_0_0).toLoadRect (harg6.unread x3) = x3 :=
    (View.readAt_full _ _ _).trans (harg6.read_unread _)
  have e4 : View.readAt (Elt F) arg7.view (Rect.unit (s := S1x1x1024) ![0, 0, 0] S1x1x1024.size inb_S1x1x1024_S1x1x1024_0_0_0).toLoadRect (harg7.unread x4) = x4 :=
    (View.readAt_full _ _ _).trans (harg7.read_unread _)
  have hG : runA.sl.HS0_8 c arg4 harg4 x1 = pcG x1 := by
    delta runA.sl.HS0_8 pcG
    simp only [View.readAt_eq_ld, harg4.read_unread, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17]
    try rfl
  have hD : runA.sl.HS1_1 c arg6 harg6 x3 = [⟨Rect.unit (s := S1024x1024) ![0, 0] S1024x1024.size inb_S1024x1024_S1024x1024_0_0, fillD x3⟩] := by
    delta runA.sl.HS1_1 fillD
    rw [e3]
  have h20 : runA.sl.v20 c arg4 harg4 arg9 x1 = fillG x1 := by
    delta runA.sl.v20
    rw [hG]
    exact (View.readCov_eq_canon' _ _ _).trans (funext fun j => congrArg (View.canon (pcG x1)) (Rect.emb_unit_full (s := S1024x2048) inb_S1024x2048_S1024x2048_0_0 j))
  have h171 : runA.sl.v171 c arg6 harg6 arg10 x3 = fillD x3 := by
    delta runA.sl.v171
    rw [hD]
    exact View.readCov_cons_toLoadRect _ _ _ _
  refine ⟨?_, hG, hD⟩
  unfold runA comp
  simp only [runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, h20, h171, e0, e2, e4]
  try rfl

set_option maxHeartbeats 4000000 in
theorem runB_eq (c : Dev nD) (i : grid0.Coords) (arg3 : Memref sig .tc .vmem S256x1024 .bf16) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S256x1024 .bf16) (x1 : Vec F S1x1024x2048 .f32) (x2 : Vec F S1x1x2048 .f32) (x3 : Vec F S1x1024x1024 .f32) (x4 : Vec F S1x1x1024 .f32) (xt0 : TbBuf0 (F := F) c tbM0_0) (xt1 : TbBuf0 (F := F) c tbM0_1)  (d0 : Vec F S1024x2048 .bf16) (d1 : Vec F S1024x1024 .bf16) (hF : ¬ condF i (wN xt1) (wE i xt0) (wP i xt0)) (h2 : k0_cond2 i (wN xt1) = 1#1) (h3 : ¬ k0_cond3 i (wN xt1) = 1#1) :
    (runB c i arg3 harg3 arg4 harg4 arg5 harg5 arg6 harg6 arg7 harg7 arg8 harg8 arg9 harg9 arg10 harg10 x0 x1 x2 x3 x4 xt0 xt1 d0 d1 hF h2 h3).1 = [⟨Rect.unit (s := S256x1024) ![0, 0] S256x1024.size inb_S256x1024_S256x1024_0_0, comp x0 d0 x2 d1 x4⟩] := by
  have e0 : View.readAt (Elt F) arg3.view (Rect.unit (s := S256x1024) ![0, 0] S256x1024.size inb_S256x1024_S256x1024_0_0).toLoadRect (harg3.unread x0) = x0 :=
    (View.readAt_full _ _ _).trans (harg3.read_unread _)
  have e2 : View.readAt (Elt F) arg5.view (Rect.unit (s := S1x1x2048) ![0, 0, 0] S1x1x2048.size inb_S1x1x2048_S1x1x2048_0_0_0).toLoadRect (harg5.unread x2) = x2 :=
    (View.readAt_full _ _ _).trans (harg5.read_unread _)
  have e4 : View.readAt (Elt F) arg7.view (Rect.unit (s := S1x1x1024) ![0, 0, 0] S1x1x1024.size inb_S1x1x1024_S1x1x1024_0_0_0).toLoadRect (harg7.unread x4) = x4 :=
    (View.readAt_full _ _ _).trans (harg7.read_unread _)
  have e9 : View.readAt (Elt F) arg9.view (Rect.unit (s := S1024x2048) ![0, 0] S1024x2048.size inb_S1024x2048_S1024x2048_0_0).toLoadRect (harg9.unread d0) = d0 :=
    (View.readAt_full _ _ _).trans (harg9.read_unread _)
  have e10 : View.readAt (Elt F) arg10.view (Rect.unit (s := S1024x1024) ![0, 0] S1024x1024.size inb_S1024x1024_S1024x1024_0_0).toLoadRect (harg10.unread d1) = d1 :=
    (View.readAt_full _ _ _).trans (harg10.read_unread _)
  unfold runB comp
  simp only [runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, e0, e2, e4, e9, e10]
  try rfl

theorem runC_eq (c : Dev nD) (i : grid0.Coords) (arg3 : Memref sig .tc .vmem S256x1024 .bf16) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S256x1024 .bf16) (x1 : Vec F S1x1024x2048 .f32) (x2 : Vec F S1x1x2048 .f32) (x3 : Vec F S1x1024x1024 .f32) (x4 : Vec F S1x1x1024 .f32) (xt0 : TbBuf0 (F := F) c tbM0_0) (xt1 : TbBuf0 (F := F) c tbM0_1)  (hF : ¬ condF i (wN xt1) (wE i xt0) (wP i xt0)) (h2 : ¬ k0_cond2 i (wN xt1) = 1#1) (h3 : k0_cond3 i (wN xt1) = 1#1) :
    (runC c i arg3 harg3 arg4 harg4 arg5 harg5 arg6 harg6 arg7 harg7 arg8 harg8 arg9 harg9 arg10 harg10 x0 x1 x2 x3 x4 xt0 xt1 hF h2 h3).1 = [⟨Rect.unit (s := S256x1024) ![0, 0] S256x1024.size inb_S256x1024_S256x1024_0_0, k0_pay5 (F := F)⟩] := rfl

end Cert.Kernel2Ideal.Ffn

end
-- ==== Proof.Ffn.Body.lean ====
module

public import proofs.«01_k».proof.Proof.Ffn.Vals

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The conditions of the body, in the words of the tables -/

theorem cond2_iff (i : grid0.Coords) (n : BitVec 32) : k0_cond2 i n = 1#1 ↔ (BitVec.ofNat 32 (i 0).val).slt n = true := by
  have h : ∀ b : Bool, (Scalar.cmpi .ne (Scalar.extui (BitVec.ofBool b) : BitVec 32) 0#32) = 1#1 ↔ b = true := by decide
  exact h _
theorem cond3_iff (i : grid0.Coords) (n : BitVec 32) : k0_cond3 i n = 1#1 ↔ ¬ (BitVec.ofNat 32 (i 0).val).slt n = true := by
  have h : ∀ b : Bool, (Scalar.cmpi .ne (Scalar.extui (Scalar.xori (BitVec.ofBool b) 1#1) : BitVec 32) 0#32) = 1#1 ↔ ¬ b = true := by decide
  exact h _
theorem condF_iff (i : grid0.Coords) (n e p : BitVec 32) :
    condF i n e p ↔ (BitVec.ofNat 32 (i 0).val).slt n = true ∧ (BitVec.ofNat 32 (i 0).val = 0#32 ∨ e ≠ p) := by
  have h : ∀ b c d : Bool, (Scalar.cmpi .ne (Scalar.extui (Scalar.andi (BitVec.ofBool b) (Scalar.ori (BitVec.ofBool c) (BitVec.ofBool d))) : BitVec 32) 0#32) = 1#1
      ↔ b = true ∧ (c = true ∨ d = true) := by decide
  refine (h _ (BitVec.ofNat 32 (i 0).val == 0#32) (e != p)).trans ?_
  simp

theorem coords0 (t : Fin grid0.N) : (grid0.coords t 0).val = t.val := by
  have h := Pipeline.Grid.coords_val t (0 : Fin 1) (S := 1) (B := 544) rfl rfl
  have ht : t.val < 544 := t.isLt
  rw [h]; omega

/-- The expert's word of the block before block `k + 1` is the word of block `k`. -/
theorem wP_succ {c : Dev nD} (i j : grid0.Coords) (h : (i 0).val = (j 0).val + 1) (xt0 : TbBuf0 (F := F) c tbM0_0) : wP i xt0 = wE j xt0 := by
  have key : ∀ (o o' : Fin 1 → Nat) (ho : ∀ a, o a + S1.size a ≤ S544.size a) (ho' : ∀ a, o' a + S1.size a ≤ S544.size a), o = o' →
      tbM0_0.view.readAt (Elt F) (Rect.unit (s := S544) o S1.size ho).toLoadRect xt0 (Shape.Idx.first (numel1_S1.symm ▸ Nat.one_pos))
        = tbM0_0.view.readAt (Elt F) (Rect.unit (s := S544) o' S1.size ho').toLoadRect xt0 (Shape.Idx.first (numel1_S1.symm ▸ Nat.one_pos)) := by
    rintro o _ _ _ rfl; rfl
  refine key _ _ _ _ ?_
  have hj : (j 0).val < 544 := (j 0).isLt
  have hi : (i 0).val < 544 := (i 0).isLt
  have hk : ∀ k : Fin 543, (Scalar.indexCast (Scalar.maxsi (Scalar.subi (BitVec.ofNat 32 (k.val + 1)) 1#32) 0#32)).toNat
      = (Scalar.indexCast (BitVec.ofNat 32 k.val)).toNat := by decide
  have := hk ⟨(j 0).val, by omega⟩
  unfold k0_off2 k0_off1
  simp only [h]
  exact congrArg (fun z => ![z]) this

/-! ## What the outputs hold -/

/-- Block `t` carries rows. -/
abbrev real (t : Fin grid0.N) : Prop := k0_cond2 (grid0.coords t) (wN (c := (0 : Dev nD)) (tbl m 1)) = 1#1

/-- What point `t` leaves in the output's staging buffer. -/
def outsAt (hO : Ok m) (c : Dev nD) (t : Fin (cfgM m hO).N) : Vec F S256x1024 .f32 :=
  if real m t then comp (iblk m hO c 0 t) (fillG (iblk m hO c 1 t)) (iblk m hO c 2 t) (fillD (iblk m hO c 3 t)) (iblk m hO c 4 t)
  else k0_pay5 (F := F)

/-- The invariant before point `n`: the weight scratches hold some contents, those of block `n - 1`'s expert if that block carries rows. -/
def Inv (hO : Ok m) (c : Dev nD) (n : Nat) : sProp 𝕄 :=
  iprop(∃ (d0 : Vec F S1024x2048 .bf16) (d1 : Vec F S1024x1024 .bf16),
    ⌜∀ k : Fin (cfgM m hO).N, n = k.val + 1 → real m k → d0 = fillG (iblk m hO c 1 k) ∧ d1 = fillD (iblk m hO c 3 k)⌝
      ∗ owns (c : Thread nD τ) scM0_0 fullShare d0 ∗ owns (c : Thread nD τ) scM0_1 fullShare d1
      ∗ (∃ r, prngReg c r) ∗ tbPt0 c tbM0_0 (tbl m 0) ∗ tbPt0 c tbM0_1 (tbl m 1))

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt m hO c t)
  Φ n := Inv m hO c n.val
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = (outsAt m hO c t) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-- Two points of one expert see one block of each weight array. -/
theorem iblk1_congr (hO : Ok m) (c : Dev nD) (t t' : Fin (cfgM m hO).N)
    (h : wE (c := (0 : Dev nD)) (grid0.coords t) (tbl m 0) = wE (c := (0 : Dev nD)) (grid0.coords t') (tbl m 0)) :
    iblk m hO c 1 t = iblk m hO c 1 t' := by
  have hx : ((cfgM m hO).win 1).index t = ((cfgM m hO).win 1).index t' := congrArg (fun z : BitVec 32 => ![z.toNat, 0, 0]) h
  have h0 : ∀ s d, (dats m hO 0 c).fetched 1 s d = iblk m hO c 1 s := fun s d => by
    unfold Dat.fetched Dat.blockOf iblk; rw [A_eq]; try rfl
  have d : Vec F S1x1024x2048 .f32 := iblk m hO c 1 t
  exact (h0 t d).symm.trans (((dats m hO 0 c).fetched_congr 1 hx rfl d).trans (h0 t' d))
theorem iblk3_congr (hO : Ok m) (c : Dev nD) (t t' : Fin (cfgM m hO).N)
    (h : wE (c := (0 : Dev nD)) (grid0.coords t) (tbl m 0) = wE (c := (0 : Dev nD)) (grid0.coords t') (tbl m 0)) :
    iblk m hO c 3 t = iblk m hO c 3 t' := by
  have hx : ((cfgM m hO).win 3).index t = ((cfgM m hO).win 3).index t' := congrArg (fun z : BitVec 32 => ![z.toNat, 0, 0]) h
  have h0 : ∀ s d, (dats m hO 0 c).fetched 3 s d = iblk m hO c 3 s := fun s d => by
    unfold Dat.fetched Dat.blockOf iblk; rw [A_eq]; try rfl
  have d : Vec F S1x1024x1024 .f32 := iblk m hO c 3 t
  exact (h0 t d).symm.trans (((dats m hO 0 c).fetched_congr 3 hx rfl d).trans (h0 t' d))

/-- A block that carries rows and does not refill has a block before it, which carries rows, of the same expert. -/
theorem kept (t : Fin grid0.N) (hr : real m t) (hF : ¬ condF (grid0.coords t) (wN (c := (0 : Dev nD)) (tbl m 1)) (wE (c := (0 : Dev nD)) (grid0.coords t) (tbl m 0)) (wP (c := (0 : Dev nD)) (grid0.coords t) (tbl m 0))) :
    ∃ k : Fin grid0.N, t.val = k.val + 1 ∧ real m k
      ∧ wE (c := (0 : Dev nD)) (grid0.coords t) (tbl m 0) = wE (c := (0 : Dev nD)) (grid0.coords k) (tbl m 0) := by
  have ht : t.val < 544 := t.isLt
  have hs := (cond2_iff _ _).mp hr
  rw [condF_iff] at hF
  have h0 : ¬ BitVec.ofNat 32 (grid0.coords t 0).val = 0#32 := fun h => hF ⟨hs, .inl h⟩
  have he := not_not.mp fun h => hF ⟨hs, .inr h⟩
  rw [coords0] at h0 hs
  have hne : t.val ≠ 0 := fun h => h0 (by rw [h])
  refine ⟨⟨t.val - 1, by show t.val - 1 < 544; omega⟩, by show t.val = t.val - 1 + 1; omega, ?_, ?_⟩
  · refine (cond2_iff _ _).mpr ?_
    rw [coords0]
    rw [BitVec.slt_iff_toInt_lt] at hs ⊢
    have h1 : ∀ x : Nat, x < 544 → (BitVec.ofNat 32 x).toInt = x := fun x hx => by
      rw [BitVec.toInt_eq_toNat_of_lt (by rw [BitVec.toNat_ofNat]; omega), BitVec.toNat_ofNat]; omega
    rw [h1 _ ht] at hs
    rw [h1 _ (by show t.val - 1 < 544; omega)]
    show ((t.val - 1 : Nat) : Int) < _
    omega
  · rw [he]
    refine wP_succ _ _ ?_ _
    rw [coords0, coords0]
    show t.val = t.val - 1 + 1; omega

/-! ## The body obligation -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

theorem read_full_piece {e : EltTy} {S : Shape} (v : View sig .tc .vmem S e) (f : v.ty.Contents (Elt F)) {off : Fin S.rank → ℕ}
    (inb : ∀ a, off a + S.size a ≤ S.size a) (w : S.Idx → Elt F e) (L : List (View.Piece (Elt F) S e)) (h : L = [⟨Rect.unit off S.size inb, w⟩]) :
    v.read (Elt F) (v.writes (Elt F) f L) = w := by
  subst h; exact View.read_writes_full v f inb w []

theorem read_cover (v : View sig .tc .vmem S1024x2048 .bf16) (f : v.ty.Contents (Elt F)) (x1 : Vec F S1x1024x2048 .f32)
    (L : List (View.Piece (Elt F) S1024x2048 .bf16)) (h : L = pcG x1) : v.read (Elt F) (v.writes (Elt F) f L) = fillG x1 := by
  subst h; exact View.read_writes_eq_canon _ _ _ (coverG _)

set_option maxHeartbeats 3200000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  obtain rfl : c = 0 := Subsingleton.elim _ _
  unfold bodyPre bodyPost bodyAt0
  simp only [before0_0, before0_1, before0_2, before0_3, before0_4]
  rw [show (dats m hO 0 (0 : Dev nD)).Φ t.succ = Inv m hO 0 (t.val + 1) from rfl, show (dats m hO 0 (0 : Dev nD)).Φ t.castSucc = Inv m hO 0 t.val from rfl,
    show (dats m hO 0 (0 : Dev nD)).owesAt () t.succ = (dats m hO 0 (0 : Dev nD)).owesAt () t.castSucc from rfl,
    after0_0, after0_1, after0_2, after0_3, after0_4, after0_5]
  unfold Inv
  by_cases h2 : real m t
  · have h3 : ¬ k0_cond3 (grid0.coords t) (wN (c := (0 : Dev nD)) (tbl m 1)) = 1#1 := fun h => (cond3_iff _ _).mp h ((cond2_iff _ _).mp h2)
    rw [show outsAt m hO 0 t = comp (iblk m hO 0 0 t) (fillG (iblk m hO 0 1 t)) (iblk m hO 0 2 t) (fillD (iblk m hO 0 3 t)) (iblk m hO 0 4 t) from if_pos h2]
    by_cases hF : condF (grid0.coords t) (wN (c := (0 : Dev nD)) (tbl m 1)) (wE (c := (0 : Dev nD)) (grid0.coords t) (tbl m 0)) (wP (c := (0 : Dev nD)) (grid0.coords t) (tbl m 0))
    · iintro ⟨⟨%s0, %s1, %hs, HS0, HS1, Hg, HT0, HT1⟩, Ho, ⟨%d0, H0⟩, ⟨%d1, H1⟩, ⟨%d2, H2⟩, ⟨%d3, H3⟩, ⟨%d4, H4⟩, ⟨%d5, H5⟩⟩
      iapply ((runA (0 : Dev nD) (grid0.coords t) _ _ _ _ _ _ _ _ _ _ _ _ _ _ _ _ (iblk m hO 0 0 t) (iblk m hO 0 1 t) (iblk m hO 0 2 t) (iblk m hO 0 3 t) (iblk m hO 0 4 t) (tbl m 0) (tbl m 1) hF h2 h3).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexists _; iexact HS1
      isplitl [HT0]; · iexact HT0
      isplitl [HT1]; · iexact HT1
      iintro ⟨H0, H1, H2, H3, H4, ⟨%e5, H5⟩, ⟨%fT0, HS0⟩, ⟨%fT1, HS1⟩, HT0, HT1⟩
      isplitl [HS0 HS1 Hg HT0 HT1]
      · iexists (fillG (iblk m hO 0 1 t)), (fillD (iblk m hO 0 3 t))
        isplitr
        · ipureintro
          intro k hk _
          obtain rfl : t = k := Fin.ext (by omega)
          exact ⟨rfl, rfl⟩
        isplitl [HS0]
        · unfold owns; iexists _; isplitr
          swap; · iexact HS0
          ipureintro
          exact read_cover _ _ _ _ (runA_eq (0 : Dev nD) (grid0.coords t) _ _ _ _ _ _ _ _ _ _ _ _ _ _ _ _ (iblk m hO 0 0 t) (iblk m hO 0 1 t) (iblk m hO 0 2 t) (iblk m hO 0 3 t) (iblk m hO 0 4 t) (tbl m 0) (tbl m 1) hF h2 h3).2.1
        isplitl [HS1]
        · unfold owns; iexists _; isplitr
          swap; · iexact HS1
          ipureintro
          exact read_full_piece _ _ _ _ _ (runA_eq (0 : Dev nD) (grid0.coords t) _ _ _ _ _ _ _ _ _ _ _ _ _ _ _ _ (iblk m hO 0 0 t) (iblk m hO 0 1 t) (iblk m hO 0 2 t) (iblk m hO 0 3 t) (iblk m hO 0 4 t) (tbl m 0) (tbl m 1) hF h2 h3).2.2
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro
      exact read_full_piece _ _ _ _ _ (runA_eq (0 : Dev nD) (grid0.coords t) _ _ _ _ _ _ _ _ _ _ _ _ _ _ _ _ (iblk m hO 0 0 t) (iblk m hO 0 1 t) (iblk m hO 0 2 t) (iblk m hO 0 3 t) (iblk m hO 0 4 t) (tbl m 0) (tbl m 1) hF h2 h3).1
    · obtain ⟨k, hk, hrk, hek⟩ := kept m t h2 hF
      iintro ⟨⟨%s0, %s1, %hs, HS0, HS1, Hg, HT0, HT1⟩, Ho, ⟨%d0, H0⟩, ⟨%d1, H1⟩, ⟨%d2, H2⟩, ⟨%d3, H3⟩, ⟨%d4, H4⟩, ⟨%d5, H5⟩⟩
      have hs0 : s0 = fillG (iblk m hO 0 1 t) := ((hs k hk hrk).1).trans (congrArg fillG (iblk1_congr m hO 0 t k hek).symm)
      have hs1 : s1 = fillD (iblk m hO 0 3 t) := ((hs k hk hrk).2).trans (congrArg fillD (iblk3_congr m hO 0 t k hek).symm)
      iapply ((runB (0 : Dev nD) (grid0.coords t) _ _ _ _ _ _ _ _ _ _ _ _ _ _ _ _ (iblk m hO 0 0 t) (iblk m hO 0 1 t) (iblk m hO 0 2 t) (iblk m hO 0 3 t) (iblk m hO 0 4 t) (tbl m 0) (tbl m 1) s0 s1 hF h2 h3).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HT0]; · iexact HT0
      isplitl [HT1]; · iexact HT1
      iintro ⟨H0, H1, H2, H3, H4, ⟨%e5, H5⟩, HS0, HS1, HT0, HT1⟩
      isplitl [HS0 HS1 Hg HT0 HT1]
      · iexists s0, s1
        isplitr
        · ipureintro
          intro k' hk' _
          obtain rfl : t = k' := Fin.ext (by omega)
          exact ⟨hs0, hs1⟩
        isplitl [HS0]; · iexact HS0
        isplitl [HS1]; · iexact HS1
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro
      rw [← hs0, ← hs1]
      exact read_full_piece _ _ _ _ _ (runB_eq (0 : Dev nD) (grid0.coords t) _ _ _ _ _ _ _ _ _ _ _ _ _ _ _ _ (iblk m hO 0 0 t) (iblk m hO 0 1 t) (iblk m hO 0 2 t) (iblk m hO 0 3 t) (iblk m hO 0 4 t) (tbl m 0) (tbl m 1) s0 s1 hF h2 h3)
  · have h3 : k0_cond3 (grid0.coords t) (wN (c := (0 : Dev nD)) (tbl m 1)) = 1#1 := (cond3_iff _ _).mpr fun h => h2 ((cond2_iff _ _).mpr h)
    have hF : ¬ condF (grid0.coords t) (wN (c := (0 : Dev nD)) (tbl m 1)) (wE (c := (0 : Dev nD)) (grid0.coords t) (tbl m 0)) (wP (c := (0 : Dev nD)) (grid0.coords t) (tbl m 0)) :=
      fun h => h2 ((cond2_iff _ _).mpr ((condF_iff _ _ _ _).mp h).1)
    rw [show outsAt m hO 0 t = k0_pay5 (F := F) from if_neg h2]
    iintro ⟨⟨%s0, %s1, %hs, HS0, HS1, Hg, HT0, HT1⟩, Ho, ⟨%d0, H0⟩, ⟨%d1, H1⟩, ⟨%d2, H2⟩, ⟨%d3, H3⟩, ⟨%d4, H4⟩, ⟨%d5, H5⟩⟩
    iapply ((runC (0 : Dev nD) (grid0.coords t) _ _ _ _ _ _ _ _ _ _ _ _ _ _ _ _ (iblk m hO 0 0 t) (iblk m hO 0 1 t) (iblk m hO 0 2 t) (iblk m hO 0 3 t) (iblk m hO 0 4 t) (tbl m 0) (tbl m 1) hF h2 h3).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]
    · unfold owns; icases HS0 with ⟨%f, %hf, HS0⟩; iexists f; iexact HS0
    isplitl [HS1]
    · unfold owns; icases HS1 with ⟨%f, %hf, HS1⟩; iexists f; iexact HS1
    isplitl [HT0]; · iexact HT0
    isplitl [HT1]; · iexact HT1
    iintro ⟨H0, H1, H2, H3, H4, ⟨%e5, H5⟩, ⟨%f0, HS0⟩, ⟨%f1, HS1⟩, HT0, HT1⟩
    isplitl [HS0 HS1 Hg HT0 HT1]
    · iexists (scM0_0.view.read (Elt F) f0), (scM0_1.view.read (Elt F) f1)
      isplitr
      · ipureintro
        intro k' hk' hr'
        obtain rfl : t = k' := Fin.ext (by omega)
        exact absurd hr' h2
      isplitl [HS0]
      · unfold owns; iexists f0; isplitr
        swap; · iexact HS0
        ipureintro; rfl
      isplitl [HS1]
      · unfold owns; iexists f1; isplitr
        swap; · iexact HS1
        ipureintro; rfl
      isplitl [Hg]; · iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact read_full_piece _ _ _ _ _ (runC_eq (0 : Dev nD) (grid0.coords t) _ _ _ _ _ _ _ _ _ _ _ _ _ _ _ _ (iblk m hO 0 0 t) (iblk m hO 0 1 t) (iblk m hO 0 2 t) (iblk m hO 0 3 t) (iblk m hO 0 4 t) (tbl m 0) (tbl m 1) hF h2 h3)

end Cert.Kernel2Ideal.Ffn

end
-- ==== Proof.Ffn.Frame.lean ====
module

public import proofs.«01_k».proof.Proof.Ffn.Body
public import Idealize.ShloMosaic.Lib.Claim

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem left_of {cfg : Cfg sig Λ₀} {c : Dev nD} (dat : Dat τ (Elt F) Unit ℕ (UR sig nD τ) ℕ cfg c) (w : Fin cfg.W) (t : Fin cfg.N)
    (h : cfg.idle w (cfg.grid.coords t) = false ∨ (cfg.win w).flush t = true) :
    (owns (c : Thread nD τ) ((cfg.win w).stage (cfg.slots t w)) fullShare (dat.after w t) : sProp 𝕄) ⊢ dat.leavesExact w t := by
  unfold Dat.leavesExact
  rcases h with h | h
  · rw [h]
  · rw [h]
    cases cfg.idle w (cfg.grid.coords t) <;> exact Entails.rfl (PROP := sProp 𝕄)

theorem idle_or_flush (hO : Ok m) (t : Fin (cfgM m hO).N) :
    ∀ w : Fin 6, (cfgM m hO).idle w ((cfgM m hO).grid.coords t) = false ∨ ((cfgM m hO).win w).flush t = true
  | 0 => .inl rfl
  | 1 => .inl rfl
  | 2 => .inl rfl
  | 3 => .inl rfl
  | 4 => .inl rfl
  | 5 => .inr (flush0_5 (adm m hO) t)

theorem body_obligation (hO : Ok m) (c : Dev nD) : BodyObligation (dats (F := F) m hO 0 c) (defs₀ (F := F)) Variants.none () Set.univ := fun t => by
  rw [bigSep_W0, defs₀_row m hO]
  refine triple_restated (sound_body m hO c t) rfl .rfl fun _ => ?_
  unfold bodyPost
  refine sep_mono .rfl (sep_mono .rfl ?_)
  refine BIBase.Entails.trans (BIBase.Entails.of_eq (bigSep_W0 (fun w => (owns (c : Thread nD τ) (((cfgM m hO).win w).stage ((cfgM m hO).slots t w)) fullShare ((dats m hO 0 c).after w t) : sProp 𝕄))).symm) ?_
  exact bigSep_mono fun w _ => left_of (dats m hO 0 c) w t (idle_or_flush m hO t w)

/-! ## The run and the frame -/

theorem inv_in (hO : Ok m) (c : Dev nD) : iprop(Pipeline.ΦA spec0 c ∗ Pipeline.ΦT pre0 (tbl m) c) ⊢ Inv m hO c 0 := by
  rw [PhiT0_eq, PhiA0_eq]
  unfold Inv
  iintro ⟨⟨⟨⟨%s0, HS0⟩, ⟨%s1, HS1⟩⟩, Hg⟩, ⟨HT0, HT1⟩⟩
  iexists s0, s1
  isplitr
  · ipureintro
    intro k hk _
    exact absurd hk (by omega)
  isplitl [HS0]; · iexact HS0
  isplitl [HS1]; · iexact HS1
  isplitl [Hg]; · iexact Hg
  isplitl [HT0]; · iexact HT0
  iexact HT1

theorem inv_out (hO : Ok m) (c : Dev nD) (n : Nat) : Inv m hO c n ⊢ (Pipeline.ΦA spec0 c : sProp 𝕄) := by
  rw [PhiA0_eq]
  unfold Inv
  iintro ⟨%s0, %s1, %hs, HS0, HS1, Hg, HT0, HT1⟩
  isplitl [HS0 HS1]
  · isplitl [HS0]
    · iexists s0; iexact HS0
    iexists s1; iexact HS1
  iexact Hg

set_option backward.isDefEq.respectTransparency.types false in
/-- Every weakly fair execution ends with the pipeline's arrays at what the proof data say, every other unscoped buffer as
    the region found it, and every semaphore counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := fun c => inv_in m hO c) (hout := fun c => inv_out m hO c _)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ hO (dats m hO) (A_eq m hO) (run_main m ρ hO)) ((θ_run defs _ _).mono (fun _ h => h.2) (run_main_quiescent m ρ hO))

end Cert.Kernel2Ideal.Ffn

end
-- ==== Proof.Ffn.OkPre.lean ====
module

public import proofs.«01_k».proof.Proof.Ffn.Frame

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The experts' words as launched. -/
theorem tbl0_eq (j : S544.Idx) : (tbl m 0 : S544.Idx → BitVec 32) j = (m (((0 : Dev nD) : Thread nD τ).loc main_arg0) : S544.Idx → BitVec 32) j :=
  congrFun (V_main_arg0 m 0) j

theorem word_lt (h : ∀ j : S544.Idx, ((m (((0 : Dev nD) : Thread nD τ).loc main_arg0) : S544.Idx → BitVec 32) j).toNat < 32) (i : grid0.Coords) :
    (wE (c := (0 : Dev nD)) i (tbl m 0)).toNat < 32 :=
  (congrArg BitVec.toNat (tbl0_eq m _)).trans_lt (h _)

/-- Where every block's expert is an expert, the windows' blocks lie inside their arrays. -/
theorem ok_of (h : ∀ j : S544.Idx, ((m (((0 : Dev nD) : Thread nD τ).loc main_arg0) : S544.Idx → BitVec 32) j).toNat < 32) : Ok m := by
  have hb : ∀ (i : grid0.Coords) (s S : Fin 3 → Nat), (S 0 = 32 * s 0) → s 1 = S 1 → s 2 = S 2 →
      ∀ a, (![(wE (c := (0 : Dev nD)) i (tbl m 0)).toNat, 0, 0] a + 1) * s a ≤ S a := fun i s S h0 h1 h2 a => by
    have := word_lt m h i
    fin_cases a
    · show ((wE (c := (0 : Dev nD)) i (tbl m 0)).toNat + 1) * s 0 ≤ S 0
      rw [h0]; exact Nat.mul_le_mul_right _ (by omega)
    · show (0 + 1) * s 1 ≤ S 1
      omega
    · show (0 + 1) * s 2 ≤ S 2
      omega
  exact ⟨fun i => ⟨hb i _ _ rfl rfl rfl, .inl rfl⟩, fun i => ⟨hb i _ _ rfl rfl rfl, .inl rfl⟩,
    fun i => ⟨hb i _ _ rfl rfl rfl, .inl rfl⟩, fun i => ⟨hb i _ _ rfl rfl rfl, .inl rfl⟩⟩

end Cert.Kernel2Ideal.Ffn

end
-- ==== Proof.Ffn.Val.lean ====
module

public import proofs.«01_k».proof.Proof.Ffn.Vals
public import Idealize.ShloMosaic.Lib.Pointwise
public import Idealize.ShloMosaic.Lib.IdealHost

@[expose] public section

set_option maxRecDepth 16384

noncomputable section

namespace Cert.Kernel2Ideal.Ffn

open Idealize.ShloMosaic Idealize.ShloMosaic.TcCoe Idealize.ShloMosaic.Tactic
open Cert.Kernel2Ideal.Gen

/-! ## What the body computes over the extended reals, element by element -/

/-- Column `c` of a permuted group of 256: the even columns first, then the odd ones. -/
def q (c : Fin 256) : Fin 256 := if h : c.val < 128 then ⟨2 * c.val, by omega⟩ else ⟨2 * (c.val - 128) + 1, by omega⟩

/-- The same over the eight groups of a matrix of 2048 columns. -/
def pcol (j : Fin 2048) : Fin 2048 := ⟨256 * (j.val / 256) + (q ⟨j.val % 256, Nat.mod_lt _ (by decide)⟩).val, by
  have := (q ⟨j.val % 256, Nat.mod_lt _ (by decide)⟩).isLt; have := j.isLt; omega⟩

/-- The row that the permutation matrix marks in column `c`, as the word computed for it. -/
theorem word_q : ∀ c : Fin 256, Scalar.select (IntOp.cmpi .slt (BitVec.ofNat 32 c.val) 128#32)
    (IntOp.muli 2#32 (BitVec.ofNat 32 c.val)) (IntOp.addi (IntOp.muli 2#32 (IntOp.subi (BitVec.ofNat 32 c.val) 128#32)) 1#32)
      = BitVec.ofNat 32 (q c).val := by decide +kernel

/-- The permutation matrix: one in column `c` at row `q c`, zero elsewhere. -/
theorem perm_apply (k c : Fin 256) : k0_pay6 (F := Ideal) (ix2 k c) = if k = q c then (1 : EReal) else 0 := by
  pointwise [k0_pay6]
  rw [word_q]
  have hk := k.isLt
  have hq := (q c).isLt
  by_cases h : k = q c
  · subst h
    simp [IntOp.cmpi, FloatOps.sitofp]
  · have hne : BitVec.ofNat 32 k.val ≠ BitVec.ofNat 32 (q c).val := by
      intro e
      have := congrArg BitVec.toNat e
      simp only [BitVec.toNat_ofNat] at this
      exact h (Fin.ext (by omega))
    have e0 : (BitVec.ofNat 32 k.val == BitVec.ofNat 32 (q c).val) = false := by simpa using hne
    simp [IntOp.cmpi, h, e0, FloatOps.sitofp]

/-- A row times the permutation matrix is the row read at the permuted column. -/
theorem perm_sum (f : Fin 256 → EReal) (c : Fin 256) :
    (∑ k : Fin 256, f k * (if k = q c then (1 : EReal) else 0)) = f (q c) := by
  rw [Finset.sum_eq_single (q c)]
  · rw [if_pos rfl, mul_one]
  · intro k _ h
    rw [if_neg h, mul_zero]
  · intro h
    exact absurd (Finset.mem_univ _) h

theorem pay7_apply (v : Vec Ideal S1x1024x256 .f32) (k : Fin 1024) (c : Fin 256) : k0_pay7 v (ix2 k c) = v (ix3 0 k (q c)) := by
  pointwise [k0_pay7]
  simp only [perm_apply]
  exact perm_sum _ c
theorem pay8_apply (v : Vec Ideal S1x1024x256 .f32) (k : Fin 1024) (c : Fin 256) : k0_pay8 v (ix2 k c) = v (ix3 0 k (q c)) := by
  pointwise [k0_pay8]
  simp only [perm_apply]
  exact perm_sum _ c
theorem pay10_apply (v : Vec Ideal S1x1024x256 .f32) (k : Fin 1024) (c : Fin 256) : k0_pay10 (k0_pay9 v) (ix2 k c) = v (ix3 0 k (q c)) := by
  pointwise [k0_pay10, k0_pay9]
  simp only [perm_apply]
  exact perm_sum _ c
theorem pay11_apply (v : Vec Ideal S1x1024x256 .f32) (k : Fin 1024) (c : Fin 256) : k0_pay11 k0_pay6 v (ix2 k c) = v (ix3 0 k (q c)) := by
  pointwise [k0_pay11]
  simp only [perm_apply]
  exact perm_sum _ c
theorem pay12_apply (v : Vec Ideal S1x1024x256 .f32) (k : Fin 1024) (c : Fin 256) : k0_pay12 k0_pay6 v (ix2 k c) = v (ix3 0 k (q c)) := by
  pointwise [k0_pay12]
  simp only [perm_apply]
  exact perm_sum _ c
theorem pay13_apply (v : Vec Ideal S1x1024x256 .f32) (k : Fin 1024) (c : Fin 256) : k0_pay13 k0_pay6 v (ix2 k c) = v (ix3 0 k (q c)) := by
  pointwise [k0_pay13]
  simp only [perm_apply]
  exact perm_sum _ c
theorem pay1_apply (v : Vec Ideal S1x1024x256 .f32) (k : Fin 1024) (c : Fin 256) : k0_pay1 (k0_pay14 k0_pay6 v) (ix2 k c) = v (ix3 0 k (q c)) := by
  pointwise [k0_pay1, k0_pay14]
  simp only [perm_apply]
  exact perm_sum _ c
theorem pay2_apply (v : Vec Ideal S1x1024x256 .f32) (k : Fin 1024) (c : Fin 256) : k0_pay2 k0_pay6 v (ix2 k c) = v (ix3 0 k (q c)) := by
  pointwise [k0_pay2]
  simp only [perm_apply]
  exact perm_sum _ c
theorem pay3_apply (v : Vec Ideal S1x1024x1024 .f32) (k c : Fin 1024) : k0_pay3 v (ix2 k c) = v (ix3 0 k c) := by
  pointwise [k0_pay3]

/-- A column of a group, permuted, is the group's first column plus the permuted place. -/
theorem pcol_at (g : Nat) (hg : g < 8) (c : Fin 256) : (pcol ⟨256 * g + c.val, by have := c.isLt; omega⟩).val = 256 * g + (q c).val := by
  have hc := c.isLt
  have e : (256 * g + c.val) % 256 = c.val := by omega
  show 256 * ((256 * g + c.val) / 256) + (q ⟨(256 * g + c.val) % 256, _⟩).val = _
  rw [show (⟨(256 * g + c.val) % 256, Nat.mod_lt _ (by decide)⟩ : Fin 256) = c from Fin.ext e]
  omega

theorem at_eq (x1 : Vec Ideal S1x1024x2048 .f32) {a a' : Fin 1024} {n n' : Fin 2048} (h : a.val = a'.val) (h' : n.val = n'.val) :
    x1 (ix3 0 a n) = x1 (ix3 0 a' n') := by
  rw [Fin.ext h, Fin.ext h']

/-- What the gate/up scratch holds after a refill: the expert's matrix with its columns permuted. -/
theorem fillG_apply (x1 : Vec Ideal S1x1024x2048 .f32) (k : Fin 1024) (j : Fin 2048) : fillG x1 (ix2 k j) = x1 (ix3 0 k (pcol j)) := by
  refine View.canon_apply_of_pieces (fun y => x1 (ix3 0 (y 0) (pcol (y 1)))) _ ?_ (ix2 k j) (coverG x1 (ix2 k j))
  intro pc hpc x
  simp only [pcG, List.mem_cons, List.not_mem_nil, or_false] at hpc
  rcases hpc with rfl | rfl | rfl | rfl | rfl | rfl | rfl | rfl
  · obtain ⟨a, b, rfl⟩ : ∃ (a : Fin 1024) (b : Fin 256), x = ix2 a b := ⟨x 0, x 1, eq_ix2 x⟩
    refine (pay2_apply _ a b).trans ?_
    pointwise
    refine at_eq x1 (by show a.val = 0 + 1 * a.val; omega) ?_
    have e : (Rect.unit (s := S1024x2048) ![0, 1792] S1024x256.size inb_S1024x2048_S1024x256_0_1792).emb (ix2 a b) 1
        = (⟨256 * 7 + b.val, by have := b.isLt; omega⟩ : Fin 2048) := Fin.ext (by show 1792 + 1 * b.val = _; simp)
    refine Eq.trans ?_ (congrArg (fun n : Fin 2048 => (pcol n).val) e).symm
    refine Eq.trans ?_ (pcol_at 7 (by decide) b).symm
    simp
  · obtain ⟨a, b, rfl⟩ : ∃ (a : Fin 1024) (b : Fin 256), x = ix2 a b := ⟨x 0, x 1, eq_ix2 x⟩
    refine (pay1_apply _ a b).trans ?_
    pointwise
    refine at_eq x1 (by show a.val = 0 + 1 * a.val; omega) ?_
    have e : (Rect.unit (s := S1024x2048) ![0, 1536] S1024x256.size inb_S1024x2048_S1024x256_0_1536).emb (ix2 a b) 1
        = (⟨256 * 6 + b.val, by have := b.isLt; omega⟩ : Fin 2048) := Fin.ext (by show 1536 + 1 * b.val = _; simp)
    refine Eq.trans ?_ (congrArg (fun n : Fin 2048 => (pcol n).val) e).symm
    refine Eq.trans ?_ (pcol_at 6 (by decide) b).symm
    simp
  · obtain ⟨a, b, rfl⟩ : ∃ (a : Fin 1024) (b : Fin 256), x = ix2 a b := ⟨x 0, x 1, eq_ix2 x⟩
    refine (pay13_apply _ a b).trans ?_
    pointwise
    refine at_eq x1 (by show a.val = 0 + 1 * a.val; omega) ?_
    have e : (Rect.unit (s := S1024x2048) ![0, 1280] S1024x256.size inb_S1024x2048_S1024x256_0_1280).emb (ix2 a b) 1
        = (⟨256 * 5 + b.val, by have := b.isLt; omega⟩ : Fin 2048) := Fin.ext (by show 1280 + 1 * b.val = _; simp)
    refine Eq.trans ?_ (congrArg (fun n : Fin 2048 => (pcol n).val) e).symm
    refine Eq.trans ?_ (pcol_at 5 (by decide) b).symm
    simp
  · obtain ⟨a, b, rfl⟩ : ∃ (a : Fin 1024) (b : Fin 256), x = ix2 a b := ⟨x 0, x 1, eq_ix2 x⟩
    refine (pay12_apply _ a b).trans ?_
    pointwise
    refine at_eq x1 (by show a.val = 0 + 1 * a.val; omega) ?_
    have e : (Rect.unit (s := S1024x2048) ![0, 1024] S1024x256.size inb_S1024x2048_S1024x256_0_1024).emb (ix2 a b) 1
        = (⟨256 * 4 + b.val, by have := b.isLt; omega⟩ : Fin 2048) := Fin.ext (by show 1024 + 1 * b.val = _; simp)
    refine Eq.trans ?_ (congrArg (fun n : Fin 2048 => (pcol n).val) e).symm
    refine Eq.trans ?_ (pcol_at 4 (by decide) b).symm
    simp
  · obtain ⟨a, b, rfl⟩ : ∃ (a : Fin 1024) (b : Fin 256), x = ix2 a b := ⟨x 0, x 1, eq_ix2 x⟩
    refine (pay11_apply _ a b).trans ?_
    pointwise
    refine at_eq x1 (by show a.val = 0 + 1 * a.val; omega) ?_
    have e : (Rect.unit (s := S1024x2048) ![0, 768] S1024x256.size inb_S1024x2048_S1024x256_0_768).emb (ix2 a b) 1
        = (⟨256 * 3 + b.val, by have := b.isLt; omega⟩ : Fin 2048) := Fin.ext (by show 768 + 1 * b.val = _; simp)
    refine Eq.trans ?_ (congrArg (fun n : Fin 2048 => (pcol n).val) e).symm
    refine Eq.trans ?_ (pcol_at 3 (by decide) b).symm
    simp
  · obtain ⟨a, b, rfl⟩ : ∃ (a : Fin 1024) (b : Fin 256), x = ix2 a b := ⟨x 0, x 1, eq_ix2 x⟩
    refine (pay10_apply _ a b).trans ?_
    pointwise
    refine at_eq x1 (by show a.val = 0 + 1 * a.val; omega) ?_
    have e : (Rect.unit (s := S1024x2048) ![0, 512] S1024x256.size inb_S1024x2048_S1024x256_0_512).emb (ix2 a b) 1
        = (⟨256 * 2 + b.val, by have := b.isLt; omega⟩ : Fin 2048) := Fin.ext (by show 512 + 1 * b.val = _; simp)
    refine Eq.trans ?_ (congrArg (fun n : Fin 2048 => (pcol n).val) e).symm
    refine Eq.trans ?_ (pcol_at 2 (by decide) b).symm
    simp
  · obtain ⟨a, b, rfl⟩ : ∃ (a : Fin 1024) (b : Fin 256), x = ix2 a b := ⟨x 0, x 1, eq_ix2 x⟩
    refine (pay8_apply _ a b).trans ?_
    pointwise
    refine at_eq x1 (by show a.val = 0 + 1 * a.val; omega) ?_
    have e : (Rect.unit (s := S1024x2048) ![0, 256] S1024x256.size inb_S1024x2048_S1024x256_0_256).emb (ix2 a b) 1
        = (⟨256 * 1 + b.val, by have := b.isLt; omega⟩ : Fin 2048) := Fin.ext (by show 256 + 1 * b.val = _; simp)
    refine Eq.trans ?_ (congrArg (fun n : Fin 2048 => (pcol n).val) e).symm
    refine Eq.trans ?_ (pcol_at 1 (by decide) b).symm
    simp
  · obtain ⟨a, b, rfl⟩ : ∃ (a : Fin 1024) (b : Fin 256), x = ix2 a b := ⟨x 0, x 1, eq_ix2 x⟩
    refine (pay7_apply _ a b).trans ?_
    pointwise
    refine at_eq x1 (by show a.val = 0 + 1 * a.val; omega) ?_
    have e : (Rect.unit (s := S1024x2048) ![0, 0] S1024x256.size inb_S1024x2048_S1024x256_0_0).emb (ix2 a b) 1
        = (⟨256 * 0 + b.val, by have := b.isLt; omega⟩ : Fin 2048) := Fin.ext (by show 0 + 1 * b.val = _; simp)
    refine Eq.trans ?_ (congrArg (fun n : Fin 2048 => (pcol n).val) e).symm
    refine Eq.trans ?_ (pcol_at 0 (by decide) b).symm
    simp

/-- The clamped SwiGLU of one gate value and one up value, as the body computes it. -/
def glu (x u : EReal) : EReal :=
  Ideal.div (min x (Ideal.ofBits .f32 0x40E00000#32)) (1 + Ideal.exp (Ideal.ofBits .f32 0xBFD9DB23#32 * min x (Ideal.ofBits .f32 0x40E00000#32)))
    * (min (Ideal.ofBits .f32 0x40E00000#32) (max (Ideal.ofBits .f32 0xC0E00000#32) u) + 1)

/-- The activation `h` of a row whose gate/up products, in the permuted columns, are `z`. -/
def act (z : Fin 2048 → EReal) (h : Fin 1024) : EReal :=
  glu (z ⟨256 * (h.val / 128) + h.val % 128, by have := h.isLt; omega⟩) (z ⟨256 * (h.val / 128) + 128 + h.val % 128, by have := h.isLt; omega⟩)

theorem act_at (z : Fin 2048 → EReal) (h : Fin 1024) (c : Fin 128) (g u : Fin 2048) (o : Nat) (e : h.val = 128 * o + c.val)
    (eg : g.val = 256 * o + c.val) (eu : u.val = 256 * o + 128 + c.val) : glu (z g) (z u) = act z h := by
  have hc := c.isLt
  unfold act
  congr 2 <;> refine Fin.ext ?_ <;> simp only [eg, eu, e] <;> omega

theorem g0_apply (x0 : Vec Ideal S256x1024 .bf16) (g : Vec Ideal S1024x2048 .bf16) (x2 : Vec Ideal S1x1x2048 .f32) (r : Fin 256) (c : Fin 128) :
    k0_pay16 x0 g x2 (ix2 r c) = glu (k0_pay15 x0 g x2 (ix2 r ⟨0 + c.val, by have := c.isLt; omega⟩)) (k0_pay15 x0 g x2 (ix2 r ⟨128 + c.val, by have := c.isLt; omega⟩)) := by
  delta k0_pay16
  generalize k0_pay15 x0 g x2 = v
  pointwise
  rfl
theorem g1_apply (x0 : Vec Ideal S256x1024 .bf16) (g : Vec Ideal S1024x2048 .bf16) (x2 : Vec Ideal S1x1x2048 .f32) (r : Fin 256) (c : Fin 128) :
    k0_pay20 (k0_pay17 x0 g x2) (k0_pay18 x0 g x2) (k0_pay19 (F := Ideal)) (ix2 r c) = glu (k0_pay15 x0 g x2 (ix2 r ⟨256 + c.val, by have := c.isLt; omega⟩)) (k0_pay15 x0 g x2 (ix2 r ⟨384 + c.val, by have := c.isLt; omega⟩)) := by
  delta k0_pay20 k0_pay17 k0_pay18 k0_pay19
  generalize k0_pay15 x0 g x2 = v
  pointwise
  rfl
theorem g2_apply (v : FVec Ideal S256x2048 .f32) (r : Fin 256) (c : Fin 128) : k0_pay21 v (ix2 r c) = glu (v (ix2 r ⟨512 + c.val, by have := c.isLt; omega⟩)) (v (ix2 r ⟨640 + c.val, by have := c.isLt; omega⟩)) := by
  pointwise [k0_pay21]
  rfl
theorem g3_apply (v : FVec Ideal S256x2048 .f32) (r : Fin 256) (c : Fin 128) : k0_pay22 v (ix2 r c) = glu (v (ix2 r ⟨768 + c.val, by have := c.isLt; omega⟩)) (v (ix2 r ⟨896 + c.val, by have := c.isLt; omega⟩)) := by
  pointwise [k0_pay22]
  rfl
theorem g4_apply (v : FVec Ideal S256x2048 .f32) (r : Fin 256) (c : Fin 128) : k0_pay25 (k0_pay23 v) (Scalar.ofBits .f32 0x40E00000#32) (k0_pay24 v) (ix2 r c) = glu (v (ix2 r ⟨1024 + c.val, by have := c.isLt; omega⟩)) (v (ix2 r ⟨1152 + c.val, by have := c.isLt; omega⟩)) := by
  pointwise [k0_pay25, k0_pay23, k0_pay24]
  rfl
theorem g5_apply (v : FVec Ideal S256x2048 .f32) (r : Fin 256) (c : Fin 128) : k0_pay26 v (ix2 r c) = glu (v (ix2 r ⟨1280 + c.val, by have := c.isLt; omega⟩)) (v (ix2 r ⟨1408 + c.val, by have := c.isLt; omega⟩)) := by
  pointwise [k0_pay26]
  rfl

/-- The eight groups of activations side by side. -/
def cat8 (a0 a1 a2 a3 a4 a5 a6 a7 : FVec Ideal S256x128 .bf16) : FVec Ideal S256x1024 .bf16 :=
  concatenate S256x1024 1 [⟨S256x128, a0⟩, ⟨S256x128, a1⟩, ⟨S256x128, a2⟩, ⟨S256x128, a3⟩, ⟨S256x128, a4⟩, ⟨S256x128, a5⟩, ⟨S256x128, a6⟩, ⟨S256x128, a7⟩] concatenates_S256x128_S256x128_S256x128_S256x128_S256x128_S256x128_S256x128_S256x128_S256x1024_d1

theorem cat8_apply (v : FVec Ideal S256x2048 .f32) (a0 a1 a2 a3 a4 a5 a6 a7 : FVec Ideal S256x128 .bf16) (h0 : ∀ (r : Fin 256) (c : Fin 128), a0 (ix2 r c) = glu (v (ix2 r ⟨0 + c.val, by have := c.isLt; omega⟩)) (v (ix2 r ⟨128 + c.val, by have := c.isLt; omega⟩))) (h1 : ∀ (r : Fin 256) (c : Fin 128), a1 (ix2 r c) = glu (v (ix2 r ⟨256 + c.val, by have := c.isLt; omega⟩)) (v (ix2 r ⟨384 + c.val, by have := c.isLt; omega⟩))) (h2 : ∀ (r : Fin 256) (c : Fin 128), a2 (ix2 r c) = glu (v (ix2 r ⟨512 + c.val, by have := c.isLt; omega⟩)) (v (ix2 r ⟨640 + c.val, by have := c.isLt; omega⟩))) (h3 : ∀ (r : Fin 256) (c : Fin 128), a3 (ix2 r c) = glu (v (ix2 r ⟨768 + c.val, by have := c.isLt; omega⟩)) (v (ix2 r ⟨896 + c.val, by have := c.isLt; omega⟩))) (h4 : ∀ (r : Fin 256) (c : Fin 128), a4 (ix2 r c) = glu (v (ix2 r ⟨1024 + c.val, by have := c.isLt; omega⟩)) (v (ix2 r ⟨1152 + c.val, by have := c.isLt; omega⟩))) (h5 : ∀ (r : Fin 256) (c : Fin 128), a5 (ix2 r c) = glu (v (ix2 r ⟨1280 + c.val, by have := c.isLt; omega⟩)) (v (ix2 r ⟨1408 + c.val, by have := c.isLt; omega⟩))) (h6 : ∀ (r : Fin 256) (c : Fin 128), a6 (ix2 r c) = glu (v (ix2 r ⟨1536 + c.val, by have := c.isLt; omega⟩)) (v (ix2 r ⟨1664 + c.val, by have := c.isLt; omega⟩))) (h7 : ∀ (r : Fin 256) (c : Fin 128), a7 (ix2 r c) = glu (v (ix2 r ⟨1792 + c.val, by have := c.isLt; omega⟩)) (v (ix2 r ⟨1920 + c.val, by have := c.isLt; omega⟩))) (r : Fin 256) (h : Fin 1024) :
    cat8 a0 a1 a2 a3 a4 a5 a6 a7 (ix2 r h) = act (fun j => v (ix2 r j)) h := by
  have hh := h.isLt
  pointwise [cat8]
  repeat' split
  · refine (h0 _ _).trans (act_at (fun j => v (ix2 r j)) h ⟨h.val - 0, by omega⟩ _ _ 0 (by simp; try omega) (by simp; try omega) (by simp; try omega))
  · refine (h1 _ _).trans (act_at (fun j => v (ix2 r j)) h ⟨h.val - 128, by omega⟩ _ _ 1 (by simp; try omega) (by simp; try omega) (by simp; try omega))
  · refine (h2 _ _).trans (act_at (fun j => v (ix2 r j)) h ⟨h.val - 256, by omega⟩ _ _ 2 (by simp; try omega) (by simp; try omega) (by simp; try omega))
  · refine (h3 _ _).trans (act_at (fun j => v (ix2 r j)) h ⟨h.val - 384, by omega⟩ _ _ 3 (by simp; try omega) (by simp; try omega) (by simp; try omega))
  · refine (h4 _ _).trans (act_at (fun j => v (ix2 r j)) h ⟨h.val - 512, by omega⟩ _ _ 4 (by simp; try omega) (by simp; try omega) (by simp; try omega))
  · refine (h5 _ _).trans (act_at (fun j => v (ix2 r j)) h ⟨h.val - 640, by omega⟩ _ _ 5 (by simp; try omega) (by simp; try omega) (by simp; try omega))
  · refine (h6 _ _).trans (act_at (fun j => v (ix2 r j)) h ⟨h.val - 768, by omega⟩ _ _ 6 (by simp; try omega) (by simp; try omega) (by simp; try omega))
  · refine (h7 _ _).trans (act_at (fun j => v (ix2 r j)) h ⟨h.val - 896, by omega⟩ _ _ 7 (by simp; try omega) (by simp; try omega) (by simp; try omega))

/-- The last two groups, from the gate/up products. -/
def grp6 (v : FVec Ideal S256x2048 .f32) : FVec Ideal S256x128 .bf16 :=
  truncf .bf16 (mulf (k0_pay28 v) (addf (k0_pay27 v) (k0_pay29 (F := Ideal)))) bitsLt_bf16_f32
def grp7 (v : FVec Ideal S256x2048 .f32) : FVec Ideal S256x128 .bf16 :=
  have gate : FVec Ideal S256x128 .f32 := minimumf (extractStridedSlice S256x128 ![0, 1792] v slices_S256x2048_o0_1792_S256x128) (broadcast S256x128 (Scalar.ofBits .f32 0x40E00000#32))
  have up : FVec Ideal S256x128 .f32 := minimumf (broadcast S256x128 (Scalar.ofBits .f32 0x40E00000#32))
    (maximumf (broadcast S256x128 (Scalar.ofBits .f32 0xC0E00000#32)) (extractStridedSlice S256x128 ![0, 1920] v slices_S256x2048_o0_1920_S256x128))
  truncf .bf16 (mulf (divf gate (addf (broadcast S256x128 (Scalar.ofBits .f32 0x3F800000#32)) (exp (mulf (broadcast S256x128 (Scalar.ofBits .f32 0xBFD9DB23#32)) gate))))
    (addf up (broadcast S256x128 (Scalar.ofBits .f32 0x3F800000#32)))) bitsLt_bf16_f32

/-- The store's payload as one product over the eight groups. -/
theorem pay4_eq (v : FVec Ideal S256x2048 .f32) (a0 a1 a2 a3 a4 a5 : FVec Ideal S256x128 .bf16) (d : Vec Ideal S1024x1024 .bf16) (x4 : Vec Ideal S1x1x1024 .f32) :
    ∃ a6 a7 : FVec Ideal S256x128 .bf16,
      (∀ (r : Fin 256) (c : Fin 128), a6 (ix2 r c) = glu (v (ix2 r ⟨1536 + c.val, by have := c.isLt; omega⟩)) (v (ix2 r ⟨1664 + c.val, by have := c.isLt; omega⟩))) ∧ (∀ (r : Fin 256) (c : Fin 128), a7 (ix2 r c) = glu (v (ix2 r ⟨1792 + c.val, by have := c.isLt; omega⟩)) (v (ix2 r ⟨1920 + c.val, by have := c.isLt; omega⟩)))
      ∧ k0_pay4 v a0 a1 a2 a3 a4 a5 (k0_pay27 v) (k0_pay28 v) (k0_pay29 (F := Ideal)) d x4
        = addf (matmul (φ₂ := .bf16) dot_S256x1024_S1024x1024_S256x1024_1_0_0_1_n_n none (cat8 a0 a1 a2 a3 a4 a5 a6 a7) d (constant S256x1024 .f32 0x00000000#32))
            (broadcastTo S256x1024 (shapeCast S1x1024 x4 shapeCasts_S1x1x1024_S1x1024) broadcasts_S1x1024_S256x1024) := by
  refine ⟨grp6 v, grp7 v, ?_, ?_, rfl⟩
  · intro r c
    pointwise [grp6, k0_pay27, k0_pay28, k0_pay29]
    rfl
  · intro r c
    pointwise [grp7]
    rfl

/-- The gate/up products of a row, in the permuted columns. -/
theorem pay15_apply (x0 : Vec Ideal S256x1024 .bf16) (g : Vec Ideal S1024x2048 .bf16) (x2 : Vec Ideal S1x1x2048 .f32) (r : Fin 256) (j : Fin 2048) :
    k0_pay15 x0 g x2 (ix2 r j) = (∑ k : Fin 1024, x0 (ix2 r k) * g (ix2 k j)) + x2 (ix3 0 0 j) := by
  pointwise [k0_pay15]

/-- A block's result at row `r`, column `n`. -/
theorem comp_apply (x0 : Vec Ideal S256x1024 .bf16) (x1 : Vec Ideal S1x1024x2048 .f32) (x2 : Vec Ideal S1x1x2048 .f32) (x3 : Vec Ideal S1x1024x1024 .f32) (x4 : Vec Ideal S1x1x1024 .f32)
    (r : Fin 256) (n : Fin 1024) :
    comp x0 (fillG x1) x2 (fillD x3) x4 (ix2 r n)
      = (∑ h : Fin 1024, act (fun j => (∑ k : Fin 1024, x0 (ix2 r k) * x1 (ix3 0 k (pcol j))) + x2 (ix3 0 0 j)) h * x3 (ix3 0 h n)) + x4 (ix3 0 0 n) := by
  obtain ⟨a6, a7, h6, h7, e⟩ := pay4_eq (k0_pay15 x0 (fillG x1) x2) (k0_pay16 x0 (fillG x1) x2) (k0_pay20 (k0_pay17 x0 (fillG x1) x2) (k0_pay18 x0 (fillG x1) x2) (k0_pay19 (F := Ideal)))
    (k0_pay21 (k0_pay15 x0 (fillG x1) x2)) (k0_pay22 (k0_pay15 x0 (fillG x1) x2))
    (k0_pay25 (k0_pay23 (k0_pay15 x0 (fillG x1) x2)) (Scalar.ofBits .f32 0x40E00000#32) (k0_pay24 (k0_pay15 x0 (fillG x1) x2))) (k0_pay26 (k0_pay15 x0 (fillG x1) x2)) (fillD x3) x4
  refine (congrFun e (ix2 r n)).trans ?_
  pointwise
  refine congrArg (· + x4 (ix3 0 0 n)) (Finset.sum_congr rfl fun h _ => ?_)
  refine congr (congrArg HMul.hMul ?_) (pay3_apply x3 h n)
  refine (cat8_apply (k0_pay15 x0 (fillG x1) x2) _ _ _ _ _ _ _ _ (g0_apply _ _ _) (g1_apply _ _ _) (g2_apply _) (g3_apply _) (g4_apply _) (g5_apply _) h6 h7 r h).trans ?_
  refine congrArg (fun z => act z h) (funext fun j => ?_)
  refine (pay15_apply _ _ _ r j).trans ?_
  simp only [fillG_apply]

/-- The gate's column of activation `h`, and the up's. -/
theorem pcol_gate (h : Fin 1024) : pcol ⟨256 * (h.val / 128) + h.val % 128, by have := h.isLt; omega⟩ = ⟨2 * h.val, by have := h.isLt; omega⟩ := by
  have hh := h.isLt
  have e := pcol_at (h.val / 128) (by omega) ⟨h.val % 128, by omega⟩
  refine Fin.ext (e.trans ?_)
  have e2 : (q ⟨h.val % 128, by omega⟩).val = 2 * (h.val % 128) := by
    unfold q
    rw [dif_pos (show h.val % 128 < 128 by omega)]
  rw [e2]
  show 256 * (h.val / 128) + 2 * (h.val % 128) = 2 * h.val
  omega
theorem pcol_up (h : Fin 1024) : pcol ⟨256 * (h.val / 128) + 128 + h.val % 128, by have := h.isLt; omega⟩ = ⟨1 + 2 * h.val, by have := h.isLt; omega⟩ := by
  have hh := h.isLt
  have e := pcol_at (h.val / 128) (by omega) ⟨128 + h.val % 128, by omega⟩
  have e1 : (⟨256 * (h.val / 128) + 128 + h.val % 128, by omega⟩ : Fin 2048) = ⟨256 * (h.val / 128) + (128 + h.val % 128), by omega⟩ := Fin.ext (by simp; omega)
  rw [e1]
  refine Fin.ext (e.trans ?_)
  have e2 : (q ⟨128 + h.val % 128, by omega⟩).val = 2 * (h.val % 128) + 1 := by
    unfold q
    rw [dif_neg (show ¬ 128 + h.val % 128 < 128 by omega)]
    show 2 * (128 + h.val % 128 - 128) + 1 = _
    omega
  rw [e2]
  show 256 * (h.val / 128) + (2 * (h.val % 128) + 1) = 1 + 2 * h.val
  omega

/-- The constant the body multiplies the gate by is the negative of the reference's. -/
theorem neg_alpha : Ideal.ofBits .f32 0xBFD9DB23#32 = -Ideal.ofBits .f32 0x3FD9DB23#32 := by
  simp [Ideal.ofBits, Ideal.ieee]

theorem exp_nonneg (x : EReal) : 0 ≤ Ideal.exp x := by
  induction x with
  | bot => exact le_refl _
  | top => exact le_top
  | coe r => exact EReal.coe_nonneg.mpr (Real.exp_pos r).le

/-- The two spellings of the clamped SwiGLU agree: a quotient by `y` is the product with `1 / y` where `y` is not zero. -/
theorem glu_eq (x u : EReal) : glu x u
    = min x (Ideal.ofBits .f32 0x40E00000#32) * Ideal.div 1 (1 + Ideal.exp (-(Ideal.ofBits .f32 0x3FD9DB23#32 * min x (Ideal.ofBits .f32 0x40E00000#32))))
      * (min (Ideal.ofBits .f32 0x40E00000#32) (max (Ideal.ofBits .f32 0xC0E00000#32) u) + 1) := by
  unfold glu
  rw [neg_alpha, EReal.neg_mul]
  generalize min x _ = g
  have hp := exp_nonneg (-(Ideal.ofBits .f32 0x3FD9DB23#32 * g))
  generalize Ideal.exp (-(Ideal.ofBits .f32 0x3FD9DB23#32 * g)) = y at hp
  have hne : (1 + y : EReal) ≠ 0 := by
    have : (0 : EReal) < 1 + y := lt_of_lt_of_le zero_lt_one (le_add_of_nonneg_right hp)
    exact this.ne'
  unfold Ideal.div
  rw [if_neg hne, if_neg hne, one_mul]

end Cert.Kernel2Ideal.Ffn
-- ==== Proof.Ffn.Blk.lean ====
module

public import proofs.«01_k».proof.Proof.Ffn.OkPre
public import proofs.«01_k».proof.Proof.Ffn.Val

@[expose] public section

set_option maxRecDepth 16384

noncomputable section

namespace Cert.Kernel2Ideal.Ffn

open Idealize.ShloMosaic Idealize.ShloMosaic.TcCoe Idealize.ShloMosaic.Tactic
open Idealize.SL.Sem
open Cert.Kernel2Ideal.Gen

variable (m : (ℓ : Loc nD τ sig) → Buf (Elt Ideal) ℓ)

/-! ## The blocks the windows fetch, element by element -/

/-- The bias of the gate and the up columns as the host code prepares it: its columns permuted as the weight's. -/
theorem V_main_v2 (c : Dev nD) (e : Fin 32) (j : Fin 2048) :
    (V m c main_v2 : S32x1x2048.Idx → EReal) (ix3 e 0 j) = (m ((c : Thread nD τ).loc main_arg4) : S32x2048.Idx → EReal) (ix2 e (pcol j)) := by
  have h : (V m c main_v2 : S32x1x2048.Idx → EReal) = shapeCast S32x1x2048 (transpose S32x8x2x128 [0, 1, 3, 2] (shapeCast S32x8x128x2 (m ((c : Thread nD τ).loc main_arg4) : S32x2048.Idx → EReal) shapeCasts_S32x2048_S32x8x128x2) transposes_S32x8x128x2_S32x8x2x128_0_1_3_2) shapeCasts_S32x8x2x128_S32x1x2048 := by
    show StableHlo.after hostOps0 (fun b => m (c, b)) (Proc.devRef .tc main_v2) = _
    after_results_simp
    rfl
  rw [h]
  pointwise []
  refine congrArg (fun z => (m ((c : Thread nD τ).loc main_arg4) : S32x2048.Idx → EReal) (ix2 e z)) (Fin.ext ?_)
  show j.val / 256 * 256 + j.val % 128 * 2 + j.val / 128 % 2 = 256 * (j.val / 256) + (q ⟨j.val % 256, _⟩).val
  unfold q
  split_ifs with h
  · show _ = 256 * (j.val / 256) + 2 * (j.val % 256)
    have : j.val % 256 < 128 := h
    omega
  · show _ = 256 * (j.val / 256) + (2 * (j.val % 256 - 128) + 1)
    have : ¬ j.val % 256 < 128 := h
    omega

theorem V_main_v3 (c : Dev nD) (e : Fin 32) (n : Fin 1024) :
    (V m c main_v3 : S32x1x1024.Idx → EReal) (ix3 e 0 n) = (m ((c : Thread nD τ).loc main_arg6) : S32x1024.Idx → EReal) (ix2 e n) := by
  have h : (V m c main_v3 : S32x1x1024.Idx → EReal) = shapeCast S32x1x1024 (m ((c : Thread nD τ).loc main_arg6) : S32x1024.Idx → EReal) shapeCasts_S32x1024_S32x1x1024 := by
    show StableHlo.after hostOps0 (fun b => m (c, b)) (Proc.devRef .tc main_v3) = _
    after_results_simp
    rfl
  rw [h]
  pointwise []

variable (hO : Ok m) (c : Dev nD)

/-- A point's number, as the number of its block of rows. -/
abbrev blkOf (t : Fin grid0.N) : Fin 544 := ⟨t.val, t.isLt⟩

theorem wE_eq (t : Fin grid0.N) : (wE (c := (0 : Dev nD)) (grid0.coords t) (tbl m 0)) = (m (((0 : Dev nD) : Thread nD τ).loc main_arg0) : S544.Idx → BitVec 32) (ix1 (blkOf t)) := by
  refine (tbl0_eq m _).trans (congrArg _ ?_)
  funext a
  apply Fin.ext
  have := coords0 t
  match a with
  | ⟨0, _⟩ =>
    show (BitVec.ofNat 32 (grid0.coords t 0).val).toNat + 1 * 0 = t.val
    rw [this, BitVec.toNat_ofNat]
    have : t.val < 544 := t.isLt
    omega

theorem iblk0_apply (t : Fin (cfgM m hO).N) (r : Fin 256) (k : Fin 1024) :
    (iblk m hO c 0 t : S256x1024.Idx → EReal) (ix2 r k) = (m ((c : Thread nD τ).loc main_arg2) : S139264x1024.Idx → EReal) (ix2 ⟨(blkOf t).val * 256 + r.val, by omega⟩ k) := by
  refine have hx : ((((cfgM m hO).win 0).blk t).view.emb (ix2 r k) : S139264x1024.Idx) = ix2 ⟨(blkOf t).val * 256 + r.val, by omega⟩ k := ?_; ?_
  rotate_left
  · exact (congrArg (V m c main_arg2 : S139264x1024.Idx → EReal) hx).trans (congrFun (V_main_arg2 m c) _)
  funext a
  refine Fin.ext ((((cfgM m hO).win 0).rect_emb_val t (ix2 r k) a).trans ?_)
  match a with
  | ⟨0, _⟩ =>
    show (BitVec.ofNat 32 (grid0.coords t 0).val).toNat * 256 + r.val = t.val * 256 + r.val
    have := coords0 t
    rw [this, BitVec.toNat_ofNat]
    have : t.val < 544 := t.isLt
    omega
  | ⟨1, _⟩ =>
    show 0 * 1024 + k.val = k.val
    omega

theorem iblk1_apply (t : Fin (cfgM m hO).N) (e : Fin 32) (he : (m (((0 : Dev nD) : Thread nD τ).loc main_arg0) : S544.Idx → BitVec 32) (ix1 (blkOf t)) = BitVec.ofNat 32 e.val) (k : Fin 1024) (j : Fin 2048) :
    (iblk m hO c 1 t : S1x1024x2048.Idx → EReal) (ix3 0 k j) = (m ((c : Thread nD τ).loc main_arg3) : S32x1024x2048.Idx → EReal) (ix3 e k j) := by
  refine have hx : ((((cfgM m hO).win 1).blk t).view.emb (ix3 0 k j) : S32x1024x2048.Idx) = ix3 e k j := ?_; ?_
  rotate_left
  · exact (congrArg (V m c main_arg3 : S32x1024x2048.Idx → EReal) hx).trans (congrFun (V_main_arg3 m c) _)
  funext a
  refine Fin.ext ((((cfgM m hO).win 1).rect_emb_val t (ix3 0 k j) a).trans ?_)
  match a with
  | ⟨0, _⟩ =>
    show (wE (c := (0 : Dev nD)) (grid0.coords t) (tbl m 0)).toNat * 1 + 0 = e.val
    rw [wE_eq, he, BitVec.toNat_ofNat]
    omega
  | ⟨1, _⟩ =>
    show 0 * 1024 + k.val = k.val
    omega
  | ⟨2, _⟩ =>
    show 0 * 2048 + j.val = j.val
    omega

theorem iblk2_apply (t : Fin (cfgM m hO).N) (e : Fin 32) (he : (m (((0 : Dev nD) : Thread nD τ).loc main_arg0) : S544.Idx → BitVec 32) (ix1 (blkOf t)) = BitVec.ofNat 32 e.val) (j : Fin 2048) :
    (iblk m hO c 2 t : S1x1x2048.Idx → EReal) (ix3 0 0 j) = (m ((c : Thread nD τ).loc main_arg4) : S32x2048.Idx → EReal) (ix2 e (pcol j)) := by
  refine have hx : ((((cfgM m hO).win 2).blk t).view.emb (ix3 0 0 j) : S32x1x2048.Idx) = ix3 e 0 j := ?_; ?_
  rotate_left
  · exact (congrArg (V m c main_v2 : S32x1x2048.Idx → EReal) hx).trans (V_main_v2 m c e j)
  funext a
  refine Fin.ext ((((cfgM m hO).win 2).rect_emb_val t (ix3 0 0 j) a).trans ?_)
  match a with
  | ⟨0, _⟩ =>
    show (wE (c := (0 : Dev nD)) (grid0.coords t) (tbl m 0)).toNat * 1 + 0 = e.val
    rw [wE_eq, he, BitVec.toNat_ofNat]
    omega
  | ⟨1, _⟩ =>
    show 0 * 1 + 0 = 0
    rfl
  | ⟨2, _⟩ =>
    show 0 * 2048 + j.val = j.val
    omega

theorem iblk3_apply (t : Fin (cfgM m hO).N) (e : Fin 32) (he : (m (((0 : Dev nD) : Thread nD τ).loc main_arg0) : S544.Idx → BitVec 32) (ix1 (blkOf t)) = BitVec.ofNat 32 e.val) (h n : Fin 1024) :
    (iblk m hO c 3 t : S1x1024x1024.Idx → EReal) (ix3 0 h n) = (m ((c : Thread nD τ).loc main_arg5) : S32x1024x1024.Idx → EReal) (ix3 e h n) := by
  refine have hx : ((((cfgM m hO).win 3).blk t).view.emb (ix3 0 h n) : S32x1024x1024.Idx) = ix3 e h n := ?_; ?_
  rotate_left
  · exact (congrArg (V m c main_arg5 : S32x1024x1024.Idx → EReal) hx).trans (congrFun (V_main_arg5 m c) _)
  funext a
  refine Fin.ext ((((cfgM m hO).win 3).rect_emb_val t (ix3 0 h n) a).trans ?_)
  match a with
  | ⟨0, _⟩ =>
    show (wE (c := (0 : Dev nD)) (grid0.coords t) (tbl m 0)).toNat * 1 + 0 = e.val
    rw [wE_eq, he, BitVec.toNat_ofNat]
    omega
  | ⟨1, _⟩ =>
    show 0 * 1024 + h.val = h.val
    omega
  | ⟨2, _⟩ =>
    show 0 * 1024 + n.val = n.val
    omega

theorem iblk4_apply (t : Fin (cfgM m hO).N) (e : Fin 32) (he : (m (((0 : Dev nD) : Thread nD τ).loc main_arg0) : S544.Idx → BitVec 32) (ix1 (blkOf t)) = BitVec.ofNat 32 e.val) (n : Fin 1024) :
    (iblk m hO c 4 t : S1x1x1024.Idx → EReal) (ix3 0 0 n) = (m ((c : Thread nD τ).loc main_arg6) : S32x1024.Idx → EReal) (ix2 e n) := by
  refine have hx : ((((cfgM m hO).win 4).blk t).view.emb (ix3 0 0 n) : S32x1x1024.Idx) = ix3 e 0 n := ?_; ?_
  rotate_left
  · exact (congrArg (V m c main_v3 : S32x1x1024.Idx → EReal) hx).trans (V_main_v3 m c e n)
  funext a
  refine Fin.ext ((((cfgM m hO).win 4).rect_emb_val t (ix3 0 0 n) a).trans ?_)
  match a with
  | ⟨0, _⟩ =>
    show (wE (c := (0 : Dev nD)) (grid0.coords t) (tbl m 0)).toNat * 1 + 0 = e.val
    rw [wE_eq, he, BitVec.toNat_ofNat]
    omega
  | ⟨1, _⟩ =>
    show 0 * 1 + 0 = 0
    rfl
  | ⟨2, _⟩ =>
    show 0 * 1024 + n.val = n.val
    omega

end Cert.Kernel2Ideal.Ffn

end
-- ==== Proof.Ffn.RefVal.lean ====
module

public import proofs.«01_k».proof.Proof.Gen.Reference2Ideal.Run
public import Idealize.ShloMosaic.Lib.Pointwise
public import Idealize.ShloMosaic.Lib.IdealHost

@[expose] public section

set_option maxRecDepth 16384

noncomputable section

namespace Cert.Reference2Ideal.Ref

open Idealize.ShloMosaic Idealize.ShloMosaic.TcCoe Idealize.SL.Sem
open Cert.Reference2Ideal Cert.Reference2Ideal.Gen Cert.Reference2Ideal.Value

/-! ## The reference's result over the extended reals, element by element -/

/-- The experts' numbers as the reference looks them up: a negative one counts from the end. -/
def idxs (a0 : IVec S544 32) : IVec S544x1 32 := broadcastInDim S544x1 ![0] bcast_S544_S544x1_0 (select (cmpi .slt a0 (broadcastInDim S544 ![] bcast_S_S544 (constantI S_ 32 0#32))) (addi a0 (broadcastInDim S544 ![] bcast_S_S544 (constantI S_ 32 32#32))) a0)

/-- The gate/up products of every block, with their bias. -/
def gu (a0 : IVec S544 32) (a2 : FVec Ideal S139264x1024 .bf16) (a3 : FVec Ideal S32x1024x2048 .f32) (a4 : FVec Ideal S32x2048 .f32) : FVec Ideal S544x256x2048 .f32 :=
  addf (Host.dotGeneral dot_S544x256x1024_S544x1024x2048_S544x256x2048_2_1_1_2_0_0 none (shapeCast _ a2 shapeCasts_S139264x1024_S544x256x1024) (Host.gather gather_S32x1024x2048_S544x1_S544x1024x2048_12_0_n_n_0_1_110242048 a3 (idxs a0))) (broadcastInDim S544x256x2048 ![0, 1, 2] bcast_S544x1x2048_S544x256x2048_0_1_2 (broadcastInDim S544x1x2048 ![0, 2] bcast_S544x2048_S544x1x2048_0_2 (Host.gather gather_S32x2048_S544x1_S544x2048_1_0_n_n_0_1_12048 a4 (idxs a0))))

/-- The clamped SwiGLU of neighbouring columns. -/
def actv (g : FVec Ideal S544x256x2048 .f32) : FVec Ideal S544x256x1024 .f32 :=
  mulf (mulf (minimumf (Host.slice S544x256x1024 ![0, 0, 0] ![1, 1, 2] g slicesBy_S544x256x2048_S544x256x1024_0s1_0s1_0s2) (broadcastInDim S544x256x1024 ![] bcast_S_S544x256x1024 (constant S_ .f32 0x40E00000#32))) (Host.divf (broadcastInDim S544x256x1024 ![] bcast_S_S544x256x1024 (constant S_ .f32 0x3F800000#32)) (addf (broadcastInDim S544x256x1024 ![] bcast_S_S544x256x1024 (constant S_ .f32 0x3F800000#32)) (Host.exp (Host.negf (mulf (broadcastInDim S544x256x1024 ![] bcast_S_S544x256x1024 (constant S_ .f32 0x3FD9DB23#32)) (minimumf (Host.slice S544x256x1024 ![0, 0, 0] ![1, 1, 2] g slicesBy_S544x256x2048_S544x256x1024_0s1_0s1_0s2) (broadcastInDim S544x256x1024 ![] bcast_S_S544x256x1024 (constant S_ .f32 0x40E00000#32))))))))) (addf (minimumf (broadcastInDim S544x256x1024 ![] bcast_S_S544x256x1024 (id (constant S_ .f32 0x40E00000#32))) (maximumf (broadcastInDim S544x256x1024 ![] bcast_S_S544x256x1024 (id (constant S_ .f32 0xC0E00000#32))) (Host.slice S544x256x1024 ![0, 0, 1] ![1, 1, 2] g slicesBy_S544x256x2048_S544x256x1024_0s1_0s1_1s2))) (broadcastInDim S544x256x1024 ![] bcast_S_S544x256x1024 (constant S_ .f32 0x3F800000#32)))

/-- The down products, with their bias. -/
def yv (act : FVec Ideal S544x256x1024 .f32) (a0 : IVec S544 32) (a5 : FVec Ideal S32x1024x1024 .f32) (a6 : FVec Ideal S32x1024 .f32) : FVec Ideal S544x256x1024 .f32 :=
  addf (Host.dotGeneral dot_S544x256x1024_S544x1024x1024_S544x256x1024_2_1_1_2_0_0 none act (Host.gather gather_S32x1024x1024_S544x1_S544x1024x1024_12_0_n_n_0_1_110241024 a5 (idxs a0))) (broadcastInDim S544x256x1024 ![0, 1, 2] bcast_S544x1x1024_S544x256x1024_0_1_2 (broadcastInDim S544x1x1024 ![0, 2] bcast_S544x1024_S544x1x1024_0_2 (Host.gather gather_S32x1024_S544x1_S544x1024_1_0_n_n_0_1_11024 a6 (idxs a0))))

/-- Blocks past the real ones are zero. -/
def outv (a1 : IVec S1 32) (y : FVec Ideal S544x256x1024 .f32) : FVec Ideal S544x256x1024 .f32 :=
  select (broadcastInDim S544x256x1024 ![0, 1, 2] bcast_S544x1x1_S544x256x1024_0_1_2 (broadcastInDim S544x1x1 ![0] bcast_S544_S544x1x1_0 (cmpi .slt (iotaInDim S544 32 0) (broadcastInDim S544 ![] bcast_S_S544 (shapeCast _ a1 shapeCasts_S1_S_))))) y (broadcastInDim S544x256x1024 ![] bcast_S_S544x256x1024 (id (constant S_ .f32 0x00000000#32)))

theorem res_eq (m : (ℓ : Loc nD τ sig) → Buf (Elt Ideal) ℓ) (c : Dev nD) :
    res_main_v60 m c = shapeCast S139264x1024 (outv (m ((c.tc : Thread nD τ).loc main_arg1))
      (yv (actv (gu (m ((c.tc : Thread nD τ).loc main_arg0)) (m ((c.tc : Thread nD τ).loc main_arg2)) (m ((c.tc : Thread nD τ).loc main_arg3)) (m ((c.tc : Thread nD τ).loc main_arg4))))
        (m ((c.tc : Thread nD τ).loc main_arg0)) (m ((c.tc : Thread nD τ).loc main_arg5)) (m ((c.tc : Thread nD τ).loc main_arg6)))) shapeCasts_S544x256x1024_S139264x1024 := rfl

abbrev dims3 (A B : Nat) (wf : GatherDims.WF ⟨3, ![32, A, B]⟩ ⟨2, ![544, 1]⟩ ⟨3, ![544, A, B]⟩ [1, 2] [0] [] [0] [] 1 ![1, A, B]) :
    GatherDims ⟨3, ![32, A, B]⟩ ⟨2, ![544, 1]⟩ ⟨3, ![544, A, B]⟩ where
  offsetDims := [1, 2]
  collapsedSliceDims := [0]
  operandBatchingDims := []
  startIndicesBatchingDims := []
  startIndexMap := [0]
  indexVectorDim := 1
  sliceSizes := ![1, A, B]
  wf := wf

/-- An expert's slice, looked up. -/
theorem take3 {α : Type} (A B : Nat) (wf) (x : (⟨3, ![32, A, B]⟩ : Shape).Idx → α) (idx : IVec ⟨2, ![544, 1]⟩ 32) (t : Fin 544) (k : Fin A) (j : Fin B)
    (e : Fin 32) (he : idx (ix2 t (0 : Fin 1)) = BitVec.ofNat 32 e.val) :
    Host.gather (dims3 A B wf) x idx (ix3 t k j) = x (ix3 e k j) := by
  unfold Host.gather
  refine congrArg x (funext fun a => Fin.ext ?_)
  have hrl := e.isLt
  match a with
  | ⟨0, _⟩ =>
    show (dims3 A B wf).start (ix3 t k j) idx 0 + (dims3 A B wf).batchCoord (ix3 t k j) 0 + (dims3 A B wf).offCoord (ix3 t k j) 0 = e.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (dims3 A B wf).startIndexMap from List.mem_singleton.mpr rfl)]
    have hsi : (dims3 A B wf).siIdx (ix3 t k j) ⟨List.idxOf (0 : Fin 3) (dims3 A B wf).startIndexMap, List.idxOf_lt_length_iff.2 (List.mem_singleton.mpr rfl)⟩
        = ix2 t (0 : Fin 1) := by
      funext b; refine Fin.ext ?_
      match b with
      | ⟨0, _⟩ => rfl
      | ⟨1, _⟩ => rfl
    rw [hsi, he]
    show min (BitVec.ofNat 32 e.val).toInt.toNat (32 - 1) = e.val
    rw [BitVec.toInt_eq_toNat_cond, BitVec.toNat_ofNat]
    have : e.val % 2 ^ 32 = e.val := by omega
    rw [this, if_pos (by omega)]
    omega
  | ⟨1, _⟩ =>
    show (dims3 A B wf).start (ix3 t k j) idx 1 + (dims3 A B wf).batchCoord (ix3 t k j) 1 + (dims3 A B wf).offCoord (ix3 t k j) 1 = k.val
    rw [GatherDims.batchCoord_eq_zero _ _ _ List.not_mem_nil]
    unfold GatherDims.start GatherDims.offCoord
    rw [dif_neg (show ¬ (1 : Fin 3) ∈ ([0] : List (Fin 3)) by decide), dif_pos ((GatherDims.mem_sKept _ _).mpr ⟨show ¬ (1 : Fin 3) ∈ ([0] : List (Fin 3)) by decide, List.not_mem_nil⟩), Nat.add_zero, Nat.zero_add]
    rfl
  | ⟨2, _⟩ =>
    show (dims3 A B wf).start (ix3 t k j) idx 2 + (dims3 A B wf).batchCoord (ix3 t k j) 2 + (dims3 A B wf).offCoord (ix3 t k j) 2 = j.val
    rw [GatherDims.batchCoord_eq_zero _ _ _ List.not_mem_nil]
    unfold GatherDims.start GatherDims.offCoord
    rw [dif_neg (show ¬ (2 : Fin 3) ∈ ([0] : List (Fin 3)) by decide), dif_pos ((GatherDims.mem_sKept _ _).mpr ⟨show ¬ (2 : Fin 3) ∈ ([0] : List (Fin 3)) by decide, List.not_mem_nil⟩), Nat.add_zero, Nat.zero_add]
    rfl

abbrev dims2 (A : Nat) (wf : GatherDims.WF ⟨2, ![32, A]⟩ ⟨2, ![544, 1]⟩ ⟨2, ![544, A]⟩ [1] [0] [] [0] [] 1 ![1, A]) :
    GatherDims ⟨2, ![32, A]⟩ ⟨2, ![544, 1]⟩ ⟨2, ![544, A]⟩ where
  offsetDims := [1]
  collapsedSliceDims := [0]
  operandBatchingDims := []
  startIndicesBatchingDims := []
  startIndexMap := [0]
  indexVectorDim := 1
  sliceSizes := ![1, A]
  wf := wf

/-- An expert's slice, looked up. -/
theorem take2 {α : Type} (A : Nat) (wf) (x : (⟨2, ![32, A]⟩ : Shape).Idx → α) (idx : IVec ⟨2, ![544, 1]⟩ 32) (t : Fin 544) (k : Fin A)
    (e : Fin 32) (he : idx (ix2 t (0 : Fin 1)) = BitVec.ofNat 32 e.val) :
    Host.gather (dims2 A wf) x idx (ix2 t k) = x (ix2 e k) := by
  unfold Host.gather
  refine congrArg x (funext fun a => Fin.ext ?_)
  have hrl := e.isLt
  match a with
  | ⟨0, _⟩ =>
    show (dims2 A wf).start (ix2 t k) idx 0 + (dims2 A wf).batchCoord (ix2 t k) 0 + (dims2 A wf).offCoord (ix2 t k) 0 = e.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims2 A wf).startIndexMap from List.mem_singleton.mpr rfl)]
    have hsi : (dims2 A wf).siIdx (ix2 t k) ⟨List.idxOf (0 : Fin 2) (dims2 A wf).startIndexMap, List.idxOf_lt_length_iff.2 (List.mem_singleton.mpr rfl)⟩
        = ix2 t (0 : Fin 1) := by
      funext b; refine Fin.ext ?_
      match b with
      | ⟨0, _⟩ => rfl
      | ⟨1, _⟩ => rfl
    rw [hsi, he]
    show min (BitVec.ofNat 32 e.val).toInt.toNat (32 - 1) = e.val
    rw [BitVec.toInt_eq_toNat_cond, BitVec.toNat_ofNat]
    have : e.val % 2 ^ 32 = e.val := by omega
    rw [this, if_pos (by omega)]
    omega
  | ⟨1, _⟩ =>
    show (dims2 A wf).start (ix2 t k) idx 1 + (dims2 A wf).batchCoord (ix2 t k) 1 + (dims2 A wf).offCoord (ix2 t k) 1 = k.val
    rw [GatherDims.batchCoord_eq_zero _ _ _ List.not_mem_nil]
    unfold GatherDims.start GatherDims.offCoord
    rw [dif_neg (show ¬ (1 : Fin 2) ∈ ([0] : List (Fin 2)) by decide), dif_pos ((GatherDims.mem_sKept _ _).mpr ⟨show ¬ (1 : Fin 2) ∈ ([0] : List (Fin 2)) by decide, List.not_mem_nil⟩), Nat.add_zero, Nat.zero_add]
    rfl

/-- An expert's number in range is the one the reference looks up. -/
theorem idxs_apply (a0 : IVec S544 32) (t : Fin 544) (e : Fin 32) (he : a0 (ix1 t) = BitVec.ofNat 32 e.val) :
    idxs a0 (ix2 t (0 : Fin 1)) = BitVec.ofNat 32 e.val := by
  pointwise [idxs]
  rw [he]
  clear he
  revert e
  decide +kernel

theorem gu_apply (a0 : IVec S544 32) (a2 : FVec Ideal S139264x1024 .bf16) (a3 : FVec Ideal S32x1024x2048 .f32) (a4 : FVec Ideal S32x2048 .f32)
    (t : Fin 544) (r : Fin 256) (j : Fin 2048) (e : Fin 32) (he : a0 (ix1 t) = BitVec.ofNat 32 e.val) :
    gu a0 a2 a3 a4 (ix3 t r j) = (∑ k : Fin 1024, a2 (ix2 ⟨t.val * 256 + r.val, by have := t.isLt; have := r.isLt; omega⟩ k) * a3 (ix3 e k j)) + a4 (ix2 e j) := by
  have hi := idxs_apply a0 t e he
  delta gu
  generalize idxs a0 = idx at hi ⊢
  pointwise
  refine congr (congrArg HAdd.hAdd (Finset.sum_congr rfl fun k _ => congrArg (a2 _ * ·) ?_)) ?_
  · exact take3 1024 2048 _ a3 idx t k j e hi
  · exact take2 2048 _ a4 idx t j e hi

/-- The clamped SwiGLU of one gate value and one up value, as the reference writes it. -/
def rglu (x u : EReal) : EReal :=
  min x (Ideal.ofBits .f32 0x40E00000#32) * Ideal.div 1 (1 + Ideal.exp (-(Ideal.ofBits .f32 0x3FD9DB23#32 * min x (Ideal.ofBits .f32 0x40E00000#32))))
    * (min (Ideal.ofBits .f32 0x40E00000#32) (max (Ideal.ofBits .f32 0xC0E00000#32) u) + 1)

theorem actv_apply (g : FVec Ideal S544x256x2048 .f32) (t : Fin 544) (r : Fin 256) (h : Fin 1024) :
    actv g (ix3 t r h) = rglu (g (ix3 t r ⟨2 * h.val, by have := h.isLt; omega⟩)) (g (ix3 t r ⟨1 + 2 * h.val, by have := h.isLt; omega⟩)) := by
  pointwise [actv, id]
  rfl

theorem yv_apply (act : FVec Ideal S544x256x1024 .f32) (a0 : IVec S544 32) (a5 : FVec Ideal S32x1024x1024 .f32) (a6 : FVec Ideal S32x1024 .f32)
    (t : Fin 544) (r : Fin 256) (n : Fin 1024) (e : Fin 32) (he : a0 (ix1 t) = BitVec.ofNat 32 e.val) :
    yv act a0 a5 a6 (ix3 t r n) = (∑ h : Fin 1024, act (ix3 t r h) * a5 (ix3 e h n)) + a6 (ix2 e n) := by
  have hi := idxs_apply a0 t e he
  delta yv
  generalize idxs a0 = idx at hi ⊢
  pointwise
  refine congr (congrArg HAdd.hAdd (Finset.sum_congr rfl fun k _ => congrArg (act _ * ·) ?_)) ?_
  · exact take3 1024 1024 _ a5 idx t k n e hi
  · exact take2 1024 _ a6 idx t n e hi

theorem outv_apply (a1 : IVec S1 32) (y : FVec Ideal S544x256x1024 .f32) (t : Fin 544) (r : Fin 256) (n : Fin 1024) :
    outv a1 y (ix3 t r n) = if (BitVec.ofNat 32 t.val).slt (a1 (ix1 0)) = true then y (ix3 t r n) else 0 := by
  pointwise [outv, id]
  cases h : (BitVec.ofNat 32 t.val).slt (a1 (ix1 0)) <;> simp [Scalar.select, IntOp.cmpi, h]

theorem rows_apply (x : FVec Ideal S544x256x1024 .f32) (j : Fin 139264) (n : Fin 1024) :
    shapeCast S139264x1024 x shapeCasts_S544x256x1024_S139264x1024 (ix2 j n) = x (ix3 ⟨j.val / 256, by have := j.isLt; omega⟩ ⟨j.val % 256, Nat.mod_lt _ (by decide)⟩ n) := by
  pointwise

end Cert.Reference2Ideal.Ref
-- ==== Proof.Ffn.Alg.lean ====
module

public import proofs.«01_k».proof.Proof.Ffn.Blk
public import proofs.«01_k».proof.Proof.Ffn.RefVal
public import Idealize.ShloMosaic.Lib.Pipeline.ValueKit

@[expose] public section

set_option maxRecDepth 16384

noncomputable section

namespace Cert.Kernel2Ideal.Ffn

open Idealize.ShloMosaic Idealize.ShloMosaic.TcCoe Idealize.ShloMosaic.Tactic
open Idealize.SL.Sem
open Cert.Kernel2Ideal.Gen
open Cert.Reference2Ideal.Ref (gu actv yv outv rglu)

variable (m : (ℓ : Loc nD τ sig) → Buf (Elt Ideal) ℓ)

/-! ## The output array is the reference's result -/

/-- The experts' numbers and the count of blocks that carry rows, as launched. -/
abbrev a0 (c : Dev nD) : IVec S544 32 := m ((c : Thread nD τ).loc main_arg0)
abbrev a1 (c : Dev nD) : IVec S1 32 := m ((c : Thread nD τ).loc main_arg1)
/-- The rows, as launched. -/
abbrev a2 (c : Dev nD) : FVec Ideal S139264x1024 .bf16 := m ((c : Thread nD τ).loc main_arg2)
/-- The experts' weights and biases, as launched. -/
abbrev a3 (c : Dev nD) : FVec Ideal S32x1024x2048 .f32 := m ((c : Thread nD τ).loc main_arg3)
abbrev a4 (c : Dev nD) : FVec Ideal S32x2048 .f32 := m ((c : Thread nD τ).loc main_arg4)
abbrev a5 (c : Dev nD) : FVec Ideal S32x1024x1024 .f32 := m ((c : Thread nD τ).loc main_arg5)
abbrev a6 (c : Dev nD) : FVec Ideal S32x1024 .f32 := m ((c : Thread nD τ).loc main_arg6)

/-- The reference's value of every block, before its rows are laid out in one axis. -/
def blocks (c : Dev nD) : FVec Ideal Cert.Reference2Ideal.S544x256x1024 .f32 :=
  outv (a1 m c) (yv (actv (gu (a0 m c) (a2 m c) (a3 m c) (a4 m c))) (a0 m c) (a5 m c) (a6 m c))

/-- The reference's result. -/
def RES (c : Dev nD) : FVec Ideal S139264x1024 .f32 :=
  shapeCast S139264x1024 (blocks m c) Cert.Reference2Ideal.Gen.shapeCasts_S544x256x1024_S139264x1024

/-- The words hold experts' numbers. -/
abbrev InExperts : Prop := ∀ j : S544.Idx, ((m (((0 : Dev nD) : Thread nD τ).loc main_arg0) : S544.Idx → BitVec 32) j).toNat < 32

variable (hO : Ok m)

theorem pay5_apply (r : Fin 256) (n : Fin 1024) : (k0_pay5 (F := Ideal)) (ix2 r n) = 0 := by
  pointwise [k0_pay5]

theorem wN_eq : wN (c := (0 : Dev nD)) (tbl m 1) = (a1 m 0) (ix1 0) := by
  refine (congrFun (V_main_arg1 m 0) _).trans (congrArg (a1 m 0) ?_)
  funext a
  match a with
  | ⟨0, _⟩ => exact Subsingleton.elim (α := Fin 1) _ _

theorem real_iff (t : Fin grid0.N) : real m t ↔ (BitVec.ofNat 32 (blkOf t).val).slt ((a1 m 0) (ix1 0)) = true := by
  unfold real
  rw [cond2_iff, coords0, wN_eq]

theorem act_eq (z : Fin 2048 → EReal) (g : FVec Ideal Cert.Reference2Ideal.S544x256x2048 .f32) (t : Fin 544) (r : Fin 256)
    (hz : ∀ j, z j = g (ix3 t r (pcol j))) (h : Fin 1024) : act z h = actv g (ix3 t r h) := by
  rw [Cert.Reference2Ideal.Ref.actv_apply]
  unfold act
  rw [hz, hz, pcol_gate, pcol_up, glu_eq]
  rfl

/-- The body's value of a block that carries rows, from what its windows hold, is the reference's. -/
theorem comp_eq (b0 : IVec S544 32) (b2 : FVec Ideal S139264x1024 .bf16) (b3 : FVec Ideal S32x1024x2048 .f32) (b4 : FVec Ideal S32x2048 .f32)
    (b5 : FVec Ideal S32x1024x1024 .f32) (b6 : FVec Ideal S32x1024 .f32)
    (x0 : Vec Ideal S256x1024 .bf16) (x1 : Vec Ideal S1x1024x2048 .f32) (x2 : Vec Ideal S1x1x2048 .f32) (x3 : Vec Ideal S1x1024x1024 .f32) (x4 : Vec Ideal S1x1x1024 .f32)
    (t : Fin 544) (r : Fin 256) (n : Fin 1024) (e : Fin 32) (he : b0 (ix1 t) = BitVec.ofNat 32 e.val)
    (h0 : ∀ k : Fin 1024, x0 (ix2 r k) = b2 (ix2 ⟨t.val * 256 + r.val, by have := t.isLt; have := r.isLt; omega⟩ k))
    (h1 : ∀ (k : Fin 1024) (j : Fin 2048), x1 (ix3 0 k j) = b3 (ix3 e k j))
    (h2 : ∀ j : Fin 2048, x2 (ix3 0 0 j) = b4 (ix2 e (pcol j)))
    (h3 : ∀ h n : Fin 1024, x3 (ix3 0 h n) = b5 (ix3 e h n))
    (h4 : ∀ n : Fin 1024, x4 (ix3 0 0 n) = b6 (ix2 e n)) :
    comp x0 (fillG x1) x2 (fillD x3) x4 (ix2 r n) = yv (actv (gu b0 b2 b3 b4)) b0 b5 b6 (ix3 t r n) := by
  rw [comp_apply, Cert.Reference2Ideal.Ref.yv_apply _ _ _ _ _ _ _ e he, h4]
  refine congrArg (· + b6 (ix2 e n)) (Finset.sum_congr rfl fun h _ => ?_)
  rw [h3]
  refine congrArg (· * b5 (ix3 e h n)) (act_eq _ _ t r (fun j => ?_) h)
  rw [Cert.Reference2Ideal.Ref.gu_apply _ _ _ _ _ _ _ e he, h2]
  refine congrArg (· + b4 (ix2 e (pcol j))) (Finset.sum_congr rfl fun k _ => ?_)
  rw [h0, h1]

/-- What point `t` leaves at row `r` and column `n` of its block. -/
theorem outs_apply (h : InExperts m) (t : Fin (cfgM m hO).N) (r : Fin 256) (n : Fin 1024) :
    (outsAt m hO 0 t : S256x1024.Idx → EReal) (ix2 r n) = blocks m 0 (ix3 (blkOf t) r n) := by
  unfold blocks
  rw [Cert.Reference2Ideal.Ref.outv_apply]
  unfold outsAt
  by_cases hr : real m t
  · rw [if_pos hr, if_pos ((real_iff m t).mp hr)]
    have he : (a0 m 0) (ix1 (blkOf t)) = BitVec.ofNat 32 (⟨_, h (ix1 (blkOf t))⟩ : Fin 32).val := BitVec.eq_of_toNat_eq (by rw [BitVec.toNat_ofNat]; exact (Nat.mod_eq_of_lt (BitVec.isLt _)).symm)
    generalize (⟨_, h (ix1 (blkOf t))⟩ : Fin 32) = e at he
    exact comp_eq (a0 m 0) (a2 m 0) (a3 m 0) (a4 m 0) (a5 m 0) (a6 m 0) _ _ _ _ _ (blkOf t) r n e he
      (iblk0_apply m hO 0 t r) (iblk1_apply m hO 0 t e he) (iblk2_apply m hO 0 t e he) (iblk3_apply m hO 0 t e he) (iblk4_apply m hO 0 t e he)
  · rw [if_neg hr, if_neg (fun q => hr ((real_iff m t).mpr q))]
    exact pay5_apply r n

theorem RES_apply (t : Fin 544) (r : Fin 256) (n : Fin 1024) :
    RES m 0 (ix2 ⟨t.val * 256 + r.val, by have := t.isLt; have := r.isLt; omega⟩ n) = blocks m 0 (ix3 t r n) := by
  unfold RES
  rw [Cert.Reference2Ideal.Ref.rows_apply]
  have h := r.isLt
  have e1 : (t.val * 256 + r.val) / 256 = t.val := by omega
  have e2 : (t.val * 256 + r.val) % 256 = r.val := by omega
  simp only [e1, e2]

theorem emb5 (t : Fin (cfgM m hO).N) (y : S256x1024.Idx) :
    (((((cfgM m hO).win 5).blk t).view.emb y) : S139264x1024.Idx) = ix2 ⟨(blkOf t).val * 256 + (y 0).val, by have := (y 0).isLt; have : (y 0).val < 256 := this; omega⟩ (y 1) := by
  funext a
  refine Fin.ext ((((cfgM m hO).win 5).rect_emb_val t y a).trans ?_)
  match a with
  | ⟨0, _⟩ =>
    show (BitVec.ofNat 32 (grid0.coords t 0).val).toNat * 256 + (y 0).val = t.val * 256 + (y 0).val
    have := coords0 t
    rw [this, BitVec.toNat_ofNat]
    have : t.val < 544 := t.isLt
    omega
  | ⟨1, _⟩ =>
    show 0 * 1024 + (y 1).val = (y 1).val
    omega

theorem cover5 (i : S139264x1024.Idx) : ∃ t : Fin (cfgM m hO).N, ((cfgM m hO).win 5).flush t = true ∧ i ∈ (((cfgM m hO).win 5).blk t).view.set := by
  have hi : (i 0).val < 139264 := (i 0).isLt
  refine ⟨(⟨(i 0).val / 256, by show _ < 544; omega⟩ : Fin grid0.N), flush0_5 (adm m hO) _, ?_⟩
  have e := emb5 m hO (⟨(i 0).val / 256, by show _ < 544; omega⟩ : Fin grid0.N) (ix2 (⟨(i 0).val % 256, Nat.mod_lt _ (by decide)⟩ : Fin 256) (i 1))
  have hx : (ix2 (⟨(i 0).val / 256 * 256 + (i 0).val % 256, by omega⟩ : Fin 139264) (i 1) : S139264x1024.Idx) = i := by
    funext a
    match a with
    | ⟨0, _⟩ => exact Fin.ext (show (i 0).val / 256 * 256 + (i 0).val % 256 = (i 0).val by omega)
    | ⟨1, _⟩ => rfl
  exact Eq.mp (congrArg (· ∈ _) (e.trans hx)) (View.emb_mem_set _ _)

theorem outs_emb (h : InExperts m) (t : Fin (cfgM m hO).N) (y : S256x1024.Idx) :
    (outsAt m hO 0 t : S256x1024.Idx → EReal) y = RES m 0 (((((cfgM m hO).win 5).blk t).view.emb y) : S139264x1024.Idx) := by
  rw [emb5]
  refine Eq.trans ?_ (RES_apply m (blkOf t) (y 0) (y 1)).symm
  refine Eq.trans (congrArg _ ?_) (outs_apply m hO h t (y 0) (y 1))
  funext a
  match a with
  | ⟨0, _⟩ => rfl
  | ⟨1, _⟩ => rfl

/-- The output array at the end. -/
theorem arr5 (h : InExperts m) : (dats m hO 0 0).arrAt 5 (cfgM m hO).N = RES m 0 := by
  refine Pipeline.Dat.arrAt_eq_of_emb (dats m hO 0 0) 5 (RES m 0) (fun t hf y => ?_) (cover5 m hO)
  refine (cast_eq _ _).trans ?_
  refine (congrFun (after0_5 m hO 0 t) _).trans ?_
  exact outs_emb m hO h t y

/-- The run: the result, and the arguments as launched. -/
theorem run_val (ρ : Dev nD → PrngReg) (h : InExperts m) : θ_run defs (onTc (τ := τ) (main (F := Ideal))) ⟨m, fun _ => 0, ρ⟩ (fun r => ∀ c : Dev nD,
      r.2.mem ((c.tc : Thread nD τ).loc main_v4) = RES m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r hr c => by
    obtain rfl : c = 0 := Subsingleton.elim _ _
    exact ⟨(hr.1.out_eq 0 5).trans (arr5 m (ok_of m h) h), hr.2.1 0⟩)
    (θ_run_and (run_main m ρ (ok_of m h)) (frame m ρ (ok_of m h)))

end Cert.Kernel2Ideal.Ffn

end
-- ==== Proof.Ffn.Same.lean ====
module

public import proofs.«01_k».proof.Proof.Gen.Kernel2Ideal
public import proofs.«01_k».proof.Proof.Gen.Kernel2

@[expose] public section

noncomputable section

namespace Cert.Kernel2Ideal.Ffn

open Idealize.ShloMosaic

variable {F : FTy → Type} [FloatOps F]

/-! ## Over any float values the program and its idealization are the same program -/

/-- Their bodies are the same. -/
theorem body_same : @Cert.Kernel2.cc0_expert_ffn F _ Cert.Kernel2.Gen.facts = @Cert.Kernel2Ideal.cc0_expert_ffn F _ Cert.Kernel2Ideal.Gen.facts := rfl

/-- The bodies' tables are the same. -/
theorem defs₀_same : @Cert.Kernel2.defs₀ F _ Cert.Kernel2.Gen.facts = @Cert.Kernel2Ideal.defs₀ F _ Cert.Kernel2Ideal.Gen.facts := by
  unfold Cert.Kernel2.defs₀ Cert.Kernel2Ideal.defs₀
  refine congrArg Defs.onTc (funext fun l => funext fun x => ?_)
  match l, x with
  | 0, (t, s) =>
    dsimp only
    rw [body_same]
    rfl
  | ⟨_ + 1, h⟩, _ => exact absurd h (Nat.not_lt.2 (Nat.le_add_left _ _))

/-- The tables of bodies and pipelines are the same. -/
theorem defs_same : @Cert.Kernel2.defs F _ Cert.Kernel2.Gen.facts = @Cert.Kernel2Ideal.defs F _ Cert.Kernel2Ideal.Gen.facts := by
  show Pipeline.defs _ _ = Pipeline.defs _ _
  rw [defs₀_same]

/-- The host code is the same. -/
theorem main_same : @Cert.Kernel2.main F _ Cert.Kernel2.Gen.facts = @Cert.Kernel2Ideal.main F _ Cert.Kernel2Ideal.Gen.facts := rfl

end Cert.Kernel2Ideal.Ffn

end
-- ==== Proof.Names.lean ====
/-
  The gather call of `KernelIdeal`, its names: the program as the launch theorem sees it, the buffers, and the pieces of
  them a task's pipeline moves — window `b` of the index row and block `b` of the result (one of sixteen per task), slots
  0 and 1 of the two double buffers and their semaphore cells —, each spelt as the body slices it, with the offsets in
  closed form. The five words the pipeline carries from trip to trip are given in closed form as well (`w6` … `w10`), and
  every offset, branch condition and check of the body is computed at them.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Ring
public import Idealize.ShloMosaic.Lib.Tactic
public import proofs.«01_k».proof.Proof.Gen.KernelIdeal
public import proofs.«01_k».proof.Proof.Gen.KernelIdeal.Skeleton

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

local notation "xV" => (Memref.whole Cert.KernelIdeal.main_v4_scv : Memref Cert.KernelIdeal.sig Kind.scVector Space.hbm Cert.KernelIdeal.S65536x256 EltTy.i32)
local notation "iV" => (Memref.whole Cert.KernelIdeal.main_v10_scv : Memref Cert.KernelIdeal.sig Kind.scVector Space.hbm Cert.KernelIdeal.S1x65536 EltTy.i32)
local notation "oV" => (Memref.whole Cert.KernelIdeal.main_v11_scv : Memref Cert.KernelIdeal.sig Kind.scVector Space.hbm Cert.KernelIdeal.S65536x256 EltTy.i32)
local notation "lV" => (Memref.whole Cert.KernelIdeal.cc0_scoped0 : Memref Cert.KernelIdeal.sig Kind.scVector Space.vmem Cert.KernelIdeal.S2x1x128 EltTy.i32)
local notation "tV" => (Memref.whole Cert.KernelIdeal.cc0_scoped2 : Memref Cert.KernelIdeal.sig Kind.scVector Space.vmem Cert.KernelIdeal.S2x128x256 EltTy.i32)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- The first of the 65536 result rows that task `L` writes, and the first index it reads: 2048 of each per task. -/
abbrev base (L : grid0.Coords) : Nat := 2048 * (L 1).val + 32768 * (L 0).val

theorem c_lt (L : grid0.Coords) : (L 0).val < 2 := (L 0).isLt
theorem s_lt (L : grid0.Coords) : (L 1).val < 16 := (L 1).isLt

/-! ## The pieces -/

theorem inb_iwin (L : grid0.Coords) (b : Fin 16) : ∀ a, (![0, 128 * b.val + base L] : Fin 2 → Nat) a + S1x128.size a ≤ S1x65536.size a := by
  have := b.isLt; have := c_lt L; have := s_lt L; intro a; fin_cases a <;> simp [base] <;> omega
theorem inb_oblk (L : grid0.Coords) (b : Fin 16) : ∀ a, (![128 * b.val + base L, 0] : Fin 2 → Nat) a + S128x256.size a ≤ S65536x256.size a := by
  have := b.isLt; have := c_lt L; have := s_lt L; intro a; fin_cases a <;> simp [base] <;> omega
theorem inb_islot (s : Fin 2) : ∀ a, (![s.val, 0, 0] : Fin 3 → Nat) a + S1x1x128.size a ≤ S2x1x128.size a := by
  have := s.isLt; intro a; fin_cases a <;> simp <;> omega
theorem inb_oslot (s : Fin 2) : ∀ a, (![s.val, 0, 0] : Fin 3 → Nat) a + S1x128x256.size a ≤ S2x128x256.size a := by
  have := s.isLt; intro a; fin_cases a <;> simp <;> omega
theorem inb_cell (s : Fin 2) : ∀ a, (![s.val] : Fin 1 → Nat) a + S1.size a ≤ S2.size a := by
  have := s.isLt; intro a; fin_cases a; simp; omega

/-- Window `b` of task `L`'s indices: 128 of them. -/
def iwin (L : grid0.Coords) (b : Fin 16) : Memref sig .scVector .hbm S1x128 .i32 :=
  (iV).slice (Rect.unit (s := S1x65536) ![0, 128 * b.val + base L] S1x128.size (inb_iwin L b)) (fun _ => rfl)
/-- Block `b` of task `L`'s result rows: 128 of them. -/
def oblk (L : grid0.Coords) (b : Fin 16) : Memref sig .scVector .hbm S128x256 .i32 :=
  (oV).slice (Rect.unit (s := S65536x256) ![128 * b.val + base L, 0] S128x256.size (inb_oblk L b)) (fun _ => rfl)
/-- Slot `s` of the index double buffer. -/
def islot (s : Fin 2) : Memref sig .scVector .vmem S1x128 .i32 :=
  ((lV).slice (Rect.unit (s := S2x1x128) ![s.val, 0, 0] S1x1x128.size (inb_islot s)) (fun _ => rfl)).squeeze S1x128 squeezes_S1x1x128_S1x128
/-- Slot `s` of the row double buffer. -/
def oslot (s : Fin 2) : Memref sig .scVector .vmem S128x256 .i32 :=
  ((tV).slice (Rect.unit (s := S2x128x256) ![s.val, 0, 0] S1x128x256.size (inb_oslot s)) (fun _ => rfl)).squeeze S128x256 squeezes_S1x128x256_S128x256
/-- The cell that counts fetches into index slot `s`, and the one that counts copies out of row slot `s`. -/
def icellA (s : Fin 2) : DmaSems sig S_ := (cc0_scoped1.slice (Rect.unit (s := S2) ![s.val] S1.size (inb_cell s))).squeeze S_ squeezes_S1_S_
def ocellA (s : Fin 2) : DmaSems sig S_ := (cc0_scoped3.slice (Rect.unit (s := S2) ![s.val] S1.size (inb_cell s))).squeeze S_ squeezes_S1_S_
abbrev icell (s : Fin 2) : SemLoc sig := .dma (icellA s).sem
abbrev ocell (s : Fin 2) : SemLoc sig := .dma (ocellA s).sem
abbrev csem (k : Nat) (hk : k < 6 := by decide) : DmaSem sig := ⟨k, hk⟩
theorem icell_0 : icell 0 = .dma (csem 0) := by decide
theorem icell_1 : icell 1 = .dma (csem 1) := by decide
theorem ocell_0 : ocell 0 = .dma (csem 2) := by decide
theorem ocell_1 : ocell 1 = .dma (csem 3) := by decide

/-! ## The words carried from trip to trip -/

/-- Before trip `k`: how many windows have been fetched, … -/
def w6 (k : Nat) : BitVec 32 := BitVec.ofNat 32 (min (k + 1) 16)
/-- … how many have been used up, … -/
def w7 (k : Nat) : BitVec 32 := BitVec.ofNat 32 k
/-- … how many blocks have been sent out, … -/
def w8 (k : Nat) : BitVec 32 := BitVec.ofNat 32 k
/-- … how many of those have been waited for, … -/
def w9 (k : Nat) : BitVec 32 := BitVec.ofNat 32 (k - 1)
/-- … and the trip's place in the task's sixteen. -/
def w10 (k : Nat) : BitVec 32 := BitVec.ofNat 32 (k % 16)
/-- The five together. -/
def words (k : Nat) : BitVec 32 × BitVec 32 × BitVec 32 × BitVec 32 × BitVec 32 := (w6 k, w7 k, w8 k, w9 k, w10 k)

theorem trips_eq : k0_t1_loop.trips = 16 := by decide

abbrev s₀ (k : Fin k0_t1_loop.trips) : Fin 2 := Ring.sl 2 k.val
abbrev s₁ (k : Fin k0_t1_loop.trips) : Fin 2 := Ring.sl 2 (k.val + 1)
abbrev b₀ (k : Fin k0_t1_loop.trips) : Fin 16 := Ring.bk 16 k.val
abbrev b₁ (k : Fin k0_t1_loop.trips) : Fin 16 := Ring.bk 16 (k.val + 1)
/-- The block before trip `k`'s. -/
abbrev bp (k : Fin k0_t1_loop.trips) : Fin 16 := Ring.bk 16 (k.val + 15)

/-! ### The offsets at those words -/

theorem off1_eq : k0_off1 = ![((0 : Fin 2)).val, 0, 0] := by decide +kernel
theorem off2_eq : ∀ L : grid0.Coords, k0_off2 L = ![0, 128 * ((0 : Fin 16)).val + base L] := by decide +kernel
theorem off3_eq : k0_off3 = ![((0 : Fin 2)).val] := by decide +kernel
theorem off4_eq : ∀ k : Fin k0_t1_loop.trips, k0_off4 (w6 k.val) = ![(s₁ k).val, 0, 0] := by decide +kernel
theorem off5_eq : ∀ (L : grid0.Coords) (k : Fin k0_t1_loop.trips), k0_off5 L (w10 k.val) = ![0, 128 * (b₁ k).val + base L] := by decide +kernel
theorem off6_eq : ∀ k : Fin k0_t1_loop.trips, k0_off6 (w6 k.val) = ![(s₁ k).val] := by decide +kernel
theorem off7_eq : ∀ k : Fin k0_t1_loop.trips, k0_off7 (w7 k.val) = ![(s₀ k).val, 0, 0] := by decide +kernel
theorem off8_eq : ∀ (L : grid0.Coords) (k : Fin k0_t1_loop.trips), k0_off8 L (w10 k.val) = ![0, 128 * (b₀ k).val + base L] := by decide +kernel
theorem off9_eq : ∀ k : Fin k0_t1_loop.trips, k0_off9 (w7 k.val) = ![(s₀ k).val] := by decide +kernel
theorem off10_eq : ∀ k : Fin k0_t1_loop.trips, k0_off10 (w8 k.val) = ![(s₀ k).val, 0, 0] := by decide +kernel
theorem off11_eq : ∀ k : Fin k0_t1_loop.trips, k0_off11 (w7 k.val) = ![(s₀ k).val, 0, 0] := by decide +kernel
theorem off12_eq : ∀ k : Fin k0_t1_loop.trips, k0_off12 (w8 k.val) = ![(s₀ k).val, 0, 0] := by decide +kernel
theorem off13_eq : ∀ (L : grid0.Coords) (k : Fin k0_t1_loop.trips), k0_off13 L (w10 k.val) = ![128 * (b₀ k).val + base L, 0] := by decide +kernel
theorem off14_eq : ∀ k : Fin k0_t1_loop.trips, k0_off14 (w8 k.val) = ![(s₀ k).val] := by decide +kernel
theorem off15_eq : ∀ k : Fin k0_t1_loop.trips, 0 < k.val → k0_off15 (w9 k.val) = ![(s₁ k).val, 0, 0] := by decide +kernel
theorem off16_eq : ∀ (L : grid0.Coords) (k : Fin k0_t1_loop.trips), k0_off16 L (w10 k.val) = ![128 * (bp k).val + base L, 0] := by decide +kernel
theorem off17_eq : ∀ k : Fin k0_t1_loop.trips, 0 < k.val → k0_off17 (w9 k.val) = ![(s₁ k).val] := by decide +kernel
theorem off18_eq : k0_off18 (w9 16) = ![((1 : Fin 2)).val, 0, 0] := by decide +kernel
theorem off19_eq : ∀ (L : grid0.Coords), k0_off19 L (w10 16) = ![128 * ((15 : Fin 16)).val + base L, 0] := by decide +kernel
theorem off20_eq : k0_off20 (w9 16) = ![((1 : Fin 2)).val] := by decide +kernel
theorem off21_eq : k0_off21 (w9 16) = ![((1 : Fin 2)).val, 0, 0] := by decide +kernel

/-! ### The branch conditions and the next words -/

theorem cond1_pos : ∀ (L : grid0.Coords) (k : Fin k0_t1_loop.trips), k.val < 15 → k0_cond1 L k (w10 k.val) = 1#1 := by decide +kernel
theorem cond1_neg : ∀ (L : grid0.Coords) (k : Fin k0_t1_loop.trips), k.val = 15 → ¬ k0_cond1 L k (w10 k.val) = 1#1 := by decide +kernel
theorem cond2_pos : ∀ (L : grid0.Coords) (k : Fin k0_t1_loop.trips), k0_cond2 L k (w10 k.val) = 1#1 := by decide +kernel
theorem cond5_pos : ∀ (L : grid0.Coords) (k : Fin k0_t1_loop.trips), k0_cond5 L k (w10 k.val) = 1#1 := by decide +kernel
theorem cond7_pos : ∀ (L : grid0.Coords) (k : Fin k0_t1_loop.trips), 0 < k.val → k0_cond7 L k (w10 k.val) = 1#1 := by decide +kernel
theorem cond7_neg : ∀ (L : grid0.Coords) (k : Fin k0_t1_loop.trips), k.val = 0 → ¬ k0_cond7 L k (w10 k.val) = 1#1 := by decide +kernel

/-! ### The checks -/

theorem chk2_ok (k : Fin k0_t1_loop.trips) : k0_chk2 (w8 k.val) := by unfold k0_chk2; rw [off10_eq]; exact inb_oslot _
theorem chk3_ok (k : Fin k0_t1_loop.trips) : k0_chk3 (w7 k.val) := by unfold k0_chk3; rw [off11_eq]; exact inb_islot _
theorem chk1_ok (L : grid0.Coords) (k : Fin k0_t1_loop.trips) : k0_chk1 L k (w6 k.val) (w7 k.val) (w8 k.val) (w9 k.val) (w10 k.val) := by
  unfold k0_chk1
  rw [off4_eq, off5_eq, off6_eq, off7_eq, off8_eq, off9_eq, off12_eq, off13_eq, off14_eq, off16_eq]
  refine ⟨fun _ => inb_islot _, fun _ => inb_iwin _ _, fun _ => inb_cell _, fun _ => inb_islot _, fun _ => inb_iwin _ _, fun _ => inb_cell _,
    fun _ => inb_oslot _, fun _ => inb_oblk _ _, fun _ => inb_cell _, fun h => ?_, fun _ => inb_oblk _ _, fun h => ?_⟩ <;>
  · have hk : 0 < k.val := Nat.pos_of_ne_zero fun h0 => cond7_neg L k h0 h
    first
      | rw [off15_eq k hk]; exact inb_oslot _
      | rw [off17_eq k hk]; exact inb_cell _
theorem chk4_ok : k0_chk4 (w9 16) := by
  unfold k0_chk4; rw [off18_eq, off20_eq, off21_eq]; exact ⟨inb_oslot _, inb_cell _, inb_oslot _⟩
theorem chk5_ok (L : grid0.Coords) : k0_chk5 L (w10 16) := by
  unfold k0_chk5; rw [off19_eq]; exact inb_oblk _ _

/-! ### The body's memrefs and cells are those pieces -/

section Canon

/-- The first fetch's ends and cell. -/
@[sl_canon] theorem canon_islot_first (h) :
    ((lV).slice (Rect.unit (s := S2x1x128) k0_off1 S1x1x128.size h) (fun _ => rfl)).squeeze S1x128 squeezes_S1x1x128_S1x128 = islot 0 :=
  congrArg (fun M : Memref sig .scVector .vmem S1x1x128 .i32 => M.squeeze S1x128 squeezes_S1x1x128_S1x128)
    (Memref.slice_unit_congr _ off1_eq _ _ (fun _ => rfl) (fun _ => rfl))
@[sl_canon] theorem canon_iwin_first (L : grid0.Coords) (h) :
    (iV).slice (Rect.unit (s := S1x65536) (k0_off2 L) S1x128.size h) (fun _ => rfl) = iwin L 0 :=
  Memref.slice_unit_congr _ (off2_eq L) _ _ (fun _ => rfl) (fun _ => rfl)
@[sl_canon] theorem canon_icell_first (h) :
    (cc0_scoped1.slice (Rect.unit (s := S2) k0_off3 S1.size h)).squeeze S_ squeezes_S1_S_ = icellA 0 :=
  congrArg (fun A : DmaSems sig S1 => A.squeeze S_ squeezes_S1_S_) (SemArray.slice_unit_congr _ off3_eq _ _)

/-- The next window's fetch. -/
@[sl_canon] theorem canon_islot_next (k : Fin k0_t1_loop.trips) (h) :
    ((lV).slice (Rect.unit (s := S2x1x128) (k0_off4 (w6 k.val)) S1x1x128.size h) (fun _ => rfl)).squeeze S1x128 squeezes_S1x1x128_S1x128 = islot (s₁ k) :=
  congrArg (fun M : Memref sig .scVector .vmem S1x1x128 .i32 => M.squeeze S1x128 squeezes_S1x1x128_S1x128)
    (Memref.slice_unit_congr _ (off4_eq k) _ _ (fun _ => rfl) (fun _ => rfl))
@[sl_canon] theorem canon_iwin_next (L : grid0.Coords) (k : Fin k0_t1_loop.trips) (h) :
    (iV).slice (Rect.unit (s := S1x65536) (k0_off5 L (w10 k.val)) S1x128.size h) (fun _ => rfl) = iwin L (b₁ k) :=
  Memref.slice_unit_congr _ (off5_eq L k) _ _ (fun _ => rfl) (fun _ => rfl)
@[sl_canon] theorem canon_icell_next (k : Fin k0_t1_loop.trips) (h) :
    (cc0_scoped1.slice (Rect.unit (s := S2) (k0_off6 (w6 k.val)) S1.size h)).squeeze S_ squeezes_S1_S_ = icellA (s₁ k) :=
  congrArg (fun A : DmaSems sig S1 => A.squeeze S_ squeezes_S1_S_) (SemArray.slice_unit_congr _ (off6_eq k) _ _)

/-- The wait for this trip's window. -/
@[sl_canon] theorem canon_islot_here (k : Fin k0_t1_loop.trips) (h) :
    ((lV).slice (Rect.unit (s := S2x1x128) (k0_off7 (w7 k.val)) S1x1x128.size h) (fun _ => rfl)).squeeze S1x128 squeezes_S1x1x128_S1x128 = islot (s₀ k) :=
  congrArg (fun M : Memref sig .scVector .vmem S1x1x128 .i32 => M.squeeze S1x128 squeezes_S1x1x128_S1x128)
    (Memref.slice_unit_congr _ (off7_eq k) _ _ (fun _ => rfl) (fun _ => rfl))
@[sl_canon] theorem canon_iwin_here (L : grid0.Coords) (k : Fin k0_t1_loop.trips) (h) :
    (iV).slice (Rect.unit (s := S1x65536) (k0_off8 L (w10 k.val)) S1x128.size h) (fun _ => rfl) = iwin L (b₀ k) :=
  Memref.slice_unit_congr _ (off8_eq L k) _ _ (fun _ => rfl) (fun _ => rfl)
@[sl_canon] theorem canon_icell_here (k : Fin k0_t1_loop.trips) (h) :
    (cc0_scoped1.slice (Rect.unit (s := S2) (k0_off9 (w7 k.val)) S1.size h)).squeeze S_ squeezes_S1_S_ = icellA (s₀ k) :=
  congrArg (fun A : DmaSems sig S1 => A.squeeze S_ squeezes_S1_S_) (SemArray.slice_unit_congr _ (off9_eq k) _ _)

/-- The two gathers' slot and list. -/
@[sl_canon] theorem canon_oslot_rows (k : Fin k0_t1_loop.trips) (h) :
    ((tV).slice (Rect.unit (s := S2x128x256) (k0_off10 (w8 k.val)) S1x128x256.size h) (fun _ => rfl)).squeeze S128x256 squeezes_S1x128x256_S128x256 = oslot (s₀ k) :=
  congrArg (fun M : Memref sig .scVector .vmem S1x128x256 .i32 => M.squeeze S128x256 squeezes_S1x128x256_S128x256)
    (Memref.slice_unit_congr _ (off10_eq k) _ _ (fun _ => rfl) (fun _ => rfl))
@[sl_canon] theorem canon_islot_list (k : Fin k0_t1_loop.trips) (h) :
    ((lV).slice (Rect.unit (s := S2x1x128) (k0_off11 (w7 k.val)) S1x1x128.size h) (fun _ => rfl)).squeeze S1x128 squeezes_S1x1x128_S1x128 = islot (s₀ k) :=
  congrArg (fun M : Memref sig .scVector .vmem S1x1x128 .i32 => M.squeeze S1x128 squeezes_S1x1x128_S1x128)
    (Memref.slice_unit_congr _ (off11_eq k) _ _ (fun _ => rfl) (fun _ => rfl))

/-- The copy out of this trip's rows. -/
@[sl_canon] theorem canon_oslot_here (k : Fin k0_t1_loop.trips) (h) :
    ((tV).slice (Rect.unit (s := S2x128x256) (k0_off12 (w8 k.val)) S1x128x256.size h) (fun _ => rfl)).squeeze S128x256 squeezes_S1x128x256_S128x256 = oslot (s₀ k) :=
  congrArg (fun M : Memref sig .scVector .vmem S1x128x256 .i32 => M.squeeze S128x256 squeezes_S1x128x256_S128x256)
    (Memref.slice_unit_congr _ (off12_eq k) _ _ (fun _ => rfl) (fun _ => rfl))
@[sl_canon] theorem canon_oblk_here (L : grid0.Coords) (k : Fin k0_t1_loop.trips) (h) :
    (oV).slice (Rect.unit (s := S65536x256) (k0_off13 L (w10 k.val)) S128x256.size h) (fun _ => rfl) = oblk L (b₀ k) :=
  Memref.slice_unit_congr _ (off13_eq L k) _ _ (fun _ => rfl) (fun _ => rfl)
@[sl_canon] theorem canon_ocell_here (k : Fin k0_t1_loop.trips) (h) :
    (cc0_scoped3.slice (Rect.unit (s := S2) (k0_off14 (w8 k.val)) S1.size h)).squeeze S_ squeezes_S1_S_ = ocellA (s₀ k) :=
  congrArg (fun A : DmaSems sig S1 => A.squeeze S_ squeezes_S1_S_) (SemArray.slice_unit_congr _ (off14_eq k) _ _)

/-- The wait for the copy out before it. -/
@[sl_canon] theorem canon_oslot_prev (k : Fin k0_t1_loop.trips) (hk : 0 < k.val) (h) :
    ((tV).slice (Rect.unit (s := S2x128x256) (k0_off15 (w9 k.val)) S1x128x256.size h) (fun _ => rfl)).squeeze S128x256 squeezes_S1x128x256_S128x256 = oslot (s₁ k) :=
  congrArg (fun M : Memref sig .scVector .vmem S1x128x256 .i32 => M.squeeze S128x256 squeezes_S1x128x256_S128x256)
    (Memref.slice_unit_congr _ (off15_eq k hk) _ _ (fun _ => rfl) (fun _ => rfl))
@[sl_canon] theorem canon_oblk_prev (L : grid0.Coords) (k : Fin k0_t1_loop.trips) (h) :
    (oV).slice (Rect.unit (s := S65536x256) (k0_off16 L (w10 k.val)) S128x256.size h) (fun _ => rfl) = oblk L (bp k) :=
  Memref.slice_unit_congr _ (off16_eq L k) _ _ (fun _ => rfl) (fun _ => rfl)
@[sl_canon] theorem canon_ocell_prev (k : Fin k0_t1_loop.trips) (hk : 0 < k.val) (h) :
    (cc0_scoped3.slice (Rect.unit (s := S2) (k0_off17 (w9 k.val)) S1.size h)).squeeze S_ squeezes_S1_S_ = ocellA (s₁ k) :=
  congrArg (fun A : DmaSems sig S1 => A.squeeze S_ squeezes_S1_S_) (SemArray.slice_unit_congr _ (off17_eq k hk) _ _)

/-- The wait for the last copy out. -/
@[sl_canon] theorem canon_oslot_last (h) :
    ((tV).slice (Rect.unit (s := S2x128x256) (k0_off21 (w9 16)) S1x128x256.size h) (fun _ => rfl)).squeeze S128x256 squeezes_S1x128x256_S128x256 = oslot 1 :=
  congrArg (fun M : Memref sig .scVector .vmem S1x128x256 .i32 => M.squeeze S128x256 squeezes_S1x128x256_S128x256)
    (Memref.slice_unit_congr _ off21_eq _ _ (fun _ => rfl) (fun _ => rfl))
@[sl_canon] theorem canon_oblk_last (L : grid0.Coords) (h) :
    (oV).slice (Rect.unit (s := S65536x256) (k0_off19 L (w10 16)) S128x256.size h) (fun _ => rfl) = oblk L 15 :=
  Memref.slice_unit_congr _ (off19_eq L) _ _ (fun _ => rfl) (fun _ => rfl)
@[sl_canon] theorem canon_ocell_last (h) :
    (cc0_scoped3.slice (Rect.unit (s := S2) (k0_off20 (w9 16)) S1.size h)).squeeze S_ squeezes_S1_S_ = ocellA 1 :=
  congrArg (fun A : DmaSems sig S1 => A.squeeze S_ squeezes_S1_S_) (SemArray.slice_unit_congr _ off20_eq _ _)

end Canon

end Cert.Proof.Rows

end
-- ==== Proof.Gath.lean ====
/-
  What a task's two gathers leave in a row buffer: row `r` of it is the row of the table that word `r` of the window
  names.
-/
module

public import proofs.«01_k».proof.Proof.Names
public import Idealize.ShloMosaic.Lib.ValueIdxCore
public import Idealize.ShloMosaic.Lib.WritesUnit

@[expose] public section

noncomputable section

namespace Cert.Proof.Rows

open Cert.KernelIdeal Cert.KernelIdeal.Gen

open Idealize.ShloMosaic Idealize.ShloMosaic.ValueIdx

variable {F : FTy → Type} [FloatOps F]

local notation "xV" => (Memref.whole Cert.KernelIdeal.main_v4_scv : Memref Cert.KernelIdeal.sig Kind.scVector Space.hbm Cert.KernelIdeal.S65536x256 EltTy.i32)
local notation "iV" => (Memref.whole Cert.KernelIdeal.main_v10_scv : Memref Cert.KernelIdeal.sig Kind.scVector Space.hbm Cert.KernelIdeal.S1x65536 EltTy.i32)
local notation "oV" => (Memref.whole Cert.KernelIdeal.main_v11_scv : Memref Cert.KernelIdeal.sig Kind.scVector Space.hbm Cert.KernelIdeal.S65536x256 EltTy.i32)
local notation "lV" => (Memref.whole Cert.KernelIdeal.cc0_scoped0 : Memref Cert.KernelIdeal.sig Kind.scVector Space.vmem Cert.KernelIdeal.S2x1x128 EltTy.i32)
local notation "tV" => (Memref.whole Cert.KernelIdeal.cc0_scoped2 : Memref Cert.KernelIdeal.sig Kind.scVector Space.vmem Cert.KernelIdeal.S2x128x256 EltTy.i32)

variable (d : Dev nD) (L : grid0.Coords)
  (XT : Buf (Elt F) ((xV).view.loc (VT d L))) (XI : Buf (Elt F) ((iV).view.loc (VT d L)))

/-- What window `b`'s fetch leaves in index slot `s`. -/
abbrev landed (s : Fin 2) (b : Fin 16) (f : Buf (Elt F) ((islot s).view.loc (VT d L))) : Buf (Elt F) ((islot s).view.loc (VT d L)) :=
  (islot s).view.writes (Elt F) f [⟨Rect.whole S1x128, ReadAs.same.apply ((iwin L b).view.read (Elt F) XI)⟩]

theorem word_lt (b : Fin 16) (r : Fin 128) : 128 * b.val + base L + r.val < 65536 := by
  have := b.isLt; have := r.isLt; have := c_lt L; have := s_lt L; simp only [base]; omega

/-- Word `r` of window `b` of task `L`. -/
abbrev word (b : Fin 16) (r : Fin 128) : BitVec 32 := XI (ix2 (0 : Fin 1) ⟨128 * b.val + base L + r.val, word_lt L b r⟩)

/-- The entry of block `b` at `y`: the table's at the row the window's word `y 0` names, column `y 1`. -/
abbrev got (hidx : ∀ j, (XI j).toNat < 65536) (b : Fin 16) (y : S128x256.Idx) : BitVec 32 :=
  XT (ix2 ⟨(word d L XI b (y 0)).toNat, hidx _⟩ (y 1))

theorem list_pos (hi hq) (r : Fin S128.numel) :
    (Rect.unit (s := S1x128) ![0, 0] S1x128.size hi).emb ((Shape.reshapeEquiv (s := S1x128) (s' := S128) hq) (S128.rowMajor.symm r))
      = ix2 (0 : Fin 1) (n1 := 128) ⟨r.val, r.isLt⟩ := by
  have h : (Shape.reshapeEquiv (s := S1x128) (s' := S128) hq) (S128.rowMajor.symm r) = ix2 (0 : Fin 1) (n1 := 128) ⟨r.val, r.isLt⟩ := by
    apply Shape.reshapeEquiv_eq_of_rowMajor
    refine (Shape.rowMajor_val_two _).trans ?_
    refine Eq.trans ?_ (congrArg Fin.val (Equiv.apply_symm_apply S128.rowMajor r)).symm
    show 0 * 128 + r.val = r.val
    omega
  rw [h]
  funext a; apply Fin.ext
  match a with | ⟨0, _⟩ => rfl | ⟨1, _⟩ => show 0 + 1 * r.val = r.val; omega

theorem iwin_read (b : Fin 16) (r : Fin 128) : View.read (Elt F) (iwin L b).view XI (ix2 (0 : Fin 1) r) = word d L XI b r := by
  refine (View.read_apply ..).trans ?_
  show XI _ = XI _
  refine congrArg XI ?_
  funext a; apply Fin.ext
  match a with | ⟨0, _⟩ => rfl | ⟨1, _⟩ => show 128 * b.val + base L + 1 * r.val = _; rw [Nat.one_mul]

/-- The table's columns from `c` on, 128 of them, … -/
abbrev xcol (c : Nat) (hx : ∀ a, (![0, c] : Fin 2 → Nat) a + S65536x128.size a ≤ S65536x256.size a) : Memref sig .scVector .hbm S65536x128 .i32 :=
  (xV).slice (Rect.unit (s := S65536x256) ![0, c] S65536x128.size hx) (fun _ => rfl)
/-- … a row buffer's, … -/
abbrev ocol (c : Nat) (ho : ∀ a, (![0, c] : Fin 2 → Nat) a + S128x128.size a ≤ S128x256.size a) (O : Memref sig .scVector .vmem S128x256 .i32) : Memref sig .scVector .vmem S128x128 .i32 :=
  O.slice (Rect.unit (s := S128x256) ![0, c] S128x128.size ho) (fun _ => rfl)
/-- … and a window of indices as a list. -/
abbrev ilist (I : Memref sig .scVector .vmem S1x128 .i32) : Memref sig .scVector .vmem S128 .i32 :=
  (I.slice (Rect.unit (s := S1x128) ![0, 0] S1x128.size inb_S1x128_S1x128_0_0) (fun _ => rfl)).squeeze S128 squeezes_S1x128_S128

/-- The list a gather reads off index slot `s`: the slot as one row of 128 words. -/
theorem list_read (s : Fin 2) (b : Fin 16) (f : Buf (Elt F) ((islot s).view.loc (VT d L))) (hi hs hq) (x : S128.Idx) :
    View.read (Elt F) (((islot s).slice (Rect.unit (s := S1x128) ![0, 0] S1x128.size hi) hs).squeeze S128 hq).view (landed d L XI s b f) x
      = View.read (Elt F) (iwin L b).view XI ((Rect.unit (s := S1x128) ![0, 0] S1x128.size hi).emb ((Shape.reshapeEquiv hq.numel_eq) x)) := by
  have e : View.read (Elt F) (((islot s).slice (Rect.unit (s := S1x128) ![0, 0] S1x128.size hi) hs).squeeze S128 hq).view (landed d L XI s b f) x
      = View.read (Elt F) (islot s).view (landed d L XI s b f) ((Rect.unit (s := S1x128) ![0, 0] S1x128.size hi).emb ((Shape.reshapeEquiv hq.numel_eq) x)) := by
    rw [View.read_apply, View.read_apply]; rfl
  rw [e, View.read_writes_whole]

/-- Every word of it is a row of the table when every index is. -/
theorem list_lt (hidx : ∀ j, (XI j).toNat < 65536) (s : Fin 2) (b : Fin 16) (f : Buf (Elt F) ((islot s).view.loc (VT d L))) (hi hs hq) :
    ∀ x, (View.read (Elt F) (((islot s).slice (Rect.unit (s := S1x128) ![0, 0] S1x128.size hi) hs).squeeze S128 hq).view (landed d L XI s b f) x).toNat < 65536 := by
  intro x; rw [list_read]; exact hidx _

/-- What the gather of the columns from `c` on brings, by the list in slot `s`. -/
abbrev halfv (c : Nat) (hx : ∀ a, (![0, c] : Fin 2 → Nat) a + S65536x128.size a ≤ S65536x256.size a) (s : Fin 2) (b : Fin 16) (f : Buf (Elt F) ((islot s).view.loc (VT d L)))
    (hin : ∀ x : S128.Idx, (View.read (Elt F) (ilist (islot s)).view (landed d L XI s b f) x).toNat < S65536x128.size gathers_S65536x128_S128x128.axis) : S128x128.Idx → BitVec 32 :=
  SparseCore.gatherPayload (F := F) gathers_S65536x128_S128x128 (View.read (Elt F) (xcol c hx).view XT)
        (SparseCore.rows (F := F) (View.read (Elt F) (ilist (islot s)).view (landed d L XI s b f)) rfl hin)

theorem xt_at (c hx) (z : S65536x128.Idx) {j : S65536x256.Idx} (h0 : (z 0).val = (j 0).val) (h1 : c + (z 1).val = (j 1).val) :
    XT ((xcol c hx).view.emb z) = XT j := by
  refine congrArg XT ?_
  funext a; apply Fin.ext
  match a with
  | ⟨0, _⟩ => exact (Nat.zero_add _).trans ((Nat.one_mul _).trans h0)
  | ⟨1, _⟩ => exact (congrArg (c + ·) (Nat.one_mul _)).trans h1

/-- Its entry at `x`. -/
theorem half (hidx : ∀ j, (XI j).toNat < 65536) (c hx) (s : Fin 2) (b : Fin 16) (f : Buf (Elt F) ((islot s).view.loc (VT d L))) (hin) (x : S128x128.Idx)
    (y : S128x256.Idx) (h0 : (y 0).val = (x 0).val) (h1 : (y 1).val = c + (x 1).val) :
    halfv d L XT XI c hx s b f hin x
      = got d L XT XI hidx b y := by
  have hw : ∀ h, (SparseCore.rows (F := F) (View.read (Elt F) (ilist (islot s)).view (landed d L XI s b f)) h hin (x gathers_S65536x128_S128x128.axis')).val
      = (word d L XI b (y 0)).toNat := by
    intro h
    show (View.read (Elt F) (ilist (islot s)).view (landed d L XI s b f) _).toNat = _
    rw [list_read, list_pos, iwin_read]
    refine congrArg (fun r => (word d L XI b r).toNat) ?_
    apply Fin.ext
    exact h0.symm
  unfold halfv SparseCore.gatherPayload
  refine (View.read_apply ..).trans ((cast_eq _ _).trans ?_)
  refine xt_at d L XT c hx _ ?_ ?_
  · exact (congrArg Fin.val (Shape.Gathers.idx_axis gathers_S65536x128_S128x128 _ x)).trans (hw _)
  · rw [h1]; exact congrArg (c + ·) (Shape.Gathers.idx_of_ne gathers_S65536x128_S128x128 _ x (1 : Fin 2) (by decide))

/-- After both gathers row buffer `s` holds block `b`'s entries. -/
theorem staged (hidx : ∀ j, (XI j).toNat < 65536) (s s' : Fin 2) (b : Fin 16) (f f' : Buf (Elt F) ((islot s').view.loc (VT d L))) (g : Buf (Elt F) ((oslot s).view.loc (VT d L)))
    (hx hx') (hin : ∀ x : S128.Idx, (View.read (Elt F) (ilist (islot s')).view (landed d L XI s' b f) x).toNat < S65536x128.size gathers_S65536x128_S128x128.axis)
    (hin' : ∀ x : S128.Idx, (View.read (Elt F) (ilist (islot s')).view (landed d L XI s' b f') x).toNat < S65536x128.size gathers_S65536x128_S128x128.axis) (ho ho') (y : S128x256.Idx) :
    View.read (Elt F) (oslot s).view ((oslot s).view.writes (Elt F) g
        [⟨Rect.unit (s := S128x256) ![0, 128] S128x128.size ho', halfv d L XT XI 128 hx' s' b f' hin'⟩,
         ⟨Rect.unit (s := S128x256) ![0, 0] S128x128.size ho, halfv d L XT XI 0 hx s' b f hin⟩]) y
      = got d L XT XI hidx b y := by
  have hy0 : (y 0).val < 128 := idx2_lt0 y
  have hy1 : (y 1).val < 256 := idx2_lt1 y
  by_cases h : (y 1).val < 128
  · rw [View.read_writes_cons_unit_of_not_mem (heq := rfl) (a := (1 : Fin 2)) (ha := Or.inl h)]
    have ha : ∀ a, (y a).val = (![0, 0] : Fin 2 → Nat) a + ((ix2 (n0 := 128) (n1 := 128) ⟨(y 0).val, hy0⟩ ⟨(y 1).val, h⟩) a).val := by
      intro a; match a with | ⟨0, _⟩ => exact (Nat.zero_add _).symm | ⟨1, _⟩ => exact (Nat.zero_add _).symm
    rw [View.read_writes_cons_unit_of_mem (heq := rfl) (x := ix2 (n0 := 128) (n1 := 128) ⟨(y 0).val, hy0⟩ ⟨(y 1).val, h⟩) (hx := ha)]
    exact half d L XT XI hidx 0 _ _ _ _ _ _ _ rfl (Nat.zero_add _).symm
  · have h2 : (y 1).val - 128 < 128 := by omega
    have ha : ∀ a, (y a).val = (![0, 128] : Fin 2 → Nat) a + ((ix2 (n0 := 128) (n1 := 128) ⟨(y 0).val, hy0⟩ ⟨(y 1).val - 128, h2⟩) a).val := by
      intro a; match a with | ⟨0, _⟩ => exact (Nat.zero_add _).symm | ⟨1, _⟩ => show (y 1).val = 128 + ((y 1).val - 128); omega
    rw [View.read_writes_cons_unit_of_mem (heq := rfl) (x := ix2 (n0 := 128) (n1 := 128) ⟨(y 0).val, hy0⟩ ⟨(y 1).val - 128, h2⟩) (hx := ha)]
    exact half d L XT XI hidx 128 _ _ _ _ _ _ _ rfl (by show (y 1).val = 128 + ((y 1).val - 128); omega)

end Cert.Proof.Rows

end
-- ==== Proof.Trip.lean ====
module

public import proofs.«01_k».proof.Proof.Gath

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_v4_scv : Memref Cert.KernelIdeal.sig Kind.scVector Space.hbm Cert.KernelIdeal.S65536x256 EltTy.i32)
local notation "iV" => (Memref.whole Cert.KernelIdeal.main_v10_scv : Memref Cert.KernelIdeal.sig Kind.scVector Space.hbm Cert.KernelIdeal.S1x65536 EltTy.i32)
local notation "oV" => (Memref.whole Cert.KernelIdeal.main_v11_scv : Memref Cert.KernelIdeal.sig Kind.scVector Space.hbm Cert.KernelIdeal.S65536x256 EltTy.i32)
local notation "lV" => (Memref.whole Cert.KernelIdeal.cc0_scoped0 : Memref Cert.KernelIdeal.sig Kind.scVector Space.vmem Cert.KernelIdeal.S2x1x128 EltTy.i32)
local notation "tV" => (Memref.whole Cert.KernelIdeal.cc0_scoped2 : Memref Cert.KernelIdeal.sig Kind.scVector Space.vmem Cert.KernelIdeal.S2x128x256 EltTy.i32)

section Pieces

variable (d : Dev nD) (L : grid0.Coords) (q : PosShare TreeShare)
  (XT : Buf (Elt F) ((xV).view.loc (VT d L))) (XI : Buf (Elt F) ((iV).view.loc (VT d L)))

abbrev xP : sProp 𝕄 := (xV).view.loc (VT d L) ↦{q} XT
abbrev iwinP (b : Fin 16) : sProp 𝕄 := (iwin L b).view.loc (VT d L) ↦[(iwin L b).view.set]{fullShare} XI
abbrev oblkP (b : Fin 16) (f : Buf (Elt F) ((oV).view.loc (VT d L))) : sProp 𝕄 := (oblk L b).view.loc (VT d L) ↦[(oblk L b).view.set]{fullShare} f
abbrev islotP (s : Fin 2) (f : Buf (Elt F) ((islot s).view.loc (VT d L))) : sProp 𝕄 := (islot s).view.loc (VT d L) ↦[(islot s).view.set]{fullShare} f
abbrev oslotP (s : Fin 2) (f : Buf (Elt F) ((oslot s).view.loc (VT d L))) : sProp 𝕄 := (oslot s).view.loc (VT d L) ↦[(oslot s).view.set]{fullShare} f
abbrev icP (s : Fin 2) : sProp 𝕄 := semVal (VT d L, icell s) 0
abbrev ocP (s : Fin 2) : sProp 𝕄 := semVal (VT d L, ocell s) 0

abbrev iflight (s : Fin 2) (b : Fin 16) : sProp 𝕄 :=
  iprop(∃ f, Transfers.Flight countersEmb (VT d L) (icell s) (default : HIx 1) 4096 iprop(islotP d L s (landed d L XI s b f) ∗ iwinP d L XI b))
abbrev oflight (s : Fin 2) (b : Fin 16) (g : Buf (Elt F) ((oV).view.loc (VT d L))) : sProp 𝕄 :=
  iprop(∃ f, Transfers.Flight countersEmb (VT d L) (ocell s) (default : HIx 1) 1048576 iprop(oblkP d L b g ∗ oslotP d L s f))

/-- The gather of one half of the columns (from column `c` on) into row buffer `O` by the list `I`, and the wait for it,
before `k`. -/
abbrev gat {α : Type} (c : Nat) (hx : ∀ a, (![0, c] : Fin 2 → Nat) a + S65536x128.size a ≤ S65536x256.size a) (ho : ∀ a, (![0, c] : Fin 2 → Nat) a + S128x128.size a ≤ S128x256.size a)
    (cell : DmaSem sig) (O : Memref sig .scVector .vmem S128x256 .i32) (I : Memref sig .scVector .vmem S1x128 .i32)
    (k : PUnit.{1} → Prog (TpuEff nD τ sig (Elt F) Λ₀ (.scVector (cV L) (jV L))) α) : Prog (TpuEff nD τ sig (Elt F) Λ₀ (.scVector (cV L) (jV L))) α := do
  SparseCore.enqueueIndirectGather rfl (xcol c hx) (ocol c ho O) gathers_S65536x128_S128x128 (ilist I) rfl cell (View.wordExact_bits rfl) rfl (Or.inl rfl)
  SparseCore.waitIndirectGather cell (xcol c hx) (ocol c ho O) (View.wordExact_bits rfl) (View.wordExact_bits rfl)
  k ⟨⟩

theorem gat_congr {α : Type} (c hx ho) (cell : DmaSem sig) (k) {o o' l l' : Fin 3 → Nat} (eo : o = o') (el : l = l')
    (h : ∀ a, o a + S1x128x256.size a ≤ S2x128x256.size a) (h' : ∀ a, o' a + S1x128x256.size a ≤ S2x128x256.size a)
    (g : ∀ a, l a + S1x1x128.size a ≤ S2x1x128.size a) (g' : ∀ a, l' a + S1x1x128.size a ≤ S2x1x128.size a) :
    gat (F := F) (α := α) L c hx ho cell
        (((tV).slice (Rect.unit (s := S2x128x256) o S1x128x256.size h) (fun _ => rfl)).squeeze S128x256 squeezes_S1x128x256_S128x256)
        (((lV).slice (Rect.unit (s := S2x1x128) l S1x1x128.size g) (fun _ => rfl)).squeeze S1x128 squeezes_S1x1x128_S1x128) k
      = gat L c hx ho cell
        (((tV).slice (Rect.unit (s := S2x128x256) o' S1x128x256.size h') (fun _ => rfl)).squeeze S128x256 squeezes_S1x128x256_S128x256)
        (((lV).slice (Rect.unit (s := S2x1x128) l' S1x1x128.size g') (fun _ => rfl)).squeeze S1x128 squeezes_S1x1x128_S1x128) k := by
  subst eo el; rfl

theorem gat_step {α : Type} (c hx ho) (cell : DmaSem sig) (j : Fin k0_t1_loop.trips) (h g) (k) {P : sProp 𝕄} {Q : α → sProp 𝕄}
    (H : Entails' P (wp frame (wpE (defs₀ (F := F)) 𝒱₀ (VT d L) none) Set.univ (gat (F := F) L c hx ho cell (oslot (s₀ j)) (islot (s₀ j)) k) Q)) :
    Entails' P (wp frame (wpE (defs₀ (F := F)) 𝒱₀ (VT d L) none) Set.univ (gat (F := F) L c hx ho cell
        (((tV).slice (Rect.unit (s := S2x128x256) (k0_off10 (w8 j.val)) S1x128x256.size h) (fun _ => rfl)).squeeze S128x256 squeezes_S1x128x256_S128x256)
        (((lV).slice (Rect.unit (s := S2x1x128) (k0_off11 (w7 j.val)) S1x1x128.size g) (fun _ => rfl)).squeeze S1x128 squeezes_S1x1x128_S1x128) k) Q) := by
  rw [gat_congr L c hx ho cell k (off10_eq j) (off11_eq j) h (inb_oslot _) g (inb_islot _)]; exact H

/-- A block written whole with the block's entries holds the result there. -/
theorem blk (hidx : ∀ j, (XI j).toNat < 65536) (OUT fo : Buf (Elt F) ((oV).view.loc (VT d L)))
    (hOUT : ∀ b y, OUT ((oblk L b).view.emb y) = got d L XT XI hidx b y) (b : Fin 16) (w : S128x256.Idx → BitVec 32) (hw : ∀ y, w y = got d L XT XI hidx b y) :
    oblkP d L b ((oblk L b).view.writes (Elt F) fo [⟨Rect.whole S128x256, w⟩]) ⊢ oblkP (F := F) d L b OUT := by
  refine Entails.of_eq (pointsTo_congr fun i hi => ?_)
  obtain ⟨y, -, rfl⟩ := Finset.mem_map.mp hi
  have h := congrFun (View.read_writes_whole (oblk L b).view fo w) y
  rw [View.read_apply] at h
  exact ((cast_eq _ _).symm.trans h).trans ((hw y).trans (hOUT b y).symm)

abbrev tripG (w : BitVec 32) (k : Fin k0_t1_loop.trips) :=
  k0_t1_body (F := F) L xV (Memref.isWhole_whole _) iV (Memref.isWhole_whole _) oV (Memref.isWhole_whole _)
            lV (Memref.isWhole_whole _) cc0_scoped1 tV (Memref.isWhole_whole _) cc0_scoped3 cc0_scoped4 cc0_scoped5 w k (words k.val)

/-- The first of the task's blocks, in words. -/
def w4 : BitVec 32 :=
  Scalar.muli (Scalar.addi (Scalar.addi 0#32 (Scalar.muli (BitVec.ofNat 32 (L 1).val) 1#32)) (Scalar.muli (BitVec.ofNat 32 (L 0).val) 16#32)) 16#32

/-- A trip that has both a predecessor and a successor: it starts the next window's fetch, waits for its own, gathers the two
halves of its block, starts the block's copy out and waits for the previous block's. -/
theorem trip_mid (hidx : ∀ j, (XI j).toNat < 65536) (O : CellTallies nD τ sig (HIx 1)) (w : BitVec 32) (hw : w = w4 L) (k : Fin k0_t1_loop.trips) (h0 : 0 < k.val) (h15 : k.val < 15)
    (fo OUT : Buf (Elt F) ((oV).view.loc (VT d L))) (hOUT : ∀ b y, OUT ((oblk L b).view.emb y) = got d L XT XI hidx b y) :
    iprop(Transfers.MayWaits (VT d L) (default : HIx 1) O
      ∗ xP d L q XT ∗ iflight d L XI (s₀ k) (b₀ k) ∗ (∃ f, islotP d L (s₁ k) f) ∗ icP d L (s₁ k) ∗ iwinP d L XI (b₁ k)
      ∗ (∃ f, oslotP d L (s₀ k) f) ∗ ocP d L (s₀ k) ∗ oflight d L (s₁ k) (bp k) OUT ∗ oblkP d L (b₀ k) fo
      ∗ semVal (VT d L, SemLoc.dma cc0_scoped4.sem) 0 ∗ semVal (VT d L, SemLoc.dma cc0_scoped5.sem) 0
      ∗ ∃ W', owes (VT d L) O W')
    ⊢ wp frame (wpE (defs₀ (F := F)) 𝒱₀ (VT d L) none) Set.univ (tripG (F := F) L w k) fun acc =>
      iprop(⌜acc = words (k.val + 1)⌝
      ∗ xP d L q XT ∗ iflight d L XI (s₁ k) (b₁ k) ∗ (∃ f, islotP d L (s₀ k) f) ∗ icP d L (s₀ k) ∗ iwinP d L XI (b₀ k)
      ∗ (∃ f, oslotP d L (s₁ k) f) ∗ ocP d L (s₁ k) ∗ oflight d L (s₀ k) (b₀ k) OUT ∗ oblkP d L (bp k) OUT
      ∗ semVal (VT d L, SemLoc.dma cc0_scoped4.sem) 0 ∗ semVal (VT d L, SemLoc.dma cc0_scoped5.sem) 0
      ∗ ∃ W', owes (VT d L) O W') := by
  iintro ⟨#Hmw, Hx, ⟨%f0, HF⟩, ⟨%f1, Hi1⟩, Hic1, Hw1, ⟨%f2, Ho0⟩, Hoc0, ⟨%f3, HOF⟩, Hb0, Hc4, Hc5, %W', HO⟩
  have hlist := list_lt d L XI hidx
  have hk1 := chk1_ok L k
  have hk2 := chk2_ok k
  have hk3 := chk3_ok k
  have hcanon1 := canon_ocell_prev k h0
  have hcanon2 := canon_oslot_prev k h0
  have hc1 := cond1_pos L k h15
  have hc2 := cond2_pos L k
  have hc5 := cond5_pos L k
  have hc7 := cond7_pos L k h0
  dsimp only [tripG, words]
  sl_unfold [k0_t1_body]
  sl_exec
  refine gat_step (F := F) d L 0 inb_S65536x256_S65536x128_0_0 inb_S128x256_S128x128_0_0 cc0_scoped4.sem k _ _ _ ?_
  delta gat ilist ocol xcol
  sl_exec
  sl_step
  isplitr
  · ipureintro
    subst hw
    clear * - h0 h15
    clear trip_mid XT XI
    revert L k
    decide +kernel
  isplitl [Hx]; · iexact Hx
  isplitl [Hic1]; · iexists f1; iexact Hic1
  isplitl [HF_dst]; · iexists _; iexact HF_dst
  isplitl [HF]; · iexact HF
  isplitl [HF_src]; · iexact HF_src
  isplitl [HOF_src]; · iexists f3; iexact HOF_src
  isplitl [HOF]; · iexact HOF
  isplitl [Hoc0]
  · iexists _
    iapply (Transfers.Flight_mono countersEmb (VT d L) (sep_mono (blk (F := F) d L XT XI hidx OUT fo hOUT (b₀ k) _ (fun y => staged d L XT XI hidx _ _ _ _ _ _ _ _ _ _ _ _ y)) .rfl))
    iexact Hoc0
  isplitl [HOF_dst]; · iexact HOF_dst
  isplitl [Hc4]; · iexact Hc4
  isplitl [Hc5]; · iexact Hc5
  iexists _; iexact HO

/-- The first trip: no earlier block is on its way out. -/
theorem trip_first (hidx : ∀ j, (XI j).toNat < 65536) (O : CellTallies nD τ sig (HIx 1)) (w : BitVec 32) (hw : w = w4 L) (k : Fin k0_t1_loop.trips) (h0 : k.val = 0)
    (fo OUT : Buf (Elt F) ((oV).view.loc (VT d L))) (hOUT : ∀ b y, OUT ((oblk L b).view.emb y) = got d L XT XI hidx b y) :
    iprop(Transfers.MayWaits (VT d L) (default : HIx 1) O
      ∗ xP d L q XT ∗ iflight d L XI (s₀ k) (b₀ k) ∗ (∃ f, islotP d L (s₁ k) f) ∗ icP d L (s₁ k) ∗ iwinP d L XI (b₁ k)
      ∗ (∃ f, oslotP d L (s₀ k) f) ∗ ocP d L (s₀ k) ∗ (∃ f, oslotP d L (s₁ k) f) ∗ ocP d L (s₁ k) ∗ oblkP d L (b₀ k) fo
      ∗ semVal (VT d L, SemLoc.dma cc0_scoped4.sem) 0 ∗ semVal (VT d L, SemLoc.dma cc0_scoped5.sem) 0
      ∗ ∃ W', owes (VT d L) O W')
    ⊢ wp frame (wpE (defs₀ (F := F)) 𝒱₀ (VT d L) none) Set.univ (tripG (F := F) L w k) fun acc =>
      iprop(⌜acc = words (k.val + 1)⌝
      ∗ xP d L q XT ∗ iflight d L XI (s₁ k) (b₁ k) ∗ (∃ f, islotP d L (s₀ k) f) ∗ icP d L (s₀ k) ∗ iwinP d L XI (b₀ k)
      ∗ (∃ f, oslotP d L (s₁ k) f) ∗ ocP d L (s₁ k) ∗ oflight d L (s₀ k) (b₀ k) OUT
      ∗ semVal (VT d L, SemLoc.dma cc0_scoped4.sem) 0 ∗ semVal (VT d L, SemLoc.dma cc0_scoped5.sem) 0
      ∗ ∃ W', owes (VT d L) O W') := by
  iintro ⟨#Hmw, Hx, ⟨%f0, HF⟩, ⟨%f1, Hi1⟩, Hic1, Hw1, ⟨%f2, Ho0⟩, Hoc0, ⟨%f3, HOF_src⟩, HOF, Hb0, Hc4, Hc5, %W', HO⟩
  have hlist := list_lt d L XI hidx
  have hk1 := chk1_ok L k
  have hk2 := chk2_ok k
  have hk3 := chk3_ok k
  have hc1 := cond1_pos L k (by omega)
  have hc2 := cond2_pos L k
  have hc5 := cond5_pos L k
  have hc7 := cond7_neg L k h0
  dsimp only [tripG, words]
  sl_unfold [k0_t1_body]
  sl_exec
  refine gat_step (F := F) d L 0 inb_S65536x256_S65536x128_0_0 inb_S128x256_S128x128_0_0 cc0_scoped4.sem k _ _ _ ?_
  delta gat ilist ocol xcol
  sl_exec
  sl_step
  isplitr
  · ipureintro
    subst hw
    clear * - h0
    clear trip_first XT XI
    revert L k
    decide +kernel
  isplitl [Hx]; · iexact Hx
  isplitl [Hic1]; · iexists f1; iexact Hic1
  isplitl [HF_dst]; · iexists _; iexact HF_dst
  isplitl [HF]; · iexact HF
  isplitl [HF_src]; · iexact HF_src
  isplitl [HOF_src]; · iexists f3; iexact HOF_src
  isplitl [HOF]; · iexact HOF
  isplitl [Hoc0]
  · iexists _
    iapply (Transfers.Flight_mono countersEmb (VT d L) (sep_mono (blk (F := F) d L XT XI hidx OUT fo hOUT (b₀ k) _ (fun y => staged d L XT XI hidx _ _ _ _ _ _ _ _ _ _ _ _ y)) .rfl))
    iexact Hoc0
  isplitl [Hc4]; · iexact Hc4
  isplitl [Hc5]; · iexact Hc5
  iexists _; iexact HO

/-- The last trip: no later window is fetched. -/
theorem trip_last (hidx : ∀ j, (XI j).toNat < 65536) (O : CellTallies nD τ sig (HIx 1)) (w : BitVec 32) (hw : w = w4 L) (k : Fin k0_t1_loop.trips) (h15 : k.val = 15)
    (fo OUT : Buf (Elt F) ((oV).view.loc (VT d L))) (hOUT : ∀ b y, OUT ((oblk L b).view.emb y) = got d L XT XI hidx b y) :
    iprop(Transfers.MayWaits (VT d L) (default : HIx 1) O
      ∗ xP d L q XT ∗ iflight d L XI (s₀ k) (b₀ k) ∗ (∃ f, islotP d L (s₁ k) f) ∗ icP d L (s₁ k)
      ∗ (∃ f, oslotP d L (s₀ k) f) ∗ ocP d L (s₀ k) ∗ oflight d L (s₁ k) (bp k) OUT ∗ oblkP d L (b₀ k) fo
      ∗ semVal (VT d L, SemLoc.dma cc0_scoped4.sem) 0 ∗ semVal (VT d L, SemLoc.dma cc0_scoped5.sem) 0
      ∗ ∃ W', owes (VT d L) O W')
    ⊢ wp frame (wpE (defs₀ (F := F)) 𝒱₀ (VT d L) none) Set.univ (tripG (F := F) L w k) fun acc =>
      iprop(⌜acc = words (k.val + 1)⌝
      ∗ xP d L q XT ∗ (∃ f, islotP d L (s₁ k) f) ∗ icP d L (s₁ k) ∗ (∃ f, islotP d L (s₀ k) f) ∗ icP d L (s₀ k) ∗ iwinP d L XI (b₀ k)
      ∗ (∃ f, oslotP d L (s₁ k) f) ∗ ocP d L (s₁ k) ∗ oflight d L (s₀ k) (b₀ k) OUT ∗ oblkP d L (bp k) OUT
      ∗ semVal (VT d L, SemLoc.dma cc0_scoped4.sem) 0 ∗ semVal (VT d L, SemLoc.dma cc0_scoped5.sem) 0
      ∗ ∃ W', owes (VT d L) O W') := by
  iintro ⟨#Hmw, Hx, ⟨%f0, HF⟩, ⟨%f1, Hi1⟩, Hic1, ⟨%f2, Ho0⟩, Hoc0, ⟨%f3, HOF⟩, Hb0, Hc4, Hc5, %W', HO⟩
  have hlist := list_lt d L XI hidx
  have hk1 := chk1_ok L k
  have hk2 := chk2_ok k
  have hk3 := chk3_ok k
  have hcanon1 := canon_ocell_prev k (by omega)
  have hcanon2 := canon_oslot_prev k (by omega)
  have hc1 := cond1_neg L k h15
  have hc2 := cond2_pos L k
  have hc5 := cond5_pos L k
  have hc7 := cond7_pos L k (by omega)
  dsimp only [tripG, words]
  sl_unfold [k0_t1_body]
  sl_exec
  refine gat_step (F := F) d L 0 inb_S65536x256_S65536x128_0_0 inb_S128x256_S128x128_0_0 cc0_scoped4.sem k _ _ _ ?_
  delta gat ilist ocol xcol
  sl_exec
  sl_step
  isplitr
  · ipureintro
    subst hw
    clear * - h15
    clear trip_last XT XI
    revert L k
    decide +kernel
  isplitl [Hx]; · iexact Hx
  isplitl [Hi1]; · iexists f1; iexact Hi1
  isplitl [Hic1]; · iexact Hic1
  isplitl [HF_dst]; · iexists _; iexact HF_dst
  isplitl [HF]; · iexact HF
  isplitl [HF_src]; · iexact HF_src
  isplitl [HOF_src]; · iexists f3; iexact HOF_src
  isplitl [HOF]; · iexact HOF
  isplitl [Hoc0]
  · iexists _
    iapply (Transfers.Flight_mono countersEmb (VT d L) (sep_mono (blk (F := F) d L XT XI hidx OUT fo hOUT (b₀ k) _ (fun y => staged d L XT XI hidx _ _ _ _ _ _ _ _ _ _ _ _ y)) .rfl))
    iexact Hoc0
  isplitl [HOF_dst]; · iexact HOF_dst
  isplitl [Hc4]; · iexact Hc4
  isplitl [Hc5]; · iexact Hc5
  iexists _; iexact HO

end Pieces

end Cert.Proof.Rows

end
-- ==== Proof.Tile.lean ====
module

public import proofs.«01_k».proof.Proof.Trip

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_v4_scv : Memref Cert.KernelIdeal.sig Kind.scVector Space.hbm Cert.KernelIdeal.S65536x256 EltTy.i32)
local notation "iV" => (Memref.whole Cert.KernelIdeal.main_v10_scv : Memref Cert.KernelIdeal.sig Kind.scVector Space.hbm Cert.KernelIdeal.S1x65536 EltTy.i32)
local notation "oV" => (Memref.whole Cert.KernelIdeal.main_v11_scv : Memref Cert.KernelIdeal.sig Kind.scVector Space.hbm Cert.KernelIdeal.S65536x256 EltTy.i32)
local notation "lV" => (Memref.whole Cert.KernelIdeal.cc0_scoped0 : Memref Cert.KernelIdeal.sig Kind.scVector Space.vmem Cert.KernelIdeal.S2x1x128 EltTy.i32)
local notation "tV" => (Memref.whole Cert.KernelIdeal.cc0_scoped2 : Memref Cert.KernelIdeal.sig Kind.scVector Space.vmem Cert.KernelIdeal.S2x128x256 EltTy.i32)

section Tile

variable (d : Dev nD) (L : grid0.Coords) (q : PosShare TreeShare)
  (XT : Buf (Elt F) ((xV).view.loc (VT d L))) (XI : Buf (Elt F) ((iV).view.loc (VT d L))) (fo OUT : Buf (Elt F) ((oV).view.loc (VT d L)))

/-! ### The blocks at home before a trip -/

/-- All windows but `k`'s. -/
abbrev wSet (k : Nat) : Finset (Fin 16) := Finset.univ.filter fun j => j.val ≠ k
/-- All windows but `k`'s and the next. -/
abbrev wMid (k : Nat) : Finset (Fin 16) := Finset.univ.filter fun j => j.val ≠ k ∧ j.val ≠ k + 1
/-- The blocks that no trip has written. -/
abbrev tSet (k : Nat) : Finset (Fin 16) := Finset.univ.filter fun j => k ≤ j.val
/-- The blocks that have arrived. -/
abbrev dSet (k : Nat) : Finset (Fin 16) := Finset.univ.filter fun j => j.val + 1 < k

theorem wSet_next : ∀ k : Fin k0_t1_loop.trips, k.val < 15 → wSet k.val = insert (b₁ k) (wMid k.val) ∧ b₁ k ∉ wMid k.val := by decide +kernel
theorem wSet_last : ∀ k : Fin k0_t1_loop.trips, k.val = 15 → wSet k.val = wMid k.val := by decide +kernel
theorem wSet_back : ∀ k : Fin k0_t1_loop.trips, wSet (k.val + 1) = insert (b₀ k) (wMid k.val) ∧ b₀ k ∉ wMid k.val := by decide +kernel
theorem tSet_take : ∀ k : Fin k0_t1_loop.trips, tSet k.val = insert (b₀ k) (tSet (k.val + 1)) ∧ b₀ k ∉ tSet (k.val + 1) := by decide +kernel
theorem dSet_put : ∀ k : Fin k0_t1_loop.trips, 0 < k.val → dSet (k.val + 1) = insert (bp k) (dSet k.val) ∧ bp k ∉ dSet k.val := by decide +kernel
theorem dSet_one : ∀ k : Fin k0_t1_loop.trips, k.val = 0 → dSet (k.val + 1) = dSet k.val := by decide +kernel
theorem wSet_start : (Finset.univ : Finset (Fin 16)) = insert (0 : Fin 16) (wSet 0) ∧ (0 : Fin 16) ∉ wSet 0 := by decide +kernel
theorem wSet_end : wSet 16 = Finset.univ := by decide +kernel
theorem tSet_start : tSet 0 = Finset.univ := by decide +kernel
theorem dSet_start : dSet 0 = ∅ := by decide +kernel
theorem dSet_end : (Finset.univ : Finset (Fin 16)) = insert (15 : Fin 16) (dSet 16) ∧ (15 : Fin 16) ∉ dSet 16 := by decide +kernel

theorem sl_two (k : Nat) : Ring.sl 2 (k + 1 + 1) = Ring.sl 2 k := Ring.sl_add 2 k
theorem bk_prev : ∀ k : Fin k0_t1_loop.trips, Ring.bk 16 (k.val + 1 + 15) = b₀ k := by decide +kernel

/-! ### The loop -/

/-- The index slots before trip `k`: slot `k % 2` awaits window `k`, the other is free; after the last both are free. -/
def idxSt (k : Nat) : sProp 𝕄 :=
  if k < 16 then iprop(iflight d L XI (Ring.sl 2 k) (Ring.bk 16 k) ∗ (∃ f, islotP d L (Ring.sl 2 (k + 1)) f) ∗ icP d L (Ring.sl 2 (k + 1)))
  else iprop((∃ f, islotP d L (Ring.sl 2 k) f) ∗ icP d L (Ring.sl 2 k) ∗ (∃ f, islotP d L (Ring.sl 2 (k + 1)) f) ∗ icP d L (Ring.sl 2 (k + 1)))
/-- The row buffers before trip `k`: buffer `k % 2` is free, the other carries block `k - 1` out (or is free before the
first trip). -/
def outSt (k : Nat) : sProp 𝕄 :=
  iprop((∃ f, oslotP d L (Ring.sl 2 k) f) ∗ ocP d L (Ring.sl 2 k)
    ∗ if k = 0 then iprop((∃ f, oslotP d L (Ring.sl 2 (k + 1)) f) ∗ ocP d L (Ring.sl 2 (k + 1)))
      else oflight d L (Ring.sl 2 (k + 1)) (Ring.bk 16 (k + 15)) OUT)
/-- The loop's invariant before trip `k`. -/
def inv (O : CellTallies nD τ sig (HIx 1)) (k : Nat) (acc : BitVec 32 × BitVec 32 × BitVec 32 × BitVec 32 × BitVec 32) : sProp 𝕄 :=
  iprop(⌜acc = words k⌝ ∗ Transfers.MayWaits (VT d L) (default : HIx 1) O ∗ xP d L q XT
    ∗ idxSt d L XI k ∗ outSt d L OUT k
    ∗ (bigSep (wSet k) fun j => iwinP d L XI j) ∗ (bigSep (tSet k) fun j => oblkP d L j fo) ∗ (bigSep (dSet k) fun j => oblkP d L j OUT)
    ∗ semVal (VT d L, SemLoc.dma cc0_scoped4.sem) 0 ∗ semVal (VT d L, SemLoc.dma cc0_scoped5.sem) 0
    ∗ ∃ W', owes (VT d L) O W')

theorem trip_region (hidx : ∀ j, (XI j).toNat < 65536) (hOUT : ∀ b y, OUT ((oblk L b).view.emb y) = got d L XT XI hidx b y)
    (O : CellTallies nD τ sig (HIx 1)) (k : Fin k0_t1_loop.trips) :
    inv d L q XT XI fo OUT O k.val (words k.val)
      ⊢ wp frame (wpE (defs₀ (F := F)) 𝒱₀ (VT d L) none) Set.univ (tripG (F := F) L (w4 L) k) fun acc => inv d L q XT XI fo OUT O (k.val + 1) acc := by
  have hk : k.val < 16 := lt_of_lt_of_eq k.isLt trips_eq
  have hne : ¬ k.val + 1 = 0 := Nat.succ_ne_zero _
  obtain ⟨tS, tN⟩ := tSet_take k
  obtain ⟨wS, wN⟩ := wSet_back k
  unfold inv idxSt outSt
  rw [if_pos hk, if_neg hne, sl_two, bk_prev, tS, SparseCore.bigSep_insert' tN, wS, SparseCore.bigSep_insert' wN]
  rcases Nat.eq_zero_or_pos k.val with h0 | h0
  · obtain ⟨wS', wN'⟩ := wSet_next k (by omega)
    rw [if_pos h0, if_pos (show k.val + 1 < 16 by omega), wS', SparseCore.bigSep_insert' wN', dSet_one k h0]
    iintro ⟨-, #Hmw, Hx, ⟨HF, Hi1, Hic1⟩, ⟨Ho0, Hoc0, Ho1, Hoc1⟩, ⟨Hw1, Hws⟩, ⟨Hb0, Hts⟩, Hds, Hc4, Hc5, HO⟩
    iapply (wp_wand_r Idealize.ShloMosaic.frame (wpE (defs₀ (F := F)) 𝒱₀ (VT d L) none) Set.univ)
    isplitl [Hx HF Hi1 Hic1 Ho0 Hoc0 Ho1 Hoc1 Hw1 Hb0 Hc4 Hc5 HO]
    · iapply (trip_first (F := F) d L q XT XI hidx O (w4 L) rfl k h0 fo OUT hOUT)
      isplitr; · iexact Hmw
      isplitl [Hx]; · iexact Hx
      isplitl [HF]; · iexact HF
      isplitl [Hi1]; · iexact Hi1
      isplitl [Hic1]; · iexact Hic1
      isplitl [Hw1]; · iexact Hw1
      isplitl [Ho0]; · iexact Ho0
      isplitl [Hoc0]; · iexact Hoc0
      isplitl [Ho1]; · iexact Ho1
      isplitl [Hoc1]; · iexact Hoc1
      isplitl [Hb0]; · iexact Hb0
      isplitl [Hc4]; · iexact Hc4
      isplitl [Hc5]; · iexact Hc5
      iexact HO
    iintro %acc ⟨%hacc, Hx, HF, Hi0, Hic0, Hw0, Ho1, Hoc1, HOF, Hc4, Hc5, HO⟩
    isplitr; · ipureintro; exact hacc
    isplitr; · iexact Hmw
    isplitl [Hx]; · iexact Hx
    isplitl [HF Hi0 Hic0]
    · isplitl [HF]; · iexact HF
      isplitl [Hi0]; · iexact Hi0
      iexact Hic0
    isplitl [Ho1 Hoc1 HOF]
    · isplitl [Ho1]; · iexact Ho1
      isplitl [Hoc1]; · iexact Hoc1
      iexact HOF
    isplitl [Hw0 Hws]
    · isplitl [Hw0]; · iexact Hw0
      iexact Hws
    isplitl [Hts]; · iexact Hts
    isplitl [Hds]; · iexact Hds
    isplitl [Hc4]; · iexact Hc4
    isplitl [Hc5]; · iexact Hc5
    iexact HO
  obtain ⟨dS, dN⟩ := dSet_put k h0
  rw [if_neg (show ¬ k.val = 0 by omega), dS, SparseCore.bigSep_insert' dN]
  rcases Nat.lt_or_ge k.val 15 with h15 | h15
  · obtain ⟨wS', wN'⟩ := wSet_next k h15
    rw [if_pos (show k.val + 1 < 16 by omega), wS', SparseCore.bigSep_insert' wN']
    iintro ⟨-, #Hmw, Hx, ⟨HF, Hi1, Hic1⟩, ⟨Ho0, Hoc0, HOF⟩, ⟨Hw1, Hws⟩, ⟨Hb0, Hts⟩, Hds, Hc4, Hc5, HO⟩
    iapply (wp_wand_r Idealize.ShloMosaic.frame (wpE (defs₀ (F := F)) 𝒱₀ (VT d L) none) Set.univ)
    isplitl [Hx HF Hi1 Hic1 Ho0 Hoc0 HOF Hw1 Hb0 Hc4 Hc5 HO]
    · iapply (trip_mid (F := F) d L q XT XI hidx O (w4 L) rfl k h0 h15 fo OUT hOUT)
      isplitr; · iexact Hmw
      isplitl [Hx]; · iexact Hx
      isplitl [HF]; · iexact HF
      isplitl [Hi1]; · iexact Hi1
      isplitl [Hic1]; · iexact Hic1
      isplitl [Hw1]; · iexact Hw1
      isplitl [Ho0]; · iexact Ho0
      isplitl [Hoc0]; · iexact Hoc0
      isplitl [HOF]; · iexact HOF
      isplitl [Hb0]; · iexact Hb0
      isplitl [Hc4]; · iexact Hc4
      isplitl [Hc5]; · iexact Hc5
      iexact HO
    iintro %acc ⟨%hacc, Hx, HF, Hi0, Hic0, Hw0, Ho1, Hoc1, HOF, Hbp, Hc4, Hc5, HO⟩
    isplitr; · ipureintro; exact hacc
    isplitr; · iexact Hmw
    isplitl [Hx]; · iexact Hx
    isplitl [HF Hi0 Hic0]
    · isplitl [HF]; · iexact HF
      isplitl [Hi0]; · iexact Hi0
      iexact Hic0
    isplitl [Ho1 Hoc1 HOF]
    · isplitl [Ho1]; · iexact Ho1
      isplitl [Hoc1]; · iexact Hoc1
      iexact HOF
    isplitl [Hw0 Hws]
    · isplitl [Hw0]; · iexact Hw0
      iexact Hws
    isplitl [Hts]; · iexact Hts
    isplitl [Hbp Hds]
    · isplitl [Hbp]; · iexact Hbp
      iexact Hds
    isplitl [Hc4]; · iexact Hc4
    isplitl [Hc5]; · iexact Hc5
    iexact HO
  · have h15' : k.val = 15 := by omega
    rw [if_neg (show ¬ k.val + 1 < 16 by omega), wSet_last k h15']
    iintro ⟨-, #Hmw, Hx, ⟨HF, Hi1, Hic1⟩, ⟨Ho0, Hoc0, HOF⟩, Hws, ⟨Hb0, Hts⟩, Hds, Hc4, Hc5, HO⟩
    iapply (wp_wand_r Idealize.ShloMosaic.frame (wpE (defs₀ (F := F)) 𝒱₀ (VT d L) none) Set.univ)
    isplitl [Hx HF Hi1 Hic1 Ho0 Hoc0 HOF Hb0 Hc4 Hc5 HO]
    · iapply (trip_last (F := F) d L q XT XI hidx O (w4 L) rfl k h15' fo OUT hOUT)
      isplitr; · iexact Hmw
      isplitl [Hx]; · iexact Hx
      isplitl [HF]; · iexact HF
      isplitl [Hi1]; · iexact Hi1
      isplitl [Hic1]; · iexact Hic1
      isplitl [Ho0]; · iexact Ho0
      isplitl [Hoc0]; · iexact Hoc0
      isplitl [HOF]; · iexact HOF
      isplitl [Hb0]; · iexact Hb0
      isplitl [Hc4]; · iexact Hc4
      isplitl [Hc5]; · iexact Hc5
      iexact HO
    iintro %acc ⟨%hacc, Hx, Hi1, Hic1, Hi0, Hic0, Hw0, Ho1, Hoc1, HOF, Hbp, Hc4, Hc5, HO⟩
    isplitr; · ipureintro; exact hacc
    isplitr; · iexact Hmw
    isplitl [Hx]; · iexact Hx
    isplitl [Hi1 Hic1 Hi0 Hic0]
    · isplitl [Hi1]; · iexact Hi1
      isplitl [Hic1]; · iexact Hic1
      isplitl [Hi0]; · iexact Hi0
      iexact Hic0
    isplitl [Ho1 Hoc1 HOF]
    · isplitl [Ho1]; · iexact Ho1
      isplitl [Hoc1]; · iexact Hoc1
      iexact HOF
    isplitl [Hw0 Hws]
    · isplitl [Hw0]; · iexact Hw0
      iexact Hws
    isplitl [Hts]; · iexact Hts
    isplitl [Hbp Hds]
    · isplitl [Hbp]; · iexact Hbp
      iexact Hds
    isplitl [Hc4]; · iexact Hc4
    isplitl [Hc5]; · iexact Hc5
    iexact HO

theorem inv_acc (O : CellTallies nD τ sig (HIx 1)) (k acc) :
    inv d L q XT XI fo OUT O k acc ⊢ iprop(⌜acc = words k⌝ ∗ inv d L q XT XI fo OUT O k (words k)) := by
  unfold inv
  iintro ⟨%e, H⟩
  isplitr; · ipureintro; exact e
  isplitr; · ipureintro; rfl
  iexact H

theorem wins_start : (bigSep Finset.univ fun j => iwinP (F := F) d L XI j) = iprop(iwinP d L XI 0 ∗ bigSep (wSet 0) fun j => iwinP d L XI j) := by
  rw [wSet_start.1, SparseCore.bigSep_insert' wSet_start.2]
theorem blks_end : (bigSep Finset.univ fun j => oblkP (F := F) d L j OUT) = iprop(oblkP d L 15 OUT ∗ bigSep (dSet 16) fun j => oblkP d L j OUT) := by
  rw [dSet_end.1, SparseCore.bigSep_insert' dSet_end.2]

/-- The invariant before the first trip … -/
theorem inv_start (O : CellTallies nD τ sig (HIx 1)) :
    iprop(Transfers.MayWaits (VT d L) (default : HIx 1) O ∗ xP d L q XT
    ∗ (iflight d L XI 0 0 ∗ (∃ f, islotP d L 1 f) ∗ icP d L 1) ∗ ((∃ f, oslotP d L 0 f) ∗ ocP d L 0 ∗ (∃ f, oslotP d L 1 f) ∗ ocP d L 1)
    ∗ (bigSep (wSet 0) fun j => iwinP d L XI j) ∗ (bigSep Finset.univ fun j => oblkP d L j fo)
    ∗ semVal (VT d L, SemLoc.dma cc0_scoped4.sem) 0 ∗ semVal (VT d L, SemLoc.dma cc0_scoped5.sem) 0
    ∗ ∃ W', owes (VT d L) O W') ⊢ inv d L q XT XI fo OUT O 0 (words 0) := by
  unfold inv idxSt outSt
  rw [if_pos (show 0 < 16 by decide), if_pos rfl, tSet_start, dSet_start, bigSep_empty,
    show Ring.sl 2 0 = (0 : Fin 2) from rfl, show Ring.sl 2 (0 + 1) = (1 : Fin 2) from rfl, show Ring.bk 16 0 = (0 : Fin 16) from rfl]
  iintro ⟨Hmw, Hx, Hi, Ho, Hw, Hb, Hc4, Hc5, HO⟩
  isplitr; · ipureintro; rfl
  isplitl [Hmw]; · iexact Hmw
  isplitl [Hx]; · iexact Hx
  isplitl [Hi]; · iexact Hi
  isplitl [Ho]; · iexact Ho
  isplitl [Hw]; · iexact Hw
  isplitl [Hb]; · iexact Hb
  isplitr; · iempintro
  isplitl [Hc4]; · iexact Hc4
  isplitl [Hc5]; · iexact Hc5
  iexact HO
/-- … and after the last. -/
theorem inv_end (O : CellTallies nD τ sig (HIx 1)) (acc) (n : Nat) (hn : n = 16) :
    inv d L q XT XI fo OUT O n acc ⊢ iprop(⌜acc = words 16⌝ ∗ xP d L q XT
    ∗ ((∃ f, islotP d L 0 f) ∗ icP d L 0 ∗ (∃ f, islotP d L 1 f) ∗ icP d L 1) ∗ ((∃ f, oslotP d L 0 f) ∗ ocP d L 0 ∗ oflight d L 1 15 OUT)
    ∗ (bigSep Finset.univ fun j => iwinP d L XI j) ∗ (bigSep (dSet 16) fun j => oblkP d L j OUT)
    ∗ semVal (VT d L, SemLoc.dma cc0_scoped4.sem) 0 ∗ semVal (VT d L, SemLoc.dma cc0_scoped5.sem) 0
    ∗ ∃ W', owes (VT d L) O W') := by
  subst hn
  unfold inv idxSt outSt
  rw [if_neg (show ¬ 16 < 16 by decide), if_neg (show ¬ 16 = 0 by decide), wSet_end,
    show Ring.sl 2 16 = (0 : Fin 2) from rfl, show Ring.sl 2 (16 + 1) = (1 : Fin 2) from rfl, show Ring.bk 16 (16 + 15) = (15 : Fin 16) from rfl]
  iintro ⟨%e, -, Hx, Hi, Ho, Hw, -, Hd, Hc4, Hc5, HO⟩
  isplitr; · ipureintro; exact e
  isplitl [Hx]; · iexact Hx
  isplitl [Hi]; · iexact Hi
  isplitl [Ho]; · iexact Ho
  isplitl [Hw]; · iexact Hw
  isplitl [Hd]; · iexact Hd
  isplitl [Hc4]; · iexact Hc4
  isplitl [Hc5]; · iexact Hc5
  iexact HO

/-- A task of the gather, from its pieces to the same with its sixteen blocks of the result written. -/
theorem tile_run (hidx : ∀ j, (XI j).toNat < 65536) (hOUT : ∀ b y, OUT ((oblk L b).view.emb y) = got d L XT XI hidx b y)
    (O : CellTallies nD τ sig (HIx 1)) (W : Waits sig (HIx 1)) :
    iprop(Transfers.MayWaits (VT d L) (default : HIx 1) O ∗ xP d L q XT
      ∗ (bigSep Finset.univ fun j => iwinP d L XI j) ∗ (bigSep Finset.univ fun j => oblkP d L j fo)
      ∗ (∃ f, islotP d L 0 f) ∗ (∃ f, islotP d L 1 f) ∗ (∃ f, oslotP d L 0 f) ∗ (∃ f, oslotP d L 1 f)
      ∗ icP d L 0 ∗ icP d L 1 ∗ ocP d L 0 ∗ ocP d L 1
      ∗ semVal (VT d L, SemLoc.dma cc0_scoped4.sem) 0 ∗ semVal (VT d L, SemLoc.dma cc0_scoped5.sem) 0
      ∗ owes (VT d L) O W)
    ⊢ wp frame (wpE (defs₀ (F := F)) 𝒱₀ (VT d L) none) Set.univ
        (cc0_gather_kernel (F := F) L xV (Memref.isWhole_whole _) iV (Memref.isWhole_whole _) oV (Memref.isWhole_whole _)
            lV (Memref.isWhole_whole _) cc0_scoped1 tV (Memref.isWhole_whole _) cc0_scoped3 cc0_scoped4 cc0_scoped5)
        fun _ => iprop(xP d L q XT
      ∗ (bigSep Finset.univ fun j => iwinP d L XI j) ∗ (bigSep Finset.univ fun j => oblkP d L j OUT)
      ∗ (∃ f, islotP d L 0 f) ∗ (∃ f, islotP d L 1 f) ∗ (∃ f, oslotP d L 0 f) ∗ (∃ f, oslotP d L 1 f)
      ∗ icP d L 0 ∗ icP d L 1 ∗ ocP d L 0 ∗ ocP d L 1
      ∗ semVal (VT d L, SemLoc.dma cc0_scoped4.sem) 0 ∗ semVal (VT d L, SemLoc.dma cc0_scoped5.sem) 0
      ∗ ∃ W', owes (VT d L) O W') := by
  rw [wins_start, blks_end d L OUT]
  iintro ⟨#Hmw, Hx, ⟨Hw0, Hws⟩, Hbs, ⟨%f0, Hi0⟩, Hi1, Ho0, Ho1, Hic0, Hic1, Hoc0, Hoc1, Hc4, Hc5, HO⟩
  have hk4 := chk4_ok
  have hk5 := chk5_ok L
  sl_unfold [cc0_gather_kernel]
  sl_exec
  sl_for (inv d L q XT XI fo OUT O) $$ [Hx Hws Hbs Hi1 Ho0 Ho1 Hic0 Hic1 Hoc0 Hoc1 Hc4 Hc5 HO]
  case region =>
    intro k acc
    iintro H
    ihave H' := (inv_acc (F := F) d L q XT XI fo OUT O k.val acc) $$ H
    icases H' with ⟨%e, H⟩
    subst e
    iapply (trip_region (F := F) d L q XT XI fo OUT hidx hOUT O k)
    iexact H
  · iapply (inv_start (F := F) d L q XT XI fo OUT O)
    isplitr; · iexact Hmw
    isplitl [Hx]; · iexact Hx
    isplitl [Hic0 Hi1 Hic1]
    · isplitl [Hic0]; · iexists f0; iexact Hic0
      isplitl [Hi1]; · iexact Hi1
      iexact Hic1
    isplitl [Ho0 Hoc0 Ho1 Hoc1]
    · isplitl [Ho0]; · iexact Ho0
      isplitl [Hoc0]; · iexact Hoc0
      isplitl [Ho1]; · iexact Ho1
      iexact Hoc1
    isplitl [Hws]; · iexact Hws
    isplitl [Hbs]; · iexact Hbs
    isplitl [Hc4]; · iexact Hc4
    isplitl [Hc5]; · iexact Hc5
    iexists W; iexact HO
  iintro %acc H
  ihave H' := (inv_end (F := F) d L q XT XI fo OUT O acc _ trips_eq) $$ H
  icases H' with ⟨%e, Hx, ⟨Hi0, Hic0, Hi1, Hic1⟩, ⟨Ho0, Hoc0, ⟨%f3, HOF⟩⟩, Hws, Hds, Hc4, Hc5, %W', HO⟩
  subst e
  delta words
  sl_exec
  sl_step
  ihave Hw' := (Entails.of_eq (wins_start (F := F) d L XI)) $$ Hws
  icases Hw' with ⟨Hw0, Hws⟩
  isplitl [Hx]; · iexact Hx
  isplitl [Hw0 Hws]
  · isplitl [Hw0]; · iexact Hw0
    iexact Hws
  isplitl [HOF_dst Hds]
  · isplitl [HOF_dst]; · iexact HOF_dst
    iexact Hds
  isplitl [Hi0]; · iexact Hi0
  isplitl [Hi1]; · iexact Hi1
  isplitl [Ho0]; · iexact Ho0
  isplitl [HOF_src]; · iexists f3; iexact HOF_src
  isplitl [Hic0]; · iexact Hic0
  isplitl [Hic1]; · iexact Hic1
  isplitl [Hoc0]; · iexact Hoc0
  isplitl [HOF]; · iexact HOF
  isplitl [Hc4]; · iexact Hc4
  isplitl [Hc5]; · iexact Hc5
  iexists _; iexact HO

end Tile

end Cert.Proof.Rows

end
-- ==== Proof.Launch.lean ====
/-
  One task of the gather call as the launch deals it: its share of the table, its sixteen windows of the index row and its
  sixteen blocks of the result, with the two double buffers cut into their slots and the six semaphore cells named one by
  one; and from that the obligations of the launch. What the table, the index row and the result hold is left open here
  (`XT`, `XI`, `OUT`).
-/
module

public import proofs.«01_k».proof.Proof.Tile

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_v4_scv : Memref Cert.KernelIdeal.sig Kind.scVector Space.hbm Cert.KernelIdeal.S65536x256 EltTy.i32)
local notation "iV" => (Memref.whole Cert.KernelIdeal.main_v10_scv : Memref Cert.KernelIdeal.sig Kind.scVector Space.hbm Cert.KernelIdeal.S1x65536 EltTy.i32)
local notation "oV" => (Memref.whole Cert.KernelIdeal.main_v11_scv : Memref Cert.KernelIdeal.sig Kind.scVector Space.hbm Cert.KernelIdeal.S65536x256 EltTy.i32)
local notation "lV" => (Memref.whole Cert.KernelIdeal.cc0_scoped0 : Memref Cert.KernelIdeal.sig Kind.scVector Space.vmem Cert.KernelIdeal.S2x1x128 EltTy.i32)
local notation "tV" => (Memref.whole Cert.KernelIdeal.cc0_scoped2 : Memref Cert.KernelIdeal.sig Kind.scVector Space.vmem Cert.KernelIdeal.S2x128x256 EltTy.i32)

/-! ## A task's own buffers and cells -/

section Own

variable (d : Dev nD) (L : grid0.Coords)

abbrev iSlotSet (s : Fin 2) : Finset S2x1x128.Idx := (Rect.unit (s := S2x1x128) ![s.val, 0, 0] S1x1x128.size (inb_islot s)).set
abbrev oSlotSet (s : Fin 2) : Finset S2x128x256.Idx := (Rect.unit (s := S2x128x256) ![s.val, 0, 0] S1x128x256.size (inb_oslot s)).set

theorem islot_set (s : Fin 2) : (islot s).view.set = iSlotSet s := by
  simp only [islot, Memref.view_squeeze, View.set_reshape]; exact View.set_slice_whole _ _
theorem oslot_set (s : Fin 2) : (oslot s).view.set = oSlotSet s := by
  simp only [oslot, Memref.view_squeeze, View.set_reshape]; exact View.set_slice_whole _ _
theorem islots_disjoint (s s' : Fin 2) (h : s ≠ s') : Disjoint (iSlotSet s) (iSlotSet s') :=
  Ring.lead_disjoint (s := S2x1x128) (0 : Fin 3) 1 (fun j : Fin 2 => (![j.val, 0, 0] : Fin 3 → Nat)) S1x1x128.size inb_islot (fun j => by simp) rfl s s' h
theorem oslots_disjoint (s s' : Fin 2) (h : s ≠ s') : Disjoint (oSlotSet s) (oSlotSet s') :=
  Ring.lead_disjoint (s := S2x128x256) (0 : Fin 3) 1 (fun j : Fin 2 => (![j.val, 0, 0] : Fin 3 → Nat)) S1x128x256.size inb_oslot (fun j => by simp) rfl s s' h
theorem islots_cover : Finset.univ.biUnion iSlotSet = Finset.univ :=
  Ring.lead_cover (s := S2x1x128) (0 : Fin 3) 1 (fun j : Fin 2 => (![j.val, 0, 0] : Fin 3 → Nat)) S1x1x128.size inb_islot (fun j => by simp)
    (fun j a ha => by fin_cases a <;> first | exact absurd rfl ha | rfl) rfl (fun a ha => by fin_cases a <;> first | exact absurd rfl ha | rfl) rfl
theorem oslots_cover : Finset.univ.biUnion oSlotSet = Finset.univ :=
  Ring.lead_cover (s := S2x128x256) (0 : Fin 3) 1 (fun j : Fin 2 => (![j.val, 0, 0] : Fin 3 → Nat)) S1x128x256.size inb_oslot (fun j => by simp)
    (fun j a ha => by fin_cases a <;> first | exact absurd rfl ha | rfl) rfl (fun a ha => by fin_cases a <;> first | exact absurd rfl ha | rfl) rfl
theorem islotP_eq (s : Fin 2) (f) : islotP (F := F) d L s f = ((lV).view.loc (VT d L) ↦[iSlotSet s]{fullShare} f : sProp 𝕄) := by
  unfold islotP; rw [islot_set]; rfl
theorem oslotP_eq (s : Fin 2) (f) : oslotP (F := F) d L s f = ((tV).view.loc (VT d L) ↦[oSlotSet s]{fullShare} f : sProp 𝕄) := by
  unfold oslotP; rw [oslot_set]; rfl
theorem islots_in : iprop(∃ f, (lV).view.loc (VT d L) ↦{fullShare} f) ⊢ (iprop((∃ f, islotP d L 0 f) ∗ ∃ f, islotP d L 1 f) : sProp 𝕄) :=
  Ring.slots2_split (U := UU) (ℓ := (lV).view.loc (VT d L)) (q := fullShare) iSlotSet islots_disjoint islots_cover
    (islotP d L 0) (islotP d L 1) (islotP_eq d L 0) (islotP_eq d L 1)
theorem islots_out : (iprop((∃ f, islotP d L 0 f) ∗ ∃ f, islotP d L 1 f) : sProp 𝕄) ⊢ iprop(∃ f, (lV).view.loc (VT d L) ↦{fullShare} f) :=
  Ring.slots2_join (U := UU) (ℓ := (lV).view.loc (VT d L)) (q := fullShare) iSlotSet islots_disjoint islots_cover
    (islotP d L 0) (islotP d L 1) (islotP_eq d L 0) (islotP_eq d L 1)
theorem oslots_in : iprop(∃ f, (tV).view.loc (VT d L) ↦{fullShare} f) ⊢ (iprop((∃ f, oslotP d L 0 f) ∗ ∃ f, oslotP d L 1 f) : sProp 𝕄) :=
  Ring.slots2_split (U := UU) (ℓ := (tV).view.loc (VT d L)) (q := fullShare) oSlotSet oslots_disjoint oslots_cover
    (oslotP d L 0) (oslotP d L 1) (oslotP_eq d L 0) (oslotP_eq d L 1)
theorem oslots_out : (iprop((∃ f, oslotP d L 0 f) ∗ ∃ f, oslotP d L 1 f) : sProp 𝕄) ⊢ iprop(∃ f, (tV).view.loc (VT d L) ↦{fullShare} f) :=
  Ring.slots2_join (U := UU) (ℓ := (tV).view.loc (VT d L)) (q := fullShare) oSlotSet oslots_disjoint oslots_cover
    (oslotP d L 0) (oslotP d L 1) (oslotP_eq d L 0) (oslotP_eq d L 1)

abbrev dcell (k : Fin 6) : GSem nD τ sig := (VT d L, .dma (csem k.val k.isLt))
/-- The six cells at zero, each by the name the task gives it. -/
abbrev cells0 : sProp 𝕄 :=
  iprop(icP d L 0 ∗ icP d L 1 ∗ ocP d L 0 ∗ ocP d L 1
    ∗ semVal (VT d L, SemLoc.dma cc0_scoped4.sem) 0 ∗ semVal (VT d L, SemLoc.dma cc0_scoped5.sem) 0)

theorem dcell_mem (k : Fin 6) : dcell d L k ∈ ownCells (VT d L) :=
  mem_ownCells.mpr ⟨rfl, (show ∀ s : DmaSem sig, (SemLoc.dma s : SemLoc sig).isScoped .scVector = true by decide) _⟩

theorem ownSems0_V :
    (ownSems0 (VT d L) : sProp 𝕄)
      = iprop(cells0 (F := F) d L ∗ bigSep ((ownCells (VT d L)) \ Finset.univ.image (dcell d L)) fun g => semVal g 0) := by
  unfold SparseCore.Cfg.ownSems0
  rw [SparseCore.bigSep_sdiff_split' (t := Finset.univ.image (dcell d L)) (Finset.image_subset_iff.mpr fun k _ => dcell_mem d L k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]
  unfold cells0 icP ocP
  rw [icell_0, icell_1, ocell_0, ocell_1]
  rfl

theorem ownBufs_V :
    (ownBufs (VT d L) : sProp 𝕄)
      = iprop((∃ f, (VT d L).loc cc0_scoped0 ↦{fullShare} f) ∗ (∃ f, (VT d L).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-- What a task is handed: its share of the table, its windows of the index row, its blocks of the result at `g`. -/
abbrev part (q : PosShare TreeShare) (XT : Buf (Elt F) ((xV).view.loc (VT d L))) (XI : Buf (Elt F) ((iV).view.loc (VT d L)))
    (g : Buf (Elt F) ((oV).view.loc (VT d L))) : sProp 𝕄 :=
  iprop(xP d L q XT ∗ (bigSep Finset.univ fun j => iwinP d L XI j) ∗ bigSep Finset.univ fun j => oblkP d L j g)

/-- A task's run from what the launch deals it to what it hands back. -/
theorem tile_body (hF : (K (F := F)).Facts) (q : PosShare TreeShare) (XT : Buf (Elt F) ((xV).view.loc (VT d L))) (XI : Buf (Elt F) ((iV).view.loc (VT d L)))
    (fo OUT : Buf (Elt F) ((oV).view.loc (VT d L))) (hidx : ∀ j, (XI j).toNat < 65536)
    (hOUT : ∀ b y, OUT ((oblk L b).view.emb y) = got d L XT XI hidx b y)
    (O : CellTallies nD τ sig (HIx 1)) (W : Waits sig (HIx 1)) (hO : ∀ g, O g none = 0) :
    iprop(levAts (K (F := F)).L (K (F := F)).lev ∗ emp ∗ part d L q XT XI fo
        ∗ scopedBufs (VT d L) ∗ scopedSems0 (VT d L) ∗ owes (VT d L) O W)
      ⊢ wp frame (wpE (defs₀ (F := F)) 𝒱₀ (VT d L) none) Set.univ
          (cc0_gather_kernel (F := F) L xV (Memref.isWhole_whole _) iV (Memref.isWhole_whole _) oV (Memref.isWhole_whole _)
            lV (Memref.isWhole_whole _) cc0_scoped1 tV (Memref.isWhole_whole _) cc0_scoped3 cc0_scoped4 cc0_scoped5)
          fun _ => iprop(part d L q XT XI OUT ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨Hx, Hi, Ho⟩, ⟨Hl, Ht, Hbufs⟩, ⟨⟨Hc0, Hc1, Hc2, Hc3, Hc4, Hc5⟩, Hsems⟩, HO⟩
  ihave Hmw := (show levAts (K (F := F)).L (K (F := F)).lev ⊢ Transfers.MayWaits (VT d L) (default : HIx 1) O from
    (K (F := F)).mayWaits_none (thr := VT d L) hO) $$ Hlv
  ihave Hl' := (islots_in (F := F) d L) $$ Hl
  icases Hl' with ⟨Hl0, Hl1⟩
  ihave Ht' := (oslots_in (F := F) d L) $$ Ht
  icases Ht' with ⟨Ht0, Ht1⟩
  iapply (wp_wand_r Idealize.ShloMosaic.frame (wpE (defs₀ (F := F)) 𝒱₀ (VT d L) none) Set.univ)
  isplitr [Hbufs Hsems]
  · iapply (tile_run d L q XT XI fo OUT hidx hOUT O W)
    isplitr; · iexact Hmw
    isplitl [Hx]; · iexact Hx
    isplitl [Hi]; · iexact Hi
    isplitl [Ho]; · iexact Ho
    isplitl [Hl0]; · iexact Hl0
    isplitl [Hl1]; · iexact Hl1
    isplitl [Ht0]; · iexact Ht0
    isplitl [Ht1]; · iexact Ht1
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    iexact HO
  iintro %_ ⟨Hx, Hi, Ho, Hl0, Hl1, Ht0, Ht1, Hc0, Hc1, Hc2, Hc3, Hc4, Hc5, %W', HO⟩
  isplitl [Hx Hi Ho]
  · isplitl [Hx]; · iexact Hx
    isplitl [Hi]; · iexact Hi
    iexact Ho
  isplitl [Hl0 Hl1 Ht0 Ht1 Hbufs]
  · isplitl [Hl0 Hl1]
    · iapply (islots_out (F := F) d L)
      isplitl [Hl0]; · iexact Hl0
      iexact Hl1
    isplitl [Ht0 Ht1]
    · iapply (oslots_out (F := F) d L)
      isplitl [Ht0]; · iexact Ht0
      iexact Ht1
    iexact Hbufs
  isplitl [Hc0 Hc1 Hc2 Hc3 Hc4 Hc5 Hsems]
  · isplitl [Hc0 Hc1 Hc2 Hc3 Hc4 Hc5]
    · isplitl [Hc0]; · iexact Hc0
      isplitl [Hc1]; · iexact Hc1
      isplitl [Hc2]; · iexact Hc2
      isplitl [Hc3]; · iexact Hc3
      isplitl [Hc4]; · iexact Hc4
      iexact Hc5
    iexact Hsems
  iexists W'; isplitr
  · ipureintro; intro p _
    rcases p.2 with _ | q
    · exact .inr (.inl rfl)
    · exact .inr (.inr (congrArg some (Subsingleton.elim q 0)))
  · iexact HO

end Own

/-! ## What the call's handshakes carry -/

def coordsV (c : Fin (grid0.bound 0)) (s : Fin (grid0.bound 1)) : grid0.Coords :=
  fun | 0 => c | 1 => s | ⟨_ + 2, h⟩ => absurd h (Nat.not_lt.2 (Nat.le_add_left _ _))

theorem nCore_zero : (K (F := F)).nCore 0 = 2 := rfl
theorem nSub_zero : (K (F := F)).nSub 0 = 16 := rfl

/-- The share of the table that task `(c, i)` reads at: one of 32 equal parts. -/
abbrev share (c : Fin 2) (i : Fin 16) : PosShare TreeShare := Idealize.ShloMosaic.pieceOf fullShare (2 * 16) (by decide) (finProdFinEquiv (c, i))

abbrev tLoc (d : Dev nD) : Loc nD τ sig := (SparseCore.T d).loc main_v4
abbrev nLoc (d : Dev nD) : Loc nD τ sig := (SparseCore.T d).loc main_v10
abbrev oLoc (d : Dev nD) : Loc nD τ sig := (SparseCore.T d).loc main_v11

/-! ## The windows of the index row and the blocks of the result, over all tasks -/

abbrev Tasks : Type := (Fin 2 × Fin 16) × Fin 16

def wset (p : Tasks) : Finset S1x65536.Idx := (Rect.unit (s := S1x65536) ![0, 128 * p.2.val + base (coordsV p.1.1 p.1.2)] S1x128.size (inb_iwin _ p.2)).set
def bset (p : Tasks) : Finset S65536x256.Idx := (Rect.unit (s := S65536x256) ![128 * p.2.val + base (coordsV p.1.1 p.1.2), 0] S128x256.size (inb_oblk _ p.2)).set

theorem base_coordsV (c : Fin 2) (i : Fin 16) : base (coordsV c i) = 2048 * i.val + 32768 * c.val := rfl

theorem mem_wset (p : Tasks) (x : S1x65536.Idx) : x ∈ wset p ↔ (x 1).val / 128 = 256 * p.1.1.val + 16 * p.1.2.val + p.2.val := by
  unfold wset
  rw [Rect.mem_set_unit, base_coordsV]
  have h0 : (x 0).val < 1 := (x 0).isLt
  constructor
  · intro h
    have h1 : 128 * p.2.val + (2048 * p.1.2.val + 32768 * p.1.1.val) ≤ (x 1).val ∧ (x 1).val < 128 * p.2.val + (2048 * p.1.2.val + 32768 * p.1.1.val) + 128 := h 1
    omega
  · intro h a
    fin_cases a
    · show 0 ≤ (x 0).val ∧ (x 0).val < 0 + 1; omega
    · show 128 * p.2.val + (2048 * p.1.2.val + 32768 * p.1.1.val) ≤ (x 1).val ∧ (x 1).val < 128 * p.2.val + (2048 * p.1.2.val + 32768 * p.1.1.val) + 128; omega
theorem mem_bset (p : Tasks) (x : S65536x256.Idx) : x ∈ bset p ↔ (x 0).val / 128 = 256 * p.1.1.val + 16 * p.1.2.val + p.2.val := by
  unfold bset
  rw [Rect.mem_set_unit, base_coordsV]
  have h0 : (x 1).val < 256 := (x 1).isLt
  constructor
  · intro h
    have h1 : 128 * p.2.val + (2048 * p.1.2.val + 32768 * p.1.1.val) ≤ (x 0).val ∧ (x 0).val < 128 * p.2.val + (2048 * p.1.2.val + 32768 * p.1.1.val) + 128 := h 0
    omega
  · intro h a
    fin_cases a
    · show 128 * p.2.val + (2048 * p.1.2.val + 32768 * p.1.1.val) ≤ (x 0).val ∧ (x 0).val < 128 * p.2.val + (2048 * p.1.2.val + 32768 * p.1.1.val) + 128; omega
    · show 0 ≤ (x 1).val ∧ (x 1).val < 0 + 256; omega

theorem task_unique (p p' : Tasks) (h : 256 * p.1.1.val + 16 * p.1.2.val + p.2.val = 256 * p'.1.1.val + 16 * p'.1.2.val + p'.2.val) : p = p' := by
  obtain ⟨⟨c, i⟩, b⟩ := p
  obtain ⟨⟨c', i'⟩, b'⟩ := p'
  have := i.isLt; have := b.isLt; have := i'.isLt; have := b'.isLt
  dsimp only at h
  exact Prod.ext (Prod.ext (Fin.ext (by dsimp only; omega)) (Fin.ext (by dsimp only; omega))) (Fin.ext (by dsimp only; omega))
theorem task_exists (n : Nat) (hn : n < 512) : ∃ p : Tasks, n = 256 * p.1.1.val + 16 * p.1.2.val + p.2.val :=
  ⟨((⟨n / 256, by omega⟩, ⟨n / 16 % 16, by omega⟩), ⟨n % 16, by omega⟩), by dsimp only; omega⟩

theorem wset_disjoint (p p' : Tasks) (h : p ≠ p') : Disjoint (wset p) (wset p') :=
  Finset.disjoint_left.mpr fun x hx hx' => h (task_unique p p' (((mem_wset p x).mp hx).symm.trans ((mem_wset p' x).mp hx')))
theorem bset_disjoint (p p' : Tasks) (h : p ≠ p') : Disjoint (bset p) (bset p') :=
  Finset.disjoint_left.mpr fun x hx hx' => h (task_unique p p' (((mem_bset p x).mp hx).symm.trans ((mem_bset p' x).mp hx')))
theorem wset_cover : Finset.univ.biUnion wset = Finset.univ := by
  refine Finset.eq_univ_of_forall fun x => Finset.mem_biUnion.mpr ?_
  have h : (x 1).val < 65536 := (x 1).isLt
  obtain ⟨p, hp⟩ := task_exists ((x 1).val / 128) (by omega)
  exact ⟨p, Finset.mem_univ _, (mem_wset p x).mpr hp⟩
theorem bset_cover : Finset.univ.biUnion bset = Finset.univ := by
  refine Finset.eq_univ_of_forall fun x => Finset.mem_biUnion.mpr ?_
  have h : (x 0).val < 65536 := (x 0).isLt
  obtain ⟨p, hp⟩ := task_exists ((x 0).val / 128) (by omega)
  exact ⟨p, Finset.mem_univ _, (mem_bset p x).mpr hp⟩

theorem iwin_set (p : Tasks) : (iwin (coordsV p.1.1 p.1.2) p.2).view.set = wset p := by
  unfold iwin wset; exact View.set_slice_whole _ _
theorem oblk_set (p : Tasks) : (oblk (coordsV p.1.1 p.1.2) p.2).view.set = bset p := by
  unfold oblk bset; exact View.set_slice_whole _ _

section Carried

variable (XT : (d : Dev nD) → Buf (Elt F) (tLoc d)) (XI : (d : Dev nD) → Buf (Elt F) (nLoc d)) (fo OUT : (d : Dev nD) → Buf (Elt F) (oLoc d))

/-- What task `(c, i)` holds of the three buffers, the result's blocks at `g`. -/
def piece (g : (d : Dev nD) → Buf (Elt F) (oLoc d)) (d : Dev nD) (c : Fin 2) (i : Fin 16) : sProp 𝕄 :=
  iprop((tLoc d ↦{share c i} XT d) ∗ (bigSep Finset.univ fun b : Fin 16 => nLoc d ↦[wset ((c, i), b)]{fullShare} XI d)
    ∗ bigSep Finset.univ fun b : Fin 16 => oLoc d ↦[bset ((c, i), b)]{fullShare} g d)
def pieces (g : (d : Dev nD) → Buf (Elt F) (oLoc d)) (d : Dev nD) (c : Fin 2) : sProp 𝕄 :=
  bigSep Finset.univ fun i : Fin 16 => piece XT XI g d c i

instance piece_storable (g : (d : Dev nD) → Buf (Elt F) (oLoc d)) (d : Dev nD) (c : Fin 2) (i : Fin 16) : BI.Storable (upEmb : UEmb _ 𝕄) (piece XT XI g d c i) := by
  unfold piece; infer_instance
instance pieces_storable (g : (d : Dev nD) → Buf (Elt F) (oLoc d)) (d : Dev nD) (c : Fin 2) : BI.Storable (upEmb : UEmb _ 𝕄) (pieces XT XI g d c) := by
  unfold pieces; infer_instance

theorem iwinP_eq (d : Dev nD) (f : Buf (Elt F) (nLoc d)) (c : Fin 2) (i b : Fin 16) :
    iwinP d (coordsV c i) f b = (nLoc d ↦[wset ((c, i), b)]{fullShare} f : sProp 𝕄) := by
  unfold iwinP; rw [iwin_set ((c, i), b)]; rfl
theorem oblkP_eq (d : Dev nD) (f : Buf (Elt F) (oLoc d)) (c : Fin 2) (i b : Fin 16) :
    oblkP d (coordsV c i) b f = (oLoc d ↦[bset ((c, i), b)]{fullShare} f : sProp 𝕄) := by
  unfold oblkP; rw [oblk_set ((c, i), b)]; rfl
/-- A task's piece, in the task's own spelling. -/
theorem piece_eq (g : (d : Dev nD) → Buf (Elt F) (oLoc d)) (d : Dev nD) (c : Fin 2) (i : Fin 16) :
    piece XT XI g d c i = part d (coordsV c i) (share c i) (XT d) (XI d) (g d) := by
  have h1 : (bigSep Finset.univ fun b : Fin 16 => nLoc d ↦[wset ((c, i), b)]{fullShare} XI d : sProp 𝕄) = bigSep Finset.univ fun b => iwinP d (coordsV c i) (XI d) b :=
    bigSep_congr fun b _ => (iwinP_eq d (XI d) c i b).symm
  have h2 : (bigSep Finset.univ fun b : Fin 16 => oLoc d ↦[bset ((c, i), b)]{fullShare} g d : sProp 𝕄) = bigSep Finset.univ fun b => oblkP d (coordsV c i) b (g d) :=
    bigSep_congr fun b _ => (oblkP_eq d (g d) c i b).symm
  unfold piece part
  rw [h1, h2]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem nCore_eq (q : Fin 1) : (K (F := F)).nCore q = 2 := by rw [Subsingleton.elim q 0]
theorem nSub_eq (q : Fin 1) : (K (F := F)).nSub q = 16 := by rw [Subsingleton.elim q 0]

/-- Each SparseCore takes what its sixteen tasks take, and brings back what they bring back. -/
def P : (K (F := F)).Pay (nD := nD) (Val := Elt F) (Name := ℕ) (U := UU) where
  st := fun q d c => pieces XT XI fo d (Fin.cast (nCore_eq q) c)
  dn := fun q d c => pieces XT XI OUT d (Fin.cast (nCore_eq q) c)
  go := fun q d c i => piece XT XI fo d (Fin.cast (nCore_eq q) c) (Fin.cast (nSub_eq q) i)
  td := fun q d c i => piece XT XI OUT d (Fin.cast (nCore_eq q) c) (Fin.cast (nSub_eq q) i)
  x := fun _ _ => iprop(emp)

instance P_storable : (P XT XI fo OUT).IsStorable where
  st q d c := pieces_storable XT XI fo d _
  dn q d c := pieces_storable XT XI OUT d _
  go q d c i := piece_storable XT XI fo d _ _
  td q d c i := piece_storable XT XI OUT d _ _

theorem defs₀_vector (c : Fin τ.nSC) (s : Fin τ.nSub) :
    defs₀ (F := F) (.scVector c s) 0 ()
      = SparseCore.onTile hcore0 hsub0 (fun c s => cc0_gather_kernel (F := F) (coordsV c s) xV (Memref.isWhole_whole _) iV (Memref.isWhole_whole _) oV (Memref.isWhole_whole _)
            lV (Memref.isWhole_whole _) cc0_scoped1 tV (Memref.isWhole_whole _) cc0_scoped3 cc0_scoped4 cc0_scoped5) ⟨⟩ c s := rfl

theorem tileObl (hidx : ∀ d j, (XI d j).toNat < 65536)
    (hOUT : ∀ d c i b y, OUT d ((oblk (coordsV c i) b).view.emb y) = got d (coordsV c i) (XT d) (XI d) (hidx d) b y) :
    (K (F := F)).TileObl (D (F := F)) 𝒱 (P XT XI fo OUT) v₀ 0 := by
  intro d c i O W hO _ _
  simp only [show (P XT XI fo OUT).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have e1 : (P XT XI fo OUT).go 0 d c i = part d (coordsV ⟨_, hci.1⟩ ⟨_, hci.2⟩) (share (Fin.cast nCore_zero c) (Fin.cast nSub_zero i)) (XT d) (XI d) (fo d) :=
    piece_eq XT XI fo d (Fin.cast nCore_zero c) (Fin.cast nSub_zero i)
  have e2 : (P XT XI fo OUT).td 0 d c i = part d (coordsV ⟨_, hci.1⟩ ⟨_, hci.2⟩) (share (Fin.cast nCore_zero c) (Fin.cast nSub_zero i)) (XT d) (XI d) (OUT d) :=
    piece_eq XT XI OUT d (Fin.cast nCore_zero c) (Fin.cast nSub_zero i)
  rw [e1, e2]
  exact tile_body d (coordsV ⟨_, hci.1⟩ ⟨_, hci.2⟩) facts _ (XT d) (XI d) (fo d) (OUT d) (hidx d) (hOUT d _ _) O W hO

theorem vecSplit : (K (F := F)).VecSplit' (P XT XI fo OUT) 0 := by
  intro d c
  show pieces XT XI fo d (Fin.cast nCore_zero c) ⊢ |={Set.univ}=> iprop(
    (bigSep Finset.univ fun i : Fin ((K (F := F)).nSub 0) => piece XT XI fo d (Fin.cast nCore_zero c) (Fin.cast nSub_zero i))
    ∗ ((bigSep Finset.univ fun i : Fin ((K (F := F)).nSub 0) => piece XT XI OUT d (Fin.cast nCore_zero c) (Fin.cast nSub_zero i))
        -∗ pieces XT XI OUT d (Fin.cast nCore_zero c)))
  rw [bigSep_tasks (F := F) (piece XT XI fo d (Fin.cast nCore_zero c)), bigSep_tasks (F := F) (piece XT XI OUT d (Fin.cast nCore_zero c))]
  unfold pieces
  iintro H; imodintro
  isplitl [H]; · iexact H
  iintro H; iexact H

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P XT XI fo OUT).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) XT XI fo OUT).x q thr) = bigSep Finset.univ fun _ => iprop(emp) from
    bigSep_congr fun _ _ => bigSep_univ_of_subsingleton (0 : Fin 1), bigSep_emp']
  iempintro

theorem wins_eq (d : Dev nD) (f : Buf (Elt F) (nLoc d)) :
    (nLoc d ↦{fullShare} f : sProp 𝕄)
      = bigSep Finset.univ fun c : Fin 2 => bigSep Finset.univ fun i : Fin 16 => bigSep Finset.univ fun b : Fin 16 => nLoc d ↦[wset ((c, i), b)]{fullShare} f := by
  rw [Ring.pointsTo_blocks (ℓ := nLoc d) (U := UU) wset wset_disjoint wset_cover, BI.bigSep_univ_prod, BI.bigSep_univ_prod]
theorem blks_eq (d : Dev nD) (f : Buf (Elt F) (oLoc d)) :
    (oLoc d ↦{fullShare} f : sProp 𝕄)
      = bigSep Finset.univ fun c : Fin 2 => bigSep Finset.univ fun i : Fin 16 => bigSep Finset.univ fun b : Fin 16 => oLoc d ↦[bset ((c, i), b)]{fullShare} f := by
  rw [Ring.pointsTo_blocks (ℓ := oLoc d) (U := UU) bset bset_disjoint bset_cover, BI.bigSep_univ_prod, BI.bigSep_univ_prod]
theorem shares_eq (d : Dev nD) (f : Buf (Elt F) (tLoc d)) :
    (tLoc d ↦{fullShare} f : sProp 𝕄) = bigSep Finset.univ fun c : Fin 2 => bigSep Finset.univ fun i : Fin 16 => tLoc d ↦{share c i} f := by
  rw [Idealize.ShloMosaic.pointsTo_piecesOf (ℓ := tLoc d) Finset.univ f (o := 2 * 16) (by decide) fullShare,
    bigSep_univ_equiv finProdFinEquiv, BI.bigSep_univ_prod]

/-- The table, the index row and the result whole are what the two SparseCores carry. -/
theorem whole_eq (g : (d : Dev nD) → Buf (Elt F) (oLoc d)) (d : Dev nD) :
    (bigSep Finset.univ fun c : Fin ((K (F := F)).nCore 0) => pieces XT XI g d (Fin.cast nCore_zero c))
      = (iprop((tLoc d ↦{fullShare} XT d) ∗ (nLoc d ↦{fullShare} XI d) ∗ oLoc d ↦{fullShare} g d) : sProp 𝕄) := by
  rw [bigSep_cores (F := F) (pieces XT XI g d), wins_eq, blks_eq, shares_eq]
  rw [← bigSep_sep', ← bigSep_sep']
  refine bigSep_congr fun c _ => ?_
  rw [← bigSep_sep', ← bigSep_sep']
  rfl

end Carried

end Cert.Proof.Rows

end
-- ==== Proof.Host.lean ====
/-
  The whole program of the gather: the host operations before and after the SparseCore call, what they leave in the
  buffers, and the program's run. The table the call reads is the strips laid end to end (`XT`), the index row the indices
  once per strip with the strip's first row added (`XI`), and the result row `n` the table row that index `n` names (`OUT`).
-/
module

public import proofs.«01_k».proof.Proof.Launch
public import Idealize.ShloMosaic.Lib.Pipeline.Value
public import Idealize.ShloMosaic.Lib.Pipeline.Frame

@[expose] public section

noncomputable section

namespace Cert.Proof.Rows

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.StableHlo

/-! ## The host operations -/

/-- Before the call, -/
abbrev opsA : List (HloOp τ sig (Elt F)) :=
  [ nullary main_v0 (iotaInDim S2 32 0),
    unary main_v0 main_v1 (broadcastInDim S2x1 ![0] bcast_S2_S2x1_0 : (⟨S2, .i32⟩ : BufTy).Contents (Elt F) → (⟨S2x1, .i32⟩ : BufTy).Contents (Elt F)),
    nullary main_c (constantI S_ 32 32768#32),
    unary main_c main_v2 (broadcastInDim S2x1 ![] bcast_S_S2x1 : (⟨S_, .i32⟩ : BufTy).Contents (Elt F) → (⟨S2x1, .i32⟩ : BufTy).Contents (Elt F)),
    binary main_v1 main_v2 main_v3 (muli : (⟨S2x1, .i32⟩ : BufTy).Contents (Elt F) → (⟨S2x1, .i32⟩ : BufTy).Contents (Elt F) → (⟨S2x1, .i32⟩ : BufTy).Contents (Elt F)),
    reshape main_arg0 main_v4 (rfl : (.i32 : EltTy) = .i32) shapeCasts_S2x32768x256_S65536x256,
    unary main_arg1 main_v5 (broadcastInDim S1x32768 ![1] bcast_S32768_S1x32768_1 : (⟨S32768, .i32⟩ : BufTy).Contents (Elt F) → (⟨S1x32768, .i32⟩ : BufTy).Contents (Elt F)),
    unary main_v5 main_v6 (broadcastInDim S2x32768 ![0, 1] bcast_S1x32768_S2x32768_0_1 : (⟨S1x32768, .i32⟩ : BufTy).Contents (Elt F) → (⟨S2x32768, .i32⟩ : BufTy).Contents (Elt F)),
    unary main_v3 main_v7 (broadcastInDim S2x32768 ![0, 1] bcast_S2x1_S2x32768_0_1 : (⟨S2x1, .i32⟩ : BufTy).Contents (Elt F) → (⟨S2x32768, .i32⟩ : BufTy).Contents (Elt F)),
    binary main_v6 main_v7 main_v8 (addi : (⟨S2x32768, .i32⟩ : BufTy).Contents (Elt F) → (⟨S2x32768, .i32⟩ : BufTy).Contents (Elt F) → (⟨S2x32768, .i32⟩ : BufTy).Contents (Elt F)),
    reshape main_v8 main_v9 (rfl : (.i32 : EltTy) = .i32) shapeCasts_S2x32768_S65536,
    reshape main_v9 main_v10 (rfl : (.i32 : EltTy) = .i32) shapeCasts_S65536_S1x65536 ]
/-- and after it. -/
abbrev opsB : List (HloOp τ sig (Elt F)) :=
  [ reshape main_v11 main_v12 (rfl : (.i32 : EltTy) = .i32) shapeCasts_S65536x256_S2x32768x256 ]

theorem main_eq (d : Dev nD) : main (F := F) d = (seq opsA >>= fun _ => (sc (F := F)).run d 0 >>= fun _ => seq opsB) := by
  rw [seq_bind_seqK]; rfl

theorem opsA_sub : (opsA : List (HloOp τ sig (Elt F))).Forall fun op => op.bufs ⊆ tcRefs τ sig :=
  ⟨nullary_bufs_sub .., unary_bufs_sub .., nullary_bufs_sub .., unary_bufs_sub .., binary_bufs_sub .., reshape_bufs_sub .., unary_bufs_sub .., unary_bufs_sub ..,
    unary_bufs_sub .., binary_bufs_sub .., reshape_bufs_sub .., reshape_bufs_sub ..⟩
theorem opsB_sub : (opsB : List (HloOp τ sig (Elt F))).Forall fun op => op.bufs ⊆ tcRefs τ sig := reshape_bufs_sub ..
theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h

/-! ## What they leave -/

section Mem

variable (m : (ℓ : Loc nD τ sig) → Buf (Elt F) ℓ) (ρ : Dev nD → PrngReg)

abbrev aLoc (d : Dev nD) : Loc nD τ sig := (SparseCore.T d).loc main_arg0
abbrev jLoc (d : Dev nD) : Loc nD τ sig := (SparseCore.T d).loc main_arg1
abbrev rLoc (d : Dev nD) : Loc nD τ sig := (SparseCore.T d).loc main_v12
abbrev dv (r : Ref sig .tc) : DevRef τ sig := Proc.devRef .tc r

def V1 (d : Dev nD) : Valuation τ sig (Elt F) := after opsA (fun b => m (d, b))
def XT (d : Dev nD) : Buf (Elt F) (tLoc d) := V1 m d (dv main_v4)
def XI (d : Dev nD) : Buf (Elt F) (nLoc d) := V1 m d (dv main_v10)

/-- The indices lie in the table: each below 32768. -/
def PreOK : Prop := ∀ (d : Dev nD) (j : S32768.Idx), (m (jLoc d) j).toNat < 32768

theorem V1_arg0 (d : Dev nD) : V1 m d (dv main_arg0) = m (aLoc d) := by unfold V1; after_results <;> rfl
theorem V1_arg1 (d : Dev nD) : V1 m d (dv main_arg1) = m (jLoc d) := by unfold V1; after_results <;> rfl
theorem V1_v11 (d : Dev nD) : V1 m d (dv main_v11) = m (oLoc d) := by unfold V1; after_results <;> rfl
theorem XT_eq (d : Dev nD) : XT m d = shapeCast S65536x256 (m (aLoc d)) shapeCasts_S2x32768x256_S65536x256 := by
  unfold XT V1; after_results <;> rfl
theorem XI_eq (d : Dev nD) : XI m d = shapeCast S1x65536 (shapeCast S65536 (addi (broadcastInDim S2x32768 ![0, 1] bcast_S1x32768_S2x32768_0_1
      (broadcastInDim S1x32768 ![1] bcast_S32768_S1x32768_1 (m (jLoc d) : S32768.Idx → BitVec 32)))
    (broadcastInDim S2x32768 ![0, 1] bcast_S2x1_S2x32768_0_1 (muli (broadcastInDim S2x1 ![0] bcast_S2_S2x1_0 (iotaInDim S2 32 0))
      (broadcastInDim S2x1 ![] bcast_S_S2x1 (constantI S_ 32 32768#32))))) shapeCasts_S2x32768_S65536) shapeCasts_S65536_S1x65536 := by
  unfold XI V1; after_results <;> rfl

/-! ### Entry by entry -/

/-- The table's row `r` is row `r % 32768` of strip `r / 32768`. -/
theorem XT_at (d : Dev nD) (r : Fin 65536) (c : Fin 256) :
    XT m d (ix2 r c) = m (aLoc d) (ix3 (⟨r.val / 32768, by have := r.isLt; omega⟩ : Fin 2) (⟨r.val % 32768, by omega⟩ : Fin 32768) c) := by
  rw [XT_eq]
  refine shapeCast_apply (s := S2x32768x256) (t := S65536x256) _ _ _ _ ?_
  refine (Shape.rowMajor_val_three _).trans (Eq.trans ?_ (Shape.rowMajor_val_two _).symm)
  show (r.val / 32768 * 32768 + r.val % 32768) * 256 + c.val = r.val * 256 + c.val
  omega

/-- Word `n` of the index row: index `n % 32768`, moved to strip `n / 32768`. -/
theorem XI_at (d : Dev nD) (n : Fin 65536) :
    XI m d (ix2 (0 : Fin 1) n) = IntOp.addi (m (jLoc d) (ix1 (⟨n.val % 32768, by omega⟩ : Fin 32768)) : BitVec 32) (IntOp.muli (BitVec.ofNat 32 (n.val / 32768)) 32768#32) := by
  rw [XI_eq]
  refine (shapeCast_apply (s := S65536) (t := S1x65536) _ _ _ (ix1 n) ?_).trans
    ((shapeCast_apply (s := S2x32768) (t := S65536) _ _ _ (ix2 (⟨n.val / 32768, by have := n.isLt; omega⟩ : Fin 2) (⟨n.val % 32768, by omega⟩ : Fin 32768)) ?_).trans ?_)
  · refine (Shape.rowMajor_val_one _).trans (Eq.trans ?_ (Shape.rowMajor_val_two _).symm)
    show n.val = 0 * 65536 + n.val
    omega
  · refine (Shape.rowMajor_val_two _).trans (Eq.trans ?_ (Shape.rowMajor_val_one _).symm)
    show n.val / 32768 * 32768 + n.val % 32768 = n.val
    omega
  · show IntOp.addi (m (jLoc d) _ : BitVec 32) (IntOp.muli _ _) = _
    congr 1
    exact congrArg (m (jLoc d)) (funext fun a => by fin_cases a; rfl)

theorem XI_val (hp : PreOK m) (d : Dev nD) (n : Fin 65536) :
    (XI m d (ix2 (0 : Fin 1) n) : BitVec 32).toNat = (m (jLoc d) (ix1 (⟨n.val % 32768, by omega⟩ : Fin 32768)) : BitVec 32).toNat + 32768 * (n.val / 32768) := by
  have h := hp d (ix1 (⟨n.val % 32768, by omega⟩ : Fin 32768))
  have hn := n.isLt
  rw [XI_at]
  simp only [IntOp.addi, IntOp.muli, BitVec.toNat_add, BitVec.toNat_mul, BitVec.toNat_ofNat, Nat.reducePow]
  have : n.val / 32768 < 2 := by omega
  omega

theorem XI_lt (hp : PreOK m) (d : Dev nD) (j : S1x65536.Idx) : (XI m d j : BitVec 32).toNat < 65536 := by
  have key : ∀ n : Fin 65536, (XI m d (ix2 (0 : Fin 1) n) : BitVec 32).toNat < 65536 := fun n => by
    rw [XI_val m hp d n]
    have h := hp d (ix1 (⟨n.val % 32768, by omega⟩ : Fin 32768))
    have hn : n.val < 65536 := n.isLt
    omega
  have e : j = ix2 (0 : Fin 1) (j 1 : Fin 65536) := by
    funext a; fin_cases a
    · exact Subsingleton.elim (α := Fin 1) _ _
    · rfl
  exact (congrArg (fun k : S1x65536.Idx => (XI m d k : BitVec 32).toNat) e).trans_lt (key (j 1))

/-- What the call leaves in the result: row `n` is the table row that word `n` of the index row names. -/
def OUT (d : Dev nD) : Buf (Elt F) (oLoc d) := fun y : S65536x256.Idx =>
  XT m d (ix2 (⟨(XI m d (ix2 (0 : Fin 1) (y 0)) : BitVec 32).toNat % 65536, Nat.mod_lt _ (by decide)⟩ : Fin 65536) (y 1))

theorem OUT_blk (hp : PreOK m) (d : Dev nD) (c : Fin (grid0.bound 0)) (i : Fin (grid0.bound 1)) (b : Fin 16) (y : S128x256.Idx) :
    OUT m d ((oblk (coordsV c i) b).view.emb y) = got d (coordsV c i) (XT m d) (XI m d) (XI_lt m hp d) b y := by
  have key : ∀ z : S65536x256.Idx, (z 0).val = 128 * b.val + base (coordsV c i) + (y 0).val → (z 1).val = (y 1).val →
      OUT m d z = got d (coordsV c i) (XT m d) (XI m d) (XI_lt m hp d) b y := fun z h0 h1 => by
    have e0 : (z 0 : Fin 65536) = ⟨128 * b.val + base (coordsV c i) + (y 0).val, word_lt _ b (y 0)⟩ := Fin.ext h0
    have e1 : (z 1 : Fin 256) = (y 1 : Fin 256) := Fin.ext h1
    refine congrArg (XT m d) (congrArg₂ (fun (r : Fin 65536) (q : Fin 256) => ix2 r q) (Fin.ext ?_) e1)
    exact (congrArg (fun n : Fin 65536 => (XI m d (ix2 (0 : Fin 1) n) : BitVec 32).toNat % 65536) e0).trans (Nat.mod_eq_of_lt (XI_lt m hp d _))
  refine key _ ?_ ?_
  · show (128 * b.val + base (coordsV c i)) + 1 * (y 0).val = _
    omega
  · show 0 + 1 * (y 1).val = _
    omega

/-! ## The result -/

def V2 (d : Dev nD) : Valuation τ sig (Elt F) := Function.update (V1 m d) (dv main_v11) (OUT m d)
def V3 (d : Dev nD) : Valuation τ sig (Elt F) := after opsB (V2 m d)
/-- The program's result. -/
def RES (d : Dev nD) : Buf (Elt F) (rLoc d) := V3 m d (dv main_v12)

theorem dv_ne {x y : Ref sig .tc} (h : x ≠ y) : dv x ≠ dv y := devRef_ne_of_ne h
theorem V2_of_ne (d : Dev nD) {r : Ref sig .tc} (h : r ≠ main_v11) : V2 m d (dv r) = V1 m d (dv r) := Function.update_of_ne (dv_ne h) _ _
theorem V2_v11 (d : Dev nD) : V2 m d (dv main_v11) = OUT m d := Function.update_self _ _ _
theorem V3_arg0 (d : Dev nD) : V3 m d (dv main_arg0) = m (aLoc d) := by
  unfold V3; after_results; exact (V2_of_ne m d (by decide)).trans (V1_arg0 m d)
theorem V3_arg1 (d : Dev nD) : V3 m d (dv main_arg1) = m (jLoc d) := by
  unfold V3; after_results; exact (V2_of_ne m d (by decide)).trans (V1_arg1 m d)
theorem RES_eq (d : Dev nD) : RES m d = shapeCast S2x32768x256 (OUT m d) shapeCasts_S65536x256_S2x32768x256 := by
  unfold RES V3; after_results
  rw [← V2_v11 m d]; rfl

/-- Entry `(p, j, c)` of the result: strip `p` at the row that index `j` names, column `c`. -/
theorem RES_at (hp : PreOK m) (d : Dev nD) (p : Fin 2) (j : Fin 32768) (c : Fin 256) :
    RES m d (ix3 p j c) = m (aLoc d) (ix3 p (⟨(m (jLoc d) (ix1 j) : BitVec 32).toNat, hp d (ix1 j)⟩ : Fin 32768) c) := by
  have hj := j.isLt
  have hpp := p.isLt
  have hi := hp d (ix1 j)
  rw [RES_eq]
  refine (shapeCast_apply (s := S65536x256) (t := S2x32768x256) _ _ _ (ix2 (⟨p.val * 32768 + j.val, by omega⟩ : Fin 65536) c) ?_).trans ?_
  · refine (Shape.rowMajor_val_two _).trans (Eq.trans ?_ (Shape.rowMajor_val_three _).symm)
    rfl
  have hv := XI_val m hp d (⟨p.val * 32768 + j.val, by omega⟩ : Fin 65536)
  have hj' : (⟨(p.val * 32768 + j.val) % 32768, by omega⟩ : Fin 32768) = j := Fin.ext (by show (p.val * 32768 + j.val) % 32768 = j.val; omega)
  have hv' : (XI m d (ix2 (0 : Fin 1) (⟨p.val * 32768 + j.val, by omega⟩ : Fin 65536)) : BitVec 32).toNat = (m (jLoc d) (ix1 j) : BitVec 32).toNat + 32768 * p.val := by
    rw [hv]
    show (m (jLoc d) (ix1 (⟨(p.val * 32768 + j.val) % 32768, _⟩ : Fin 32768)) : BitVec 32).toNat + 32768 * ((p.val * 32768 + j.val) / 32768) = _
    rw [hj', show (p.val * 32768 + j.val) / 32768 = p.val by omega]
  refine (XT_at m d (⟨(XI m d (ix2 (0 : Fin 1) (⟨p.val * 32768 + j.val, by omega⟩ : Fin 65536)) : BitVec 32).toNat % 65536, Nat.mod_lt _ (by decide)⟩ : Fin 65536) c).trans ?_
  refine congrArg (m (aLoc d)) ?_
  congr 1
  · refine Fin.ext ?_
    show (XI m d (ix2 (0 : Fin 1) (⟨p.val * 32768 + j.val, _⟩ : Fin 65536)) : BitVec 32).toNat % 65536 / 32768 = p.val
    rw [hv']; omega
  · refine Fin.ext ?_
    show (XI m d (ix2 (0 : Fin 1) (⟨p.val * 32768 + j.val, _⟩ : Fin 65536)) : BitVec 32).toNat % 65536 % 32768 = _
    rw [hv']
    show _ = (m (jLoc d) (ix1 j) : BitVec 32).toNat
    omega

/-! ## The program on the TensorCore -/

/-- What the program keeps to its end: the strips and the indices as they were, and the result. -/
abbrev FIN (d : Dev nD) : sProp 𝕄 := iprop((aLoc d ↦{fullShare} m (aLoc d)) ∗ (jLoc d ↦{fullShare} m (jLoc d)) ∗ rLoc d ↦{fullShare} RES m d)

abbrev Tset : Finset (DevRef τ sig) := {dv main_v4, dv main_v10, dv main_v11}
abbrev Rset : Finset (DevRef τ sig) := {dv main_arg0, dv main_arg1, dv main_v12}

theorem mem_uc (r : Ref sig .tc) (h : r.isScoped = false) : dv r ∈ Pipeline.ucRefs τ sig :=
  Finset.mem_filter.mpr ⟨devRef_mem_tcRefs r, fun h' => Bool.false_ne_true (h.symm.trans h')⟩
theorem Tset_sub : Tset ⊆ Pipeline.ucRefs τ sig := by
  intro b hb
  simp only [Finset.mem_insert, Finset.mem_singleton] at hb
  rcases hb with rfl | rfl | rfl <;> exact mem_uc _ rfl
theorem Rset_sub : Rset ⊆ Pipeline.ucRefs τ sig := by
  intro b hb
  simp only [Finset.mem_insert, Finset.mem_singleton] at hb
  rcases hb with rfl | rfl | rfl <;> exact mem_uc _ rfl
theorem held_three (d : Dev nD) (x y z : Ref sig .tc) (hxy : x ≠ y) (hxz : x ≠ z) (hyz : y ≠ z) (V : Valuation τ sig (Elt F)) :
    (held (SparseCore.T d) {dv x, dv y, dv z} V : sProp 𝕄)
      = iprop(((SparseCore.T d).loc x ↦{fullShare} V (dv x)) ∗ ((SparseCore.T d).loc y ↦{fullShare} V (dv y)) ∗ (SparseCore.T d).loc z ↦{fullShare} V (dv z)) := by
  unfold held
  rw [SparseCore.bigSep_insert' (by simp only [Finset.mem_insert, Finset.mem_singleton, not_or]; exact ⟨dv_ne hxy, dv_ne hxz⟩),
    SparseCore.bigSep_insert' (by simp only [Finset.mem_singleton]; exact dv_ne hyz), bigSep_singleton]

theorem held_T1 (d : Dev nD) : (held (SparseCore.T d) (Pipeline.ucRefs τ sig) (V1 m d) : sProp 𝕄)
    = iprop(((tLoc d ↦{fullShare} XT m d) ∗ (nLoc d ↦{fullShare} XI m d) ∗ oLoc d ↦{fullShare} m (oLoc d)) ∗ held (SparseCore.T d) (Pipeline.ucRefs τ sig \ Tset) (V1 m d)) := by
  rw [held_sub_split _ Tset_sub, held_three d main_v4 main_v10 main_v11 (by decide) (by decide) (by decide), V1_v11]
  rfl
theorem held_T2 (d : Dev nD) : (held (SparseCore.T d) (Pipeline.ucRefs τ sig) (V2 m d) : sProp 𝕄)
    = iprop(((tLoc d ↦{fullShare} XT m d) ∗ (nLoc d ↦{fullShare} XI m d) ∗ oLoc d ↦{fullShare} OUT m d) ∗ held (SparseCore.T d) (Pipeline.ucRefs τ sig \ Tset) (V1 m d)) := by
  rw [held_sub_split _ Tset_sub, held_three d main_v4 main_v10 main_v11 (by decide) (by decide) (by decide), V2_v11, V2_of_ne m d (by decide), V2_of_ne m d (by decide),
    held_congr (V := V2 m d) (V' := V1 m d) _ fun b hb => Function.update_of_ne (fun e => (Finset.mem_sdiff.mp hb).2 (by rw [e]; simp)) _ _]
  rfl
theorem held_R (d : Dev nD) : (held (SparseCore.T d) (Pipeline.ucRefs τ sig) (V3 m d) : sProp 𝕄)
    = iprop(FIN m d ∗ held (SparseCore.T d) (Pipeline.ucRefs τ sig \ Rset) (V3 m d)) := by
  rw [held_sub_split _ Rset_sub, held_three d main_arg0 main_arg1 main_v12 (by decide) (by decide) (by decide), V3_arg0, V3_arg1]
  rfl

abbrev PP : (K (F := F)).Pay (nD := nD) (Val := Elt F) (Name := ℕ) (U := UU) := P (XT m) (XI m) (fun d => m (oLoc d)) (OUT m)

theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  iintro ⟨#Hctx, Hst, ⟨Hb, Hu, Hts, -⟩, -⟩
  ihave Hheld := (Entails.of_eq (Pipeline.unscopedBufs_held (Ix := HIx 1) (Name := ℕ) (U := UU) (Lvl := ℕ) d (fun b => m (d, b)))) $$ Hu
  iapply (wp_seq (defs := (K (F := F)).defs (D (F := F))) (𝒱 := 𝒱) (bd := none) (E := Set.univ) d (Pipeline.ucRefs τ sig) _ opsA
    (fun op h => Pipeline.sub_ucRefs op (List.forall_iff_forall_mem.mp opsA_sub op h)) opsA_fresh (fun b => m (d, b))) $$ [Hb Hheld]
  · isplitl [Hb]; · iexact Hb
    iexact Hheld
  iintro ⟨Hb, Hheld⟩
  ihave Hheld' := (Entails.of_eq ((show held d.tc (Pipeline.ucRefs τ sig) (after opsA fun b => m (d, b)) = (held (SparseCore.T d) (Pipeline.ucRefs τ sig) (V1 m d) : sProp 𝕄) from rfl).trans (held_T1 m d))) $$ Hheld
  icases Hheld' with ⟨Hthree, Hrest⟩
  rw [wp_bind]
  iapply ((K (F := F)).wp_run (D (F := F)) 𝒱 (EH := EH) (P := PP m) κ d 0) $$ [Hst Hthree Hrest Hb Hts]
  isplitr; · iexact Hctx
  isplitl [Hst]; · iexact Hst
  isplitl [Hthree]
  · iapply (Entails.of_eq (whole_eq (XT m) (XI m) (fun d => m (oLoc d)) d).symm)
    iexact Hthree
  iintro ⟨Hst, Hdn⟩
  ihave Hthree := (Entails.of_eq ((show (bigSep Finset.univ fun c : Fin ((K (F := F)).nCore 0) => (PP m).dn 0 d c) = bigSep Finset.univ fun c : Fin ((K (F := F)).nCore 0) => pieces (XT m) (XI m) (OUT m) d (Fin.cast nCore_zero c) from rfl).trans (whole_eq (XT m) (XI m) (OUT m) d))) $$ Hdn
  ihave Hheld := (Entails.of_eq (held_T2 m d).symm) $$ [Hthree Hrest]
  · isplitl [Hthree]; · iexact Hthree
    iexact Hrest
  rw [← bind_pure (seq (opsB (F := F)))]
  iapply (wp_seq (defs := (K (F := F)).defs (D (F := F))) (𝒱 := 𝒱) (bd := none) (E := Set.univ) d (Pipeline.ucRefs τ sig) _ opsB
    (fun op h => Pipeline.sub_ucRefs op (List.forall_iff_forall_mem.mp opsB_sub op h)) opsB_fresh (V2 m d)) $$ [Hb Hheld]
  · isplitl [Hb]; · iexact Hb
    iexact Hheld
  iintro ⟨Hb, Hheld⟩
  ihave Hheld' := (Entails.of_eq ((show held d.tc (Pipeline.ucRefs τ sig) (after opsB (V2 m d)) = (held (SparseCore.T d) (Pipeline.ucRefs τ sig) (V3 m d) : sProp 𝕄) from rfl).trans (held_R m d))) $$ Hheld
  icases Hheld' with ⟨Hfin, -⟩
  simp only [wp_pure]
  imodintro
  isplitl [Hst]; · iexact Hst
  isplitl [Hfin]; · iexact Hfin
  isplitl [Hb] <;> iassumption

def fq (d : Dev nD) (s' : Phys nD τ sig (Elt F)) : Prop :=
  s'.mem.mem (aLoc d) = m (aLoc d) ∧ s'.mem.mem (jLoc d) = m (jLoc d) ∧ s'.mem.mem (rLoc d) = RES m d

theorem hfin (d : Dev nD) (s' : Phys nD τ sig (Elt F)) : iprop(FIN m d ∗ SI s') ⊢ (⌜fq m d s'⌝ : sProp 𝕄) := by
  iintro ⟨⟨Ha, Hj, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := jLoc d) (I := Finset.univ) (q := fullShare) (f := m (jLoc d)))) $$ [HSI Hj]
  · isplitl [HSI] <;> iassumption
  icases H with ⟨%h2, HSI, -⟩
  ihave H := (SI_pointsTo_agree (st := s') (ℓ := rLoc d) (I := Finset.univ) (q := fullShare) (f := RES m d)) $$ [HSI Hr]
  · isplitl [HSI] <;> iassumption
  icases H with %h3
  ipureintro
  exact ⟨funext fun (i : Idx (aLoc d)) => h1 i (by simp), funext fun (i : Idx (jLoc d)) => h2 i (by simp), funext fun (i : Idx (rLoc d)) => h3 i (by simp)⟩

def QC : PUnit × MemSt nD τ sig (Elt F) → Prop := fun r =>
  (∀ c : Dev nD, r.2.mem (aLoc c) = m (aLoc c) ∧ r.2.mem (jLoc c) = m (jLoc c) ∧ r.2.mem (rLoc c) = RES m c) ∧ r.2.sem = fun _ => 0

theorem run_main [∀ e, Nonempty (Elt F e)] (hp : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ _ _ (XI_lt m hp) (OUT_blk m hp))
    (fun q _ => match q with | 0 => SparseCore.Cfg.VecSplit.of_plain (vecSplit _ _ _ _))
    m ρ main (fun _ => iprop(emp)) (FIN m) (u₀ (F := F)) (sep_elim_left.trans (hu₀ _ _ _ _)) (hmain m ρ) (fq m) (hfin m) (QC m) (fun _ h hz => ⟨h, hz⟩)

end Mem

end Cert.Proof.Rows

end
-- ==== Proof.Strip.lean ====
/-
  The reference's own arithmetic: the strips at the given rows, `strips[:, idx, :]`, as the host gather spells it.
-/
module

public import Idealize.ShloMosaic.Lib.ValueIdxCore
public import Idealize.ShloMosaic.Lib.Pipeline.Value

@[expose] public section

noncomputable section

namespace Cert.Proof.Strip

open Idealize.ShloMosaic Idealize.ShloMosaic.ValueIdx

/-- Rows of every strip, one row per index: the strips and the columns are kept, the middle axis is read at the index. -/
abbrev dims (wf : GatherDims.WF ⟨3, ![2, 32768, 256]⟩ ⟨2, ![32768, 1]⟩ ⟨3, ![2, 32768, 256]⟩ [0, 2] [1] [] [1] [] 1 ![2, 1, 256]) :
    GatherDims ⟨3, ![2, 32768, 256]⟩ ⟨2, ![32768, 1]⟩ ⟨3, ![2, 32768, 256]⟩ where
  offsetDims := [0, 2]
  collapsedSliceDims := [1]
  operandBatchingDims := []
  startIndicesBatchingDims := []
  startIndexMap := [1]
  indexVectorDim := 1
  sliceSizes := ![2, 1, 256]
  wf := wf

variable {α : Type}

/-- Entry `(p, j, c)` of the gather: strip `p`, the row that index `j` names, column `c`. -/
theorem at_row (wf) (x : (⟨3, ![2, 32768, 256]⟩ : Shape).Idx → α) (idx : IVec ⟨2, ![32768, 1]⟩ 32) (p : Fin 2) (j : Fin 32768) (c : Fin 256)
    (r : Fin 32768) (hr : idx (ix2 j (0 : Fin 1)) = BitVec.ofNat 32 r.val) :
    Host.gather (dims wf) x idx (ix3 p j c) = x (ix3 p r c) := by
  unfold Host.gather
  refine congrArg x (funext fun a => Fin.ext ?_)
  have hrl := r.isLt
  match a with
  | ⟨0, _⟩ =>
    show (dims wf).start (ix3 p j c) idx 0 + (dims wf).batchCoord (ix3 p j c) 0 + (dims wf).offCoord (ix3 p j c) 0 = p.val
    rw [GatherDims.batchCoord_eq_zero _ _ _ List.not_mem_nil]
    unfold GatherDims.start GatherDims.offCoord
    rw [dif_neg (show ¬ (0 : Fin 3) ∈ ([1] : List (Fin 3)) by decide), dif_pos ((GatherDims.mem_sKept _ _).mpr ⟨show ¬ (0 : Fin 3) ∈ ([1] : List (Fin 3)) by decide, List.not_mem_nil⟩), Nat.add_zero, Nat.zero_add]
    rfl
  | ⟨1, _⟩ =>
    show (dims wf).start (ix3 p j c) idx 1 + (dims wf).batchCoord (ix3 p j c) 1 + (dims wf).offCoord (ix3 p j c) 1 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (dims wf).startIndexMap from List.mem_singleton.mpr rfl)]
    have hsi : (dims wf).siIdx (ix3 p j c) ⟨List.idxOf (1 : Fin 3) (dims wf).startIndexMap, List.idxOf_lt_length_iff.2 (List.mem_singleton.mpr rfl)⟩
        = ix2 j (0 : Fin 1) := by
      funext b; refine Fin.ext ?_
      match b with
      | ⟨0, _⟩ => rfl
      | ⟨1, _⟩ => rfl
    rw [hsi, hr]
    show min (BitVec.ofNat 32 r.val).toInt.toNat (32768 - 1) = r.val
    rw [BitVec.toInt_eq_toNat_cond, BitVec.toNat_ofNat]
    have : r.val % 2 ^ 32 = r.val := by omega
    rw [this, if_pos (by omega)]
    omega
  | ⟨2, _⟩ =>
    show (dims wf).start (ix3 p j c) idx 2 + (dims wf).batchCoord (ix3 p j c) 2 + (dims wf).offCoord (ix3 p j c) 2 = c.val
    rw [GatherDims.batchCoord_eq_zero _ _ _ List.not_mem_nil]
    unfold GatherDims.start GatherDims.offCoord
    rw [dif_neg (show ¬ (2 : Fin 3) ∈ ([1] : List (Fin 3)) by decide), dif_pos ((GatherDims.mem_sKept _ _).mpr ⟨show ¬ (2 : Fin 3) ∈ ([1] : List (Fin 3)) by decide, List.not_mem_nil⟩), Nat.add_zero, Nat.zero_add]
    rfl

/-- An index that names a row is the one the reference looks up: it is not negative, so no wrap is added. -/
theorem wrapped (v : BitVec 32) (h : v.toNat < 32768) (w : BitVec 32) :
    (if IntOp.cmpi .slt v 0#32 = 1#1 then w else v) = BitVec.ofNat 32 v.toNat := by
  have e : ¬ IntOp.cmpi .slt v 0#32 = 1#1 := by
    have hs : v.slt 0#32 = false := by
      rw [BitVec.slt_eq_decide, BitVec.toInt_eq_toNat_cond, if_pos (by omega)]
      simp
    simp [IntOp.cmpi, hs]
  rw [if_neg e]
  exact BitVec.eq_of_toNat_eq (by rw [BitVec.toNat_ofNat]; omega)

end Cert.Proof.Strip

end
-- ==== Proof.lean ====
/- The modulation, the input projection's values, the output projection, the row gather, the expert feed-forward and the final combination. Of each: both programs run, keep their arguments and leave every counter at
   zero, and the result is the reference's.

   The gather's run is written once, over any float values, in the modules of Proof/: Names (the pieces it works on), Gath
   (what a gather brings), Trip (one turn of its loop), Tile (one task), Launch (the 32 tasks), Host (the whole program);
   Strip reads the reference's own gather.

   The feed-forward's run is written once too, in the modules of Proof/Ffn/: Kit (the windows and the scratch), RunA, RunB, RunC
   (the body where a block carries rows and fills the weights, carries rows and reuses them, carries none), Vals (what it
   computes), Body (every point), Frame (the whole program), OkPre (the precondition keeps the blocks inside the arrays), Same
   (the program and its idealization are the same program). Val, Blk and RefVal give the values of the body, of the fetched
   blocks and of the reference element by element, and Alg joins them.

   The combination's values are in the modules of Proof/Comb/: Half (the halves of a word), Outs and Val (what the body computes),
   Res (the result as one function of the arguments), Reg0 to Reg3 (each of the four calls fills its batches and keeps the
   others), Alg (the whole run) and Ref (the reference's run).

   The modulation's values are in Proof/Ada/: Val (the blocks, the body and the whole array) and Ref (the reference's run).

   The input projection's values are in Proof/Inp/: Host (the weights as the host arranges them), Body (the body element by element),
   Val (the blocks and the two whole arrays) and Ref (the reference's run).

   The output projection's values are in Proof/Outp/: Body (the body element by element, and what a point leaves), Val (the blocks
   and the two whole arrays) and Ref (the reference's run). -/
module

public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Pre_in_experts
public import proofs.«01_k».proof.Proof.Gen.Reference.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Ada.Val
public import proofs.«01_k».proof.Proof.Ada.Ref
public import proofs.«01_k».proof.Proof.Inp.Ref
public import proofs.«01_k».proof.Proof.Outp.Ref
public import proofs.«01_k».proof.Proof.Comb.Alg
public import proofs.«01_k».proof.Proof.Comb.Ref
public import proofs.«01_k».proof.Proof.Ffn.Alg
public import proofs.«01_k».proof.Proof.Ffn.Same
public import proofs.«01_k».proof.Proof.Host
public import proofs.«01_k».proof.Proof.Strip
public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.Pre_in_rows
public import Idealize.ShloMosaic.Adequacy
public import Idealize.ShloMosaic.Init

@[expose] public section

noncomputable section

namespace Cert.Proof

open Idealize.ShloMosaic Idealize.ShloMosaic.ValueIdx Idealize.SL.Sem

/-! ## The precondition -/

/-- The two comparisons of an index together put it below the bound. -/
theorem lt_of_bounds (v b : BitVec 32) (e : IntOp.andi (IntOp.cmpi .sge v 0#32) (IntOp.cmpi .slt v b) = 1#1) : v.toNat < b.toNat := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- Where the precondition's array is all ones, every index is a row number. -/
theorem row_of_pre {F : FTy → Type} [FloatOps F] (x : IVec Cert.Pre_in_rows.S2x32768x256 32) (y : IVec Cert.Pre_in_rows.S32768 32)
    (h : Cert.Pre_in_rows.fn (F := F) x y = fun _ => 1#1) (j : Cert.Pre_in_rows.S32768.Idx) : (y j).toNat < 32768 := by
  have e := congrFun h j
  simp only [Cert.Pre_in_rows.fn, andi, cmpi, broadcastInDim, constantI] at e
  exact lt_of_bounds _ _ e

theorem ok_kernel (m : (ℓ : Loc Cert.Kernel.nD Cert.Kernel.τ Cert.Kernel.sig) → Buf (Elt Bits) ℓ) (h : Cert.Pre_Kernel m) : Rows.PreOK (F := Bits) m :=
  fun d j => row_of_pre _ _ (h d) j
theorem ok_ideal (m : (ℓ : Loc Cert.KernelIdeal.nD Cert.KernelIdeal.τ Cert.KernelIdeal.sig) → Buf (Elt Ideal) ℓ) (h : Cert.Pre_KernelIdeal m) : Rows.PreOK (F := Ideal) m :=
  fun d j => row_of_pre _ _ (h d) j

/-! ## The frames -/

theorem frame_kernel : Cert.quiescent_Kernel := fun m ρ h =>
  (θ_run Cert.KernelIdeal.defs _ _).mono (fun _ h => ⟨fun c => ⟨(h.1 c).1, (h.1 c).2.1⟩, h.2⟩) (Rows.run_main (F := Bits) m ρ (ok_kernel m h))

theorem frame_ideal : Cert.quiescent_KernelIdeal := fun m ρ h =>
  (θ_run Cert.KernelIdeal.defs _ _).mono (fun _ h => ⟨fun c => ⟨(h.1 c).1, (h.1 c).2.1⟩, h.2⟩) (Rows.run_main (F := Ideal) m ρ (ok_ideal m h))

theorem frame_refIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_refIdeal_pre : Cert.quiescent_ReferenceIdeal_pre_in_rows := fun m ρ _ => frame_refIdeal m ρ trivial

theorem frame_ref : Cert.quiescent_Reference := fun m ρ _ =>
  (θ_run Cert.Reference.defs _ _).mono (fun r h => ⟨fun c => (h c).2, Idealize.ShloMosaic.sem_eq_zero_of_no_sems (by decide) r.2⟩)
    (Cert.Reference.Value.run (F := Bits) m ρ)

/-! ## The values -/

section Value

variable {F : FTy → Type} [FloatOps F]

open Cert.ReferenceIdeal Cert.ReferenceIdeal.Gen in
/-- The reference's result, from arguments equal to the program's, is the program's. -/
theorem result_eq (m : (ℓ : Loc Cert.KernelIdeal.nD Cert.KernelIdeal.τ Cert.KernelIdeal.sig) → Buf (Elt F) ℓ) (hp : Rows.PreOK (F := F) m)
    (c : Dev Cert.KernelIdeal.nD) (x : IVec S2x32768x256 32) (y : IVec S32768 32) (hx : x = m (Rows.aLoc c)) (hy : y = m (Rows.jLoc c)) (wf) (hb0 : S_.BroadcastsInDim S32768 (![] : Fin 0 → Fin S32768.rank)) (hb1 : S32768.BroadcastsInDim S32768x1 (![0] : Fin 1 → Fin S32768x1.rank)) (w : IVec S32768 32) :
    Host.gather (Strip.dims wf) x (broadcastInDim S32768x1 ![0] hb1
      (select (cmpi .slt y (broadcastInDim S32768 ![] hb0 (constantI S_ 32 0#32))) w y)) = Rows.RES m c := by
  subst hx hy
  funext z
  obtain ⟨p, j, q, rfl⟩ : ∃ (p : Fin 2) (j : Fin 32768) (q : Fin 256), z = ValueIdx.ix3 p j q :=
    ⟨z 0, z 1, z 2, funext fun a => by fin_cases a <;> rfl⟩
  refine (Strip.at_row wf _ _ p j q ⟨(m (Rows.jLoc c) (ValueIdx.ix1 j) : BitVec 32).toNat, hp c (ValueIdx.ix1 j)⟩ ?_).trans (Rows.RES_at m hp c p j q).symm
  have hi : ∀ X : IVec S32768 32, broadcastInDim S32768x1 ![0] hb1 X (ValueIdx.ix2 j (0 : Fin 1)) = X (ValueIdx.ix1 j) := fun X => by
    refine congrArg X (funext fun a => ?_)
    match a with | ⟨0, _⟩ => rfl
  rw [hi]
  show Scalar.select (IntOp.cmpi .slt (m (Rows.jLoc c) (ValueIdx.ix1 j) : BitVec 32) 0#32) (w (ValueIdx.ix1 j)) (m (Rows.jLoc c) (ValueIdx.ix1 j)) = _
  exact Strip.wrapped _ (hp c (ValueIdx.ix1 j)) _

end Value

/-- At exact values. -/
theorem algebraic : Cert.algebraic_KernelIdeal_ReferenceIdeal := by
  intro m ρ m' ρ' hpre hagree
  have hp := ok_ideal m hpre
  refine ⟨fun c => Rows.RES m c, (θ_run Cert.KernelIdeal.defs _ _).mono (fun _ h c => ⟨(h.1 c).2.2, (h.1 c).1, (h.1 c).2.1⟩) (Rows.run_main (F := Ideal) m ρ hp), ?_⟩
  exact (θ_run Cert.ReferenceIdeal.defs _ _).mono
    (fun _ h c => ⟨(h c).1.trans (result_eq m hp c _ _ (hagree c).1 (hagree c).2 _ _ _ _), (h c).2⟩)
    (Cert.ReferenceIdeal.Value.run (F := Ideal) m' ρ')

/-- At the machine's floats. -/
theorem bitexact : Cert.bitexact_Kernel_Reference := by
  intro m ρ m' ρ' hpre hagree
  have hp := ok_kernel m hpre
  refine ⟨fun c => Rows.RES (F := Bits) m c, (θ_run Cert.KernelIdeal.defs _ _).mono (fun _ h c => ⟨(h.1 c).2.2, (h.1 c).1, (h.1 c).2.1⟩) (Rows.run_main (F := Bits) m ρ hp), ?_⟩
  exact (θ_run Cert.Reference.defs _ _).mono
    (fun _ h c => ⟨(h c).1.trans (result_eq (F := Bits) m hp c _ _ (hagree c).1 (hagree c).2 _ _ _ _), (h c).2⟩)
    (Cert.Reference.Value.run (F := Bits) m' ρ')

/-! ## The experts -/

theorem expert_of_pre {F : FTy → Type} [FloatOps F] (x : IVec Cert.Pre_in_experts.S544 32) (a1) (a2 : FVec F _ _) (a3 : FVec F _ _) (a4 : FVec F _ _) (a5 : FVec F _ _) (a6 : FVec F _ _)
    (h : Cert.Pre_in_experts.fn (F := F) x a1 a2 a3 a4 a5 a6 = fun _ => 1#1) (j : Cert.Pre_in_experts.S544.Idx) : (x j).toNat < 32 := by
  have e := congrFun h j
  simp only [Cert.Pre_in_experts.fn, andi, cmpi, broadcastInDim, constantI] at e
  exact lt_of_bounds _ _ e

theorem frame_kernel2 : Cert.quiescent_Kernel2 := fun m ρ h => by
  have run := Cert.Kernel2Ideal.Ffn.frame (F := Bits) m ρ (Cert.Kernel2Ideal.Ffn.ok_of m (expert_of_pre _ _ _ _ _ _ _ (h 0)))
  rw [← Cert.Kernel2Ideal.Ffn.defs_same, ← Cert.Kernel2Ideal.Ffn.main_same] at run
  exact run

theorem frame_ideal2 : Cert.quiescent_Kernel2Ideal := fun m ρ h =>
  Cert.Kernel2Ideal.Ffn.frame (F := Ideal) m ρ (Cert.Kernel2Ideal.Ffn.ok_of m (expert_of_pre _ _ _ _ _ _ _ (h 0)))

theorem frame_refIdeal2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem frame_refIdeal2_pre : Cert.quiescent_Reference2Ideal_pre_in_experts := fun m ρ _ => frame_refIdeal2 m ρ trivial

/-- The experts' values, at exact values. -/
theorem algebraic2 : Cert.algebraic_Kernel2Ideal_Reference2Ideal := by
  intro m ρ m' ρ' hpre hagree
  refine ⟨fun c => Cert.Kernel2Ideal.Ffn.RES m c, Cert.Kernel2Ideal.Ffn.run_val m ρ (expert_of_pre _ _ _ _ _ _ _ (hpre 0)), ?_⟩
  refine (θ_run Cert.Reference2Ideal.defs _ _).mono (fun _ h c => ⟨(h c).1.trans ((Cert.Reference2Ideal.Ref.res_eq m' c).trans ?_), (h c).2⟩)
    (Cert.Reference2Ideal.Value.run (F := Ideal) m' ρ')
  obtain ⟨e0, e1, e2, e3, e4, e5, e6⟩ := hagree c
  rw [e0, e1, e2, e3, e4, e5, e6]
  rfl

theorem frame_kernel3 : Cert.quiescent_Kernel3 := fun m ρ _ => Cert.Kernel3.Gen.frame (F := Bits) m ρ

theorem frame_ideal3 : Cert.quiescent_Kernel3Ideal := fun m ρ _ => Cert.Kernel3Ideal.Gen.frame (F := Ideal) m ρ

theorem frame_refIdeal3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The combination's values, at exact values. -/
theorem algebraic3 : Cert.algebraic_Kernel3Ideal_Reference3Ideal := by
  intro m ρ m' ρ' _ hagree
  refine ⟨fun c => Cert.Kernel3Ideal.Comb.RES m c, Cert.Kernel3Ideal.Comb.run_val m ρ, ?_⟩
  refine (θ_run Cert.Reference3Ideal.defs _ _).mono (fun _ h c => ⟨(h c).1.trans ?_, (h c).2⟩)
    (Cert.Reference3Ideal.Ref.run_val m' ρ')
  obtain ⟨e0, e1, e2, e3, e4⟩ := hagree c
  rw [e0, e1, e2, e3, e4]
  rfl

theorem frame_kernel4 : Cert.quiescent_Kernel4 := fun m ρ _ => Cert.Kernel4.Gen.frame (F := Bits) m ρ

theorem frame_ideal4 : Cert.quiescent_Kernel4Ideal := fun m ρ _ => Cert.Kernel4Ideal.Gen.frame (F := Ideal) m ρ

theorem frame_refIdeal4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- The modulation's values, at exact values. -/
theorem algebraic4 : Cert.algebraic_Kernel4Ideal_Reference4Ideal := by
  intro m ρ m' ρ' _ hagree
  refine ⟨fun c => Cert.Kernel4Ideal.Ada.RES m c, Cert.Kernel4Ideal.Ada.run_val m ρ, ?_⟩
  refine (θ_run Cert.Reference4Ideal.defs _ _).mono (fun _ h c => ⟨(h c).1.trans ?_, (h c).2⟩)
    (Cert.Reference4Ideal.Ref.run_val m' ρ')
  obtain ⟨e0, e1, e2⟩ := hagree c
  rw [e0, e1, e2]

theorem frame_kernel5 : Cert.quiescent_Kernel5 := fun m ρ _ => Cert.Kernel5.Gen.frame (F := Bits) m ρ

theorem frame_ideal5 : Cert.quiescent_Kernel5Ideal := fun m ρ _ => Cert.Kernel5Ideal.Gen.frame (F := Ideal) m ρ

theorem frame_refIdeal5 : Cert.quiescent_Reference5Ideal := fun m ρ _ =>
  (θ_run Cert.Reference5Ideal.defs _ _).mono (fun r h => ⟨fun c => (h c).2.2, Idealize.ShloMosaic.sem_eq_zero_of_no_sems (by decide) r.2⟩)
    (Cert.Reference5Ideal.Value.run (F := Ideal) m ρ)

/-- The input projection's two arrays of values, at exact values. -/
theorem algebraic5 : Cert.algebraic_Kernel5Ideal_Reference5Ideal := by
  intro m ρ m' ρ' _ hagree
  refine ⟨fun c => Cert.Kernel5Ideal.Inp.RESV m c, fun c => Cert.Kernel5Ideal.Inp.RESD m c, Cert.Kernel5Ideal.Inp.run_val m ρ, ?_⟩
  refine (θ_run Cert.Reference5Ideal.defs _ _).mono (fun _ h c => ⟨(h c).1.trans ?_, (h c).2.1.trans ?_, (h c).2.2⟩)
    (Cert.Reference5Ideal.Ref.run_val m' ρ')
  · obtain ⟨e0, e1, e2, e3, e4, e5, e6, e7, e8⟩ := hagree c
    rw [e0, e2, e3, e4, e7, e8]
  · obtain ⟨e0, e1, e2, e3, e4, e5, e6, e7, e8⟩ := hagree c
    rw [e0, e2, e3, e4]

theorem frame_kernel6 : Cert.quiescent_Kernel6 := fun m ρ _ => Cert.Kernel6.Gen.frame (F := Bits) m ρ

theorem frame_ideal6 : Cert.quiescent_Kernel6Ideal := fun m ρ _ => Cert.Kernel6Ideal.Gen.frame (F := Ideal) m ρ

theorem frame_refIdeal6 : Cert.quiescent_Reference6Ideal := fun m ρ _ =>
  (θ_run Cert.Reference6Ideal.defs _ _).mono (fun r h => ⟨fun c => (h c).2.2, Idealize.ShloMosaic.sem_eq_zero_of_no_sems (by decide) r.2⟩)
    (Cert.Reference6Ideal.Value.run (F := Ideal) m ρ)

/-- The output projection's residual stream and its normalised rows, at exact values. -/
theorem algebraic6 : Cert.algebraic_Kernel6Ideal_Reference6Ideal := by
  intro m ρ m' ρ' _ hagree
  refine ⟨fun c => Cert.Kernel6Ideal.Outp.RESX m c, fun c => Cert.Kernel6Ideal.Outp.RESH m c, Cert.Kernel6Ideal.Outp.run_val m ρ, ?_⟩
  refine (θ_run Cert.Reference6Ideal.defs _ _).mono (fun _ h c => ⟨(h c).1.trans ?_, (h c).2.1.trans ?_, (h c).2.2⟩)
    (Cert.Reference6Ideal.Ref.run_val m' ρ')
  · obtain ⟨e0, e1, e2, e3, e4, e5, e6, e7⟩ := hagree c
    rw [e0, e1, e2, e3, e4]
  · obtain ⟨e0, e1, e2, e3, e4, e5, e6, e7⟩ := hagree c
    rw [e0, e1, e2, e3, e4, e5]

theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Pre_in_rows.Gen.facts, Cert.Pre_in_experts.Gen.facts,
    frame_kernel, frame_ideal, frame_refIdeal, frame_refIdeal_pre, frame_ref,
    frame_kernel2, frame_ideal2, frame_refIdeal2, frame_refIdeal2_pre,
    frame_kernel3, frame_ideal3, frame_refIdeal3, frame_kernel4, frame_ideal4, frame_refIdeal4,
    frame_kernel5, frame_ideal5, frame_refIdeal5, frame_kernel6, frame_ideal6, frame_refIdeal6,
    trivial, algebraic, bitexact, trivial, algebraic2, trivial, algebraic3, trivial, algebraic4, trivial, algebraic5, trivial, algebraic6⟩

end Cert.Proof

end
